-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_KernelIds (m : (ℓ : Loc Cert.KernelIds.nD Cert.KernelIds.τ Cert.KernelIds.sig) → Buf (Elt Bits) ℓ) : Prop :=
  True

def Pre_ReferenceIds (m : (ℓ : Loc Cert.ReferenceIds.nD Cert.ReferenceIds.τ Cert.ReferenceIds.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_KernelIds [hKernelIds : Cert.KernelIds.Facts] : Prop :=
  ∀ (m : (ℓ : Loc Cert.KernelIds.nD Cert.KernelIds.τ Cert.KernelIds.sig) → Buf (Elt Bits) ℓ) (g : Dev Cert.KernelIds.nD → PrngReg), Pre_KernelIds m →
    θ_run (Cert.KernelIds.defs (F := Bits)) (onTc (τ := Cert.KernelIds.τ) (Cert.KernelIds.main (F := Bits))) ⟨m, fun _ => 0, g⟩ (fun r => (∀ c : Dev Cert.KernelIds.nD,
      r.2.mem ((c.tc : Thread Cert.KernelIds.nD Cert.KernelIds.τ).loc Cert.KernelIds.main_arg0) = m ((c.tc : Thread Cert.KernelIds.nD Cert.KernelIds.τ).loc Cert.KernelIds.main_arg0))
      ∧ r.2.sem = fun _ => 0)

def quiescent_ReferenceIds [hReferenceIds : Cert.ReferenceIds.Facts] : Prop :=
  ∀ (m : (ℓ : Loc Cert.ReferenceIds.nD Cert.ReferenceIds.τ Cert.ReferenceIds.sig) → Buf (Elt Bits) ℓ) (g : Dev Cert.ReferenceIds.nD → PrngReg), Pre_ReferenceIds m →
    θ_run (Cert.ReferenceIds.defs (F := Bits)) (onTc (τ := Cert.ReferenceIds.τ) (Cert.ReferenceIds.main (F := Bits))) ⟨m, fun _ => 0, g⟩ (fun r => (∀ c : Dev Cert.ReferenceIds.nD,
      r.2.mem ((c.tc : Thread Cert.ReferenceIds.nD Cert.ReferenceIds.τ).loc Cert.ReferenceIds.main_arg0) = m ((c.tc : Thread Cert.ReferenceIds.nD Cert.ReferenceIds.τ).loc Cert.ReferenceIds.main_arg0))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_v22) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def bitexact_KernelIds_ReferenceIds [hKernelIds : Cert.KernelIds.Facts] [hReferenceIds : Cert.ReferenceIds.Facts] : Prop :=
  ∀ (m : (ℓ : Loc Cert.KernelIds.nD Cert.KernelIds.τ Cert.KernelIds.sig) → Buf (Elt Bits) ℓ) (g : Dev Cert.KernelIds.nD → PrngReg)
    (m' : (ℓ : Loc Cert.ReferenceIds.nD Cert.ReferenceIds.τ Cert.ReferenceIds.sig) → Buf (Elt Bits) ℓ) (g' : Dev Cert.ReferenceIds.nD → PrngReg), Pre_KernelIds m →
    (∀ c : Dev Cert.KernelIds.nD,
      m' ((c.tc : Thread Cert.ReferenceIds.nD Cert.ReferenceIds.τ).loc Cert.ReferenceIds.main_arg0) = m ((c.tc : Thread Cert.KernelIds.nD Cert.KernelIds.τ).loc Cert.KernelIds.main_arg0)) →
    ∃ (v0 : (c : Dev Cert.KernelIds.nD) → Buf (Elt Bits) ((c.tc : Thread Cert.KernelIds.nD Cert.KernelIds.τ).loc Cert.KernelIds.main_v9)),
      θ_run (Cert.KernelIds.defs (F := Bits)) (onTc (τ := Cert.KernelIds.τ) (Cert.KernelIds.main (F := Bits))) ⟨m, fun _ => 0, g⟩ (fun r => ∀ c : Dev Cert.KernelIds.nD,
          r.2.mem ((c.tc : Thread Cert.KernelIds.nD Cert.KernelIds.τ).loc Cert.KernelIds.main_v9) = v0 c
          ∧ r.2.mem ((c.tc : Thread Cert.KernelIds.nD Cert.KernelIds.τ).loc Cert.KernelIds.main_arg0) = m ((c.tc : Thread Cert.KernelIds.nD Cert.KernelIds.τ).loc Cert.KernelIds.main_arg0))
      ∧ θ_run (Cert.ReferenceIds.defs (F := Bits)) (onTc (τ := Cert.ReferenceIds.τ) (Cert.ReferenceIds.main (F := Bits))) ⟨m', fun _ => 0, g'⟩ (fun r => ∀ c : Dev Cert.ReferenceIds.nD,
          r.2.mem ((c.tc : Thread Cert.ReferenceIds.nD Cert.ReferenceIds.τ).loc Cert.ReferenceIds.main_v12) = v0 c
          ∧ r.2.mem ((c.tc : Thread Cert.ReferenceIds.nD Cert.ReferenceIds.τ).loc Cert.ReferenceIds.main_arg0) = m' ((c.tc : Thread Cert.ReferenceIds.nD Cert.ReferenceIds.τ).loc Cert.ReferenceIds.main_arg0))

def Claim : Prop :=
  ∃ (hKernel : Cert.Kernel.Facts) (hKernelIdeal : Cert.KernelIdeal.Facts) (hReferenceIdeal : Cert.ReferenceIdeal.Facts) (hKernelIds : Cert.KernelIds.Facts) (hReferenceIds : Cert.ReferenceIds.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ quiescent_KernelIds (hKernelIds := hKernelIds)
    ∧ quiescent_ReferenceIds (hReferenceIds := hReferenceIds)
    ∧ preserves_Kernel_KernelIdeal
    ∧ algebraic_KernelIdeal_ReferenceIdeal_pre_in_range (hKernelIdeal := hKernelIdeal) (hReferenceIdeal := hReferenceIdeal) (hPre_in_range := hPre_in_range)
    ∧ bitexact_KernelIds_ReferenceIds (hKernelIds := hKernelIds) (hReferenceIds := hReferenceIds)
-- ==== Pre_in_range.lean ====
abbrev S500000x16 : Shape := ⟨2, ![500000, 16]⟩
abbrev S500000 : Shape := ⟨1, ![500000]⟩
abbrev S2097152 : Shape := ⟨1, ![2097152]⟩
abbrev S_ : Shape := ⟨0, ![]⟩

class Facts : Prop where
  bcast_S_S500000 : S_.BroadcastsInDim S500000 (![] : Fin 0 → Fin S500000.rank)
  reducesTo_S500000_S_d0 : S500000.ReducesTo [0] S_
  h_S_ : 0 < S_.numel

variable [Facts]

def fn {F : FTy → Type} [FloatOps F] (main_arg0 : FVec F S500000x16 .f32) (main_arg1 : IVec S500000 32) (main_arg2 : FVec F S2097152 .f32) : IVec S_ 1 :=
  let main_c : IVec S_ 32 := constantI S_ 32 0#32
  let main_v0 : IVec S500000 32 := broadcastInDim S500000 ![] bcast_S_S500000 main_c
  let main_v1 : IVec S500000 1 := cmpi .sge main_arg1 main_v0
  let main_c_0 : IVec S_ 32 := constantI S_ 32 2097152#32
  let main_v2 : IVec S500000 32 := broadcastInDim S500000 ![] bcast_S_S500000 main_c_0
  let main_v3 : IVec S500000 1 := cmpi .slt main_arg1 main_v2
  let main_v4 : IVec S500000 1 := andi main_v1 main_v3
  let main_c_1 : IVec S_ 1 := constantI S_ 1 1#1
  let main_v5 : IVec S_ 1 := (fun x v => Host.reduce IntOp.andi x v reducesTo_S500000_S_d0 h_S_) main_v4 main_c_1
  main_v5
-- ==== Kernel.lean ====
abbrev S500000x16 : Shape := ⟨2, ![500000, 16]⟩
abbrev S500000 : Shape := ⟨1, ![500000]⟩
abbrev S2097152 : Shape := ⟨1, ![2097152]⟩
abbrev S33554432 : Shape := ⟨1, ![33554432]⟩
abbrev S65536 : Shape := ⟨1, ![65536]⟩
abbrev S2x4096 : Shape := ⟨2, ![2, 4096]⟩
abbrev S2048x16 : Shape := ⟨2, ![2048, 16]⟩
abbrev S16x1024 : Shape := ⟨2, ![16, 1024]⟩
abbrev S2x1024 : Shape := ⟨2, ![2, 1024]⟩
abbrev S_ : Shape := ⟨0, ![]⟩
abbrev S16 : Shape := ⟨1, ![16]⟩
abbrev S1x4000 : Shape := ⟨2, ![1, 4000]⟩
abbrev S4000 : Shape := ⟨1, ![4000]⟩
abbrev S1x16 : Shape := ⟨2, ![1, 16]⟩
abbrev S128x16 : Shape := ⟨2, ![128, 16]⟩
abbrev S128 : Shape := ⟨1, ![128]⟩
abbrev S1x1024 : Shape := ⟨2, ![1, 1024]⟩
abbrev S1024 : Shape := ⟨1, ![1024]⟩
abbrev S1x16x128x128x128 : Shape := ⟨5, ![1, 16, 128, 128, 128]⟩
abbrev S1x1x128x128x128 : Shape := ⟨5, ![1, 1, 128, 128, 128]⟩

abbrev nBuf : Table → Nat
  | .hbm => 7
  | .local .scVector .vmem => 6
  | _ => 0

abbrev bufTy : (tb : Table) → Fin (nBuf tb) → BufTy
  | .hbm, ⟨0, _⟩ => ⟨S500000x16, .f32⟩
  | .hbm, ⟨1, _⟩ => ⟨S500000, .i32⟩
  | .hbm, ⟨2, _⟩ => ⟨S2097152, .f32⟩
  | .hbm, ⟨3, _⟩ => ⟨S33554432, .f32⟩
  | .hbm, ⟨4, _⟩ => ⟨S2097152, .f32⟩
  | .hbm, ⟨5, _⟩ => ⟨S1x16x128x128x128, .f32⟩
  | .hbm, ⟨6, _⟩ => ⟨S1x1x128x128x128, .f32⟩
  | .local .scVector .vmem, ⟨0, _⟩ => ⟨S65536, .i32⟩
  | .local .scVector .vmem, ⟨1, _⟩ => ⟨S2x4096, .i32⟩
  | .local .scVector .vmem, ⟨2, _⟩ => ⟨S2048x16, .f32⟩
  | .local .scVector .vmem, ⟨3, _⟩ => ⟨S16x1024, .f32⟩
  | .local .scVector .vmem, ⟨4, _⟩ => ⟨S2x1024, .f32⟩
  | .local .scVector .vmem, ⟨5, _⟩ => ⟨S2x1024, .f32⟩
  | _, _ => ⟨S500000x16, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev main_v2 : Ref sig .tc := ⟨.hbm, 6, rfl⟩
abbrev main_arg1_scv : Ref sig .scVector := ⟨.hbm, 1, rfl⟩
abbrev main_arg0_scv : Ref sig .scVector := ⟨.hbm, 0, rfl⟩
abbrev main_arg2_scv : Ref sig .scVector := ⟨.hbm, 2, rfl⟩
abbrev main_v0_0_scv : Ref sig .scVector := ⟨.hbm, 3, rfl⟩
abbrev main_v0_1_scv : Ref sig .scVector := ⟨.hbm, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c512_i32 : BitVec 32 := 512#32
  let v5 : BitVec 32 := Scalar.addi c0_i32_0 c512_i32
  let c1_i32 : BitVec 32 := 1#32
  ⟨c0_i32_0, v5, c1_i32⟩
def k0_mult1 (k0_t1 : Fin k0_t1_loop.trips) : BitVec 32 :=
  let c0_i32_0 : BitVec 32 := 0#32
  let c1_i32 : BitVec 32 := 1#32
  let arg19 : BitVec 32 := Scf.iv c0_i32_0 c1_i32 k0_t1
  let c8_i32_129 : BitVec 32 := 8#32
  let v158 : BitVec 32 := Scalar.muli arg19 c8_i32_129
  let c0_i32_130 : BitVec 32 := 0#32
  let v159 : BitVec 32 := Scalar.addi v158 c0_i32_130
  let c16_i32 : BitVec 32 := 16#32
  let v160 : BitVec 32 := Scalar.muli v159 c16_i32
  v160
def k0_off1 (k0_t1 : Fin k0_t1_loop.trips) (c0_i32_130 : BitVec 32) : Fin 1 → Nat :=
  let c0_i32_0 : BitVec 32 := 0#32
  let c1_i32 : BitVec 32 := 1#32
  let arg19 : BitVec 32 := Scf.iv c0_i32_0 c1_i32 k0_t1
  let c8_i32_129 : BitVec 32 := 8#32
  let v158 : BitVec 32 := Scalar.muli arg19 c8_i32_129
  let v159 : BitVec 32 := Scalar.addi v158 c0_i32_130
  let c16_i32 : BitVec 32 := 16#32
  let v160 : BitVec 32 := Scalar.muli v159 c16_i32
  let v161 : BitVec 32 := v160
  let v162 : Index := Scalar.indexCast v161
  ![v162.toNat]
def k0_mult2 (k0_t1 : Fin k0_t1_loop.trips) : BitVec 32 :=
  let c0_i32_0 : BitVec 32 := 0#32
  let c1_i32 : BitVec 32 := 1#32
  let arg19 : BitVec 32 := Scf.iv c0_i32_0 c1_i32 k0_t1
  let c8_i32_131 : BitVec 32 := 8#32
  let v164 : BitVec 32 := Scalar.muli arg19 c8_i32_131
  let c1_i32_132 : BitVec 32 := 1#32
  let v165 : BitVec 32 := Scalar.addi v164 c1_i32_132
  let c16_i32_133 : BitVec 32 := 16#32
  let v166 : BitVec 32 := Scalar.muli v165 c16_i32_133
  v166
def k0_mult3 (k0_t1 : Fin k0_t1_loop.trips) : BitVec 32 :=
  let c0_i32_0 : BitVec 32 := 0#32
  let c1_i32 : BitVec 32 := 1#32
  let arg19 : BitVec 32 := Scf.iv c0_i32_0 c1_i32 k0_t1
  let c8_i32_134 : BitVec 32 := 8#32
  let v170 : BitVec 32 := Scalar.muli arg19 c8_i32_134
  let c2_i32_135 : BitVec 32 := 2#32
  let v171 : BitVec 32 := Scalar.addi v170 c2_i32_135
  let c16_i32_136 : BitVec 32 := 16#32
  let v172 : BitVec 32 := Scalar.muli v171 c16_i32_136
  v172
def k0_mult4 (k0_t1 : Fin k0_t1_loop.trips) : BitVec 32 :=
  let c0_i32_0 : BitVec 32 := 0#32
  let c1_i32 : BitVec 32 := 1#32
  let arg19 : BitVec 32 := Scf.iv c0_i32_0 c1_i32 k0_t1
  let c8_i32_137 : BitVec 32 := 8#32
  let v176 : BitVec 32 := Scalar.muli arg19 c8_i32_137
  let c3_i32_138 : BitVec 32 := 3#32
  let v177 : BitVec 32 := Scalar.addi v176 c3_i32_138
  let c16_i32_139 : BitVec 32 := 16#32
  let v178 : BitVec 32 := Scalar.muli v177 c16_i32_139
  v178
def k0_mult5 (k0_t1 : Fin k0_t1_loop.trips) : BitVec 32 :=
  let c0_i32_0 : BitVec 32 := 0#32
  let c1_i32 : BitVec 32 := 1#32
  let arg19 : BitVec 32 := Scf.iv c0_i32_0 c1_i32 k0_t1
  let c8_i32_140 : BitVec 32 := 8#32
  let v182 : BitVec 32 := Scalar.muli arg19 c8_i32_140
  let c4_i32_141 : BitVec 32 := 4#32
  let v183 : BitVec 32 := Scalar.addi v182 c4_i32_141
  let c16_i32_142 : BitVec 32 := 16#32
  let v184 : BitVec 32 := Scalar.muli v183 c16_i32_142
  v184
def k0_mult6 (k0_t1 : Fin k0_t1_loop.trips) : BitVec 32 :=
  let c0_i32_0 : BitVec 32 := 0#32
  let c1_i32 : BitVec 32 := 1#32
  let arg19 : BitVec 32 := Scf.iv c0_i32_0 c1_i32 k0_t1
  let c8_i32_143 : BitVec 32 := 8#32
  let v188 : BitVec 32 := Scalar.muli arg19 c8_i32_143
  let c5_i32_144 : BitVec 32 := 5#32
  let v189 : BitVec 32 := Scalar.addi v188 c5_i32_144
  let c16_i32_145 : BitVec 32 := 16#32
  let v190 : BitVec 32 := Scalar.muli v189 c16_i32_145
  v190
def k0_mult7 (k0_t1 : Fin k0_t1_loop.trips) : BitVec 32 :=
  let c0_i32_0 : BitVec 32 := 0#32
  let c1_i32 : BitVec 32 := 1#32
  let arg19 : BitVec 32 := Scf.iv c0_i32_0 c1_i32 k0_t1
  let c8_i32_146 : BitVec 32 := 8#32
  let v194 : BitVec 32 := Scalar.muli arg19 c8_i32_146
  let c6_i32_147 : BitVec 32 := 6#32
  let v195 : BitVec 32 := Scalar.addi v194 c6_i32_147
  let c16_i32_148 : BitVec 32 := 16#32
  let v196 : BitVec 32 := Scalar.muli v195 c16_i32_148
  v196
def k0_mult8 (k0_t1 : Fin k0_t1_loop.trips) : BitVec 32 :=
  let c0_i32_0 : BitVec 32 := 0#32
  let c1_i32 : BitVec 32 := 1#32
  let arg19 : BitVec 32 := Scf.iv c0_i32_0 c1_i32 k0_t1
  let c8_i32_149 : BitVec 32 := 8#32
  let v200 : BitVec 32 := Scalar.muli arg19 c8_i32_149
  let c7_i32_150 : BitVec 32 := 7#32
  let v201 : BitVec 32 := Scalar.addi v200 c7_i32_150
  let c16_i32_151 : BitVec 32 := 16#32
  let v202 : BitVec 32 := Scalar.muli v201 c16_i32_151
  v202
def k0_mult9 : BitVec 32 :=
  let c0_i32_2 : BitVec 32 := 0#32
  c0_i32_2
@[reducible] def k0_t2_loop : Scf.Loop 32 :=
  let c0_i32_7 : BitVec 32 := 0#32
  let c125_i32 : BitVec 32 := 125#32
  let v13 : BitVec 32 := Scalar.addi c0_i32_7 c125_i32
  let c1_i32_8 : BitVec 32 := 1#32
  ⟨c0_i32_7, v13, c1_i32_8⟩
def k0_mult10 (k0_t2 : Fin k0_t2_loop.trips) : BitVec 32 :=
  let c0_i32_7 : BitVec 32 := 0#32
  let c1_i32_8 : BitVec 32 := 1#32
  let arg19 : BitVec 32 := Scf.iv c0_i32_7 c1_i32_8 k0_t2
  let c4000_i32 : BitVec 32 := 4000#32
  let v159 : BitVec 32 := Scalar.muli arg19 c4000_i32
  v159
def k0_off2 (k0_t2 : Fin k0_t2_loop.trips) : Fin 2 → Nat :=
  let c0_i32_7 : BitVec 32 := 0#32
  let c1_i32_8 : BitVec 32 := 1#32
  let arg19 : BitVec 32 := Scf.iv c0_i32_7 c1_i32_8 k0_t2
  let c1_i32_129 : BitVec 32 := 1#32
  let v158 : BitVec 32 := Scalar.andi arg19 c1_i32_129
  let c0_i32_130 : BitVec 32 := 0#32
  ![v158.toNat, 0]
def k0_off3 (k0_t2 : Fin k0_t2_loop.trips) : Fin 1 → Nat :=
  let c0_i32_7 : BitVec 32 := 0#32
  let c1_i32_8 : BitVec 32 := 1#32
  let arg19 : BitVec 32 := Scf.iv c0_i32_7 c1_i32_8 k0_t2
  let c4000_i32 : BitVec 32 := 4000#32
  let v159 : BitVec 32 := Scalar.muli arg19 c4000_i32
  let v160 : BitVec 32 := v159
  ![v160.toNat]
def k0_cond1 (k0_t2 : Fin k0_t2_loop.trips) : BitVec 1 :=
  let c0_i32_7 : BitVec 32 := 0#32
  let c1_i32_8 : BitVec 32 := 1#32
  let arg19 : BitVec 32 := Scf.iv c0_i32_7 c1_i32_8 k0_t2
  let c124_i32 : BitVec 32 := 124#32
  let v167 : BitVec 1 := Scalar.cmpi .slt arg19 c124_i32
  let v168 : BitVec 32 := Scalar.extui v167
  let c0_i32_132 : BitVec 32 := 0#32
  let v169 : BitVec 1 := Scalar.cmpi .ne v168 c0_i32_132
  v169

def k0_mult11 (k0_t2 : Fin k0_t2_loop.trips) : BitVec 32 :=
  let c0_i32_7 : BitVec 32 := 0#32
  let c1_i32_8 : BitVec 32 := 1#32
  let arg19 : BitVec 32 := Scf.iv c0_i32_7 c1_i32_8 k0_t2
  let c1_i32_138 : BitVec 32 := 1#32
  let v172 : BitVec 32 := Scalar.addi arg19 c1_i32_138
  let c4000_i32_140 : BitVec 32 := 4000#32
  let v174 : BitVec 32 := Scalar.muli v172 c4000_i32_140
  v174
def k0_off4 (k0_t2 : Fin k0_t2_loop.trips) : Fin 2 → Nat :=
  let c0_i32_7 : BitVec 32 := 0#32
  let c1_i32_8 : BitVec 32 := 1#32
  let arg19 : BitVec 32 := Scf.iv c0_i32_7 c1_i32_8 k0_t2
  let c1_i32_129 : BitVec 32 := 1#32
  let v158 : BitVec 32 := Scalar.andi arg19 c1_i32_129
  let c1_i32_139 : BitVec 32 := 1#32
  let v173 : BitVec 32 := Scalar.xori v158 c1_i32_139
  let c0_i32_141 : BitVec 32 := 0#32
  ![v173.toNat, 0]
def k0_off5 (k0_t2 : Fin k0_t2_loop.trips) : Fin 1 → Nat :=
  let c0_i32_7 : BitVec 32 := 0#32
  let c1_i32_8 : BitVec 32 := 1#32
  let arg19 : BitVec 32 := Scf.iv c0_i32_7 c1_i32_8 k0_t2
  let c1_i32_138 : BitVec 32 := 1#32
  let v172 : BitVec 32 := Scalar.addi arg19 c1_i32_138
  let c4000_i32_140 : BitVec 32 := 4000#32
  let v174 : BitVec 32 := Scalar.muli v172 c4000_i32_140
  let v175 : BitVec 32 := v174
  ![v175.toNat]
@[reducible] def k0_t3_loop : Scf.Loop 32 :=
  let c0_i32_135 : BitVec 32 := 0#32
  let c25_i32 : BitVec 32 := 25#32
  let v171 : BitVec 32 := Scalar.addi c0_i32_135 c25_i32
  let c1_i32_136 : BitVec 32 := 1#32
  ⟨c0_i32_135, v171, c1_i32_136⟩
def k0_mult12 (k0_t3 : Fin k0_t3_loop.trips) : BitVec 32 :=
  let c0_i32_135 : BitVec 32 := 0#32
  let c1_i32_136 : BitVec 32 := 1#32
  let arg20 : BitVec 32 := Scf.iv c0_i32_135 c1_i32_136 k0_t3
  let c10_i32_138 : BitVec 32 := 10#32
  let v172 : BitVec 32 := Scalar.muli arg20 c10_i32_138
  let c0_i32_139 : BitVec 32 := 0#32
  let v173 : BitVec 32 := Scalar.addi v172 c0_i32_139
  let c16_i32 : BitVec 32 := 16#32
  let v174 : BitVec 32 := Scalar.muli v173 c16_i32
  v174
def k0_off6 (k0_t2 : Fin k0_t2_loop.trips) (k0_t3 : Fin k0_t3_loop.trips) (c0_i32_139 : BitVec 32) : Fin 2 → Nat :=
  let c0_i32_7 : BitVec 32 := 0#32
  let c1_i32_8 : BitVec 32 := 1#32
  let arg19 : BitVec 32 := Scf.iv c0_i32_7 c1_i32_8 k0_t2
  let c1_i32_129 : BitVec 32 := 1#32
  let v158 : BitVec 32 := Scalar.andi arg19 c1_i32_129
  let v176 : Index := Scalar.indexCast v158
  let c0_i32_135 : BitVec 32 := 0#32
  let c1_i32_136 : BitVec 32 := 1#32
  let arg20 : BitVec 32 := Scf.iv c0_i32_135 c1_i32_136 k0_t3
  let c10_i32_138 : BitVec 32 := 10#32
  let v172 : BitVec 32 := Scalar.muli arg20 c10_i32_138
  let v173 : BitVec 32 := Scalar.addi v172 c0_i32_139
  let c16_i32 : BitVec 32 := 16#32
  let v174 : BitVec 32 := Scalar.muli v173 c16_i32
  let v175 : BitVec 32 := v174
  let v177 : Index := Scalar.indexCast v175
  ![v176.toNat, v177.toNat]
def k0_mult13 (k0_t3 : Fin k0_t3_loop.trips) : BitVec 32 :=
  let c0_i32_135 : BitVec 32 := 0#32
  let c1_i32_136 : BitVec 32 := 1#32
  let arg20 : BitVec 32 := Scf.iv c0_i32_135 c1_i32_136 k0_t3
  let c10_i32_140 : BitVec 32 := 10#32
  let v179 : BitVec 32 := Scalar.muli arg20 c10_i32_140
  let c1_i32_141 : BitVec 32 := 1#32
  let v180 : BitVec 32 := Scalar.addi v179 c1_i32_141
  let c16_i32_142 : BitVec 32 := 16#32
  let v181 : BitVec 32 := Scalar.muli v180 c16_i32_142
  v181
def k0_mult14 (k0_t3 : Fin k0_t3_loop.trips) : BitVec 32 :=
  let c0_i32_135 : BitVec 32 := 0#32
  let c1_i32_136 : BitVec 32 := 1#32
  let arg20 : BitVec 32 := Scf.iv c0_i32_135 c1_i32_136 k0_t3
  let c10_i32_143 : BitVec 32 := 10#32
  let v186 : BitVec 32 := Scalar.muli arg20 c10_i32_143
  let c2_i32_144 : BitVec 32 := 2#32
  let v187 : BitVec 32 := Scalar.addi v186 c2_i32_144
  let c16_i32_145 : BitVec 32 := 16#32
  let v188 : BitVec 32 := Scalar.muli v187 c16_i32_145
  v188
def k0_mult15 (k0_t3 : Fin k0_t3_loop.trips) : BitVec 32 :=
  let c0_i32_135 : BitVec 32 := 0#32
  let c1_i32_136 : BitVec 32 := 1#32
  let arg20 : BitVec 32 := Scf.iv c0_i32_135 c1_i32_136 k0_t3
  let c10_i32_146 : BitVec 32 := 10#32
  let v193 : BitVec 32 := Scalar.muli arg20 c10_i32_146
  let c3_i32_147 : BitVec 32 := 3#32
  let v194 : BitVec 32 := Scalar.addi v193 c3_i32_147
  let c16_i32_148 : BitVec 32 := 16#32
  let v195 : BitVec 32 := Scalar.muli v194 c16_i32_148
  v195
def k0_mult16 (k0_t3 : Fin k0_t3_loop.trips) : BitVec 32 :=
  let c0_i32_135 : BitVec 32 := 0#32
  let c1_i32_136 : BitVec 32 := 1#32
  let arg20 : BitVec 32 := Scf.iv c0_i32_135 c1_i32_136 k0_t3
  let c10_i32_149 : BitVec 32 := 10#32
  let v200 : BitVec 32 := Scalar.muli arg20 c10_i32_149
  let c4_i32_150 : BitVec 32 := 4#32
  let v201 : BitVec 32 := Scalar.addi v200 c4_i32_150
  let c16_i32_151 : BitVec 32 := 16#32
  let v202 : BitVec 32 := Scalar.muli v201 c16_i32_151
  v202
def k0_mult17 (k0_t3 : Fin k0_t3_loop.trips) : BitVec 32 :=
  let c0_i32_135 : BitVec 32 := 0#32
  let c1_i32_136 : BitVec 32 := 1#32
  let arg20 : BitVec 32 := Scf.iv c0_i32_135 c1_i32_136 k0_t3
  let c10_i32_152 : BitVec 32 := 10#32
  let v207 : BitVec 32 := Scalar.muli arg20 c10_i32_152
  let c5_i32_153 : BitVec 32 := 5#32
  let v208 : BitVec 32 := Scalar.addi v207 c5_i32_153
  let c16_i32_154 : BitVec 32 := 16#32
  let v209 : BitVec 32 := Scalar.muli v208 c16_i32_154
  v209
def k0_mult18 (k0_t3 : Fin k0_t3_loop.trips) : BitVec 32 :=
  let c0_i32_135 : BitVec 32 := 0#32
  let c1_i32_136 : BitVec 32 := 1#32
  let arg20 : BitVec 32 := Scf.iv c0_i32_135 c1_i32_136 k0_t3
  let c10_i32_155 : BitVec 32 := 10#32
  let v214 : BitVec 32 := Scalar.muli arg20 c10_i32_155
  let c6_i32_156 : BitVec 32 := 6#32
  let v215 : BitVec 32 := Scalar.addi v214 c6_i32_156
  let c16_i32_157 : BitVec 32 := 16#32
  let v216 : BitVec 32 := Scalar.muli v215 c16_i32_157
  v216
def k0_mult19 (k0_t3 : Fin k0_t3_loop.trips) : BitVec 32 :=
  let c0_i32_135 : BitVec 32 := 0#32
  let c1_i32_136 : BitVec 32 := 1#32
  let arg20 : BitVec 32 := Scf.iv c0_i32_135 c1_i32_136 k0_t3
  let c10_i32_158 : BitVec 32 := 10#32
  let v221 : BitVec 32 := Scalar.muli arg20 c10_i32_158
  let c7_i32_159 : BitVec 32 := 7#32
  let v222 : BitVec 32 := Scalar.addi v221 c7_i32_159
  let c16_i32_160 : BitVec 32 := 16#32
  let v223 : BitVec 32 := Scalar.muli v222 c16_i32_160
  v223
def k0_mult20 (k0_t3 : Fin k0_t3_loop.trips) : BitVec 32 :=
  let c0_i32_135 : BitVec 32 := 0#32
  let c1_i32_136 : BitVec 32 := 1#32
  let arg20 : BitVec 32 := Scf.iv c0_i32_135 c1_i32_136 k0_t3
  let c10_i32_161 : BitVec 32 := 10#32
  let v228 : BitVec 32 := Scalar.muli arg20 c10_i32_161
  let c8_i32_162 : BitVec 32 := 8#32
  let v229 : BitVec 32 := Scalar.addi v228 c8_i32_162
  let c16_i32_163 : BitVec 32 := 16#32
  let v230 : BitVec 32 := Scalar.muli v229 c16_i32_163
  v230
def k0_mult21 (k0_t3 : Fin k0_t3_loop.trips) : BitVec 32 :=
  let c0_i32_135 : BitVec 32 := 0#32
  let c1_i32_136 : BitVec 32 := 1#32
  let arg20 : BitVec 32 := Scf.iv c0_i32_135 c1_i32_136 k0_t3
  let c10_i32_164 : BitVec 32 := 10#32
  let v235 : BitVec 32 := Scalar.muli arg20 c10_i32_164
  let c9_i32_165 : BitVec 32 := 9#32
  let v236 : BitVec 32 := Scalar.addi v235 c9_i32_165
  let c16_i32_166 : BitVec 32 := 16#32
  let v237 : BitVec 32 := Scalar.muli v236 c16_i32_166
  v237

def k0_chk1 (v343 : IVec S16 32) : Prop :=
  (∀ a x, ((![v343] : Fin 1 → IVec S16 32) a x).toNat < S65536.size a)
theorem k0_idx1_inb : ∀ (v343 : IVec S16 32) (k0_hw1 : k0_chk1 v343), ∀ a x, ((![v343] : Fin 1 → IVec S16 32) a x).toNat < S65536.size a := fun v343 k0_hw1 => k0_hw1

def k0_chk2 (v345 : IVec S16 32) : Prop :=
  (∀ a x, ((![v345] : Fin 1 → IVec S16 32) a x).toNat < S65536.size a)
theorem k0_idx2_inb : ∀ (v345 : IVec S16 32) (k0_hw2 : k0_chk2 v345), ∀ a x, ((![v345] : Fin 1 → IVec S16 32) a x).toNat < S65536.size a := fun v345 k0_hw2 => k0_hw2

def k0_chk3 (v347 : IVec S16 32) : Prop :=
  (∀ a x, ((![v347] : Fin 1 → IVec S16 32) a x).toNat < S65536.size a)
theorem k0_idx3_inb : ∀ (v347 : IVec S16 32) (k0_hw3 : k0_chk3 v347), ∀ a x, ((![v347] : Fin 1 → IVec S16 32) a x).toNat < S65536.size a := fun v347 k0_hw3 => k0_hw3

def k0_chk4 (v349 : IVec S16 32) : Prop :=
  (∀ a x, ((![v349] : Fin 1 → IVec S16 32) a x).toNat < S65536.size a)
theorem k0_idx4_inb : ∀ (v349 : IVec S16 32) (k0_hw4 : k0_chk4 v349), ∀ a x, ((![v349] : Fin 1 → IVec S16 32) a x).toNat < S65536.size a := fun v349 k0_hw4 => k0_hw4

def k0_chk5 (v351 : IVec S16 32) : Prop :=
  (∀ a x, ((![v351] : Fin 1 → IVec S16 32) a x).toNat < S65536.size a)
theorem k0_idx5_inb : ∀ (v351 : IVec S16 32) (k0_hw5 : k0_chk5 v351), ∀ a x, ((![v351] : Fin 1 → IVec S16 32) a x).toNat < S65536.size a := fun v351 k0_hw5 => k0_hw5

def k0_chk6 (v353 : IVec S16 32) : Prop :=
  (∀ a x, ((![v353] : Fin 1 → IVec S16 32) a x).toNat < S65536.size a)
theorem k0_idx6_inb : ∀ (v353 : IVec S16 32) (k0_hw6 : k0_chk6 v353), ∀ a x, ((![v353] : Fin 1 → IVec S16 32) a x).toNat < S65536.size a := fun v353 k0_hw6 => k0_hw6

def k0_chk7 (v355 : IVec S16 32) : Prop :=
  (∀ a x, ((![v355] : Fin 1 → IVec S16 32) a x).toNat < S65536.size a)
theorem k0_idx7_inb : ∀ (v355 : IVec S16 32) (k0_hw7 : k0_chk7 v355), ∀ a x, ((![v355] : Fin 1 → IVec S16 32) a x).toNat < S65536.size a := fun v355 k0_hw7 => k0_hw7

def k0_chk8 (v357 : IVec S16 32) : Prop :=
  (∀ a x, ((![v357] : Fin 1 → IVec S16 32) a x).toNat < S65536.size a)
theorem k0_idx8_inb : ∀ (v357 : IVec S16 32) (k0_hw8 : k0_chk8 v357), ∀ a x, ((![v357] : Fin 1 → IVec S16 32) a x).toNat < S65536.size a := fun v357 k0_hw8 => k0_hw8

def k0_chk9 (v359 : IVec S16 32) : Prop :=
  (∀ a x, ((![v359] : Fin 1 → IVec S16 32) a x).toNat < S65536.size a)
theorem k0_idx9_inb : ∀ (v359 : IVec S16 32) (k0_hw9 : k0_chk9 v359), ∀ a x, ((![v359] : Fin 1 → IVec S16 32) a x).toNat < S65536.size a := fun v359 k0_hw9 => k0_hw9

def k0_chk10 (v361 : IVec S16 32) : Prop :=
  (∀ a x, ((![v361] : Fin 1 → IVec S16 32) a x).toNat < S65536.size a)
theorem k0_idx10_inb : ∀ (v361 : IVec S16 32) (k0_hw10 : k0_chk10 v361), ∀ a x, ((![v361] : Fin 1 → IVec S16 32) a x).toNat < S65536.size a := fun v361 k0_hw10 => k0_hw10
@[reducible] def k0_t4_loop : Scf.Loop 32 :=
  let c0_i32_11 : BitVec 32 := 0#32
  let c8_i32 : BitVec 32 := 8#32
  let v14 : BitVec 32 := Scalar.addi c0_i32_11 c8_i32
  let c1_i32_12 : BitVec 32 := 1#32
  ⟨c0_i32_11, v14, c1_i32_12⟩
def k0_mult22 (k0_t4 : Fin k0_t4_loop.trips) : BitVec 32 :=
  let c0_i32_131 : BitVec 32 := 0#32
  let c0_i32_11 : BitVec 32 := 0#32
  let c1_i32_12 : BitVec 32 := 1#32
  let arg19 : BitVec 32 := Scf.iv c0_i32_11 c1_i32_12 k0_t4
  let c8_i32_129 : BitVec 32 := 8#32
  let v158 : BitVec 32 := Scalar.muli arg19 c8_i32_129
  let c0_i32_130 : BitVec 32 := 0#32
  let v159 : BitVec 32 := Scalar.addi v158 c0_i32_130
  let c16_i32 : BitVec 32 := 16#32
  let v160 : BitVec 32 := Scalar.muli v159 c16_i32
  let v161 : BitVec 32 := Scalar.addi c0_i32_131 v160
  v161
def k0_mult23 (k0_t4 : Fin k0_t4_loop.trips) : BitVec 32 :=
  let c0_i32_135 : BitVec 32 := 0#32
  let c0_i32_11 : BitVec 32 := 0#32
  let c1_i32_12 : BitVec 32 := 1#32
  let arg19 : BitVec 32 := Scf.iv c0_i32_11 c1_i32_12 k0_t4
  let c8_i32_132 : BitVec 32 := 8#32
  let v163 : BitVec 32 := Scalar.muli arg19 c8_i32_132
  let c1_i32_133 : BitVec 32 := 1#32
  let v164 : BitVec 32 := Scalar.addi v163 c1_i32_133
  let c16_i32_134 : BitVec 32 := 16#32
  let v165 : BitVec 32 := Scalar.muli v164 c16_i32_134
  let v166 : BitVec 32 := Scalar.addi c0_i32_135 v165
  v166
def k0_mult24 (k0_t4 : Fin k0_t4_loop.trips) : BitVec 32 :=
  let c0_i32_139 : BitVec 32 := 0#32
  let c0_i32_11 : BitVec 32 := 0#32
  let c1_i32_12 : BitVec 32 := 1#32
  let arg19 : BitVec 32 := Scf.iv c0_i32_11 c1_i32_12 k0_t4
  let c8_i32_136 : BitVec 32 := 8#32
  let v168 : BitVec 32 := Scalar.muli arg19 c8_i32_136
  let c2_i32_137 : BitVec 32 := 2#32
  let v169 : BitVec 32 := Scalar.addi v168 c2_i32_137
  let c16_i32_138 : BitVec 32 := 16#32
  let v170 : BitVec 32 := Scalar.muli v169 c16_i32_138
  let v171 : BitVec 32 := Scalar.addi c0_i32_139 v170
  v171
def k0_mult25 (k0_t4 : Fin k0_t4_loop.trips) : BitVec 32 :=
  let c0_i32_143 : BitVec 32 := 0#32
  let c0_i32_11 : BitVec 32 := 0#32
  let c1_i32_12 : BitVec 32 := 1#32
  let arg19 : BitVec 32 := Scf.iv c0_i32_11 c1_i32_12 k0_t4
  let c8_i32_140 : BitVec 32 := 8#32
  let v173 : BitVec 32 := Scalar.muli arg19 c8_i32_140
  let c3_i32_141 : BitVec 32 := 3#32
  let v174 : BitVec 32 := Scalar.addi v173 c3_i32_141
  let c16_i32_142 : BitVec 32 := 16#32
  let v175 : BitVec 32 := Scalar.muli v174 c16_i32_142
  let v176 : BitVec 32 := Scalar.addi c0_i32_143 v175
  v176
def k0_mult26 (k0_t4 : Fin k0_t4_loop.trips) : BitVec 32 :=
  let c0_i32_147 : BitVec 32 := 0#32
  let c0_i32_11 : BitVec 32 := 0#32
  let c1_i32_12 : BitVec 32 := 1#32
  let arg19 : BitVec 32 := Scf.iv c0_i32_11 c1_i32_12 k0_t4
  let c8_i32_144 : BitVec 32 := 8#32
  let v178 : BitVec 32 := Scalar.muli arg19 c8_i32_144
  let c4_i32_145 : BitVec 32 := 4#32
  let v179 : BitVec 32 := Scalar.addi v178 c4_i32_145
  let c16_i32_146 : BitVec 32 := 16#32
  let v180 : BitVec 32 := Scalar.muli v179 c16_i32_146
  let v181 : BitVec 32 := Scalar.addi c0_i32_147 v180
  v181
def k0_mult27 (k0_t4 : Fin k0_t4_loop.trips) : BitVec 32 :=
  let c0_i32_151 : BitVec 32 := 0#32
  let c0_i32_11 : BitVec 32 := 0#32
  let c1_i32_12 : BitVec 32 := 1#32
  let arg19 : BitVec 32 := Scf.iv c0_i32_11 c1_i32_12 k0_t4
  let c8_i32_148 : BitVec 32 := 8#32
  let v183 : BitVec 32 := Scalar.muli arg19 c8_i32_148
  let c5_i32_149 : BitVec 32 := 5#32
  let v184 : BitVec 32 := Scalar.addi v183 c5_i32_149
  let c16_i32_150 : BitVec 32 := 16#32
  let v185 : BitVec 32 := Scalar.muli v184 c16_i32_150
  let v186 : BitVec 32 := Scalar.addi c0_i32_151 v185
  v186
def k0_mult28 (k0_t4 : Fin k0_t4_loop.trips) : BitVec 32 :=
  let c0_i32_155 : BitVec 32 := 0#32
  let c0_i32_11 : BitVec 32 := 0#32
  let c1_i32_12 : BitVec 32 := 1#32
  let arg19 : BitVec 32 := Scf.iv c0_i32_11 c1_i32_12 k0_t4
  let c8_i32_152 : BitVec 32 := 8#32
  let v188 : BitVec 32 := Scalar.muli arg19 c8_i32_152
  let c6_i32_153 : BitVec 32 := 6#32
  let v189 : BitVec 32 := Scalar.addi v188 c6_i32_153
  let c16_i32_154 : BitVec 32 := 16#32
  let v190 : BitVec 32 := Scalar.muli v189 c16_i32_154
  let v191 : BitVec 32 := Scalar.addi c0_i32_155 v190
  v191
def k0_mult29 (k0_t4 : Fin k0_t4_loop.trips) : BitVec 32 :=
  let c0_i32_159 : BitVec 32 := 0#32
  let c0_i32_11 : BitVec 32 := 0#32
  let c1_i32_12 : BitVec 32 := 1#32
  let arg19 : BitVec 32 := Scf.iv c0_i32_11 c1_i32_12 k0_t4
  let c8_i32_156 : BitVec 32 := 8#32
  let v193 : BitVec 32 := Scalar.muli arg19 c8_i32_156
  let c7_i32_157 : BitVec 32 := 7#32
  let v194 : BitVec 32 := Scalar.addi v193 c7_i32_157
  let c16_i32_158 : BitVec 32 := 16#32
  let v195 : BitVec 32 := Scalar.muli v194 c16_i32_158
  let v196 : BitVec 32 := Scalar.addi c0_i32_159 v195
  v196
def k0_mult30 (k0_t4 : Fin k0_t4_loop.trips) : BitVec 32 :=
  let c0_i32_11 : BitVec 32 := 0#32
  let c1_i32_12 : BitVec 32 := 1#32
  let arg19 : BitVec 32 := Scf.iv c0_i32_11 c1_i32_12 k0_t4
  let c8_i32_160 : BitVec 32 := 8#32
  let v198 : BitVec 32 := Scalar.muli arg19 c8_i32_160
  let c0_i32_161 : BitVec 32 := 0#32
  let v199 : BitVec 32 := Scalar.addi v198 c0_i32_161
  let c16_i32_162 : BitVec 32 := 16#32
  let v200 : BitVec 32 := Scalar.muli v199 c16_i32_162
  v200
def k0_mult31 (k0_t4 : Fin k0_t4_loop.trips) : BitVec 32 :=
  let c0_i32_11 : BitVec 32 := 0#32
  let c1_i32_12 : BitVec 32 := 1#32
  let arg19 : BitVec 32 := Scf.iv c0_i32_11 c1_i32_12 k0_t4
  let c8_i32_163 : BitVec 32 := 8#32
  let v202 : BitVec 32 := Scalar.muli arg19 c8_i32_163
  let c1_i32_164 : BitVec 32 := 1#32
  let v203 : BitVec 32 := Scalar.addi v202 c1_i32_164
  let c16_i32_165 : BitVec 32 := 16#32
  let v204 : BitVec 32 := Scalar.muli v203 c16_i32_165
  v204
def k0_mult32 (k0_t4 : Fin k0_t4_loop.trips) : BitVec 32 :=
  let c0_i32_11 : BitVec 32 := 0#32
  let c1_i32_12 : BitVec 32 := 1#32
  let arg19 : BitVec 32 := Scf.iv c0_i32_11 c1_i32_12 k0_t4
  let c8_i32_166 : BitVec 32 := 8#32
  let v206 : BitVec 32 := Scalar.muli arg19 c8_i32_166
  let c2_i32_167 : BitVec 32 := 2#32
  let v207 : BitVec 32 := Scalar.addi v206 c2_i32_167
  let c16_i32_168 : BitVec 32 := 16#32
  let v208 : BitVec 32 := Scalar.muli v207 c16_i32_168
  v208
def k0_mult33 (k0_t4 : Fin k0_t4_loop.trips) : BitVec 32 :=
  let c0_i32_11 : BitVec 32 := 0#32
  let c1_i32_12 : BitVec 32 := 1#32
  let arg19 : BitVec 32 := Scf.iv c0_i32_11 c1_i32_12 k0_t4
  let c8_i32_169 : BitVec 32 := 8#32
  let v210 : BitVec 32 := Scalar.muli arg19 c8_i32_169
  let c3_i32_170 : BitVec 32 := 3#32
  let v211 : BitVec 32 := Scalar.addi v210 c3_i32_170
  let c16_i32_171 : BitVec 32 := 16#32
  let v212 : BitVec 32 := Scalar.muli v211 c16_i32_171
  v212
def k0_mult34 (k0_t4 : Fin k0_t4_loop.trips) : BitVec 32 :=
  let c0_i32_11 : BitVec 32 := 0#32
  let c1_i32_12 : BitVec 32 := 1#32
  let arg19 : BitVec 32 := Scf.iv c0_i32_11 c1_i32_12 k0_t4
  let c8_i32_172 : BitVec 32 := 8#32
  let v214 : BitVec 32 := Scalar.muli arg19 c8_i32_172
  let c4_i32_173 : BitVec 32 := 4#32
  let v215 : BitVec 32 := Scalar.addi v214 c4_i32_173
  let c16_i32_174 : BitVec 32 := 16#32
  let v216 : BitVec 32 := Scalar.muli v215 c16_i32_174
  v216
def k0_mult35 (k0_t4 : Fin k0_t4_loop.trips) : BitVec 32 :=
  let c0_i32_11 : BitVec 32 := 0#32
  let c1_i32_12 : BitVec 32 := 1#32
  let arg19 : BitVec 32 := Scf.iv c0_i32_11 c1_i32_12 k0_t4
  let c8_i32_175 : BitVec 32 := 8#32
  let v218 : BitVec 32 := Scalar.muli arg19 c8_i32_175
  let c5_i32_176 : BitVec 32 := 5#32
  let v219 : BitVec 32 := Scalar.addi v218 c5_i32_176
  let c16_i32_177 : BitVec 32 := 16#32
  let v220 : BitVec 32 := Scalar.muli v219 c16_i32_177
  v220
def k0_mult36 (k0_t4 : Fin k0_t4_loop.trips) : BitVec 32 :=
  let c0_i32_11 : BitVec 32 := 0#32
  let c1_i32_12 : BitVec 32 := 1#32
  let arg19 : BitVec 32 := Scf.iv c0_i32_11 c1_i32_12 k0_t4
  let c8_i32_178 : BitVec 32 := 8#32
  let v222 : BitVec 32 := Scalar.muli arg19 c8_i32_178
  let c6_i32_179 : BitVec 32 := 6#32
  let v223 : BitVec 32 := Scalar.addi v222 c6_i32_179
  let c16_i32_180 : BitVec 32 := 16#32
  let v224 : BitVec 32 := Scalar.muli v223 c16_i32_180
  v224
def k0_mult37 (k0_t4 : Fin k0_t4_loop.trips) : BitVec 32 :=
  let c0_i32_11 : BitVec 32 := 0#32
  let c1_i32_12 : BitVec 32 := 1#32
  let arg19 : BitVec 32 := Scf.iv c0_i32_11 c1_i32_12 k0_t4
  let c8_i32_181 : BitVec 32 := 8#32
  let v226 : BitVec 32 := Scalar.muli arg19 c8_i32_181
  let c7_i32_182 : BitVec 32 := 7#32
  let v227 : BitVec 32 := Scalar.addi v226 c7_i32_182
  let c16_i32_183 : BitVec 32 := 16#32
  let v228 : BitVec 32 := Scalar.muli v227 c16_i32_183
  v228
def k0_off7 (k0_t4 : Fin k0_t4_loop.trips) (c0_i32_130 : BitVec 32) : Fin 1 → Nat :=
  let c0_i32_131 : BitVec 32 := 0#32
  let c0_i32_11 : BitVec 32 := 0#32
  let c1_i32_12 : BitVec 32 := 1#32
  let arg19 : BitVec 32 := Scf.iv c0_i32_11 c1_i32_12 k0_t4
  let c8_i32_129 : BitVec 32 := 8#32
  let v158 : BitVec 32 := Scalar.muli arg19 c8_i32_129
  let v159 : BitVec 32 := Scalar.addi v158 c0_i32_130
  let c16_i32 : BitVec 32 := 16#32
  let v160 : BitVec 32 := Scalar.muli v159 c16_i32
  let v161 : BitVec 32 := Scalar.addi c0_i32_131 v160
  let v162 : BitVec 32 := v161
  let v230 : Index := Scalar.indexCast v162
  ![v230.toNat]
def k0_off8 (k0_t4 : Fin k0_t4_loop.trips) (c0_i32_161 : BitVec 32) : Fin 2 → Nat :=
  let c0_i32_246 : BitVec 32 := 0#32
  let v368 : Index := Scalar.indexCast c0_i32_246
  let c0_i32_11 : BitVec 32 := 0#32
  let c1_i32_12 : BitVec 32 := 1#32
  let arg19 : BitVec 32 := Scf.iv c0_i32_11 c1_i32_12 k0_t4
  let c8_i32_160 : BitVec 32 := 8#32
  let v198 : BitVec 32 := Scalar.muli arg19 c8_i32_160
  let v199 : BitVec 32 := Scalar.addi v198 c0_i32_161
  let c16_i32_162 : BitVec 32 := 16#32
  let v200 : BitVec 32 := Scalar.muli v199 c16_i32_162
  let v201 : BitVec 32 := v200
  let v369 : Index := Scalar.indexCast v201
  ![0, v369.toNat]
def k0_mult38 : BitVec 32 :=
  let c0_i32_14 : BitVec 32 := 0#32
  c0_i32_14
def k0_mult39 : BitVec 32 :=
  let c128_i32 : BitVec 32 := 128#32
  c128_i32
def k0_mult40 : BitVec 32 :=
  let c256_i32 : BitVec 32 := 256#32
  c256_i32
def k0_mult41 : BitVec 32 :=
  let c384_i32 : BitVec 32 := 384#32
  c384_i32
def k0_mult42 : BitVec 32 :=
  let c512_i32_31 : BitVec 32 := 512#32
  c512_i32_31
def k0_mult43 : BitVec 32 :=
  let c640_i32 : BitVec 32 := 640#32
  c640_i32
def k0_mult44 : BitVec 32 :=
  let c768_i32 : BitVec 32 := 768#32
  c768_i32
def k0_mult45 : BitVec 32 :=
  let c896_i32 : BitVec 32 := 896#32
  c896_i32
def k0_mult46 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v2 : BitVec 32 := Scalar.muli v1 c65536_i32
  let c0_i32_48 : BitVec 32 := 0#32
  let v47 : BitVec 32 := Scalar.addi v2 c0_i32_48
  v47
def k0_off9 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v2 : BitVec 32 := Scalar.muli v1 c65536_i32
  let c0_i32_48 : BitVec 32 := 0#32
  let v47 : BitVec 32 := Scalar.addi v2 c0_i32_48
  let v48 : BitVec 32 := v47
  ![v48.toNat]
@[reducible] def k0_t5_loop : Scf.Loop 32 :=
  let c0_i32_53 : BitVec 32 := 0#32
  let c32_i32 : BitVec 32 := 32#32
  let v55 : BitVec 32 := Scalar.addi c0_i32_53 c32_i32
  let c1_i32_54 : BitVec 32 := 1#32
  ⟨c0_i32_53, v55, c1_i32_54⟩
def k0_cond3 (k0_t5 : Fin k0_t5_loop.trips) : BitVec 1 :=
  let c0_i32_53 : BitVec 32 := 0#32
  let c1_i32_54 : BitVec 32 := 1#32
  let arg19 : BitVec 32 := Scf.iv c0_i32_53 c1_i32_54 k0_t5
  let c2_i32_129 : BitVec 32 := 2#32
  let v158 : BitVec 32 := Scalar.muli arg19 c2_i32_129
  let c0_i32_130 : BitVec 32 := 0#32
  let v159 : BitVec 32 := Scalar.addi v158 c0_i32_130
  let c63_i32 : BitVec 32 := 63#32
  let v163 : BitVec 1 := Scalar.cmpi .slt v159 c63_i32
  let v164 : BitVec 32 := Scalar.extui v163
  let c0_i32_133 : BitVec 32 := 0#32
  let v165 : BitVec 1 := Scalar.cmpi .ne v164 c0_i32_133
  v165

@[reducible] def k0_t6_loop : Scf.Loop 32 :=
  let c0_i32_355 : BitVec 32 := 0#32
  let c8_i32_356 : BitVec 32 := 8#32
  let v512 : BitVec 32 := Scalar.addi c0_i32_355 c8_i32_356
  let c1_i32_357 : BitVec 32 := 1#32
  ⟨c0_i32_355, v512, c1_i32_357⟩
def k0_mult47 (k0_t5 : Fin k0_t5_loop.trips) (k0_t6 : Fin k0_t6_loop.trips) : BitVec 32 :=
  let c0_i32_53 : BitVec 32 := 0#32
  let c1_i32_54 : BitVec 32 := 1#32
  let arg19 : BitVec 32 := Scf.iv c0_i32_53 c1_i32_54 k0_t5
  let c2_i32_129 : BitVec 32 := 2#32
  let v158 : BitVec 32 := Scalar.muli arg19 c2_i32_129
  let c0_i32_130 : BitVec 32 := 0#32
  let v159 : BitVec 32 := Scalar.addi v158 c0_i32_130
  let c1_i32_352 : BitVec 32 := 1#32
  let v510 : BitVec 32 := Scalar.addi v159 c1_i32_352
  let c1024_i32_353 : BitVec 32 := 1024#32
  let v511 : BitVec 32 := Scalar.muli v510 c1024_i32_353
  let c0_i32_355 : BitVec 32 := 0#32
  let c1_i32_357 : BitVec 32 := 1#32
  let arg20 : BitVec 32 := Scf.iv c0_i32_355 c1_i32_357 k0_t6
  let c8_i32_412 : BitVec 32 := 8#32
  let v571 : BitVec 32 := Scalar.muli arg20 c8_i32_412
  let c0_i32_413 : BitVec 32 := 0#32
  let v572 : BitVec 32 := Scalar.addi v571 c0_i32_413
  let c16_i32 : BitVec 32 := 16#32
  let v573 : BitVec 32 := Scalar.muli v572 c16_i32
  let v574 : BitVec 32 := Scalar.addi v511 v573
  v574
def k0_mult48 (k0_t5 : Fin k0_t5_loop.trips) (k0_t6 : Fin k0_t6_loop.trips) : BitVec 32 :=
  let c0_i32_53 : BitVec 32 := 0#32
  let c1_i32_54 : BitVec 32 := 1#32
  let arg19 : BitVec 32 := Scf.iv c0_i32_53 c1_i32_54 k0_t5
  let c2_i32_129 : BitVec 32 := 2#32
  let v158 : BitVec 32 := Scalar.muli arg19 c2_i32_129
  let c0_i32_130 : BitVec 32 := 0#32
  let v159 : BitVec 32 := Scalar.addi v158 c0_i32_130
  let c1_i32_352 : BitVec 32 := 1#32
  let v510 : BitVec 32 := Scalar.addi v159 c1_i32_352
  let c1024_i32_353 : BitVec 32 := 1024#32
  let v511 : BitVec 32 := Scalar.muli v510 c1024_i32_353
  let c0_i32_355 : BitVec 32 := 0#32
  let c1_i32_357 : BitVec 32 := 1#32
  let arg20 : BitVec 32 := Scf.iv c0_i32_355 c1_i32_357 k0_t6
  let c8_i32_414 : BitVec 32 := 8#32
  let v576 : BitVec 32 := Scalar.muli arg20 c8_i32_414
  let c1_i32_415 : BitVec 32 := 1#32
  let v577 : BitVec 32 := Scalar.addi v576 c1_i32_415
  let c16_i32_416 : BitVec 32 := 16#32
  let v578 : BitVec 32 := Scalar.muli v577 c16_i32_416
  let v579 : BitVec 32 := Scalar.addi v511 v578
  v579
def k0_mult49 (k0_t5 : Fin k0_t5_loop.trips) (k0_t6 : Fin k0_t6_loop.trips) : BitVec 32 :=
  let c0_i32_53 : BitVec 32 := 0#32
  let c1_i32_54 : BitVec 32 := 1#32
  let arg19 : BitVec 32 := Scf.iv c0_i32_53 c1_i32_54 k0_t5
  let c2_i32_129 : BitVec 32 := 2#32
  let v158 : BitVec 32 := Scalar.muli arg19 c2_i32_129
  let c0_i32_130 : BitVec 32 := 0#32
  let v159 : BitVec 32 := Scalar.addi v158 c0_i32_130
  let c1_i32_352 : BitVec 32 := 1#32
  let v510 : BitVec 32 := Scalar.addi v159 c1_i32_352
  let c1024_i32_353 : BitVec 32 := 1024#32
  let v511 : BitVec 32 := Scalar.muli v510 c1024_i32_353
  let c0_i32_355 : BitVec 32 := 0#32
  let c1_i32_357 : BitVec 32 := 1#32
  let arg20 : BitVec 32 := Scf.iv c0_i32_355 c1_i32_357 k0_t6
  let c8_i32_417 : BitVec 32 := 8#32
  let v581 : BitVec 32 := Scalar.muli arg20 c8_i32_417
  let c2_i32_418 : BitVec 32 := 2#32
  let v582 : BitVec 32 := Scalar.addi v581 c2_i32_418
  let c16_i32_419 : BitVec 32 := 16#32
  let v583 : BitVec 32 := Scalar.muli v582 c16_i32_419
  let v584 : BitVec 32 := Scalar.addi v511 v583
  v584
def k0_mult50 (k0_t5 : Fin k0_t5_loop.trips) (k0_t6 : Fin k0_t6_loop.trips) : BitVec 32 :=
  let c0_i32_53 : BitVec 32 := 0#32
  let c1_i32_54 : BitVec 32 := 1#32
  let arg19 : BitVec 32 := Scf.iv c0_i32_53 c1_i32_54 k0_t5
  let c2_i32_129 : BitVec 32 := 2#32
  let v158 : BitVec 32 := Scalar.muli arg19 c2_i32_129
  let c0_i32_130 : BitVec 32 := 0#32
  let v159 : BitVec 32 := Scalar.addi v158 c0_i32_130
  let c1_i32_352 : BitVec 32 := 1#32
  let v510 : BitVec 32 := Scalar.addi v159 c1_i32_352
  let c1024_i32_353 : BitVec 32 := 1024#32
  let v511 : BitVec 32 := Scalar.muli v510 c1024_i32_353
  let c0_i32_355 : BitVec 32 := 0#32
  let c1_i32_357 : BitVec 32 := 1#32
  let arg20 : BitVec 32 := Scf.iv c0_i32_355 c1_i32_357 k0_t6
  let c8_i32_420 : BitVec 32 := 8#32
  let v586 : BitVec 32 := Scalar.muli arg20 c8_i32_420
  let c3_i32_421 : BitVec 32 := 3#32
  let v587 : BitVec 32 := Scalar.addi v586 c3_i32_421
  let c16_i32_422 : BitVec 32 := 16#32
  let v588 : BitVec 32 := Scalar.muli v587 c16_i32_422
  let v589 : BitVec 32 := Scalar.addi v511 v588
  v589
def k0_mult51 (k0_t5 : Fin k0_t5_loop.trips) (k0_t6 : Fin k0_t6_loop.trips) : BitVec 32 :=
  let c0_i32_53 : BitVec 32 := 0#32
  let c1_i32_54 : BitVec 32 := 1#32
  let arg19 : BitVec 32 := Scf.iv c0_i32_53 c1_i32_54 k0_t5
  let c2_i32_129 : BitVec 32 := 2#32
  let v158 : BitVec 32 := Scalar.muli arg19 c2_i32_129
  let c0_i32_130 : BitVec 32 := 0#32
  let v159 : BitVec 32 := Scalar.addi v158 c0_i32_130
  let c1_i32_352 : BitVec 32 := 1#32
  let v510 : BitVec 32 := Scalar.addi v159 c1_i32_352
  let c1024_i32_353 : BitVec 32 := 1024#32
  let v511 : BitVec 32 := Scalar.muli v510 c1024_i32_353
  let c0_i32_355 : BitVec 32 := 0#32
  let c1_i32_357 : BitVec 32 := 1#32
  let arg20 : BitVec 32 := Scf.iv c0_i32_355 c1_i32_357 k0_t6
  let c8_i32_423 : BitVec 32 := 8#32
  let v591 : BitVec 32 := Scalar.muli arg20 c8_i32_423
  let c4_i32_424 : BitVec 32 := 4#32
  let v592 : BitVec 32 := Scalar.addi v591 c4_i32_424
  let c16_i32_425 : BitVec 32 := 16#32
  let v593 : BitVec 32 := Scalar.muli v592 c16_i32_425
  let v594 : BitVec 32 := Scalar.addi v511 v593
  v594
def k0_mult52 (k0_t5 : Fin k0_t5_loop.trips) (k0_t6 : Fin k0_t6_loop.trips) : BitVec 32 :=
  let c0_i32_53 : BitVec 32 := 0#32
  let c1_i32_54 : BitVec 32 := 1#32
  let arg19 : BitVec 32 := Scf.iv c0_i32_53 c1_i32_54 k0_t5
  let c2_i32_129 : BitVec 32 := 2#32
  let v158 : BitVec 32 := Scalar.muli arg19 c2_i32_129
  let c0_i32_130 : BitVec 32 := 0#32
  let v159 : BitVec 32 := Scalar.addi v158 c0_i32_130
  let c1_i32_352 : BitVec 32 := 1#32
  let v510 : BitVec 32 := Scalar.addi v159 c1_i32_352
  let c1024_i32_353 : BitVec 32 := 1024#32
  let v511 : BitVec 32 := Scalar.muli v510 c1024_i32_353
  let c0_i32_355 : BitVec 32 := 0#32
  let c1_i32_357 : BitVec 32 := 1#32
  let arg20 : BitVec 32 := Scf.iv c0_i32_355 c1_i32_357 k0_t6
  let c8_i32_426 : BitVec 32 := 8#32
  let v596 : BitVec 32 := Scalar.muli arg20 c8_i32_426
  let c5_i32_427 : BitVec 32 := 5#32
  let v597 : BitVec 32 := Scalar.addi v596 c5_i32_427
  let c16_i32_428 : BitVec 32 := 16#32
  let v598 : BitVec 32 := Scalar.muli v597 c16_i32_428
  let v599 : BitVec 32 := Scalar.addi v511 v598
  v599
def k0_mult53 (k0_t5 : Fin k0_t5_loop.trips) (k0_t6 : Fin k0_t6_loop.trips) : BitVec 32 :=
  let c0_i32_53 : BitVec 32 := 0#32
  let c1_i32_54 : BitVec 32 := 1#32
  let arg19 : BitVec 32 := Scf.iv c0_i32_53 c1_i32_54 k0_t5
  let c2_i32_129 : BitVec 32 := 2#32
  let v158 : BitVec 32 := Scalar.muli arg19 c2_i32_129
  let c0_i32_130 : BitVec 32 := 0#32
  let v159 : BitVec 32 := Scalar.addi v158 c0_i32_130
  let c1_i32_352 : BitVec 32 := 1#32
  let v510 : BitVec 32 := Scalar.addi v159 c1_i32_352
  let c1024_i32_353 : BitVec 32 := 1024#32
  let v511 : BitVec 32 := Scalar.muli v510 c1024_i32_353
  let c0_i32_355 : BitVec 32 := 0#32
  let c1_i32_357 : BitVec 32 := 1#32
  let arg20 : BitVec 32 := Scf.iv c0_i32_355 c1_i32_357 k0_t6
  let c8_i32_429 : BitVec 32 := 8#32
  let v601 : BitVec 32 := Scalar.muli arg20 c8_i32_429
  let c6_i32_430 : BitVec 32 := 6#32
  let v602 : BitVec 32 := Scalar.addi v601 c6_i32_430
  let c16_i32_431 : BitVec 32 := 16#32
  let v603 : BitVec 32 := Scalar.muli v602 c16_i32_431
  let v604 : BitVec 32 := Scalar.addi v511 v603
  v604
def k0_mult54 (k0_t5 : Fin k0_t5_loop.trips) (k0_t6 : Fin k0_t6_loop.trips) : BitVec 32 :=
  let c0_i32_53 : BitVec 32 := 0#32
  let c1_i32_54 : BitVec 32 := 1#32
  let arg19 : BitVec 32 := Scf.iv c0_i32_53 c1_i32_54 k0_t5
  let c2_i32_129 : BitVec 32 := 2#32
  let v158 : BitVec 32 := Scalar.muli arg19 c2_i32_129
  let c0_i32_130 : BitVec 32 := 0#32
  let v159 : BitVec 32 := Scalar.addi v158 c0_i32_130
  let c1_i32_352 : BitVec 32 := 1#32
  let v510 : BitVec 32 := Scalar.addi v159 c1_i32_352
  let c1024_i32_353 : BitVec 32 := 1024#32
  let v511 : BitVec 32 := Scalar.muli v510 c1024_i32_353
  let c0_i32_355 : BitVec 32 := 0#32
  let c1_i32_357 : BitVec 32 := 1#32
  let arg20 : BitVec 32 := Scf.iv c0_i32_355 c1_i32_357 k0_t6
  let c8_i32_432 : BitVec 32 := 8#32
  let v606 : BitVec 32 := Scalar.muli arg20 c8_i32_432
  let c7_i32_433 : BitVec 32 := 7#32
  let v607 : BitVec 32 := Scalar.addi v606 c7_i32_433
  let c16_i32_434 : BitVec 32 := 16#32
  let v608 : BitVec 32 := Scalar.muli v607 c16_i32_434
  let v609 : BitVec 32 := Scalar.addi v511 v608
  v609
def k0_mult55 (k0_t6 : Fin k0_t6_loop.trips) : BitVec 32 :=
  let c0_i32_355 : BitVec 32 := 0#32
  let c1_i32_357 : BitVec 32 := 1#32
  let arg20 : BitVec 32 := Scf.iv c0_i32_355 c1_i32_357 k0_t6
  let c8_i32_435 : BitVec 32 := 8#32
  let v611 : BitVec 32 := Scalar.muli arg20 c8_i32_435
  let c0_i32_436 : BitVec 32 := 0#32
  let v612 : BitVec 32 := Scalar.addi v611 c0_i32_436
  let c16_i32_437 : BitVec 32 := 16#32
  let v613 : BitVec 32 := Scalar.muli v612 c16_i32_437
  v613
def k0_mult56 (k0_t6 : Fin k0_t6_loop.trips) : BitVec 32 :=
  let c0_i32_355 : BitVec 32 := 0#32
  let c1_i32_357 : BitVec 32 := 1#32
  let arg20 : BitVec 32 := Scf.iv c0_i32_355 c1_i32_357 k0_t6
  let c8_i32_438 : BitVec 32 := 8#32
  let v615 : BitVec 32 := Scalar.muli arg20 c8_i32_438
  let c1_i32_439 : BitVec 32 := 1#32
  let v616 : BitVec 32 := Scalar.addi v615 c1_i32_439
  let c16_i32_440 : BitVec 32 := 16#32
  let v617 : BitVec 32 := Scalar.muli v616 c16_i32_440
  v617
def k0_mult57 (k0_t6 : Fin k0_t6_loop.trips) : BitVec 32 :=
  let c0_i32_355 : BitVec 32 := 0#32
  let c1_i32_357 : BitVec 32 := 1#32
  let arg20 : BitVec 32 := Scf.iv c0_i32_355 c1_i32_357 k0_t6
  let c8_i32_441 : BitVec 32 := 8#32
  let v619 : BitVec 32 := Scalar.muli arg20 c8_i32_441
  let c2_i32_442 : BitVec 32 := 2#32
  let v620 : BitVec 32 := Scalar.addi v619 c2_i32_442
  let c16_i32_443 : BitVec 32 := 16#32
  let v621 : BitVec 32 := Scalar.muli v620 c16_i32_443
  v621
def k0_mult58 (k0_t6 : Fin k0_t6_loop.trips) : BitVec 32 :=
  let c0_i32_355 : BitVec 32 := 0#32
  let c1_i32_357 : BitVec 32 := 1#32
  let arg20 : BitVec 32 := Scf.iv c0_i32_355 c1_i32_357 k0_t6
  let c8_i32_444 : BitVec 32 := 8#32
  let v623 : BitVec 32 := Scalar.muli arg20 c8_i32_444
  let c3_i32_445 : BitVec 32 := 3#32
  let v624 : BitVec 32 := Scalar.addi v623 c3_i32_445
  let c16_i32_446 : BitVec 32 := 16#32
  let v625 : BitVec 32 := Scalar.muli v624 c16_i32_446
  v625
def k0_mult59 (k0_t6 : Fin k0_t6_loop.trips) : BitVec 32 :=
  let c0_i32_355 : BitVec 32 := 0#32
  let c1_i32_357 : BitVec 32 := 1#32
  let arg20 : BitVec 32 := Scf.iv c0_i32_355 c1_i32_357 k0_t6
  let c8_i32_447 : BitVec 32 := 8#32
  let v627 : BitVec 32 := Scalar.muli arg20 c8_i32_447
  let c4_i32_448 : BitVec 32 := 4#32
  let v628 : BitVec 32 := Scalar.addi v627 c4_i32_448
  let c16_i32_449 : BitVec 32 := 16#32
  let v629 : BitVec 32 := Scalar.muli v628 c16_i32_449
  v629
def k0_mult60 (k0_t6 : Fin k0_t6_loop.trips) : BitVec 32 :=
  let c0_i32_355 : BitVec 32 := 0#32
  let c1_i32_357 : BitVec 32 := 1#32
  let arg20 : BitVec 32 := Scf.iv c0_i32_355 c1_i32_357 k0_t6
  let c8_i32_450 : BitVec 32 := 8#32
  let v631 : BitVec 32 := Scalar.muli arg20 c8_i32_450
  let c5_i32_451 : BitVec 32 := 5#32
  let v632 : BitVec 32 := Scalar.addi v631 c5_i32_451
  let c16_i32_452 : BitVec 32 := 16#32
  let v633 : BitVec 32 := Scalar.muli v632 c16_i32_452
  v633
def k0_mult61 (k0_t6 : Fin k0_t6_loop.trips) : BitVec 32 :=
  let c0_i32_355 : BitVec 32 := 0#32
  let c1_i32_357 : BitVec 32 := 1#32
  let arg20 : BitVec 32 := Scf.iv c0_i32_355 c1_i32_357 k0_t6
  let c8_i32_453 : BitVec 32 := 8#32
  let v635 : BitVec 32 := Scalar.muli arg20 c8_i32_453
  let c6_i32_454 : BitVec 32 := 6#32
  let v636 : BitVec 32 := Scalar.addi v635 c6_i32_454
  let c16_i32_455 : BitVec 32 := 16#32
  let v637 : BitVec 32 := Scalar.muli v636 c16_i32_455
  v637
def k0_mult62 (k0_t6 : Fin k0_t6_loop.trips) : BitVec 32 :=
  let c0_i32_355 : BitVec 32 := 0#32
  let c1_i32_357 : BitVec 32 := 1#32
  let arg20 : BitVec 32 := Scf.iv c0_i32_355 c1_i32_357 k0_t6
  let c8_i32_456 : BitVec 32 := 8#32
  let v639 : BitVec 32 := Scalar.muli arg20 c8_i32_456
  let c7_i32_457 : BitVec 32 := 7#32
  let v640 : BitVec 32 := Scalar.addi v639 c7_i32_457
  let c16_i32_458 : BitVec 32 := 16#32
  let v641 : BitVec 32 := Scalar.muli v640 c16_i32_458
  v641
def k0_off10 (k0_t5 : Fin k0_t5_loop.trips) (k0_t6 : Fin k0_t6_loop.trips) (c0_i32_413 : BitVec 32) : Fin 1 → Nat :=
  let c0_i32_53 : BitVec 32 := 0#32
  let c1_i32_54 : BitVec 32 := 1#32
  let arg19 : BitVec 32 := Scf.iv c0_i32_53 c1_i32_54 k0_t5
  let c2_i32_129 : BitVec 32 := 2#32
  let v158 : BitVec 32 := Scalar.muli arg19 c2_i32_129
  let c0_i32_130 : BitVec 32 := 0#32
  let v159 : BitVec 32 := Scalar.addi v158 c0_i32_130
  let c1_i32_352 : BitVec 32 := 1#32
  let v510 : BitVec 32 := Scalar.addi v159 c1_i32_352
  let c1024_i32_353 : BitVec 32 := 1024#32
  let v511 : BitVec 32 := Scalar.muli v510 c1024_i32_353
  let c0_i32_355 : BitVec 32 := 0#32
  let c1_i32_357 : BitVec 32 := 1#32
  let arg20 : BitVec 32 := Scf.iv c0_i32_355 c1_i32_357 k0_t6
  let c8_i32_412 : BitVec 32 := 8#32
  let v571 : BitVec 32 := Scalar.muli arg20 c8_i32_412
  let v572 : BitVec 32 := Scalar.addi v571 c0_i32_413
  let c16_i32 : BitVec 32 := 16#32
  let v573 : BitVec 32 := Scalar.muli v572 c16_i32
  let v574 : BitVec 32 := Scalar.addi v511 v573
  let v575 : BitVec 32 := v574
  let v643 : Index := Scalar.indexCast v575
  ![v643.toNat]
def k0_off11 (k0_t6 : Fin k0_t6_loop.trips) (c0_i32_436 : BitVec 32) : Fin 2 → Nat :=
  let c1_i32_513 : BitVec 32 := 1#32
  let v781 : Index := Scalar.indexCast c1_i32_513
  let c0_i32_355 : BitVec 32 := 0#32
  let c1_i32_357 : BitVec 32 := 1#32
  let arg20 : BitVec 32 := Scf.iv c0_i32_355 c1_i32_357 k0_t6
  let c8_i32_435 : BitVec 32 := 8#32
  let v611 : BitVec 32 := Scalar.muli arg20 c8_i32_435
  let v612 : BitVec 32 := Scalar.addi v611 c0_i32_436
  let c16_i32_437 : BitVec 32 := 16#32
  let v613 : BitVec 32 := Scalar.muli v612 c16_i32_437
  let v614 : BitVec 32 := v613
  let v782 : Index := Scalar.indexCast v614
  ![1, v782.toNat]
def k0_mult63 (k0_t5 : Fin k0_t5_loop.trips) : BitVec 32 :=
  let c0_i32_53 : BitVec 32 := 0#32
  let c1_i32_54 : BitVec 32 := 1#32
  let arg19 : BitVec 32 := Scf.iv c0_i32_53 c1_i32_54 k0_t5
  let c2_i32_129 : BitVec 32 := 2#32
  let v158 : BitVec 32 := Scalar.muli arg19 c2_i32_129
  let c0_i32_130 : BitVec 32 := 0#32
  let v159 : BitVec 32 := Scalar.addi v158 c0_i32_130
  let c1_i32_359 : BitVec 32 := 1#32
  let v513 : BitVec 32 := Scalar.addi v159 c1_i32_359
  let c1024_i32_360 : BitVec 32 := 1024#32
  let v514 : BitVec 32 := Scalar.muli v513 c1024_i32_360
  let c0_i32_361 : BitVec 32 := 0#32
  let v515 : BitVec 32 := Scalar.addi v514 c0_i32_361
  v515
def k0_off12 (k0_t5 : Fin k0_t5_loop.trips) (c0_i32_361 : BitVec 32) : Fin 1 → Nat :=
  let c0_i32_53 : BitVec 32 := 0#32
  let c1_i32_54 : BitVec 32 := 1#32
  let arg19 : BitVec 32 := Scf.iv c0_i32_53 c1_i32_54 k0_t5
  let c2_i32_129 : BitVec 32 := 2#32
  let v158 : BitVec 32 := Scalar.muli arg19 c2_i32_129
  let c0_i32_130 : BitVec 32 := 0#32
  let v159 : BitVec 32 := Scalar.addi v158 c0_i32_130
  let c1_i32_359 : BitVec 32 := 1#32
  let v513 : BitVec 32 := Scalar.addi v159 c1_i32_359
  let c1024_i32_360 : BitVec 32 := 1024#32
  let v514 : BitVec 32 := Scalar.muli v513 c1024_i32_360
  let v515 : BitVec 32 := Scalar.addi v514 c0_i32_361
  let v516 : BitVec 32 := v515
  ![v516.toNat]
def k0_mult64 (k0_t5 : Fin k0_t5_loop.trips) : BitVec 32 :=
  let c0_i32_53 : BitVec 32 := 0#32
  let c1_i32_54 : BitVec 32 := 1#32
  let arg19 : BitVec 32 := Scf.iv c0_i32_53 c1_i32_54 k0_t5
  let c2_i32_129 : BitVec 32 := 2#32
  let v158 : BitVec 32 := Scalar.muli arg19 c2_i32_129
  let c0_i32_130 : BitVec 32 := 0#32
  let v159 : BitVec 32 := Scalar.addi v158 c0_i32_130
  let c1_i32_359 : BitVec 32 := 1#32
  let v513 : BitVec 32 := Scalar.addi v159 c1_i32_359
  let c1024_i32_366 : BitVec 32 := 1024#32
  let v520 : BitVec 32 := Scalar.muli v513 c1024_i32_366
  let c128_i32_367 : BitVec 32 := 128#32
  let v521 : BitVec 32 := Scalar.addi v520 c128_i32_367
  v521
def k0_mult65 (k0_t5 : Fin k0_t5_loop.trips) : BitVec 32 :=
  let c0_i32_53 : BitVec 32 := 0#32
  let c1_i32_54 : BitVec 32 := 1#32
  let arg19 : BitVec 32 := Scf.iv c0_i32_53 c1_i32_54 k0_t5
  let c2_i32_129 : BitVec 32 := 2#32
  let v158 : BitVec 32 := Scalar.muli arg19 c2_i32_129
  let c0_i32_130 : BitVec 32 := 0#32
  let v159 : BitVec 32 := Scalar.addi v158 c0_i32_130
  let c1_i32_359 : BitVec 32 := 1#32
  let v513 : BitVec 32 := Scalar.addi v159 c1_i32_359
  let c1024_i32_372 : BitVec 32 := 1024#32
  let v526 : BitVec 32 := Scalar.muli v513 c1024_i32_372
  let c256_i32_373 : BitVec 32 := 256#32
  let v527 : BitVec 32 := Scalar.addi v526 c256_i32_373
  v527
def k0_mult66 (k0_t5 : Fin k0_t5_loop.trips) : BitVec 32 :=
  let c0_i32_53 : BitVec 32 := 0#32
  let c1_i32_54 : BitVec 32 := 1#32
  let arg19 : BitVec 32 := Scf.iv c0_i32_53 c1_i32_54 k0_t5
  let c2_i32_129 : BitVec 32 := 2#32
  let v158 : BitVec 32 := Scalar.muli arg19 c2_i32_129
  let c0_i32_130 : BitVec 32 := 0#32
  let v159 : BitVec 32 := Scalar.addi v158 c0_i32_130
  let c1_i32_359 : BitVec 32 := 1#32
  let v513 : BitVec 32 := Scalar.addi v159 c1_i32_359
  let c1024_i32_378 : BitVec 32 := 1024#32
  let v532 : BitVec 32 := Scalar.muli v513 c1024_i32_378
  let c384_i32_379 : BitVec 32 := 384#32
  let v533 : BitVec 32 := Scalar.addi v532 c384_i32_379
  v533
def k0_mult67 (k0_t5 : Fin k0_t5_loop.trips) : BitVec 32 :=
  let c0_i32_53 : BitVec 32 := 0#32
  let c1_i32_54 : BitVec 32 := 1#32
  let arg19 : BitVec 32 := Scf.iv c0_i32_53 c1_i32_54 k0_t5
  let c2_i32_129 : BitVec 32 := 2#32
  let v158 : BitVec 32 := Scalar.muli arg19 c2_i32_129
  let c0_i32_130 : BitVec 32 := 0#32
  let v159 : BitVec 32 := Scalar.addi v158 c0_i32_130
  let c1_i32_359 : BitVec 32 := 1#32
  let v513 : BitVec 32 := Scalar.addi v159 c1_i32_359
  let c1024_i32_384 : BitVec 32 := 1024#32
  let v538 : BitVec 32 := Scalar.muli v513 c1024_i32_384
  let c512_i32_385 : BitVec 32 := 512#32
  let v539 : BitVec 32 := Scalar.addi v538 c512_i32_385
  v539
def k0_mult68 (k0_t5 : Fin k0_t5_loop.trips) : BitVec 32 :=
  let c0_i32_53 : BitVec 32 := 0#32
  let c1_i32_54 : BitVec 32 := 1#32
  let arg19 : BitVec 32 := Scf.iv c0_i32_53 c1_i32_54 k0_t5
  let c2_i32_129 : BitVec 32 := 2#32
  let v158 : BitVec 32 := Scalar.muli arg19 c2_i32_129
  let c0_i32_130 : BitVec 32 := 0#32
  let v159 : BitVec 32 := Scalar.addi v158 c0_i32_130
  let c1_i32_359 : BitVec 32 := 1#32
  let v513 : BitVec 32 := Scalar.addi v159 c1_i32_359
  let c1024_i32_390 : BitVec 32 := 1024#32
  let v544 : BitVec 32 := Scalar.muli v513 c1024_i32_390
  let c640_i32_391 : BitVec 32 := 640#32
  let v545 : BitVec 32 := Scalar.addi v544 c640_i32_391
  v545
def k0_mult69 (k0_t5 : Fin k0_t5_loop.trips) : BitVec 32 :=
  let c0_i32_53 : BitVec 32 := 0#32
  let c1_i32_54 : BitVec 32 := 1#32
  let arg19 : BitVec 32 := Scf.iv c0_i32_53 c1_i32_54 k0_t5
  let c2_i32_129 : BitVec 32 := 2#32
  let v158 : BitVec 32 := Scalar.muli arg19 c2_i32_129
  let c0_i32_130 : BitVec 32 := 0#32
  let v159 : BitVec 32 := Scalar.addi v158 c0_i32_130
  let c1_i32_359 : BitVec 32 := 1#32
  let v513 : BitVec 32 := Scalar.addi v159 c1_i32_359
  let c1024_i32_396 : BitVec 32 := 1024#32
  let v550 : BitVec 32 := Scalar.muli v513 c1024_i32_396
  let c768_i32_397 : BitVec 32 := 768#32
  let v551 : BitVec 32 := Scalar.addi v550 c768_i32_397
  v551
def k0_mult70 (k0_t5 : Fin k0_t5_loop.trips) : BitVec 32 :=
  let c0_i32_53 : BitVec 32 := 0#32
  let c1_i32_54 : BitVec 32 := 1#32
  let arg19 : BitVec 32 := Scf.iv c0_i32_53 c1_i32_54 k0_t5
  let c2_i32_129 : BitVec 32 := 2#32
  let v158 : BitVec 32 := Scalar.muli arg19 c2_i32_129
  let c0_i32_130 : BitVec 32 := 0#32
  let v159 : BitVec 32 := Scalar.addi v158 c0_i32_130
  let c1_i32_359 : BitVec 32 := 1#32
  let v513 : BitVec 32 := Scalar.addi v159 c1_i32_359
  let c1024_i32_402 : BitVec 32 := 1024#32
  let v556 : BitVec 32 := Scalar.muli v513 c1024_i32_402
  let c896_i32_403 : BitVec 32 := 896#32
  let v557 : BitVec 32 := Scalar.addi v556 c896_i32_403
  v557
def k0_mult71 (i : grid0.Coords) (k0_t5 : Fin k0_t5_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v2 : BitVec 32 := Scalar.muli v1 c65536_i32
  let c0_i32_53 : BitVec 32 := 0#32
  let c1_i32_54 : BitVec 32 := 1#32
  let arg19 : BitVec 32 := Scf.iv c0_i32_53 c1_i32_54 k0_t5
  let c2_i32_129 : BitVec 32 := 2#32
  let v158 : BitVec 32 := Scalar.muli arg19 c2_i32_129
  let c0_i32_130 : BitVec 32 := 0#32
  let v159 : BitVec 32 := Scalar.addi v158 c0_i32_130
  let c1_i32_359 : BitVec 32 := 1#32
  let v513 : BitVec 32 := Scalar.addi v159 c1_i32_359
  let c1024_i32_408 : BitVec 32 := 1024#32
  let v562 : BitVec 32 := Scalar.muli v513 c1024_i32_408
  let v563 : BitVec 32 := Scalar.addi v2 v562
  v563
def k0_off13 (i : grid0.Coords) (k0_t5 : Fin k0_t5_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v2 : BitVec 32 := Scalar.muli v1 c65536_i32
  let c0_i32_53 : BitVec 32 := 0#32
  let c1_i32_54 : BitVec 32 := 1#32
  let arg19 : BitVec 32 := Scf.iv c0_i32_53 c1_i32_54 k0_t5
  let c2_i32_129 : BitVec 32 := 2#32
  let v158 : BitVec 32 := Scalar.muli arg19 c2_i32_129
  let c0_i32_130 : BitVec 32 := 0#32
  let v159 : BitVec 32 := Scalar.addi v158 c0_i32_130
  let c1_i32_359 : BitVec 32 := 1#32
  let v513 : BitVec 32 := Scalar.addi v159 c1_i32_359
  let c1024_i32_408 : BitVec 32 := 1024#32
  let v562 : BitVec 32 := Scalar.muli v513 c1024_i32_408
  let v563 : BitVec 32 := Scalar.addi v2 v562
  let v564 : BitVec 32 := v563
  ![v564.toNat]
@[reducible] def k0_t7_loop : Scf.Loop 32 :=
  let c0_i32_180 : BitVec 32 := 0#32
  let c64_i32 : BitVec 32 := 64#32
  let v196 : BitVec 32 := Scalar.addi c0_i32_180 c64_i32
  let c1_i32_181 : BitVec 32 := 1#32
  ⟨c0_i32_180, v196, c1_i32_181⟩
def k0_mult72 (k0_t7 : Fin k0_t7_loop.trips) : BitVec 32 :=
  let c0_i32_180 : BitVec 32 := 0#32
  let c1_i32_181 : BitVec 32 := 1#32
  let arg20 : BitVec 32 := Scf.iv c0_i32_180 c1_i32_181 k0_t7
  let c16_i32 : BitVec 32 := 16#32
  let v510 : BitVec 32 := Scalar.muli arg20 c16_i32
  v510
def k0_off14 (k0_t7 : Fin k0_t7_loop.trips) : Fin 2 → Nat :=
  let c0_i32_352 : BitVec 32 := 0#32
  let v512 : Index := Scalar.indexCast c0_i32_352
  let c0_i32_180 : BitVec 32 := 0#32
  let c1_i32_181 : BitVec 32 := 1#32
  let arg20 : BitVec 32 := Scf.iv c0_i32_180 c1_i32_181 k0_t7
  let c16_i32 : BitVec 32 := 16#32
  let v510 : BitVec 32 := Scalar.muli arg20 c16_i32
  let v511 : BitVec 32 := v510
  let v513 : Index := Scalar.indexCast v511
  ![0, v513.toNat]

def k0_chk11 (v524 : IVec S16 32) (v525 : IVec S16 32) : Prop :=
  (∀ a x, ((![v524, v525] : Fin 2 → IVec S16 32) a x).toNat < S2048x16.size a)
theorem k0_idx11_inb : ∀ (v524 : IVec S16 32) (v525 : IVec S16 32) (k0_hw11 : k0_chk11 v524 v525), ∀ a x, ((![v524, v525] : Fin 2 → IVec S16 32) a x).toNat < S2048x16.size a := fun v524 v525 k0_hw11 => k0_hw11

def k0_chk12 (v524 : IVec S16 32) (v526 : IVec S16 32) : Prop :=
  (∀ a x, ((![v524, v526] : Fin 2 → IVec S16 32) a x).toNat < S2048x16.size a)
theorem k0_idx12_inb : ∀ (v524 : IVec S16 32) (v526 : IVec S16 32) (k0_hw12 : k0_chk12 v524 v526), ∀ a x, ((![v524, v526] : Fin 2 → IVec S16 32) a x).toNat < S2048x16.size a := fun v524 v526 k0_hw12 => k0_hw12

def k0_chk13 (v524 : IVec S16 32) (v527 : IVec S16 32) : Prop :=
  (∀ a x, ((![v524, v527] : Fin 2 → IVec S16 32) a x).toNat < S2048x16.size a)
theorem k0_idx13_inb : ∀ (v524 : IVec S16 32) (v527 : IVec S16 32) (k0_hw13 : k0_chk13 v524 v527), ∀ a x, ((![v524, v527] : Fin 2 → IVec S16 32) a x).toNat < S2048x16.size a := fun v524 v527 k0_hw13 => k0_hw13

def k0_chk14 (v524 : IVec S16 32) (v528 : IVec S16 32) : Prop :=
  (∀ a x, ((![v524, v528] : Fin 2 → IVec S16 32) a x).toNat < S2048x16.size a)
theorem k0_idx14_inb : ∀ (v524 : IVec S16 32) (v528 : IVec S16 32) (k0_hw14 : k0_chk14 v524 v528), ∀ a x, ((![v524, v528] : Fin 2 → IVec S16 32) a x).toNat < S2048x16.size a := fun v524 v528 k0_hw14 => k0_hw14

def k0_chk15 (v524 : IVec S16 32) (v529 : IVec S16 32) : Prop :=
  (∀ a x, ((![v524, v529] : Fin 2 → IVec S16 32) a x).toNat < S2048x16.size a)
theorem k0_idx15_inb : ∀ (v524 : IVec S16 32) (v529 : IVec S16 32) (k0_hw15 : k0_chk15 v524 v529), ∀ a x, ((![v524, v529] : Fin 2 → IVec S16 32) a x).toNat < S2048x16.size a := fun v524 v529 k0_hw15 => k0_hw15

def k0_chk16 (v524 : IVec S16 32) (v530 : IVec S16 32) : Prop :=
  (∀ a x, ((![v524, v530] : Fin 2 → IVec S16 32) a x).toNat < S2048x16.size a)
theorem k0_idx16_inb : ∀ (v524 : IVec S16 32) (v530 : IVec S16 32) (k0_hw16 : k0_chk16 v524 v530), ∀ a x, ((![v524, v530] : Fin 2 → IVec S16 32) a x).toNat < S2048x16.size a := fun v524 v530 k0_hw16 => k0_hw16

def k0_chk17 (v524 : IVec S16 32) (v531 : IVec S16 32) : Prop :=
  (∀ a x, ((![v524, v531] : Fin 2 → IVec S16 32) a x).toNat < S2048x16.size a)
theorem k0_idx17_inb : ∀ (v524 : IVec S16 32) (v531 : IVec S16 32) (k0_hw17 : k0_chk17 v524 v531), ∀ a x, ((![v524, v531] : Fin 2 → IVec S16 32) a x).toNat < S2048x16.size a := fun v524 v531 k0_hw17 => k0_hw17

def k0_chk18 (v524 : IVec S16 32) (v532 : IVec S16 32) : Prop :=
  (∀ a x, ((![v524, v532] : Fin 2 → IVec S16 32) a x).toNat < S2048x16.size a)
theorem k0_idx18_inb : ∀ (v524 : IVec S16 32) (v532 : IVec S16 32) (k0_hw18 : k0_chk18 v524 v532), ∀ a x, ((![v524, v532] : Fin 2 → IVec S16 32) a x).toNat < S2048x16.size a := fun v524 v532 k0_hw18 => k0_hw18

def k0_chk19 (v524 : IVec S16 32) (v533 : IVec S16 32) : Prop :=
  (∀ a x, ((![v524, v533] : Fin 2 → IVec S16 32) a x).toNat < S2048x16.size a)
theorem k0_idx19_inb : ∀ (v524 : IVec S16 32) (v533 : IVec S16 32) (k0_hw19 : k0_chk19 v524 v533), ∀ a x, ((![v524, v533] : Fin 2 → IVec S16 32) a x).toNat < S2048x16.size a := fun v524 v533 k0_hw19 => k0_hw19

def k0_chk20 (v524 : IVec S16 32) (v534 : IVec S16 32) : Prop :=
  (∀ a x, ((![v524, v534] : Fin 2 → IVec S16 32) a x).toNat < S2048x16.size a)
theorem k0_idx20_inb : ∀ (v524 : IVec S16 32) (v534 : IVec S16 32) (k0_hw20 : k0_chk20 v524 v534), ∀ a x, ((![v524, v534] : Fin 2 → IVec S16 32) a x).toNat < S2048x16.size a := fun v524 v534 k0_hw20 => k0_hw20

def k0_chk21 (v524 : IVec S16 32) (v535 : IVec S16 32) : Prop :=
  (∀ a x, ((![v524, v535] : Fin 2 → IVec S16 32) a x).toNat < S2048x16.size a)
theorem k0_idx21_inb : ∀ (v524 : IVec S16 32) (v535 : IVec S16 32) (k0_hw21 : k0_chk21 v524 v535), ∀ a x, ((![v524, v535] : Fin 2 → IVec S16 32) a x).toNat < S2048x16.size a := fun v524 v535 k0_hw21 => k0_hw21

def k0_chk22 (v524 : IVec S16 32) (v536 : IVec S16 32) : Prop :=
  (∀ a x, ((![v524, v536] : Fin 2 → IVec S16 32) a x).toNat < S2048x16.size a)
theorem k0_idx22_inb : ∀ (v524 : IVec S16 32) (v536 : IVec S16 32) (k0_hw22 : k0_chk22 v524 v536), ∀ a x, ((![v524, v536] : Fin 2 → IVec S16 32) a x).toNat < S2048x16.size a := fun v524 v536 k0_hw22 => k0_hw22

def k0_chk23 (v524 : IVec S16 32) (v537 : IVec S16 32) : Prop :=
  (∀ a x, ((![v524, v537] : Fin 2 → IVec S16 32) a x).toNat < S2048x16.size a)
theorem k0_idx23_inb : ∀ (v524 : IVec S16 32) (v537 : IVec S16 32) (k0_hw23 : k0_chk23 v524 v537), ∀ a x, ((![v524, v537] : Fin 2 → IVec S16 32) a x).toNat < S2048x16.size a := fun v524 v537 k0_hw23 => k0_hw23

def k0_chk24 (v524 : IVec S16 32) (v538 : IVec S16 32) : Prop :=
  (∀ a x, ((![v524, v538] : Fin 2 → IVec S16 32) a x).toNat < S2048x16.size a)
theorem k0_idx24_inb : ∀ (v524 : IVec S16 32) (v538 : IVec S16 32) (k0_hw24 : k0_chk24 v524 v538), ∀ a x, ((![v524, v538] : Fin 2 → IVec S16 32) a x).toNat < S2048x16.size a := fun v524 v538 k0_hw24 => k0_hw24

def k0_chk25 (v524 : IVec S16 32) (v539 : IVec S16 32) : Prop :=
  (∀ a x, ((![v524, v539] : Fin 2 → IVec S16 32) a x).toNat < S2048x16.size a)
theorem k0_idx25_inb : ∀ (v524 : IVec S16 32) (v539 : IVec S16 32) (k0_hw25 : k0_chk25 v524 v539), ∀ a x, ((![v524, v539] : Fin 2 → IVec S16 32) a x).toNat < S2048x16.size a := fun v524 v539 k0_hw25 => k0_hw25

def k0_chk26 (v524 : IVec S16 32) (v540 : IVec S16 32) : Prop :=
  (∀ a x, ((![v524, v540] : Fin 2 → IVec S16 32) a x).toNat < S2048x16.size a)
theorem k0_idx26_inb : ∀ (v524 : IVec S16 32) (v540 : IVec S16 32) (k0_hw26 : k0_chk26 v524 v540), ∀ a x, ((![v524, v540] : Fin 2 → IVec S16 32) a x).toNat < S2048x16.size a := fun v524 v540 k0_hw26 => k0_hw26
def k0_off15 (k0_t7 : Fin k0_t7_loop.trips) : Fin 2 → Nat :=
  let c0_i32_372 : BitVec 32 := 0#32
  let v574 : Index := Scalar.indexCast c0_i32_372
  let c0_i32_180 : BitVec 32 := 0#32
  let c1_i32_181 : BitVec 32 := 1#32
  let arg20 : BitVec 32 := Scf.iv c0_i32_180 c1_i32_181 k0_t7
  let c16_i32 : BitVec 32 := 16#32
  let v510 : BitVec 32 := Scalar.muli arg20 c16_i32
  let v511 : BitVec 32 := v510
  let v575 : Index := Scalar.indexCast v511
  ![0, v575.toNat]
def k0_off16 (k0_t7 : Fin k0_t7_loop.trips) : Fin 2 → Nat :=
  let c1_i32_373 : BitVec 32 := 1#32
  let v577 : Index := Scalar.indexCast c1_i32_373
  let c0_i32_180 : BitVec 32 := 0#32
  let c1_i32_181 : BitVec 32 := 1#32
  let arg20 : BitVec 32 := Scf.iv c0_i32_180 c1_i32_181 k0_t7
  let c16_i32 : BitVec 32 := 16#32
  let v510 : BitVec 32 := Scalar.muli arg20 c16_i32
  let v511 : BitVec 32 := v510
  let v578 : Index := Scalar.indexCast v511
  ![1, v578.toNat]
def k0_off17 (k0_t7 : Fin k0_t7_loop.trips) : Fin 2 → Nat :=
  let c2_i32_374 : BitVec 32 := 2#32
  let v580 : Index := Scalar.indexCast c2_i32_374
  let c0_i32_180 : BitVec 32 := 0#32
  let c1_i32_181 : BitVec 32 := 1#32
  let arg20 : BitVec 32 := Scf.iv c0_i32_180 c1_i32_181 k0_t7
  let c16_i32 : BitVec 32 := 16#32
  let v510 : BitVec 32 := Scalar.muli arg20 c16_i32
  let v511 : BitVec 32 := v510
  let v581 : Index := Scalar.indexCast v511
  ![2, v581.toNat]
def k0_off18 (k0_t7 : Fin k0_t7_loop.trips) : Fin 2 → Nat :=
  let c3_i32_375 : BitVec 32 := 3#32
  let v583 : Index := Scalar.indexCast c3_i32_375
  let c0_i32_180 : BitVec 32 := 0#32
  let c1_i32_181 : BitVec 32 := 1#32
  let arg20 : BitVec 32 := Scf.iv c0_i32_180 c1_i32_181 k0_t7
  let c16_i32 : BitVec 32 := 16#32
  let v510 : BitVec 32 := Scalar.muli arg20 c16_i32
  let v511 : BitVec 32 := v510
  let v584 : Index := Scalar.indexCast v511
  ![3, v584.toNat]
def k0_off19 (k0_t7 : Fin k0_t7_loop.trips) : Fin 2 → Nat :=
  let c4_i32_376 : BitVec 32 := 4#32
  let v586 : Index := Scalar.indexCast c4_i32_376
  let c0_i32_180 : BitVec 32 := 0#32
  let c1_i32_181 : BitVec 32 := 1#32
  let arg20 : BitVec 32 := Scf.iv c0_i32_180 c1_i32_181 k0_t7
  let c16_i32 : BitVec 32 := 16#32
  let v510 : BitVec 32 := Scalar.muli arg20 c16_i32
  let v511 : BitVec 32 := v510
  let v587 : Index := Scalar.indexCast v511
  ![4, v587.toNat]
def k0_off20 (k0_t7 : Fin k0_t7_loop.trips) : Fin 2 → Nat :=
  let c5_i32_377 : BitVec 32 := 5#32
  let v589 : Index := Scalar.indexCast c5_i32_377
  let c0_i32_180 : BitVec 32 := 0#32
  let c1_i32_181 : BitVec 32 := 1#32
  let arg20 : BitVec 32 := Scf.iv c0_i32_180 c1_i32_181 k0_t7
  let c16_i32 : BitVec 32 := 16#32
  let v510 : BitVec 32 := Scalar.muli arg20 c16_i32
  let v511 : BitVec 32 := v510
  let v590 : Index := Scalar.indexCast v511
  ![5, v590.toNat]
def k0_off21 (k0_t7 : Fin k0_t7_loop.trips) : Fin 2 → Nat :=
  let c6_i32_378 : BitVec 32 := 6#32
  let v592 : Index := Scalar.indexCast c6_i32_378
  let c0_i32_180 : BitVec 32 := 0#32
  let c1_i32_181 : BitVec 32 := 1#32
  let arg20 : BitVec 32 := Scf.iv c0_i32_180 c1_i32_181 k0_t7
  let c16_i32 : BitVec 32 := 16#32
  let v510 : BitVec 32 := Scalar.muli arg20 c16_i32
  let v511 : BitVec 32 := v510
  let v593 : Index := Scalar.indexCast v511
  ![6, v593.toNat]
def k0_off22 (k0_t7 : Fin k0_t7_loop.trips) : Fin 2 → Nat :=
  let c7_i32_379 : BitVec 32 := 7#32
  let v595 : Index := Scalar.indexCast c7_i32_379
  let c0_i32_180 : BitVec 32 := 0#32
  let c1_i32_181 : BitVec 32 := 1#32
  let arg20 : BitVec 32 := Scf.iv c0_i32_180 c1_i32_181 k0_t7
  let c16_i32 : BitVec 32 := 16#32
  let v510 : BitVec 32 := Scalar.muli arg20 c16_i32
  let v511 : BitVec 32 := v510
  let v596 : Index := Scalar.indexCast v511
  ![7, v596.toNat]
def k0_off23 (k0_t7 : Fin k0_t7_loop.trips) : Fin 2 → Nat :=
  let c8_i32_380 : BitVec 32 := 8#32
  let v598 : Index := Scalar.indexCast c8_i32_380
  let c0_i32_180 : BitVec 32 := 0#32
  let c1_i32_181 : BitVec 32 := 1#32
  let arg20 : BitVec 32 := Scf.iv c0_i32_180 c1_i32_181 k0_t7
  let c16_i32 : BitVec 32 := 16#32
  let v510 : BitVec 32 := Scalar.muli arg20 c16_i32
  let v511 : BitVec 32 := v510
  let v599 : Index := Scalar.indexCast v511
  ![8, v599.toNat]
def k0_off24 (k0_t7 : Fin k0_t7_loop.trips) : Fin 2 → Nat :=
  let c9_i32_381 : BitVec 32 := 9#32
  let v601 : Index := Scalar.indexCast c9_i32_381
  let c0_i32_180 : BitVec 32 := 0#32
  let c1_i32_181 : BitVec 32 := 1#32
  let arg20 : BitVec 32 := Scf.iv c0_i32_180 c1_i32_181 k0_t7
  let c16_i32 : BitVec 32 := 16#32
  let v510 : BitVec 32 := Scalar.muli arg20 c16_i32
  let v511 : BitVec 32 := v510
  let v602 : Index := Scalar.indexCast v511
  ![9, v602.toNat]
def k0_off25 (k0_t7 : Fin k0_t7_loop.trips) : Fin 2 → Nat :=
  let c10_i32_382 : BitVec 32 := 10#32
  let v604 : Index := Scalar.indexCast c10_i32_382
  let c0_i32_180 : BitVec 32 := 0#32
  let c1_i32_181 : BitVec 32 := 1#32
  let arg20 : BitVec 32 := Scf.iv c0_i32_180 c1_i32_181 k0_t7
  let c16_i32 : BitVec 32 := 16#32
  let v510 : BitVec 32 := Scalar.muli arg20 c16_i32
  let v511 : BitVec 32 := v510
  let v605 : Index := Scalar.indexCast v511
  ![10, v605.toNat]
def k0_off26 (k0_t7 : Fin k0_t7_loop.trips) : Fin 2 → Nat :=
  let c11_i32_383 : BitVec 32 := 11#32
  let v607 : Index := Scalar.indexCast c11_i32_383
  let c0_i32_180 : BitVec 32 := 0#32
  let c1_i32_181 : BitVec 32 := 1#32
  let arg20 : BitVec 32 := Scf.iv c0_i32_180 c1_i32_181 k0_t7
  let c16_i32 : BitVec 32 := 16#32
  let v510 : BitVec 32 := Scalar.muli arg20 c16_i32
  let v511 : BitVec 32 := v510
  let v608 : Index := Scalar.indexCast v511
  ![11, v608.toNat]
def k0_off27 (k0_t7 : Fin k0_t7_loop.trips) : Fin 2 → Nat :=
  let c12_i32_384 : BitVec 32 := 12#32
  let v610 : Index := Scalar.indexCast c12_i32_384
  let c0_i32_180 : BitVec 32 := 0#32
  let c1_i32_181 : BitVec 32 := 1#32
  let arg20 : BitVec 32 := Scf.iv c0_i32_180 c1_i32_181 k0_t7
  let c16_i32 : BitVec 32 := 16#32
  let v510 : BitVec 32 := Scalar.muli arg20 c16_i32
  let v511 : BitVec 32 := v510
  let v611 : Index := Scalar.indexCast v511
  ![12, v611.toNat]
def k0_off28 (k0_t7 : Fin k0_t7_loop.trips) : Fin 2 → Nat :=
  let c13_i32_385 : BitVec 32 := 13#32
  let v613 : Index := Scalar.indexCast c13_i32_385
  let c0_i32_180 : BitVec 32 := 0#32
  let c1_i32_181 : BitVec 32 := 1#32
  let arg20 : BitVec 32 := Scf.iv c0_i32_180 c1_i32_181 k0_t7
  let c16_i32 : BitVec 32 := 16#32
  let v510 : BitVec 32 := Scalar.muli arg20 c16_i32
  let v511 : BitVec 32 := v510
  let v614 : Index := Scalar.indexCast v511
  ![13, v614.toNat]
def k0_off29 (k0_t7 : Fin k0_t7_loop.trips) : Fin 2 → Nat :=
  let c14_i32_386 : BitVec 32 := 14#32
  let v616 : Index := Scalar.indexCast c14_i32_386
  let c0_i32_180 : BitVec 32 := 0#32
  let c1_i32_181 : BitVec 32 := 1#32
  let arg20 : BitVec 32 := Scf.iv c0_i32_180 c1_i32_181 k0_t7
  let c16_i32 : BitVec 32 := 16#32
  let v510 : BitVec 32 := Scalar.muli arg20 c16_i32
  let v511 : BitVec 32 := v510
  let v617 : Index := Scalar.indexCast v511
  ![14, v617.toNat]
def k0_off30 (k0_t7 : Fin k0_t7_loop.trips) : Fin 2 → Nat :=
  let c15_i32_387 : BitVec 32 := 15#32
  let v619 : Index := Scalar.indexCast c15_i32_387
  let c0_i32_180 : BitVec 32 := 0#32
  let c1_i32_181 : BitVec 32 := 1#32
  let arg20 : BitVec 32 := Scf.iv c0_i32_180 c1_i32_181 k0_t7
  let c16_i32 : BitVec 32 := 16#32
  let v510 : BitVec 32 := Scalar.muli arg20 c16_i32
  let v511 : BitVec 32 := v510
  let v620 : Index := Scalar.indexCast v511
  ![15, v620.toNat]
def k0_mult73 (i : grid0.Coords) (k0_t5 : Fin k0_t5_loop.trips) : BitVec 32 :=
  let c0_i32_183 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v2 : BitVec 32 := Scalar.muli v1 c65536_i32
  let c0_i32_53 : BitVec 32 := 0#32
  let c1_i32_54 : BitVec 32 := 1#32
  let arg19 : BitVec 32 := Scf.iv c0_i32_53 c1_i32_54 k0_t5
  let c2_i32_129 : BitVec 32 := 2#32
  let v158 : BitVec 32 := Scalar.muli arg19 c2_i32_129
  let c0_i32_130 : BitVec 32 := 0#32
  let v159 : BitVec 32 := Scalar.addi v158 c0_i32_130
  let c1024_i32 : BitVec 32 := 1024#32
  let v197 : BitVec 32 := Scalar.muli v159 c1024_i32
  let v198 : BitVec 32 := Scalar.addi v2 v197
  let v199 : BitVec 32 := Scalar.addi c0_i32_183 v198
  v199
def k0_off31 (i : grid0.Coords) (k0_t5 : Fin k0_t5_loop.trips) (c0_i32_183 : BitVec 32) (c0_i32_130 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v2 : BitVec 32 := Scalar.muli v1 c65536_i32
  let c0_i32_53 : BitVec 32 := 0#32
  let c1_i32_54 : BitVec 32 := 1#32
  let arg19 : BitVec 32 := Scf.iv c0_i32_53 c1_i32_54 k0_t5
  let c2_i32_129 : BitVec 32 := 2#32
  let v158 : BitVec 32 := Scalar.muli arg19 c2_i32_129
  let v159 : BitVec 32 := Scalar.addi v158 c0_i32_130
  let c1024_i32 : BitVec 32 := 1024#32
  let v197 : BitVec 32 := Scalar.muli v159 c1024_i32
  let v198 : BitVec 32 := Scalar.addi v2 v197
  let v199 : BitVec 32 := Scalar.addi c0_i32_183 v198
  let v200 : BitVec 32 := v199
  ![v200.toNat]
def k0_mult74 (i : grid0.Coords) (k0_t5 : Fin k0_t5_loop.trips) : BitVec 32 :=
  let c2097152_i32 : BitVec 32 := 2097152#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v2 : BitVec 32 := Scalar.muli v1 c65536_i32
  let c0_i32_53 : BitVec 32 := 0#32
  let c1_i32_54 : BitVec 32 := 1#32
  let arg19 : BitVec 32 := Scf.iv c0_i32_53 c1_i32_54 k0_t5
  let c2_i32_129 : BitVec 32 := 2#32
  let v158 : BitVec 32 := Scalar.muli arg19 c2_i32_129
  let c0_i32_130 : BitVec 32 := 0#32
  let v159 : BitVec 32 := Scalar.addi v158 c0_i32_130
  let c1024_i32 : BitVec 32 := 1024#32
  let v197 : BitVec 32 := Scalar.muli v159 c1024_i32
  let v198 : BitVec 32 := Scalar.addi v2 v197
  let v207 : BitVec 32 := Scalar.addi c2097152_i32 v198
  v207
def k0_mult75 (i : grid0.Coords) (k0_t5 : Fin k0_t5_loop.trips) : BitVec 32 :=
  let c4194304_i32 : BitVec 32 := 4194304#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v2 : BitVec 32 := Scalar.muli v1 c65536_i32
  let c0_i32_53 : BitVec 32 := 0#32
  let c1_i32_54 : BitVec 32 := 1#32
  let arg19 : BitVec 32 := Scf.iv c0_i32_53 c1_i32_54 k0_t5
  let c2_i32_129 : BitVec 32 := 2#32
  let v158 : BitVec 32 := Scalar.muli arg19 c2_i32_129
  let c0_i32_130 : BitVec 32 := 0#32
  let v159 : BitVec 32 := Scalar.addi v158 c0_i32_130
  let c1024_i32 : BitVec 32 := 1024#32
  let v197 : BitVec 32 := Scalar.muli v159 c1024_i32
  let v198 : BitVec 32 := Scalar.addi v2 v197
  let v215 : BitVec 32 := Scalar.addi c4194304_i32 v198
  v215
def k0_mult76 (i : grid0.Coords) (k0_t5 : Fin k0_t5_loop.trips) : BitVec 32 :=
  let c6291456_i32 : BitVec 32 := 6291456#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v2 : BitVec 32 := Scalar.muli v1 c65536_i32
  let c0_i32_53 : BitVec 32 := 0#32
  let c1_i32_54 : BitVec 32 := 1#32
  let arg19 : BitVec 32 := Scf.iv c0_i32_53 c1_i32_54 k0_t5
  let c2_i32_129 : BitVec 32 := 2#32
  let v158 : BitVec 32 := Scalar.muli arg19 c2_i32_129
  let c0_i32_130 : BitVec 32 := 0#32
  let v159 : BitVec 32 := Scalar.addi v158 c0_i32_130
  let c1024_i32 : BitVec 32 := 1024#32
  let v197 : BitVec 32 := Scalar.muli v159 c1024_i32
  let v198 : BitVec 32 := Scalar.addi v2 v197
  let v223 : BitVec 32 := Scalar.addi c6291456_i32 v198
  v223
def k0_mult77 (i : grid0.Coords) (k0_t5 : Fin k0_t5_loop.trips) : BitVec 32 :=
  let c8388608_i32 : BitVec 32 := 8388608#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v2 : BitVec 32 := Scalar.muli v1 c65536_i32
  let c0_i32_53 : BitVec 32 := 0#32
  let c1_i32_54 : BitVec 32 := 1#32
  let arg19 : BitVec 32 := Scf.iv c0_i32_53 c1_i32_54 k0_t5
  let c2_i32_129 : BitVec 32 := 2#32
  let v158 : BitVec 32 := Scalar.muli arg19 c2_i32_129
  let c0_i32_130 : BitVec 32 := 0#32
  let v159 : BitVec 32 := Scalar.addi v158 c0_i32_130
  let c1024_i32 : BitVec 32 := 1024#32
  let v197 : BitVec 32 := Scalar.muli v159 c1024_i32
  let v198 : BitVec 32 := Scalar.addi v2 v197
  let v231 : BitVec 32 := Scalar.addi c8388608_i32 v198
  v231
def k0_mult78 (i : grid0.Coords) (k0_t5 : Fin k0_t5_loop.trips) : BitVec 32 :=
  let c10485760_i32 : BitVec 32 := 10485760#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v2 : BitVec 32 := Scalar.muli v1 c65536_i32
  let c0_i32_53 : BitVec 32 := 0#32
  let c1_i32_54 : BitVec 32 := 1#32
  let arg19 : BitVec 32 := Scf.iv c0_i32_53 c1_i32_54 k0_t5
  let c2_i32_129 : BitVec 32 := 2#32
  let v158 : BitVec 32 := Scalar.muli arg19 c2_i32_129
  let c0_i32_130 : BitVec 32 := 0#32
  let v159 : BitVec 32 := Scalar.addi v158 c0_i32_130
  let c1024_i32 : BitVec 32 := 1024#32
  let v197 : BitVec 32 := Scalar.muli v159 c1024_i32
  let v198 : BitVec 32 := Scalar.addi v2 v197
  let v239 : BitVec 32 := Scalar.addi c10485760_i32 v198
  v239
def k0_mult79 (i : grid0.Coords) (k0_t5 : Fin k0_t5_loop.trips) : BitVec 32 :=
  let c12582912_i32 : BitVec 32 := 12582912#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v2 : BitVec 32 := Scalar.muli v1 c65536_i32
  let c0_i32_53 : BitVec 32 := 0#32
  let c1_i32_54 : BitVec 32 := 1#32
  let arg19 : BitVec 32 := Scf.iv c0_i32_53 c1_i32_54 k0_t5
  let c2_i32_129 : BitVec 32 := 2#32
  let v158 : BitVec 32 := Scalar.muli arg19 c2_i32_129
  let c0_i32_130 : BitVec 32 := 0#32
  let v159 : BitVec 32 := Scalar.addi v158 c0_i32_130
  let c1024_i32 : BitVec 32 := 1024#32
  let v197 : BitVec 32 := Scalar.muli v159 c1024_i32
  let v198 : BitVec 32 := Scalar.addi v2 v197
  let v247 : BitVec 32 := Scalar.addi c12582912_i32 v198
  v247
def k0_mult80 (i : grid0.Coords) (k0_t5 : Fin k0_t5_loop.trips) : BitVec 32 :=
  let c14680064_i32 : BitVec 32 := 14680064#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v2 : BitVec 32 := Scalar.muli v1 c65536_i32
  let c0_i32_53 : BitVec 32 := 0#32
  let c1_i32_54 : BitVec 32 := 1#32
  let arg19 : BitVec 32 := Scf.iv c0_i32_53 c1_i32_54 k0_t5
  let c2_i32_129 : BitVec 32 := 2#32
  let v158 : BitVec 32 := Scalar.muli arg19 c2_i32_129
  let c0_i32_130 : BitVec 32 := 0#32
  let v159 : BitVec 32 := Scalar.addi v158 c0_i32_130
  let c1024_i32 : BitVec 32 := 1024#32
  let v197 : BitVec 32 := Scalar.muli v159 c1024_i32
  let v198 : BitVec 32 := Scalar.addi v2 v197
  let v255 : BitVec 32 := Scalar.addi c14680064_i32 v198
  v255
def k0_mult81 (i : grid0.Coords) (k0_t5 : Fin k0_t5_loop.trips) : BitVec 32 :=
  let c16777216_i32 : BitVec 32 := 16777216#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v2 : BitVec 32 := Scalar.muli v1 c65536_i32
  let c0_i32_53 : BitVec 32 := 0#32
  let c1_i32_54 : BitVec 32 := 1#32
  let arg19 : BitVec 32 := Scf.iv c0_i32_53 c1_i32_54 k0_t5
  let c2_i32_129 : BitVec 32 := 2#32
  let v158 : BitVec 32 := Scalar.muli arg19 c2_i32_129
  let c0_i32_130 : BitVec 32 := 0#32
  let v159 : BitVec 32 := Scalar.addi v158 c0_i32_130
  let c1024_i32 : BitVec 32 := 1024#32
  let v197 : BitVec 32 := Scalar.muli v159 c1024_i32
  let v198 : BitVec 32 := Scalar.addi v2 v197
  let v263 : BitVec 32 := Scalar.addi c16777216_i32 v198
  v263
def k0_mult82 (i : grid0.Coords) (k0_t5 : Fin k0_t5_loop.trips) : BitVec 32 :=
  let c18874368_i32 : BitVec 32 := 18874368#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v2 : BitVec 32 := Scalar.muli v1 c65536_i32
  let c0_i32_53 : BitVec 32 := 0#32
  let c1_i32_54 : BitVec 32 := 1#32
  let arg19 : BitVec 32 := Scf.iv c0_i32_53 c1_i32_54 k0_t5
  let c2_i32_129 : BitVec 32 := 2#32
  let v158 : BitVec 32 := Scalar.muli arg19 c2_i32_129
  let c0_i32_130 : BitVec 32 := 0#32
  let v159 : BitVec 32 := Scalar.addi v158 c0_i32_130
  let c1024_i32 : BitVec 32 := 1024#32
  let v197 : BitVec 32 := Scalar.muli v159 c1024_i32
  let v198 : BitVec 32 := Scalar.addi v2 v197
  let v271 : BitVec 32 := Scalar.addi c18874368_i32 v198
  v271
def k0_mult83 (i : grid0.Coords) (k0_t5 : Fin k0_t5_loop.trips) : BitVec 32 :=
  let c20971520_i32 : BitVec 32 := 20971520#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v2 : BitVec 32 := Scalar.muli v1 c65536_i32
  let c0_i32_53 : BitVec 32 := 0#32
  let c1_i32_54 : BitVec 32 := 1#32
  let arg19 : BitVec 32 := Scf.iv c0_i32_53 c1_i32_54 k0_t5
  let c2_i32_129 : BitVec 32 := 2#32
  let v158 : BitVec 32 := Scalar.muli arg19 c2_i32_129
  let c0_i32_130 : BitVec 32 := 0#32
  let v159 : BitVec 32 := Scalar.addi v158 c0_i32_130
  let c1024_i32 : BitVec 32 := 1024#32
  let v197 : BitVec 32 := Scalar.muli v159 c1024_i32
  let v198 : BitVec 32 := Scalar.addi v2 v197
  let v279 : BitVec 32 := Scalar.addi c20971520_i32 v198
  v279
def k0_mult84 (i : grid0.Coords) (k0_t5 : Fin k0_t5_loop.trips) : BitVec 32 :=
  let c23068672_i32 : BitVec 32 := 23068672#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v2 : BitVec 32 := Scalar.muli v1 c65536_i32
  let c0_i32_53 : BitVec 32 := 0#32
  let c1_i32_54 : BitVec 32 := 1#32
  let arg19 : BitVec 32 := Scf.iv c0_i32_53 c1_i32_54 k0_t5
  let c2_i32_129 : BitVec 32 := 2#32
  let v158 : BitVec 32 := Scalar.muli arg19 c2_i32_129
  let c0_i32_130 : BitVec 32 := 0#32
  let v159 : BitVec 32 := Scalar.addi v158 c0_i32_130
  let c1024_i32 : BitVec 32 := 1024#32
  let v197 : BitVec 32 := Scalar.muli v159 c1024_i32
  let v198 : BitVec 32 := Scalar.addi v2 v197
  let v287 : BitVec 32 := Scalar.addi c23068672_i32 v198
  v287
def k0_mult85 (i : grid0.Coords) (k0_t5 : Fin k0_t5_loop.trips) : BitVec 32 :=
  let c25165824_i32 : BitVec 32 := 25165824#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v2 : BitVec 32 := Scalar.muli v1 c65536_i32
  let c0_i32_53 : BitVec 32 := 0#32
  let c1_i32_54 : BitVec 32 := 1#32
  let arg19 : BitVec 32 := Scf.iv c0_i32_53 c1_i32_54 k0_t5
  let c2_i32_129 : BitVec 32 := 2#32
  let v158 : BitVec 32 := Scalar.muli arg19 c2_i32_129
  let c0_i32_130 : BitVec 32 := 0#32
  let v159 : BitVec 32 := Scalar.addi v158 c0_i32_130
  let c1024_i32 : BitVec 32 := 1024#32
  let v197 : BitVec 32 := Scalar.muli v159 c1024_i32
  let v198 : BitVec 32 := Scalar.addi v2 v197
  let v295 : BitVec 32 := Scalar.addi c25165824_i32 v198
  v295
def k0_mult86 (i : grid0.Coords) (k0_t5 : Fin k0_t5_loop.trips) : BitVec 32 :=
  let c27262976_i32 : BitVec 32 := 27262976#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v2 : BitVec 32 := Scalar.muli v1 c65536_i32
  let c0_i32_53 : BitVec 32 := 0#32
  let c1_i32_54 : BitVec 32 := 1#32
  let arg19 : BitVec 32 := Scf.iv c0_i32_53 c1_i32_54 k0_t5
  let c2_i32_129 : BitVec 32 := 2#32
  let v158 : BitVec 32 := Scalar.muli arg19 c2_i32_129
  let c0_i32_130 : BitVec 32 := 0#32
  let v159 : BitVec 32 := Scalar.addi v158 c0_i32_130
  let c1024_i32 : BitVec 32 := 1024#32
  let v197 : BitVec 32 := Scalar.muli v159 c1024_i32
  let v198 : BitVec 32 := Scalar.addi v2 v197
  let v303 : BitVec 32 := Scalar.addi c27262976_i32 v198
  v303
def k0_mult87 (i : grid0.Coords) (k0_t5 : Fin k0_t5_loop.trips) : BitVec 32 :=
  let c29360128_i32 : BitVec 32 := 29360128#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v2 : BitVec 32 := Scalar.muli v1 c65536_i32
  let c0_i32_53 : BitVec 32 := 0#32
  let c1_i32_54 : BitVec 32 := 1#32
  let arg19 : BitVec 32 := Scf.iv c0_i32_53 c1_i32_54 k0_t5
  let c2_i32_129 : BitVec 32 := 2#32
  let v158 : BitVec 32 := Scalar.muli arg19 c2_i32_129
  let c0_i32_130 : BitVec 32 := 0#32
  let v159 : BitVec 32 := Scalar.addi v158 c0_i32_130
  let c1024_i32 : BitVec 32 := 1024#32
  let v197 : BitVec 32 := Scalar.muli v159 c1024_i32
  let v198 : BitVec 32 := Scalar.addi v2 v197
  let v311 : BitVec 32 := Scalar.addi c29360128_i32 v198
  v311
def k0_mult88 (i : grid0.Coords) (k0_t5 : Fin k0_t5_loop.trips) : BitVec 32 :=
  let c31457280_i32 : BitVec 32 := 31457280#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v2 : BitVec 32 := Scalar.muli v1 c65536_i32
  let c0_i32_53 : BitVec 32 := 0#32
  let c1_i32_54 : BitVec 32 := 1#32
  let arg19 : BitVec 32 := Scf.iv c0_i32_53 c1_i32_54 k0_t5
  let c2_i32_129 : BitVec 32 := 2#32
  let v158 : BitVec 32 := Scalar.muli arg19 c2_i32_129
  let c0_i32_130 : BitVec 32 := 0#32
  let v159 : BitVec 32 := Scalar.addi v158 c0_i32_130
  let c1024_i32 : BitVec 32 := 1024#32
  let v197 : BitVec 32 := Scalar.muli v159 c1024_i32
  let v198 : BitVec 32 := Scalar.addi v2 v197
  let v319 : BitVec 32 := Scalar.addi c31457280_i32 v198
  v319
def k0_mult89 (i : grid0.Coords) (k0_t5 : Fin k0_t5_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v2 : BitVec 32 := Scalar.muli v1 c65536_i32
  let c0_i32_53 : BitVec 32 := 0#32
  let c1_i32_54 : BitVec 32 := 1#32
  let arg19 : BitVec 32 := Scf.iv c0_i32_53 c1_i32_54 k0_t5
  let c2_i32_129 : BitVec 32 := 2#32
  let v158 : BitVec 32 := Scalar.muli arg19 c2_i32_129
  let c0_i32_130 : BitVec 32 := 0#32
  let v159 : BitVec 32 := Scalar.addi v158 c0_i32_130
  let c1024_i32 : BitVec 32 := 1024#32
  let v197 : BitVec 32 := Scalar.muli v159 c1024_i32
  let v198 : BitVec 32 := Scalar.addi v2 v197
  v198
def k0_off32 (i : grid0.Coords) (k0_t5 : Fin k0_t5_loop.trips) (c0_i32_130 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v2 : BitVec 32 := Scalar.muli v1 c65536_i32
  let c0_i32_53 : BitVec 32 := 0#32
  let c1_i32_54 : BitVec 32 := 1#32
  let arg19 : BitVec 32 := Scf.iv c0_i32_53 c1_i32_54 k0_t5
  let c2_i32_129 : BitVec 32 := 2#32
  let v158 : BitVec 32 := Scalar.muli arg19 c2_i32_129
  let v159 : BitVec 32 := Scalar.addi v158 c0_i32_130
  let c1024_i32 : BitVec 32 := 1024#32
  let v197 : BitVec 32 := Scalar.muli v159 c1024_i32
  let v198 : BitVec 32 := Scalar.addi v2 v197
  let v327 : BitVec 32 := v198
  ![v327.toNat]
def k0_cond5 (k0_t5 : Fin k0_t5_loop.trips) : BitVec 1 :=
  let c0_i32_53 : BitVec 32 := 0#32
  let c1_i32_54 : BitVec 32 := 1#32
  let arg19 : BitVec 32 := Scf.iv c0_i32_53 c1_i32_54 k0_t5
  let c2_i32_235 : BitVec 32 := 2#32
  let v334 : BitVec 32 := Scalar.muli arg19 c2_i32_235
  let c1_i32_236 : BitVec 32 := 1#32
  let v335 : BitVec 32 := Scalar.addi v334 c1_i32_236
  let c63_i32_239 : BitVec 32 := 63#32
  let v339 : BitVec 1 := Scalar.cmpi .slt v335 c63_i32_239
  let v340 : BitVec 32 := Scalar.extui v339
  let c0_i32_240 : BitVec 32 := 0#32
  let v341 : BitVec 1 := Scalar.cmpi .ne v340 c0_i32_240
  v341

@[reducible] def k0_t8_loop : Scf.Loop 32 :=
  let c0_i32_355 : BitVec 32 := 0#32
  let c8_i32_356 : BitVec 32 := 8#32
  let v512 : BitVec 32 := Scalar.addi c0_i32_355 c8_i32_356
  let c1_i32_357 : BitVec 32 := 1#32
  ⟨c0_i32_355, v512, c1_i32_357⟩
def k0_mult90 (k0_t5 : Fin k0_t5_loop.trips) (k0_t8 : Fin k0_t8_loop.trips) : BitVec 32 :=
  let c0_i32_53 : BitVec 32 := 0#32
  let c1_i32_54 : BitVec 32 := 1#32
  let arg19 : BitVec 32 := Scf.iv c0_i32_53 c1_i32_54 k0_t5
  let c2_i32_235 : BitVec 32 := 2#32
  let v334 : BitVec 32 := Scalar.muli arg19 c2_i32_235
  let c1_i32_236 : BitVec 32 := 1#32
  let v335 : BitVec 32 := Scalar.addi v334 c1_i32_236
  let c1_i32_352 : BitVec 32 := 1#32
  let v510 : BitVec 32 := Scalar.addi v335 c1_i32_352
  let c1024_i32_353 : BitVec 32 := 1024#32
  let v511 : BitVec 32 := Scalar.muli v510 c1024_i32_353
  let c0_i32_355 : BitVec 32 := 0#32
  let c1_i32_357 : BitVec 32 := 1#32
  let arg20 : BitVec 32 := Scf.iv c0_i32_355 c1_i32_357 k0_t8
  let c8_i32_412 : BitVec 32 := 8#32
  let v571 : BitVec 32 := Scalar.muli arg20 c8_i32_412
  let c0_i32_413 : BitVec 32 := 0#32
  let v572 : BitVec 32 := Scalar.addi v571 c0_i32_413
  let c16_i32 : BitVec 32 := 16#32
  let v573 : BitVec 32 := Scalar.muli v572 c16_i32
  let v574 : BitVec 32 := Scalar.addi v511 v573
  v574
def k0_mult91 (k0_t5 : Fin k0_t5_loop.trips) (k0_t8 : Fin k0_t8_loop.trips) : BitVec 32 :=
  let c0_i32_53 : BitVec 32 := 0#32
  let c1_i32_54 : BitVec 32 := 1#32
  let arg19 : BitVec 32 := Scf.iv c0_i32_53 c1_i32_54 k0_t5
  let c2_i32_235 : BitVec 32 := 2#32
  let v334 : BitVec 32 := Scalar.muli arg19 c2_i32_235
  let c1_i32_236 : BitVec 32 := 1#32
  let v335 : BitVec 32 := Scalar.addi v334 c1_i32_236
  let c1_i32_352 : BitVec 32 := 1#32
  let v510 : BitVec 32 := Scalar.addi v335 c1_i32_352
  let c1024_i32_353 : BitVec 32 := 1024#32
  let v511 : BitVec 32 := Scalar.muli v510 c1024_i32_353
  let c0_i32_355 : BitVec 32 := 0#32
  let c1_i32_357 : BitVec 32 := 1#32
  let arg20 : BitVec 32 := Scf.iv c0_i32_355 c1_i32_357 k0_t8
  let c8_i32_414 : BitVec 32 := 8#32
  let v576 : BitVec 32 := Scalar.muli arg20 c8_i32_414
  let c1_i32_415 : BitVec 32 := 1#32
  let v577 : BitVec 32 := Scalar.addi v576 c1_i32_415
  let c16_i32_416 : BitVec 32 := 16#32
  let v578 : BitVec 32 := Scalar.muli v577 c16_i32_416
  let v579 : BitVec 32 := Scalar.addi v511 v578
  v579
def k0_mult92 (k0_t5 : Fin k0_t5_loop.trips) (k0_t8 : Fin k0_t8_loop.trips) : BitVec 32 :=
  let c0_i32_53 : BitVec 32 := 0#32
  let c1_i32_54 : BitVec 32 := 1#32
  let arg19 : BitVec 32 := Scf.iv c0_i32_53 c1_i32_54 k0_t5
  let c2_i32_235 : BitVec 32 := 2#32
  let v334 : BitVec 32 := Scalar.muli arg19 c2_i32_235
  let c1_i32_236 : BitVec 32 := 1#32
  let v335 : BitVec 32 := Scalar.addi v334 c1_i32_236
  let c1_i32_352 : BitVec 32 := 1#32
  let v510 : BitVec 32 := Scalar.addi v335 c1_i32_352
  let c1024_i32_353 : BitVec 32 := 1024#32
  let v511 : BitVec 32 := Scalar.muli v510 c1024_i32_353
  let c0_i32_355 : BitVec 32 := 0#32
  let c1_i32_357 : BitVec 32 := 1#32
  let arg20 : BitVec 32 := Scf.iv c0_i32_355 c1_i32_357 k0_t8
  let c8_i32_417 : BitVec 32 := 8#32
  let v581 : BitVec 32 := Scalar.muli arg20 c8_i32_417
  let c2_i32_418 : BitVec 32 := 2#32
  let v582 : BitVec 32 := Scalar.addi v581 c2_i32_418
  let c16_i32_419 : BitVec 32 := 16#32
  let v583 : BitVec 32 := Scalar.muli v582 c16_i32_419
  let v584 : BitVec 32 := Scalar.addi v511 v583
  v584
def k0_mult93 (k0_t5 : Fin k0_t5_loop.trips) (k0_t8 : Fin k0_t8_loop.trips) : BitVec 32 :=
  let c0_i32_53 : BitVec 32 := 0#32
  let c1_i32_54 : BitVec 32 := 1#32
  let arg19 : BitVec 32 := Scf.iv c0_i32_53 c1_i32_54 k0_t5
  let c2_i32_235 : BitVec 32 := 2#32
  let v334 : BitVec 32 := Scalar.muli arg19 c2_i32_235
  let c1_i32_236 : BitVec 32 := 1#32
  let v335 : BitVec 32 := Scalar.addi v334 c1_i32_236
  let c1_i32_352 : BitVec 32 := 1#32
  let v510 : BitVec 32 := Scalar.addi v335 c1_i32_352
  let c1024_i32_353 : BitVec 32 := 1024#32
  let v511 : BitVec 32 := Scalar.muli v510 c1024_i32_353
  let c0_i32_355 : BitVec 32 := 0#32
  let c1_i32_357 : BitVec 32 := 1#32
  let arg20 : BitVec 32 := Scf.iv c0_i32_355 c1_i32_357 k0_t8
  let c8_i32_420 : BitVec 32 := 8#32
  let v586 : BitVec 32 := Scalar.muli arg20 c8_i32_420
  let c3_i32_421 : BitVec 32 := 3#32
  let v587 : BitVec 32 := Scalar.addi v586 c3_i32_421
  let c16_i32_422 : BitVec 32 := 16#32
  let v588 : BitVec 32 := Scalar.muli v587 c16_i32_422
  let v589 : BitVec 32 := Scalar.addi v511 v588
  v589
def k0_mult94 (k0_t5 : Fin k0_t5_loop.trips) (k0_t8 : Fin k0_t8_loop.trips) : BitVec 32 :=
  let c0_i32_53 : BitVec 32 := 0#32
  let c1_i32_54 : BitVec 32 := 1#32
  let arg19 : BitVec 32 := Scf.iv c0_i32_53 c1_i32_54 k0_t5
  let c2_i32_235 : BitVec 32 := 2#32
  let v334 : BitVec 32 := Scalar.muli arg19 c2_i32_235
  let c1_i32_236 : BitVec 32 := 1#32
  let v335 : BitVec 32 := Scalar.addi v334 c1_i32_236
  let c1_i32_352 : BitVec 32 := 1#32
  let v510 : BitVec 32 := Scalar.addi v335 c1_i32_352
  let c1024_i32_353 : BitVec 32 := 1024#32
  let v511 : BitVec 32 := Scalar.muli v510 c1024_i32_353
  let c0_i32_355 : BitVec 32 := 0#32
  let c1_i32_357 : BitVec 32 := 1#32
  let arg20 : BitVec 32 := Scf.iv c0_i32_355 c1_i32_357 k0_t8
  let c8_i32_423 : BitVec 32 := 8#32
  let v591 : BitVec 32 := Scalar.muli arg20 c8_i32_423
  let c4_i32_424 : BitVec 32 := 4#32
  let v592 : BitVec 32 := Scalar.addi v591 c4_i32_424
  let c16_i32_425 : BitVec 32 := 16#32
  let v593 : BitVec 32 := Scalar.muli v592 c16_i32_425
  let v594 : BitVec 32 := Scalar.addi v511 v593
  v594
def k0_mult95 (k0_t5 : Fin k0_t5_loop.trips) (k0_t8 : Fin k0_t8_loop.trips) : BitVec 32 :=
  let c0_i32_53 : BitVec 32 := 0#32
  let c1_i32_54 : BitVec 32 := 1#32
  let arg19 : BitVec 32 := Scf.iv c0_i32_53 c1_i32_54 k0_t5
  let c2_i32_235 : BitVec 32 := 2#32
  let v334 : BitVec 32 := Scalar.muli arg19 c2_i32_235
  let c1_i32_236 : BitVec 32 := 1#32
  let v335 : BitVec 32 := Scalar.addi v334 c1_i32_236
  let c1_i32_352 : BitVec 32 := 1#32
  let v510 : BitVec 32 := Scalar.addi v335 c1_i32_352
  let c1024_i32_353 : BitVec 32 := 1024#32
  let v511 : BitVec 32 := Scalar.muli v510 c1024_i32_353
  let c0_i32_355 : BitVec 32 := 0#32
  let c1_i32_357 : BitVec 32 := 1#32
  let arg20 : BitVec 32 := Scf.iv c0_i32_355 c1_i32_357 k0_t8
  let c8_i32_426 : BitVec 32 := 8#32
  let v596 : BitVec 32 := Scalar.muli arg20 c8_i32_426
  let c5_i32_427 : BitVec 32 := 5#32
  let v597 : BitVec 32 := Scalar.addi v596 c5_i32_427
  let c16_i32_428 : BitVec 32 := 16#32
  let v598 : BitVec 32 := Scalar.muli v597 c16_i32_428
  let v599 : BitVec 32 := Scalar.addi v511 v598
  v599
def k0_mult96 (k0_t5 : Fin k0_t5_loop.trips) (k0_t8 : Fin k0_t8_loop.trips) : BitVec 32 :=
  let c0_i32_53 : BitVec 32 := 0#32
  let c1_i32_54 : BitVec 32 := 1#32
  let arg19 : BitVec 32 := Scf.iv c0_i32_53 c1_i32_54 k0_t5
  let c2_i32_235 : BitVec 32 := 2#32
  let v334 : BitVec 32 := Scalar.muli arg19 c2_i32_235
  let c1_i32_236 : BitVec 32 := 1#32
  let v335 : BitVec 32 := Scalar.addi v334 c1_i32_236
  let c1_i32_352 : BitVec 32 := 1#32
  let v510 : BitVec 32 := Scalar.addi v335 c1_i32_352
  let c1024_i32_353 : BitVec 32 := 1024#32
  let v511 : BitVec 32 := Scalar.muli v510 c1024_i32_353
  let c0_i32_355 : BitVec 32 := 0#32
  let c1_i32_357 : BitVec 32 := 1#32
  let arg20 : BitVec 32 := Scf.iv c0_i32_355 c1_i32_357 k0_t8
  let c8_i32_429 : BitVec 32 := 8#32
  let v601 : BitVec 32 := Scalar.muli arg20 c8_i32_429
  let c6_i32_430 : BitVec 32 := 6#32
  let v602 : BitVec 32 := Scalar.addi v601 c6_i32_430
  let c16_i32_431 : BitVec 32 := 16#32
  let v603 : BitVec 32 := Scalar.muli v602 c16_i32_431
  let v604 : BitVec 32 := Scalar.addi v511 v603
  v604
def k0_mult97 (k0_t5 : Fin k0_t5_loop.trips) (k0_t8 : Fin k0_t8_loop.trips) : BitVec 32 :=
  let c0_i32_53 : BitVec 32 := 0#32
  let c1_i32_54 : BitVec 32 := 1#32
  let arg19 : BitVec 32 := Scf.iv c0_i32_53 c1_i32_54 k0_t5
  let c2_i32_235 : BitVec 32 := 2#32
  let v334 : BitVec 32 := Scalar.muli arg19 c2_i32_235
  let c1_i32_236 : BitVec 32 := 1#32
  let v335 : BitVec 32 := Scalar.addi v334 c1_i32_236
  let c1_i32_352 : BitVec 32 := 1#32
  let v510 : BitVec 32 := Scalar.addi v335 c1_i32_352
  let c1024_i32_353 : BitVec 32 := 1024#32
  let v511 : BitVec 32 := Scalar.muli v510 c1024_i32_353
  let c0_i32_355 : BitVec 32 := 0#32
  let c1_i32_357 : BitVec 32 := 1#32
  let arg20 : BitVec 32 := Scf.iv c0_i32_355 c1_i32_357 k0_t8
  let c8_i32_432 : BitVec 32 := 8#32
  let v606 : BitVec 32 := Scalar.muli arg20 c8_i32_432
  let c7_i32_433 : BitVec 32 := 7#32
  let v607 : BitVec 32 := Scalar.addi v606 c7_i32_433
  let c16_i32_434 : BitVec 32 := 16#32
  let v608 : BitVec 32 := Scalar.muli v607 c16_i32_434
  let v609 : BitVec 32 := Scalar.addi v511 v608
  v609
def k0_mult98 (k0_t8 : Fin k0_t8_loop.trips) : BitVec 32 :=
  let c0_i32_355 : BitVec 32 := 0#32
  let c1_i32_357 : BitVec 32 := 1#32
  let arg20 : BitVec 32 := Scf.iv c0_i32_355 c1_i32_357 k0_t8
  let c8_i32_435 : BitVec 32 := 8#32
  let v611 : BitVec 32 := Scalar.muli arg20 c8_i32_435
  let c0_i32_436 : BitVec 32 := 0#32
  let v612 : BitVec 32 := Scalar.addi v611 c0_i32_436
  let c16_i32_437 : BitVec 32 := 16#32
  let v613 : BitVec 32 := Scalar.muli v612 c16_i32_437
  v613
def k0_mult99 (k0_t8 : Fin k0_t8_loop.trips) : BitVec 32 :=
  let c0_i32_355 : BitVec 32 := 0#32
  let c1_i32_357 : BitVec 32 := 1#32
  let arg20 : BitVec 32 := Scf.iv c0_i32_355 c1_i32_357 k0_t8
  let c8_i32_438 : BitVec 32 := 8#32
  let v615 : BitVec 32 := Scalar.muli arg20 c8_i32_438
  let c1_i32_439 : BitVec 32 := 1#32
  let v616 : BitVec 32 := Scalar.addi v615 c1_i32_439
  let c16_i32_440 : BitVec 32 := 16#32
  let v617 : BitVec 32 := Scalar.muli v616 c16_i32_440
  v617
def k0_mult100 (k0_t8 : Fin k0_t8_loop.trips) : BitVec 32 :=
  let c0_i32_355 : BitVec 32 := 0#32
  let c1_i32_357 : BitVec 32 := 1#32
  let arg20 : BitVec 32 := Scf.iv c0_i32_355 c1_i32_357 k0_t8
  let c8_i32_441 : BitVec 32 := 8#32
  let v619 : BitVec 32 := Scalar.muli arg20 c8_i32_441
  let c2_i32_442 : BitVec 32 := 2#32
  let v620 : BitVec 32 := Scalar.addi v619 c2_i32_442
  let c16_i32_443 : BitVec 32 := 16#32
  let v621 : BitVec 32 := Scalar.muli v620 c16_i32_443
  v621
def k0_mult101 (k0_t8 : Fin k0_t8_loop.trips) : BitVec 32 :=
  let c0_i32_355 : BitVec 32 := 0#32
  let c1_i32_357 : BitVec 32 := 1#32
  let arg20 : BitVec 32 := Scf.iv c0_i32_355 c1_i32_357 k0_t8
  let c8_i32_444 : BitVec 32 := 8#32
  let v623 : BitVec 32 := Scalar.muli arg20 c8_i32_444
  let c3_i32_445 : BitVec 32 := 3#32
  let v624 : BitVec 32 := Scalar.addi v623 c3_i32_445
  let c16_i32_446 : BitVec 32 := 16#32
  let v625 : BitVec 32 := Scalar.muli v624 c16_i32_446
  v625
def k0_mult102 (k0_t8 : Fin k0_t8_loop.trips) : BitVec 32 :=
  let c0_i32_355 : BitVec 32 := 0#32
  let c1_i32_357 : BitVec 32 := 1#32
  let arg20 : BitVec 32 := Scf.iv c0_i32_355 c1_i32_357 k0_t8
  let c8_i32_447 : BitVec 32 := 8#32
  let v627 : BitVec 32 := Scalar.muli arg20 c8_i32_447
  let c4_i32_448 : BitVec 32 := 4#32
  let v628 : BitVec 32 := Scalar.addi v627 c4_i32_448
  let c16_i32_449 : BitVec 32 := 16#32
  let v629 : BitVec 32 := Scalar.muli v628 c16_i32_449
  v629
def k0_mult103 (k0_t8 : Fin k0_t8_loop.trips) : BitVec 32 :=
  let c0_i32_355 : BitVec 32 := 0#32
  let c1_i32_357 : BitVec 32 := 1#32
  let arg20 : BitVec 32 := Scf.iv c0_i32_355 c1_i32_357 k0_t8
  let c8_i32_450 : BitVec 32 := 8#32
  let v631 : BitVec 32 := Scalar.muli arg20 c8_i32_450
  let c5_i32_451 : BitVec 32 := 5#32
  let v632 : BitVec 32 := Scalar.addi v631 c5_i32_451
  let c16_i32_452 : BitVec 32 := 16#32
  let v633 : BitVec 32 := Scalar.muli v632 c16_i32_452
  v633
def k0_mult104 (k0_t8 : Fin k0_t8_loop.trips) : BitVec 32 :=
  let c0_i32_355 : BitVec 32 := 0#32
  let c1_i32_357 : BitVec 32 := 1#32
  let arg20 : BitVec 32 := Scf.iv c0_i32_355 c1_i32_357 k0_t8
  let c8_i32_453 : BitVec 32 := 8#32
  let v635 : BitVec 32 := Scalar.muli arg20 c8_i32_453
  let c6_i32_454 : BitVec 32 := 6#32
  let v636 : BitVec 32 := Scalar.addi v635 c6_i32_454
  let c16_i32_455 : BitVec 32 := 16#32
  let v637 : BitVec 32 := Scalar.muli v636 c16_i32_455
  v637
def k0_mult105 (k0_t8 : Fin k0_t8_loop.trips) : BitVec 32 :=
  let c0_i32_355 : BitVec 32 := 0#32
  let c1_i32_357 : BitVec 32 := 1#32
  let arg20 : BitVec 32 := Scf.iv c0_i32_355 c1_i32_357 k0_t8
  let c8_i32_456 : BitVec 32 := 8#32
  let v639 : BitVec 32 := Scalar.muli arg20 c8_i32_456
  let c7_i32_457 : BitVec 32 := 7#32
  let v640 : BitVec 32 := Scalar.addi v639 c7_i32_457
  let c16_i32_458 : BitVec 32 := 16#32
  let v641 : BitVec 32 := Scalar.muli v640 c16_i32_458
  v641
def k0_off33 (k0_t5 : Fin k0_t5_loop.trips) (k0_t8 : Fin k0_t8_loop.trips) (c0_i32_413 : BitVec 32) : Fin 1 → Nat :=
  let c0_i32_53 : BitVec 32 := 0#32
  let c1_i32_54 : BitVec 32 := 1#32
  let arg19 : BitVec 32 := Scf.iv c0_i32_53 c1_i32_54 k0_t5
  let c2_i32_235 : BitVec 32 := 2#32
  let v334 : BitVec 32 := Scalar.muli arg19 c2_i32_235
  let c1_i32_236 : BitVec 32 := 1#32
  let v335 : BitVec 32 := Scalar.addi v334 c1_i32_236
  let c1_i32_352 : BitVec 32 := 1#32
  let v510 : BitVec 32 := Scalar.addi v335 c1_i32_352
  let c1024_i32_353 : BitVec 32 := 1024#32
  let v511 : BitVec 32 := Scalar.muli v510 c1024_i32_353
  let c0_i32_355 : BitVec 32 := 0#32
  let c1_i32_357 : BitVec 32 := 1#32
  let arg20 : BitVec 32 := Scf.iv c0_i32_355 c1_i32_357 k0_t8
  let c8_i32_412 : BitVec 32 := 8#32
  let v571 : BitVec 32 := Scalar.muli arg20 c8_i32_412
  let v572 : BitVec 32 := Scalar.addi v571 c0_i32_413
  let c16_i32 : BitVec 32 := 16#32
  let v573 : BitVec 32 := Scalar.muli v572 c16_i32
  let v574 : BitVec 32 := Scalar.addi v511 v573
  let v575 : BitVec 32 := v574
  let v643 : Index := Scalar.indexCast v575
  ![v643.toNat]
def k0_off34 (k0_t8 : Fin k0_t8_loop.trips) (c0_i32_436 : BitVec 32) : Fin 2 → Nat :=
  let c0_i32_513 : BitVec 32 := 0#32
  let v781 : Index := Scalar.indexCast c0_i32_513
  let c0_i32_355 : BitVec 32 := 0#32
  let c1_i32_357 : BitVec 32 := 1#32
  let arg20 : BitVec 32 := Scf.iv c0_i32_355 c1_i32_357 k0_t8
  let c8_i32_435 : BitVec 32 := 8#32
  let v611 : BitVec 32 := Scalar.muli arg20 c8_i32_435
  let v612 : BitVec 32 := Scalar.addi v611 c0_i32_436
  let c16_i32_437 : BitVec 32 := 16#32
  let v613 : BitVec 32 := Scalar.muli v612 c16_i32_437
  let v614 : BitVec 32 := v613
  let v782 : Index := Scalar.indexCast v614
  ![0, v782.toNat]
def k0_mult106 (k0_t5 : Fin k0_t5_loop.trips) : BitVec 32 :=
  let c0_i32_53 : BitVec 32 := 0#32
  let c1_i32_54 : BitVec 32 := 1#32
  let arg19 : BitVec 32 := Scf.iv c0_i32_53 c1_i32_54 k0_t5
  let c2_i32_235 : BitVec 32 := 2#32
  let v334 : BitVec 32 := Scalar.muli arg19 c2_i32_235
  let c1_i32_236 : BitVec 32 := 1#32
  let v335 : BitVec 32 := Scalar.addi v334 c1_i32_236
  let c1_i32_359 : BitVec 32 := 1#32
  let v513 : BitVec 32 := Scalar.addi v335 c1_i32_359
  let c1024_i32_360 : BitVec 32 := 1024#32
  let v514 : BitVec 32 := Scalar.muli v513 c1024_i32_360
  let c0_i32_361 : BitVec 32 := 0#32
  let v515 : BitVec 32 := Scalar.addi v514 c0_i32_361
  v515
def k0_off35 (k0_t5 : Fin k0_t5_loop.trips) (c0_i32_361 : BitVec 32) : Fin 1 → Nat :=
  let c0_i32_53 : BitVec 32 := 0#32
  let c1_i32_54 : BitVec 32 := 1#32
  let arg19 : BitVec 32 := Scf.iv c0_i32_53 c1_i32_54 k0_t5
  let c2_i32_235 : BitVec 32 := 2#32
  let v334 : BitVec 32 := Scalar.muli arg19 c2_i32_235
  let c1_i32_236 : BitVec 32 := 1#32
  let v335 : BitVec 32 := Scalar.addi v334 c1_i32_236
  let c1_i32_359 : BitVec 32 := 1#32
  let v513 : BitVec 32 := Scalar.addi v335 c1_i32_359
  let c1024_i32_360 : BitVec 32 := 1024#32
  let v514 : BitVec 32 := Scalar.muli v513 c1024_i32_360
  let v515 : BitVec 32 := Scalar.addi v514 c0_i32_361
  let v516 : BitVec 32 := v515
  ![v516.toNat]
def k0_mult107 (k0_t5 : Fin k0_t5_loop.trips) : BitVec 32 :=
  let c0_i32_53 : BitVec 32 := 0#32
  let c1_i32_54 : BitVec 32 := 1#32
  let arg19 : BitVec 32 := Scf.iv c0_i32_53 c1_i32_54 k0_t5
  let c2_i32_235 : BitVec 32 := 2#32
  let v334 : BitVec 32 := Scalar.muli arg19 c2_i32_235
  let c1_i32_236 : BitVec 32 := 1#32
  let v335 : BitVec 32 := Scalar.addi v334 c1_i32_236
  let c1_i32_359 : BitVec 32 := 1#32
  let v513 : BitVec 32 := Scalar.addi v335 c1_i32_359
  let c1024_i32_366 : BitVec 32 := 1024#32
  let v520 : BitVec 32 := Scalar.muli v513 c1024_i32_366
  let c128_i32_367 : BitVec 32 := 128#32
  let v521 : BitVec 32 := Scalar.addi v520 c128_i32_367
  v521
def k0_mult108 (k0_t5 : Fin k0_t5_loop.trips) : BitVec 32 :=
  let c0_i32_53 : BitVec 32 := 0#32
  let c1_i32_54 : BitVec 32 := 1#32
  let arg19 : BitVec 32 := Scf.iv c0_i32_53 c1_i32_54 k0_t5
  let c2_i32_235 : BitVec 32 := 2#32
  let v334 : BitVec 32 := Scalar.muli arg19 c2_i32_235
  let c1_i32_236 : BitVec 32 := 1#32
  let v335 : BitVec 32 := Scalar.addi v334 c1_i32_236
  let c1_i32_359 : BitVec 32 := 1#32
  let v513 : BitVec 32 := Scalar.addi v335 c1_i32_359
  let c1024_i32_372 : BitVec 32 := 1024#32
  let v526 : BitVec 32 := Scalar.muli v513 c1024_i32_372
  let c256_i32_373 : BitVec 32 := 256#32
  let v527 : BitVec 32 := Scalar.addi v526 c256_i32_373
  v527
def k0_mult109 (k0_t5 : Fin k0_t5_loop.trips) : BitVec 32 :=
  let c0_i32_53 : BitVec 32 := 0#32
  let c1_i32_54 : BitVec 32 := 1#32
  let arg19 : BitVec 32 := Scf.iv c0_i32_53 c1_i32_54 k0_t5
  let c2_i32_235 : BitVec 32 := 2#32
  let v334 : BitVec 32 := Scalar.muli arg19 c2_i32_235
  let c1_i32_236 : BitVec 32 := 1#32
  let v335 : BitVec 32 := Scalar.addi v334 c1_i32_236
  let c1_i32_359 : BitVec 32 := 1#32
  let v513 : BitVec 32 := Scalar.addi v335 c1_i32_359
  let c1024_i32_378 : BitVec 32 := 1024#32
  let v532 : BitVec 32 := Scalar.muli v513 c1024_i32_378
  let c384_i32_379 : BitVec 32 := 384#32
  let v533 : BitVec 32 := Scalar.addi v532 c384_i32_379
  v533
def k0_mult110 (k0_t5 : Fin k0_t5_loop.trips) : BitVec 32 :=
  let c0_i32_53 : BitVec 32 := 0#32
  let c1_i32_54 : BitVec 32 := 1#32
  let arg19 : BitVec 32 := Scf.iv c0_i32_53 c1_i32_54 k0_t5
  let c2_i32_235 : BitVec 32 := 2#32
  let v334 : BitVec 32 := Scalar.muli arg19 c2_i32_235
  let c1_i32_236 : BitVec 32 := 1#32
  let v335 : BitVec 32 := Scalar.addi v334 c1_i32_236
  let c1_i32_359 : BitVec 32 := 1#32
  let v513 : BitVec 32 := Scalar.addi v335 c1_i32_359
  let c1024_i32_384 : BitVec 32 := 1024#32
  let v538 : BitVec 32 := Scalar.muli v513 c1024_i32_384
  let c512_i32_385 : BitVec 32 := 512#32
  let v539 : BitVec 32 := Scalar.addi v538 c512_i32_385
  v539
def k0_mult111 (k0_t5 : Fin k0_t5_loop.trips) : BitVec 32 :=
  let c0_i32_53 : BitVec 32 := 0#32
  let c1_i32_54 : BitVec 32 := 1#32
  let arg19 : BitVec 32 := Scf.iv c0_i32_53 c1_i32_54 k0_t5
  let c2_i32_235 : BitVec 32 := 2#32
  let v334 : BitVec 32 := Scalar.muli arg19 c2_i32_235
  let c1_i32_236 : BitVec 32 := 1#32
  let v335 : BitVec 32 := Scalar.addi v334 c1_i32_236
  let c1_i32_359 : BitVec 32 := 1#32
  let v513 : BitVec 32 := Scalar.addi v335 c1_i32_359
  let c1024_i32_390 : BitVec 32 := 1024#32
  let v544 : BitVec 32 := Scalar.muli v513 c1024_i32_390
  let c640_i32_391 : BitVec 32 := 640#32
  let v545 : BitVec 32 := Scalar.addi v544 c640_i32_391
  v545
def k0_mult112 (k0_t5 : Fin k0_t5_loop.trips) : BitVec 32 :=
  let c0_i32_53 : BitVec 32 := 0#32
  let c1_i32_54 : BitVec 32 := 1#32
  let arg19 : BitVec 32 := Scf.iv c0_i32_53 c1_i32_54 k0_t5
  let c2_i32_235 : BitVec 32 := 2#32
  let v334 : BitVec 32 := Scalar.muli arg19 c2_i32_235
  let c1_i32_236 : BitVec 32 := 1#32
  let v335 : BitVec 32 := Scalar.addi v334 c1_i32_236
  let c1_i32_359 : BitVec 32 := 1#32
  let v513 : BitVec 32 := Scalar.addi v335 c1_i32_359
  let c1024_i32_396 : BitVec 32 := 1024#32
  let v550 : BitVec 32 := Scalar.muli v513 c1024_i32_396
  let c768_i32_397 : BitVec 32 := 768#32
  let v551 : BitVec 32 := Scalar.addi v550 c768_i32_397
  v551
def k0_mult113 (k0_t5 : Fin k0_t5_loop.trips) : BitVec 32 :=
  let c0_i32_53 : BitVec 32 := 0#32
  let c1_i32_54 : BitVec 32 := 1#32
  let arg19 : BitVec 32 := Scf.iv c0_i32_53 c1_i32_54 k0_t5
  let c2_i32_235 : BitVec 32 := 2#32
  let v334 : BitVec 32 := Scalar.muli arg19 c2_i32_235
  let c1_i32_236 : BitVec 32 := 1#32
  let v335 : BitVec 32 := Scalar.addi v334 c1_i32_236
  let c1_i32_359 : BitVec 32 := 1#32
  let v513 : BitVec 32 := Scalar.addi v335 c1_i32_359
  let c1024_i32_402 : BitVec 32 := 1024#32
  let v556 : BitVec 32 := Scalar.muli v513 c1024_i32_402
  let c896_i32_403 : BitVec 32 := 896#32
  let v557 : BitVec 32 := Scalar.addi v556 c896_i32_403
  v557
def k0_mult114 (i : grid0.Coords) (k0_t5 : Fin k0_t5_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v2 : BitVec 32 := Scalar.muli v1 c65536_i32
  let c0_i32_53 : BitVec 32 := 0#32
  let c1_i32_54 : BitVec 32 := 1#32
  let arg19 : BitVec 32 := Scf.iv c0_i32_53 c1_i32_54 k0_t5
  let c2_i32_235 : BitVec 32 := 2#32
  let v334 : BitVec 32 := Scalar.muli arg19 c2_i32_235
  let c1_i32_236 : BitVec 32 := 1#32
  let v335 : BitVec 32 := Scalar.addi v334 c1_i32_236
  let c1_i32_359 : BitVec 32 := 1#32
  let v513 : BitVec 32 := Scalar.addi v335 c1_i32_359
  let c1024_i32_408 : BitVec 32 := 1024#32
  let v562 : BitVec 32 := Scalar.muli v513 c1024_i32_408
  let v563 : BitVec 32 := Scalar.addi v2 v562
  v563
def k0_off36 (i : grid0.Coords) (k0_t5 : Fin k0_t5_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v2 : BitVec 32 := Scalar.muli v1 c65536_i32
  let c0_i32_53 : BitVec 32 := 0#32
  let c1_i32_54 : BitVec 32 := 1#32
  let arg19 : BitVec 32 := Scf.iv c0_i32_53 c1_i32_54 k0_t5
  let c2_i32_235 : BitVec 32 := 2#32
  let v334 : BitVec 32 := Scalar.muli arg19 c2_i32_235
  let c1_i32_236 : BitVec 32 := 1#32
  let v335 : BitVec 32 := Scalar.addi v334 c1_i32_236
  let c1_i32_359 : BitVec 32 := 1#32
  let v513 : BitVec 32 := Scalar.addi v335 c1_i32_359
  let c1024_i32_408 : BitVec 32 := 1024#32
  let v562 : BitVec 32 := Scalar.muli v513 c1024_i32_408
  let v563 : BitVec 32 := Scalar.addi v2 v562
  let v564 : BitVec 32 := v563
  ![v564.toNat]
@[reducible] def k0_t9_loop : Scf.Loop 32 :=
  let c0_i32_280 : BitVec 32 := 0#32
  let c64_i32_281 : BitVec 32 := 64#32
  let v372 : BitVec 32 := Scalar.addi c0_i32_280 c64_i32_281
  let c1_i32_282 : BitVec 32 := 1#32
  ⟨c0_i32_280, v372, c1_i32_282⟩
def k0_mult115 (k0_t9 : Fin k0_t9_loop.trips) : BitVec 32 :=
  let c0_i32_280 : BitVec 32 := 0#32
  let c1_i32_282 : BitVec 32 := 1#32
  let arg20 : BitVec 32 := Scf.iv c0_i32_280 c1_i32_282 k0_t9
  let c16_i32 : BitVec 32 := 16#32
  let v510 : BitVec 32 := Scalar.muli arg20 c16_i32
  v510
def k0_off37 (k0_t9 : Fin k0_t9_loop.trips) : Fin 2 → Nat :=
  let c1_i32_352 : BitVec 32 := 1#32
  let v512 : Index := Scalar.indexCast c1_i32_352
  let c0_i32_280 : BitVec 32 := 0#32
  let c1_i32_282 : BitVec 32 := 1#32
  let arg20 : BitVec 32 := Scf.iv c0_i32_280 c1_i32_282 k0_t9
  let c16_i32 : BitVec 32 := 16#32
  let v510 : BitVec 32 := Scalar.muli arg20 c16_i32
  let v511 : BitVec 32 := v510
  let v513 : Index := Scalar.indexCast v511
  ![1, v513.toNat]

def k0_chk27 (v524 : IVec S16 32) (v525 : IVec S16 32) : Prop :=
  (∀ a x, ((![v524, v525] : Fin 2 → IVec S16 32) a x).toNat < S2048x16.size a)
theorem k0_idx27_inb : ∀ (v524 : IVec S16 32) (v525 : IVec S16 32) (k0_hw27 : k0_chk27 v524 v525), ∀ a x, ((![v524, v525] : Fin 2 → IVec S16 32) a x).toNat < S2048x16.size a := fun v524 v525 k0_hw27 => k0_hw27

def k0_chk28 (v524 : IVec S16 32) (v526 : IVec S16 32) : Prop :=
  (∀ a x, ((![v524, v526] : Fin 2 → IVec S16 32) a x).toNat < S2048x16.size a)
theorem k0_idx28_inb : ∀ (v524 : IVec S16 32) (v526 : IVec S16 32) (k0_hw28 : k0_chk28 v524 v526), ∀ a x, ((![v524, v526] : Fin 2 → IVec S16 32) a x).toNat < S2048x16.size a := fun v524 v526 k0_hw28 => k0_hw28

def k0_chk29 (v524 : IVec S16 32) (v527 : IVec S16 32) : Prop :=
  (∀ a x, ((![v524, v527] : Fin 2 → IVec S16 32) a x).toNat < S2048x16.size a)
theorem k0_idx29_inb : ∀ (v524 : IVec S16 32) (v527 : IVec S16 32) (k0_hw29 : k0_chk29 v524 v527), ∀ a x, ((![v524, v527] : Fin 2 → IVec S16 32) a x).toNat < S2048x16.size a := fun v524 v527 k0_hw29 => k0_hw29

def k0_chk30 (v524 : IVec S16 32) (v528 : IVec S16 32) : Prop :=
  (∀ a x, ((![v524, v528] : Fin 2 → IVec S16 32) a x).toNat < S2048x16.size a)
theorem k0_idx30_inb : ∀ (v524 : IVec S16 32) (v528 : IVec S16 32) (k0_hw30 : k0_chk30 v524 v528), ∀ a x, ((![v524, v528] : Fin 2 → IVec S16 32) a x).toNat < S2048x16.size a := fun v524 v528 k0_hw30 => k0_hw30

def k0_chk31 (v524 : IVec S16 32) (v529 : IVec S16 32) : Prop :=
  (∀ a x, ((![v524, v529] : Fin 2 → IVec S16 32) a x).toNat < S2048x16.size a)
theorem k0_idx31_inb : ∀ (v524 : IVec S16 32) (v529 : IVec S16 32) (k0_hw31 : k0_chk31 v524 v529), ∀ a x, ((![v524, v529] : Fin 2 → IVec S16 32) a x).toNat < S2048x16.size a := fun v524 v529 k0_hw31 => k0_hw31

def k0_chk32 (v524 : IVec S16 32) (v530 : IVec S16 32) : Prop :=
  (∀ a x, ((![v524, v530] : Fin 2 → IVec S16 32) a x).toNat < S2048x16.size a)
theorem k0_idx32_inb : ∀ (v524 : IVec S16 32) (v530 : IVec S16 32) (k0_hw32 : k0_chk32 v524 v530), ∀ a x, ((![v524, v530] : Fin 2 → IVec S16 32) a x).toNat < S2048x16.size a := fun v524 v530 k0_hw32 => k0_hw32

def k0_chk33 (v524 : IVec S16 32) (v531 : IVec S16 32) : Prop :=
  (∀ a x, ((![v524, v531] : Fin 2 → IVec S16 32) a x).toNat < S2048x16.size a)
theorem k0_idx33_inb : ∀ (v524 : IVec S16 32) (v531 : IVec S16 32) (k0_hw33 : k0_chk33 v524 v531), ∀ a x, ((![v524, v531] : Fin 2 → IVec S16 32) a x).toNat < S2048x16.size a := fun v524 v531 k0_hw33 => k0_hw33

def k0_chk34 (v524 : IVec S16 32) (v532 : IVec S16 32) : Prop :=
  (∀ a x, ((![v524, v532] : Fin 2 → IVec S16 32) a x).toNat < S2048x16.size a)
theorem k0_idx34_inb : ∀ (v524 : IVec S16 32) (v532 : IVec S16 32) (k0_hw34 : k0_chk34 v524 v532), ∀ a x, ((![v524, v532] : Fin 2 → IVec S16 32) a x).toNat < S2048x16.size a := fun v524 v532 k0_hw34 => k0_hw34

def k0_chk35 (v524 : IVec S16 32) (v533 : IVec S16 32) : Prop :=
  (∀ a x, ((![v524, v533] : Fin 2 → IVec S16 32) a x).toNat < S2048x16.size a)
theorem k0_idx35_inb : ∀ (v524 : IVec S16 32) (v533 : IVec S16 32) (k0_hw35 : k0_chk35 v524 v533), ∀ a x, ((![v524, v533] : Fin 2 → IVec S16 32) a x).toNat < S2048x16.size a := fun v524 v533 k0_hw35 => k0_hw35

def k0_chk36 (v524 : IVec S16 32) (v534 : IVec S16 32) : Prop :=
  (∀ a x, ((![v524, v534] : Fin 2 → IVec S16 32) a x).toNat < S2048x16.size a)
theorem k0_idx36_inb : ∀ (v524 : IVec S16 32) (v534 : IVec S16 32) (k0_hw36 : k0_chk36 v524 v534), ∀ a x, ((![v524, v534] : Fin 2 → IVec S16 32) a x).toNat < S2048x16.size a := fun v524 v534 k0_hw36 => k0_hw36

def k0_chk37 (v524 : IVec S16 32) (v535 : IVec S16 32) : Prop :=
  (∀ a x, ((![v524, v535] : Fin 2 → IVec S16 32) a x).toNat < S2048x16.size a)
theorem k0_idx37_inb : ∀ (v524 : IVec S16 32) (v535 : IVec S16 32) (k0_hw37 : k0_chk37 v524 v535), ∀ a x, ((![v524, v535] : Fin 2 → IVec S16 32) a x).toNat < S2048x16.size a := fun v524 v535 k0_hw37 => k0_hw37

def k0_chk38 (v524 : IVec S16 32) (v536 : IVec S16 32) : Prop :=
  (∀ a x, ((![v524, v536] : Fin 2 → IVec S16 32) a x).toNat < S2048x16.size a)
theorem k0_idx38_inb : ∀ (v524 : IVec S16 32) (v536 : IVec S16 32) (k0_hw38 : k0_chk38 v524 v536), ∀ a x, ((![v524, v536] : Fin 2 → IVec S16 32) a x).toNat < S2048x16.size a := fun v524 v536 k0_hw38 => k0_hw38

def k0_chk39 (v524 : IVec S16 32) (v537 : IVec S16 32) : Prop :=
  (∀ a x, ((![v524, v537] : Fin 2 → IVec S16 32) a x).toNat < S2048x16.size a)
theorem k0_idx39_inb : ∀ (v524 : IVec S16 32) (v537 : IVec S16 32) (k0_hw39 : k0_chk39 v524 v537), ∀ a x, ((![v524, v537] : Fin 2 → IVec S16 32) a x).toNat < S2048x16.size a := fun v524 v537 k0_hw39 => k0_hw39

def k0_chk40 (v524 : IVec S16 32) (v538 : IVec S16 32) : Prop :=
  (∀ a x, ((![v524, v538] : Fin 2 → IVec S16 32) a x).toNat < S2048x16.size a)
theorem k0_idx40_inb : ∀ (v524 : IVec S16 32) (v538 : IVec S16 32) (k0_hw40 : k0_chk40 v524 v538), ∀ a x, ((![v524, v538] : Fin 2 → IVec S16 32) a x).toNat < S2048x16.size a := fun v524 v538 k0_hw40 => k0_hw40

def k0_chk41 (v524 : IVec S16 32) (v539 : IVec S16 32) : Prop :=
  (∀ a x, ((![v524, v539] : Fin 2 → IVec S16 32) a x).toNat < S2048x16.size a)
theorem k0_idx41_inb : ∀ (v524 : IVec S16 32) (v539 : IVec S16 32) (k0_hw41 : k0_chk41 v524 v539), ∀ a x, ((![v524, v539] : Fin 2 → IVec S16 32) a x).toNat < S2048x16.size a := fun v524 v539 k0_hw41 => k0_hw41

def k0_chk42 (v524 : IVec S16 32) (v540 : IVec S16 32) : Prop :=
  (∀ a x, ((![v524, v540] : Fin 2 → IVec S16 32) a x).toNat < S2048x16.size a)
theorem k0_idx42_inb : ∀ (v524 : IVec S16 32) (v540 : IVec S16 32) (k0_hw42 : k0_chk42 v524 v540), ∀ a x, ((![v524, v540] : Fin 2 → IVec S16 32) a x).toNat < S2048x16.size a := fun v524 v540 k0_hw42 => k0_hw42
def k0_off38 (k0_t9 : Fin k0_t9_loop.trips) : Fin 2 → Nat :=
  let c0_i32_372 : BitVec 32 := 0#32
  let v574 : Index := Scalar.indexCast c0_i32_372
  let c0_i32_280 : BitVec 32 := 0#32
  let c1_i32_282 : BitVec 32 := 1#32
  let arg20 : BitVec 32 := Scf.iv c0_i32_280 c1_i32_282 k0_t9
  let c16_i32 : BitVec 32 := 16#32
  let v510 : BitVec 32 := Scalar.muli arg20 c16_i32
  let v511 : BitVec 32 := v510
  let v575 : Index := Scalar.indexCast v511
  ![0, v575.toNat]
def k0_off39 (k0_t9 : Fin k0_t9_loop.trips) : Fin 2 → Nat :=
  let c1_i32_373 : BitVec 32 := 1#32
  let v577 : Index := Scalar.indexCast c1_i32_373
  let c0_i32_280 : BitVec 32 := 0#32
  let c1_i32_282 : BitVec 32 := 1#32
  let arg20 : BitVec 32 := Scf.iv c0_i32_280 c1_i32_282 k0_t9
  let c16_i32 : BitVec 32 := 16#32
  let v510 : BitVec 32 := Scalar.muli arg20 c16_i32
  let v511 : BitVec 32 := v510
  let v578 : Index := Scalar.indexCast v511
  ![1, v578.toNat]
def k0_off40 (k0_t9 : Fin k0_t9_loop.trips) : Fin 2 → Nat :=
  let c2_i32_374 : BitVec 32 := 2#32
  let v580 : Index := Scalar.indexCast c2_i32_374
  let c0_i32_280 : BitVec 32 := 0#32
  let c1_i32_282 : BitVec 32 := 1#32
  let arg20 : BitVec 32 := Scf.iv c0_i32_280 c1_i32_282 k0_t9
  let c16_i32 : BitVec 32 := 16#32
  let v510 : BitVec 32 := Scalar.muli arg20 c16_i32
  let v511 : BitVec 32 := v510
  let v581 : Index := Scalar.indexCast v511
  ![2, v581.toNat]
def k0_off41 (k0_t9 : Fin k0_t9_loop.trips) : Fin 2 → Nat :=
  let c3_i32_375 : BitVec 32 := 3#32
  let v583 : Index := Scalar.indexCast c3_i32_375
  let c0_i32_280 : BitVec 32 := 0#32
  let c1_i32_282 : BitVec 32 := 1#32
  let arg20 : BitVec 32 := Scf.iv c0_i32_280 c1_i32_282 k0_t9
  let c16_i32 : BitVec 32 := 16#32
  let v510 : BitVec 32 := Scalar.muli arg20 c16_i32
  let v511 : BitVec 32 := v510
  let v584 : Index := Scalar.indexCast v511
  ![3, v584.toNat]
def k0_off42 (k0_t9 : Fin k0_t9_loop.trips) : Fin 2 → Nat :=
  let c4_i32_376 : BitVec 32 := 4#32
  let v586 : Index := Scalar.indexCast c4_i32_376
  let c0_i32_280 : BitVec 32 := 0#32
  let c1_i32_282 : BitVec 32 := 1#32
  let arg20 : BitVec 32 := Scf.iv c0_i32_280 c1_i32_282 k0_t9
  let c16_i32 : BitVec 32 := 16#32
  let v510 : BitVec 32 := Scalar.muli arg20 c16_i32
  let v511 : BitVec 32 := v510
  let v587 : Index := Scalar.indexCast v511
  ![4, v587.toNat]
def k0_off43 (k0_t9 : Fin k0_t9_loop.trips) : Fin 2 → Nat :=
  let c5_i32_377 : BitVec 32 := 5#32
  let v589 : Index := Scalar.indexCast c5_i32_377
  let c0_i32_280 : BitVec 32 := 0#32
  let c1_i32_282 : BitVec 32 := 1#32
  let arg20 : BitVec 32 := Scf.iv c0_i32_280 c1_i32_282 k0_t9
  let c16_i32 : BitVec 32 := 16#32
  let v510 : BitVec 32 := Scalar.muli arg20 c16_i32
  let v511 : BitVec 32 := v510
  let v590 : Index := Scalar.indexCast v511
  ![5, v590.toNat]
def k0_off44 (k0_t9 : Fin k0_t9_loop.trips) : Fin 2 → Nat :=
  let c6_i32_378 : BitVec 32 := 6#32
  let v592 : Index := Scalar.indexCast c6_i32_378
  let c0_i32_280 : BitVec 32 := 0#32
  let c1_i32_282 : BitVec 32 := 1#32
  let arg20 : BitVec 32 := Scf.iv c0_i32_280 c1_i32_282 k0_t9
  let c16_i32 : BitVec 32 := 16#32
  let v510 : BitVec 32 := Scalar.muli arg20 c16_i32
  let v511 : BitVec 32 := v510
  let v593 : Index := Scalar.indexCast v511
  ![6, v593.toNat]
def k0_off45 (k0_t9 : Fin k0_t9_loop.trips) : Fin 2 → Nat :=
  let c7_i32_379 : BitVec 32 := 7#32
  let v595 : Index := Scalar.indexCast c7_i32_379
  let c0_i32_280 : BitVec 32 := 0#32
  let c1_i32_282 : BitVec 32 := 1#32
  let arg20 : BitVec 32 := Scf.iv c0_i32_280 c1_i32_282 k0_t9
  let c16_i32 : BitVec 32 := 16#32
  let v510 : BitVec 32 := Scalar.muli arg20 c16_i32
  let v511 : BitVec 32 := v510
  let v596 : Index := Scalar.indexCast v511
  ![7, v596.toNat]
def k0_off46 (k0_t9 : Fin k0_t9_loop.trips) : Fin 2 → Nat :=
  let c8_i32_380 : BitVec 32 := 8#32
  let v598 : Index := Scalar.indexCast c8_i32_380
  let c0_i32_280 : BitVec 32 := 0#32
  let c1_i32_282 : BitVec 32 := 1#32
  let arg20 : BitVec 32 := Scf.iv c0_i32_280 c1_i32_282 k0_t9
  let c16_i32 : BitVec 32 := 16#32
  let v510 : BitVec 32 := Scalar.muli arg20 c16_i32
  let v511 : BitVec 32 := v510
  let v599 : Index := Scalar.indexCast v511
  ![8, v599.toNat]
def k0_off47 (k0_t9 : Fin k0_t9_loop.trips) : Fin 2 → Nat :=
  let c9_i32_381 : BitVec 32 := 9#32
  let v601 : Index := Scalar.indexCast c9_i32_381
  let c0_i32_280 : BitVec 32 := 0#32
  let c1_i32_282 : BitVec 32 := 1#32
  let arg20 : BitVec 32 := Scf.iv c0_i32_280 c1_i32_282 k0_t9
  let c16_i32 : BitVec 32 := 16#32
  let v510 : BitVec 32 := Scalar.muli arg20 c16_i32
  let v511 : BitVec 32 := v510
  let v602 : Index := Scalar.indexCast v511
  ![9, v602.toNat]
def k0_off48 (k0_t9 : Fin k0_t9_loop.trips) : Fin 2 → Nat :=
  let c10_i32_382 : BitVec 32 := 10#32
  let v604 : Index := Scalar.indexCast c10_i32_382
  let c0_i32_280 : BitVec 32 := 0#32
  let c1_i32_282 : BitVec 32 := 1#32
  let arg20 : BitVec 32 := Scf.iv c0_i32_280 c1_i32_282 k0_t9
  let c16_i32 : BitVec 32 := 16#32
  let v510 : BitVec 32 := Scalar.muli arg20 c16_i32
  let v511 : BitVec 32 := v510
  let v605 : Index := Scalar.indexCast v511
  ![10, v605.toNat]
def k0_off49 (k0_t9 : Fin k0_t9_loop.trips) : Fin 2 → Nat :=
  let c11_i32_383 : BitVec 32 := 11#32
  let v607 : Index := Scalar.indexCast c11_i32_383
  let c0_i32_280 : BitVec 32 := 0#32
  let c1_i32_282 : BitVec 32 := 1#32
  let arg20 : BitVec 32 := Scf.iv c0_i32_280 c1_i32_282 k0_t9
  let c16_i32 : BitVec 32 := 16#32
  let v510 : BitVec 32 := Scalar.muli arg20 c16_i32
  let v511 : BitVec 32 := v510
  let v608 : Index := Scalar.indexCast v511
  ![11, v608.toNat]
def k0_off50 (k0_t9 : Fin k0_t9_loop.trips) : Fin 2 → Nat :=
  let c12_i32_384 : BitVec 32 := 12#32
  let v610 : Index := Scalar.indexCast c12_i32_384
  let c0_i32_280 : BitVec 32 := 0#32
  let c1_i32_282 : BitVec 32 := 1#32
  let arg20 : BitVec 32 := Scf.iv c0_i32_280 c1_i32_282 k0_t9
  let c16_i32 : BitVec 32 := 16#32
  let v510 : BitVec 32 := Scalar.muli arg20 c16_i32
  let v511 : BitVec 32 := v510
  let v611 : Index := Scalar.indexCast v511
  ![12, v611.toNat]
def k0_off51 (k0_t9 : Fin k0_t9_loop.trips) : Fin 2 → Nat :=
  let c13_i32_385 : BitVec 32 := 13#32
  let v613 : Index := Scalar.indexCast c13_i32_385
  let c0_i32_280 : BitVec 32 := 0#32
  let c1_i32_282 : BitVec 32 := 1#32
  let arg20 : BitVec 32 := Scf.iv c0_i32_280 c1_i32_282 k0_t9
  let c16_i32 : BitVec 32 := 16#32
  let v510 : BitVec 32 := Scalar.muli arg20 c16_i32
  let v511 : BitVec 32 := v510
  let v614 : Index := Scalar.indexCast v511
  ![13, v614.toNat]
def k0_off52 (k0_t9 : Fin k0_t9_loop.trips) : Fin 2 → Nat :=
  let c14_i32_386 : BitVec 32 := 14#32
  let v616 : Index := Scalar.indexCast c14_i32_386
  let c0_i32_280 : BitVec 32 := 0#32
  let c1_i32_282 : BitVec 32 := 1#32
  let arg20 : BitVec 32 := Scf.iv c0_i32_280 c1_i32_282 k0_t9
  let c16_i32 : BitVec 32 := 16#32
  let v510 : BitVec 32 := Scalar.muli arg20 c16_i32
  let v511 : BitVec 32 := v510
  let v617 : Index := Scalar.indexCast v511
  ![14, v617.toNat]
def k0_off53 (k0_t9 : Fin k0_t9_loop.trips) : Fin 2 → Nat :=
  let c15_i32_387 : BitVec 32 := 15#32
  let v619 : Index := Scalar.indexCast c15_i32_387
  let c0_i32_280 : BitVec 32 := 0#32
  let c1_i32_282 : BitVec 32 := 1#32
  let arg20 : BitVec 32 := Scf.iv c0_i32_280 c1_i32_282 k0_t9
  let c16_i32 : BitVec 32 := 16#32
  let v510 : BitVec 32 := Scalar.muli arg20 c16_i32
  let v511 : BitVec 32 := v510
  let v620 : Index := Scalar.indexCast v511
  ![15, v620.toNat]
def k0_mult116 (i : grid0.Coords) (k0_t5 : Fin k0_t5_loop.trips) : BitVec 32 :=
  let c0_i32_285 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v2 : BitVec 32 := Scalar.muli v1 c65536_i32
  let c0_i32_53 : BitVec 32 := 0#32
  let c1_i32_54 : BitVec 32 := 1#32
  let arg19 : BitVec 32 := Scf.iv c0_i32_53 c1_i32_54 k0_t5
  let c2_i32_235 : BitVec 32 := 2#32
  let v334 : BitVec 32 := Scalar.muli arg19 c2_i32_235
  let c1_i32_236 : BitVec 32 := 1#32
  let v335 : BitVec 32 := Scalar.addi v334 c1_i32_236
  let c1024_i32_284 : BitVec 32 := 1024#32
  let v373 : BitVec 32 := Scalar.muli v335 c1024_i32_284
  let v374 : BitVec 32 := Scalar.addi v2 v373
  let v375 : BitVec 32 := Scalar.addi c0_i32_285 v374
  v375
def k0_mult117 (i : grid0.Coords) (k0_t5 : Fin k0_t5_loop.trips) : BitVec 32 :=
  let c2097152_i32_289 : BitVec 32 := 2097152#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v2 : BitVec 32 := Scalar.muli v1 c65536_i32
  let c0_i32_53 : BitVec 32 := 0#32
  let c1_i32_54 : BitVec 32 := 1#32
  let arg19 : BitVec 32 := Scf.iv c0_i32_53 c1_i32_54 k0_t5
  let c2_i32_235 : BitVec 32 := 2#32
  let v334 : BitVec 32 := Scalar.muli arg19 c2_i32_235
  let c1_i32_236 : BitVec 32 := 1#32
  let v335 : BitVec 32 := Scalar.addi v334 c1_i32_236
  let c1024_i32_284 : BitVec 32 := 1024#32
  let v373 : BitVec 32 := Scalar.muli v335 c1024_i32_284
  let v374 : BitVec 32 := Scalar.addi v2 v373
  let v383 : BitVec 32 := Scalar.addi c2097152_i32_289 v374
  v383
def k0_mult118 (i : grid0.Coords) (k0_t5 : Fin k0_t5_loop.trips) : BitVec 32 :=
  let c4194304_i32_293 : BitVec 32 := 4194304#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v2 : BitVec 32 := Scalar.muli v1 c65536_i32
  let c0_i32_53 : BitVec 32 := 0#32
  let c1_i32_54 : BitVec 32 := 1#32
  let arg19 : BitVec 32 := Scf.iv c0_i32_53 c1_i32_54 k0_t5
  let c2_i32_235 : BitVec 32 := 2#32
  let v334 : BitVec 32 := Scalar.muli arg19 c2_i32_235
  let c1_i32_236 : BitVec 32 := 1#32
  let v335 : BitVec 32 := Scalar.addi v334 c1_i32_236
  let c1024_i32_284 : BitVec 32 := 1024#32
  let v373 : BitVec 32 := Scalar.muli v335 c1024_i32_284
  let v374 : BitVec 32 := Scalar.addi v2 v373
  let v391 : BitVec 32 := Scalar.addi c4194304_i32_293 v374
  v391
def k0_mult119 (i : grid0.Coords) (k0_t5 : Fin k0_t5_loop.trips) : BitVec 32 :=
  let c6291456_i32_297 : BitVec 32 := 6291456#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v2 : BitVec 32 := Scalar.muli v1 c65536_i32
  let c0_i32_53 : BitVec 32 := 0#32
  let c1_i32_54 : BitVec 32 := 1#32
  let arg19 : BitVec 32 := Scf.iv c0_i32_53 c1_i32_54 k0_t5
  let c2_i32_235 : BitVec 32 := 2#32
  let v334 : BitVec 32 := Scalar.muli arg19 c2_i32_235
  let c1_i32_236 : BitVec 32 := 1#32
  let v335 : BitVec 32 := Scalar.addi v334 c1_i32_236
  let c1024_i32_284 : BitVec 32 := 1024#32
  let v373 : BitVec 32 := Scalar.muli v335 c1024_i32_284
  let v374 : BitVec 32 := Scalar.addi v2 v373
  let v399 : BitVec 32 := Scalar.addi c6291456_i32_297 v374
  v399
def k0_mult120 (i : grid0.Coords) (k0_t5 : Fin k0_t5_loop.trips) : BitVec 32 :=
  let c8388608_i32_301 : BitVec 32 := 8388608#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v2 : BitVec 32 := Scalar.muli v1 c65536_i32
  let c0_i32_53 : BitVec 32 := 0#32
  let c1_i32_54 : BitVec 32 := 1#32
  let arg19 : BitVec 32 := Scf.iv c0_i32_53 c1_i32_54 k0_t5
  let c2_i32_235 : BitVec 32 := 2#32
  let v334 : BitVec 32 := Scalar.muli arg19 c2_i32_235
  let c1_i32_236 : BitVec 32 := 1#32
  let v335 : BitVec 32 := Scalar.addi v334 c1_i32_236
  let c1024_i32_284 : BitVec 32 := 1024#32
  let v373 : BitVec 32 := Scalar.muli v335 c1024_i32_284
  let v374 : BitVec 32 := Scalar.addi v2 v373
  let v407 : BitVec 32 := Scalar.addi c8388608_i32_301 v374
  v407
def k0_mult121 (i : grid0.Coords) (k0_t5 : Fin k0_t5_loop.trips) : BitVec 32 :=
  let c10485760_i32_305 : BitVec 32 := 10485760#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v2 : BitVec 32 := Scalar.muli v1 c65536_i32
  let c0_i32_53 : BitVec 32 := 0#32
  let c1_i32_54 : BitVec 32 := 1#32
  let arg19 : BitVec 32 := Scf.iv c0_i32_53 c1_i32_54 k0_t5
  let c2_i32_235 : BitVec 32 := 2#32
  let v334 : BitVec 32 := Scalar.muli arg19 c2_i32_235
  let c1_i32_236 : BitVec 32 := 1#32
  let v335 : BitVec 32 := Scalar.addi v334 c1_i32_236
  let c1024_i32_284 : BitVec 32 := 1024#32
  let v373 : BitVec 32 := Scalar.muli v335 c1024_i32_284
  let v374 : BitVec 32 := Scalar.addi v2 v373
  let v415 : BitVec 32 := Scalar.addi c10485760_i32_305 v374
  v415
def k0_mult122 (i : grid0.Coords) (k0_t5 : Fin k0_t5_loop.trips) : BitVec 32 :=
  let c12582912_i32_309 : BitVec 32 := 12582912#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v2 : BitVec 32 := Scalar.muli v1 c65536_i32
  let c0_i32_53 : BitVec 32 := 0#32
  let c1_i32_54 : BitVec 32 := 1#32
  let arg19 : BitVec 32 := Scf.iv c0_i32_53 c1_i32_54 k0_t5
  let c2_i32_235 : BitVec 32 := 2#32
  let v334 : BitVec 32 := Scalar.muli arg19 c2_i32_235
  let c1_i32_236 : BitVec 32 := 1#32
  let v335 : BitVec 32 := Scalar.addi v334 c1_i32_236
  let c1024_i32_284 : BitVec 32 := 1024#32
  let v373 : BitVec 32 := Scalar.muli v335 c1024_i32_284
  let v374 : BitVec 32 := Scalar.addi v2 v373
  let v423 : BitVec 32 := Scalar.addi c12582912_i32_309 v374
  v423
def k0_mult123 (i : grid0.Coords) (k0_t5 : Fin k0_t5_loop.trips) : BitVec 32 :=
  let c14680064_i32_313 : BitVec 32 := 14680064#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v2 : BitVec 32 := Scalar.muli v1 c65536_i32
  let c0_i32_53 : BitVec 32 := 0#32
  let c1_i32_54 : BitVec 32 := 1#32
  let arg19 : BitVec 32 := Scf.iv c0_i32_53 c1_i32_54 k0_t5
  let c2_i32_235 : BitVec 32 := 2#32
  let v334 : BitVec 32 := Scalar.muli arg19 c2_i32_235
  let c1_i32_236 : BitVec 32 := 1#32
  let v335 : BitVec 32 := Scalar.addi v334 c1_i32_236
  let c1024_i32_284 : BitVec 32 := 1024#32
  let v373 : BitVec 32 := Scalar.muli v335 c1024_i32_284
  let v374 : BitVec 32 := Scalar.addi v2 v373
  let v431 : BitVec 32 := Scalar.addi c14680064_i32_313 v374
  v431
def k0_mult124 (i : grid0.Coords) (k0_t5 : Fin k0_t5_loop.trips) : BitVec 32 :=
  let c16777216_i32_317 : BitVec 32 := 16777216#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v2 : BitVec 32 := Scalar.muli v1 c65536_i32
  let c0_i32_53 : BitVec 32 := 0#32
  let c1_i32_54 : BitVec 32 := 1#32
  let arg19 : BitVec 32 := Scf.iv c0_i32_53 c1_i32_54 k0_t5
  let c2_i32_235 : BitVec 32 := 2#32
  let v334 : BitVec 32 := Scalar.muli arg19 c2_i32_235
  let c1_i32_236 : BitVec 32 := 1#32
  let v335 : BitVec 32 := Scalar.addi v334 c1_i32_236
  let c1024_i32_284 : BitVec 32 := 1024#32
  let v373 : BitVec 32 := Scalar.muli v335 c1024_i32_284
  let v374 : BitVec 32 := Scalar.addi v2 v373
  let v439 : BitVec 32 := Scalar.addi c16777216_i32_317 v374
  v439
def k0_mult125 (i : grid0.Coords) (k0_t5 : Fin k0_t5_loop.trips) : BitVec 32 :=
  let c18874368_i32_321 : BitVec 32 := 18874368#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v2 : BitVec 32 := Scalar.muli v1 c65536_i32
  let c0_i32_53 : BitVec 32 := 0#32
  let c1_i32_54 : BitVec 32 := 1#32
  let arg19 : BitVec 32 := Scf.iv c0_i32_53 c1_i32_54 k0_t5
  let c2_i32_235 : BitVec 32 := 2#32
  let v334 : BitVec 32 := Scalar.muli arg19 c2_i32_235
  let c1_i32_236 : BitVec 32 := 1#32
  let v335 : BitVec 32 := Scalar.addi v334 c1_i32_236
  let c1024_i32_284 : BitVec 32 := 1024#32
  let v373 : BitVec 32 := Scalar.muli v335 c1024_i32_284
  let v374 : BitVec 32 := Scalar.addi v2 v373
  let v447 : BitVec 32 := Scalar.addi c18874368_i32_321 v374
  v447
def k0_mult126 (i : grid0.Coords) (k0_t5 : Fin k0_t5_loop.trips) : BitVec 32 :=
  let c20971520_i32_325 : BitVec 32 := 20971520#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v2 : BitVec 32 := Scalar.muli v1 c65536_i32
  let c0_i32_53 : BitVec 32 := 0#32
  let c1_i32_54 : BitVec 32 := 1#32
  let arg19 : BitVec 32 := Scf.iv c0_i32_53 c1_i32_54 k0_t5
  let c2_i32_235 : BitVec 32 := 2#32
  let v334 : BitVec 32 := Scalar.muli arg19 c2_i32_235
  let c1_i32_236 : BitVec 32 := 1#32
  let v335 : BitVec 32 := Scalar.addi v334 c1_i32_236
  let c1024_i32_284 : BitVec 32 := 1024#32
  let v373 : BitVec 32 := Scalar.muli v335 c1024_i32_284
  let v374 : BitVec 32 := Scalar.addi v2 v373
  let v455 : BitVec 32 := Scalar.addi c20971520_i32_325 v374
  v455
def k0_mult127 (i : grid0.Coords) (k0_t5 : Fin k0_t5_loop.trips) : BitVec 32 :=
  let c23068672_i32_329 : BitVec 32 := 23068672#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v2 : BitVec 32 := Scalar.muli v1 c65536_i32
  let c0_i32_53 : BitVec 32 := 0#32
  let c1_i32_54 : BitVec 32 := 1#32
  let arg19 : BitVec 32 := Scf.iv c0_i32_53 c1_i32_54 k0_t5
  let c2_i32_235 : BitVec 32 := 2#32
  let v334 : BitVec 32 := Scalar.muli arg19 c2_i32_235
  let c1_i32_236 : BitVec 32 := 1#32
  let v335 : BitVec 32 := Scalar.addi v334 c1_i32_236
  let c1024_i32_284 : BitVec 32 := 1024#32
  let v373 : BitVec 32 := Scalar.muli v335 c1024_i32_284
  let v374 : BitVec 32 := Scalar.addi v2 v373
  let v463 : BitVec 32 := Scalar.addi c23068672_i32_329 v374
  v463
def k0_mult128 (i : grid0.Coords) (k0_t5 : Fin k0_t5_loop.trips) : BitVec 32 :=
  let c25165824_i32_333 : BitVec 32 := 25165824#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v2 : BitVec 32 := Scalar.muli v1 c65536_i32
  let c0_i32_53 : BitVec 32 := 0#32
  let c1_i32_54 : BitVec 32 := 1#32
  let arg19 : BitVec 32 := Scf.iv c0_i32_53 c1_i32_54 k0_t5
  let c2_i32_235 : BitVec 32 := 2#32
  let v334 : BitVec 32 := Scalar.muli arg19 c2_i32_235
  let c1_i32_236 : BitVec 32 := 1#32
  let v335 : BitVec 32 := Scalar.addi v334 c1_i32_236
  let c1024_i32_284 : BitVec 32 := 1024#32
  let v373 : BitVec 32 := Scalar.muli v335 c1024_i32_284
  let v374 : BitVec 32 := Scalar.addi v2 v373
  let v471 : BitVec 32 := Scalar.addi c25165824_i32_333 v374
  v471
def k0_mult129 (i : grid0.Coords) (k0_t5 : Fin k0_t5_loop.trips) : BitVec 32 :=
  let c27262976_i32_337 : BitVec 32 := 27262976#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v2 : BitVec 32 := Scalar.muli v1 c65536_i32
  let c0_i32_53 : BitVec 32 := 0#32
  let c1_i32_54 : BitVec 32 := 1#32
  let arg19 : BitVec 32 := Scf.iv c0_i32_53 c1_i32_54 k0_t5
  let c2_i32_235 : BitVec 32 := 2#32
  let v334 : BitVec 32 := Scalar.muli arg19 c2_i32_235
  let c1_i32_236 : BitVec 32 := 1#32
  let v335 : BitVec 32 := Scalar.addi v334 c1_i32_236
  let c1024_i32_284 : BitVec 32 := 1024#32
  let v373 : BitVec 32 := Scalar.muli v335 c1024_i32_284
  let v374 : BitVec 32 := Scalar.addi v2 v373
  let v479 : BitVec 32 := Scalar.addi c27262976_i32_337 v374
  v479
def k0_mult130 (i : grid0.Coords) (k0_t5 : Fin k0_t5_loop.trips) : BitVec 32 :=
  let c29360128_i32_341 : BitVec 32 := 29360128#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v2 : BitVec 32 := Scalar.muli v1 c65536_i32
  let c0_i32_53 : BitVec 32 := 0#32
  let c1_i32_54 : BitVec 32 := 1#32
  let arg19 : BitVec 32 := Scf.iv c0_i32_53 c1_i32_54 k0_t5
  let c2_i32_235 : BitVec 32 := 2#32
  let v334 : BitVec 32 := Scalar.muli arg19 c2_i32_235
  let c1_i32_236 : BitVec 32 := 1#32
  let v335 : BitVec 32 := Scalar.addi v334 c1_i32_236
  let c1024_i32_284 : BitVec 32 := 1024#32
  let v373 : BitVec 32 := Scalar.muli v335 c1024_i32_284
  let v374 : BitVec 32 := Scalar.addi v2 v373
  let v487 : BitVec 32 := Scalar.addi c29360128_i32_341 v374
  v487
def k0_mult131 (i : grid0.Coords) (k0_t5 : Fin k0_t5_loop.trips) : BitVec 32 :=
  let c31457280_i32_345 : BitVec 32 := 31457280#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v2 : BitVec 32 := Scalar.muli v1 c65536_i32
  let c0_i32_53 : BitVec 32 := 0#32
  let c1_i32_54 : BitVec 32 := 1#32
  let arg19 : BitVec 32 := Scf.iv c0_i32_53 c1_i32_54 k0_t5
  let c2_i32_235 : BitVec 32 := 2#32
  let v334 : BitVec 32 := Scalar.muli arg19 c2_i32_235
  let c1_i32_236 : BitVec 32 := 1#32
  let v335 : BitVec 32 := Scalar.addi v334 c1_i32_236
  let c1024_i32_284 : BitVec 32 := 1024#32
  let v373 : BitVec 32 := Scalar.muli v335 c1024_i32_284
  let v374 : BitVec 32 := Scalar.addi v2 v373
  let v495 : BitVec 32 := Scalar.addi c31457280_i32_345 v374
  v495
def k0_mult132 (i : grid0.Coords) (k0_t5 : Fin k0_t5_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c65536_i32 : BitVec 32 := 65536#32
  let v2 : BitVec 32 := Scalar.muli v1 c65536_i32
  let c0_i32_53 : BitVec 32 := 0#32
  let c1_i32_54 : BitVec 32 := 1#32
  let arg19 : BitVec 32 := Scf.iv c0_i32_53 c1_i32_54 k0_t5
  let c2_i32_235 : BitVec 32 := 2#32
  let v334 : BitVec 32 := Scalar.muli arg19 c2_i32_235
  let c1_i32_236 : BitVec 32 := 1#32
  let v335 : BitVec 32 := Scalar.addi v334 c1_i32_236
  let c1024_i32_284 : BitVec 32 := 1024#32
  let v373 : BitVec 32 := Scalar.muli v335 c1024_i32_284
  let v374 : BitVec 32 := Scalar.addi v2 v373
  v374
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S500000x16 : Shape := ⟨2, ![500000, 16]⟩
abbrev S500000 : Shape := ⟨1, ![500000]⟩
abbrev S2097152 : Shape := ⟨1, ![2097152]⟩
abbrev S2097152x1 : Shape := ⟨2, ![2097152, 1]⟩
abbrev S_ : Shape := ⟨0, ![]⟩
abbrev S2097152x15 : Shape := ⟨2, ![2097152, 15]⟩
abbrev S2097152x16 : Shape := ⟨2, ![2097152, 16]⟩
abbrev S500000x1 : Shape := ⟨2, ![500000, 1]⟩
abbrev S16x2097152 : Shape := ⟨2, ![16, 2097152]⟩
abbrev S1x16x128x128x128 : Shape := ⟨5, ![1, 16, 128, 128, 128]⟩
abbrev S1x2097152 : Shape := ⟨2, ![1, 2097152]⟩
abbrev S1x1x128x128x128 : Shape := ⟨5, ![1, 1, 128, 128, 128]⟩

abbrev nBuf : Space → Nat
  | .hbm => 33
  | .vmem => 0
  | .smem => 0
  | _ => 0

abbrev bufTy : (tb : Table) → Fin (tcTables nBuf tb) → BufTy
  | .hbm, ⟨0, _⟩ => ⟨S500000x16, .f32⟩
  | .hbm, ⟨1, _⟩ => ⟨S500000, .i32⟩
  | .hbm, ⟨2, _⟩ => ⟨S2097152, .f32⟩
  | .hbm, ⟨3, _⟩ => ⟨S2097152x1, .f32⟩
  | .hbm, ⟨4, _⟩ => ⟨S_, .f32⟩
  | .hbm, ⟨5, _⟩ => ⟨S2097152x15, .f32⟩
  | .hbm, ⟨6, _⟩ => ⟨S2097152x16, .f32⟩
  | .hbm, ⟨7, _⟩ => ⟨S_, .f32⟩
  | .hbm, ⟨8, _⟩ => ⟨S2097152x1, .f32⟩
  | .hbm, ⟨9, _⟩ => ⟨S_, .i32⟩
  | .hbm, ⟨10, _⟩ => ⟨S500000, .i32⟩
  | .hbm, ⟨11, _⟩ => ⟨S500000, .i1⟩
  | .hbm, ⟨12, _⟩ => ⟨S_, .i32⟩
  | .hbm, ⟨13, _⟩ => ⟨S500000, .i32⟩
  | .hbm, ⟨14, _⟩ => ⟨S500000, .i32⟩
  | .hbm, ⟨15, _⟩ => ⟨S500000, .i32⟩
  | .hbm, ⟨16, _⟩ => ⟨S500000x1, .i32⟩
  | .hbm, ⟨17, _⟩ => ⟨S2097152x16, .f32⟩
  | .hbm, ⟨18, _⟩ => ⟨S_, .f32⟩
  | .hbm, ⟨19, _⟩ => ⟨S500000x1, .f32⟩
  | .hbm, ⟨20, _⟩ => ⟨S_, .i32⟩
  | .hbm, ⟨21, _⟩ => ⟨S500000, .i32⟩
  | .hbm, ⟨22, _⟩ => ⟨S500000, .i1⟩
  | .hbm, ⟨23, _⟩ => ⟨S_, .i32⟩
  | .hbm, ⟨24, _⟩ => ⟨S500000, .i32⟩
  | .hbm, ⟨25, _⟩ => ⟨S500000, .i32⟩
  | .hbm, ⟨26, _⟩ => ⟨S500000, .i32⟩
  | .hbm, ⟨27, _⟩ => ⟨S500000x1, .i32⟩
  | .hbm, ⟨28, _⟩ => ⟨S2097152x1, .f32⟩
  | .hbm, ⟨29, _⟩ => ⟨S16x2097152, .f32⟩
  | .hbm, ⟨30, _⟩ => ⟨S1x16x128x128x128, .f32⟩
  | .hbm, ⟨31, _⟩ => ⟨S1x2097152, .f32⟩
  | .hbm, ⟨32, _⟩ => ⟨S1x1x128x128x128, .f32⟩
  | _, _ => ⟨S500000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_c_3 : Ref sig .tc := ⟨.hbm, 20, rfl⟩
abbrev main_v12 : Ref sig .tc := ⟨.hbm, 21, rfl⟩
abbrev main_v13 : Ref sig .tc := ⟨.hbm, 22, rfl⟩
abbrev main_c_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩

abbrev nD : Nat := 1
abbrev τ : Topo := Topo.v7x

variable {F : FTy → Type} [FloatOps F]
-- ==== KernelIds.lean ====
abbrev S500000x3 : Shape := ⟨2, ![500000, 3]⟩
abbrev S500000x1 : Shape := ⟨2, ![500000, 1]⟩
abbrev S500000 : Shape := ⟨1, ![500000]⟩
abbrev S8x1x62500 : Shape := ⟨3, ![8, 1, 62500]⟩
abbrev S1x1x62500 : Shape := ⟨3, ![1, 1, 62500]⟩

abbrev nBuf : Space → Nat
  | .hbm => 11
  | .vmem => 8
  | .smem => 0
  | _ => 0

abbrev bufTy : (tb : Table) → Fin (tcTables nBuf tb) → BufTy
  | .hbm, ⟨0, _⟩ => ⟨S500000x3, .i32⟩
  | .hbm, ⟨1, _⟩ => ⟨S500000x1, .i32⟩
  | .hbm, ⟨2, _⟩ => ⟨S500000, .i32⟩
  | .hbm, ⟨3, _⟩ => ⟨S8x1x62500, .i32⟩
  | .hbm, ⟨4, _⟩ => ⟨S500000x1, .i32⟩
  | .hbm, ⟨5, _⟩ => ⟨S500000, .i32⟩
  | .hbm, ⟨6, _⟩ => ⟨S8x1x62500, .i32⟩
  | .hbm, ⟨7, _⟩ => ⟨S500000x1, .i32⟩
  | .hbm, ⟨8, _⟩ => ⟨S500000, .i32⟩
  | .hbm, ⟨9, _⟩ => ⟨S8x1x62500, .i32⟩
  | .hbm, ⟨10, _⟩ => ⟨S8x1x62500, .i32⟩
  | .local _ .vmem, ⟨0, _⟩ => ⟨S1x1x62500, .i32⟩
  | .local _ .vmem, ⟨1, _⟩ => ⟨S1x1x62500, .i32⟩
  | .local _ .vmem, ⟨2, _⟩ => ⟨S1x1x62500, .i32⟩
  | .local _ .vmem, ⟨3, _⟩ => ⟨S1x1x62500, .i32⟩
  | .local _ .vmem, ⟨4, _⟩ => ⟨S1x1x62500, .i32⟩
  | .local _ .vmem, ⟨5, _⟩ => ⟨S1x1x62500, .i32⟩
  | .local _ .vmem, ⟨6, _⟩ => ⟨S1x1x62500, .i32⟩
  | .local _ .vmem, ⟨7, _⟩ => ⟨S1x1x62500, .i32⟩
  | _, _ => ⟨S500000x3, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x62500 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x62500 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x62500 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x62500 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIds.lean ====
abbrev S500000x3 : Shape := ⟨2, ![500000, 3]⟩
abbrev S500000x1 : Shape := ⟨2, ![500000, 1]⟩
abbrev S500000 : Shape := ⟨1, ![500000]⟩
abbrev S_ : Shape := ⟨0, ![]⟩
abbrev S8x1x62500 : Shape := ⟨3, ![8, 1, 62500]⟩

abbrev nBuf : Space → Nat
  | .hbm => 16
  | .vmem => 0
  | .smem => 0
  | _ => 0

abbrev bufTy : (tb : Table) → Fin (tcTables nBuf tb) → BufTy
  | .hbm, ⟨0, _⟩ => ⟨S500000x3, .i32⟩
  | .hbm, ⟨1, _⟩ => ⟨S500000x1, .i32⟩
  | .hbm, ⟨2, _⟩ => ⟨S500000, .i32⟩
  | .hbm, ⟨3, _⟩ => ⟨S_, .i32⟩
  | .hbm, ⟨4, _⟩ => ⟨S500000, .i32⟩
  | .hbm, ⟨5, _⟩ => ⟨S500000, .i32⟩
  | .hbm, ⟨6, _⟩ => ⟨S500000x1, .i32⟩
  | .hbm, ⟨7, _⟩ => ⟨S500000, .i32⟩
  | .hbm, ⟨8, _⟩ => ⟨S500000, .i32⟩
  | .hbm, ⟨9, _⟩ => ⟨S_, .i32⟩
  | .hbm, ⟨10, _⟩ => ⟨S500000, .i32⟩
  | .hbm, ⟨11, _⟩ => ⟨S500000, .i32⟩
  | .hbm, ⟨12, _⟩ => ⟨S500000x1, .i32⟩
  | .hbm, ⟨13, _⟩ => ⟨S500000, .i32⟩
  | .hbm, ⟨14, _⟩ => ⟨S500000, .i32⟩
  | .hbm, ⟨15, _⟩ => ⟨S8x1x62500, .i32⟩
  | _, _ => ⟨S500000x3, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c_0 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== Proof.GatherBatch.lean ====
/-
  A tile's indirect gathers put on ONE semaphore several at a time. The library's rule for an indirect gather starts
  from a semaphore at zero, so it serves one stream in flight; here the row transfers of every stream are members of one
  counted batch (Lib/Batch.lean): each row is one transfer of a fixed amount, a stream of `o` rows takes the next `o`
  issue rights of the batch, and waits lower the counter by a stream's rows at a time, the last one collecting all.
  What a row delivers is left open: the caller says how each row's destination is written (`hR`), so the destination
  may be held outright or in write mode.
-/
module

public import Idealize.ShloMosaic.Lib.SparseCore.Stream
public import Idealize.ShloMosaic.Lib.Batch
public import Idealize.ShloMosaic.Lib.Tactic

@[expose] public section

noncomputable section

namespace Cert.Proof.GatherBatch

open Idealize.ShloMosaic Idealize.ShloMosaic.SparseCore
open Idealize.SL
open Idealize.SL.BI (sProp Storable bigSep)
open scoped Idealize.SL.BI
open Idealize.SL.BI.BIBase Idealize.SL.BI.Laws Idealize.SL.Sem Idealize.SL.ProofMode
open Idealize.SL.RA

variable {nD : Nat} {τ : Topo} {sig : RefSig} {Ix : Type} [DecidableEq Ix]
variable {F : FTy → Type} {Name : Type} [DecidableEq Name]
variable {U : Type} [URA U] {Lvl : Type} [Preorder Lvl] {Λ : Labels}
variable {defs : Defs nD τ sig (Elt F) Λ} (EC : UEmb Counters (MT nD τ sig Ix (Elt F) Name U Lvl)) (𝒱 : Variants) (c : Thread nD τ)
  (bd : Option 𝒱.V)
variable {sp : Space} {s₀ s si : Shape} {e : EltTy} {a : Nat} {α : Type} {Q : α → sProp (MT nD τ sig Ix (Elt F) Name U Lvl)}

local notation "𝕄" => MT nD τ sig Ix (Elt F) Name U Lvl

/-- The issue rights from `k` on are the next `o` and those from `k + o` on. -/
theorem pending_split {n : ℕ} (k o : ℕ) (h : k + o ≤ n) (Φ : Fin n → sProp 𝕄) :
    bigSep (Transfers.pending k) Φ
      ⊢ iprop(bigSep Finset.univ (fun j : Fin o => Φ ⟨k + j.val, by have := j.isLt; omega⟩) ∗ bigSep (Transfers.pending (k + o)) Φ) := by
  classical
  have e1 : (Transfers.pending k : Finset (Fin n))
      = (Finset.univ.map ⟨fun j : Fin o => (⟨k + j.val, by have := j.isLt; omega⟩ : Fin n), fun x y hxy => by
          have := congrArg Fin.val hxy; exact Fin.ext (by simpa using this)⟩) ∪ Transfers.pending (k + o) := by
    ext t
    simp only [Transfers.pending, Finset.mem_filter, Finset.mem_univ, true_and, Finset.mem_union, Finset.mem_map, Function.Embedding.coeFn_mk]
    constructor
    · intro ht
      by_cases h2 : k + o ≤ t.val
      · exact .inr h2
      · exact .inl ⟨⟨t.val - k, by omega⟩, Fin.ext (by show k + (t.val - k) = t.val; omega)⟩
    · rintro (⟨j, rfl⟩ | h2)
      · show k ≤ k + j.val; omega
      · omega
  rw [e1]
  refine (Entails.of_eq (BI.bigSep_union (Finset.disjoint_left.mpr fun t ht ht' => ?_))).trans ?_
  · obtain ⟨j, -, rfl⟩ := Finset.mem_map.mp ht
    have h2 := (Finset.mem_filter.mp ht').2
    have : k + o ≤ k + j.val := h2
    have := j.isLt; omega
  · exact sep_mono_left (Entails.of_eq (BI.bigSep_map _))

/-- One indirect gather as the next `o` members of a batch of row transfers of `N` units each. The caller hands in a
    share of the source, a share of the offset list whose words are in range, and per row what lets the transfer write
    it (`R j`, by `hR` a write update that yields `R' j`); row `j` then delivers to the batch what it wrote, its list
    element and its piece of the source's share. -/
theorem wp_gatherInBatch [EC.LandsIn (upEmb : UEmb _ 𝕄)]
    {src : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {k : PUnit → Prog (TpuEff nD τ sig (Elt F) Λ c.2) α}
    {q qo : PosShare TreeShare} {fs : Buf (Elt F) (src.view.loc c)} {fo : Buf (Elt F) (offs.view.loc c)}
    (ι : Ix) (N : ℕ) (hN : ∀ j, (dst.slice (s.rowRect hg.axis' j) (s.stride_rowRect hg.axis' j)).view.dmaCredit = N)
    (ho : 0 < s.size hg.axis') (hin : ∀ x, (offs.view.read (Elt F) fo x).toNat < s₀.size hg.axis)
    {n : ℕ} {D : Fin n → sProp 𝕄} (k₀ : ℕ) (hk : k₀ + s.size hg.axis' ≤ n)
    (R R' : Fin (s.size hg.axis') → sProp 𝕄)
    (hR : ∀ j, R j ⊢ writeUpdate c (dst.view.slice (s.rowRect hg.axis' j))
      (fun i => src.view.read (Elt F) fs (hg.rowIdx (rows (offs.view.read (Elt F) fo) hn hin j) i)) (R' j))
    (hD : ∀ j : Fin (s.size hg.axis'),
      iprop((R' j ∗ (offs.view.loc c ↦[{offs.view.emb (si.rowMajor.symm (j.cast hn.symm))}]{qo} fo))
          ∗ (src.view.loc c ↦[src.view.set]{pieceOf q _ ho j} fs)) ⊢ D ⟨k₀ + j.val, by have := j.isLt; omega⟩) :
    iprop(Transfers.Batch EC c (.dma sem) ι N D k₀ 0 ∗ (src.view.loc c ↦[src.view.set]{q} fs) ∗ bigSep Finset.univ R
        ∗ (offs.view.loc c ↦[offs.view.set]{qo} fo))
      ⊢ iprop((Transfers.Batch EC c (.dma sem) ι N D (k₀ + s.size hg.axis') 0 -∗ wp frame (wpE defs 𝒱 c bd) Set.univ (k ⟨⟩) Q)
          -∗ wp frame (wpE defs 𝒱 c bd) Set.univ (enqueueIndirectGather hp src dst hg offs hn sem hsrc he hsp hr >>= k) Q) := by
  rw [enqueueIndirectGather_bind]
  let S : Stream nD τ sig (Elt F) :=
    Stream.issued c offs.view hn sem (fun j w => (rowOf (s₀.size hg.axis) w).map (gatherRow c src dst hg sem hsrc he hsp hr j)) 0
  let rd : Fin (s.size hg.axis') → RowDma τ sig (Elt F) c.2 sem := fun j =>
    gatherRow c src dst hg sem hsrc he hsp hr j (rows (offs.view.read (Elt F) fo) hn hin j)
  have agree : S.RowsAgree := by
    intro j x x' ρ ρ' h h'
    obtain ⟨_, _, rfl⟩ := Option.map_eq_some_iff.mp h
    obtain ⟨_, _, rfl⟩ := Option.map_eq_some_iff.mp h'
    rfl
  have known : ∀ j, S.row j (S.word fo j) = some (rd j) := fun j => by
    show (rowOf (s₀.size hg.axis) (offs.view.read (Elt F) fo (S.entry j))).map _ = _
    rw [rowOf_of_lt (hin _)]; rfl
  have sumN : ∑ j, (rd j).dst.view.dmaCredit = s.size hg.axis' * N := by
    rw [Finset.sum_congr rfl fun j _ => hN j, Finset.sum_const, Finset.card_univ, Fintype.card_fin, smul_eq_mul]
  have bij : Function.Bijective S.entry := si.rowMajor.symm.bijective.comp (finCongr hn.symm).bijective
  unfold Transfers.Batch
  iintro ⟨⟨%γ, %γ₀, %κ, #Hinv, Hrights, H0, Hcred⟩, Hs, HR, Ho⟩ Hk
  ihave Hsplit := (pending_split k₀ (s.size hg.axis') hk (fun t => count EC (γ t) 0)) $$ Hrights
  icases Hsplit with ⟨Hnow, Hlater⟩
  ihave Hoe := (Entails.of_eq (pointsTo_entries c offs.view S.entry bij qo fo)) $$ Ho
  ihave Hsp := (Entails.of_eq (pointsTo_piecesOf (src.view.set) fs ho q)) $$ Hs
  iapply (wp_enqueueIndirectDma 𝒱 c bd Set.univ (qo := qo) (fo := fo) (rd := rd) ι (s.size hg.axis' * N) agree known sumN)
    $$ [Hnow HR Hoe Hsp]
  · have each : ∀ j, iprop(inv κ (Transfers.batchBody EC (c, SemLoc.dma sem) N D γ γ₀)
          ∗ (((R j ∗ S.heldEntry qo fo j) ∗ (src.view.loc c ↦[src.view.set]{pieceOf q _ ho j} fs))
            ∗ count EC (γ ⟨k₀ + j.val, by have := j.isLt; omega⟩) 0))
        ⊢ iprop(S.heldEntry qo fo j ∗ (S.heldEntry qo fo j -∗ rowRes c (rd j))) := fun j => by
      iintro ⟨#Hinv, ⟨⟨Hr, He⟩, Hsq⟩, Hc⟩
      isplitl [He]; · iexact He
      iintro He
      unfold rowRes
      iexists pieceOf q _ ho j, fs, iprop(R' j ∗ S.heldEntry qo fo j)
      isplitl [Hsq]; · iexact Hsq
      isplitl [Hr He]
      · iapply writeUpdate_frame
        isplitl [Hr]
        · iapply (hR j) $$ Hr
        · iexact He
      · have hamt : (rd j).dst.view.amount (.dma sem) = N := hN j
        rw [hamt]
        iapply (Transfers.batch_creditUpdate EC (N := N) (D := D) (γ := γ) (γ₀ := γ₀) ⟨k₀ + j.val, by have := j.isLt; omega⟩ (hD j))
        isplitr; · iexact Hinv
        iexact Hc
    unfold Stream.res
    ihave H1 := Transfers.bigSep_sep_in _ _ _ $$ [HR Hoe]; · isplitl [HR] <;> iassumption
    ihave H2 := Transfers.bigSep_sep_in _ _ _ $$ [H1 Hsp]; · isplitl [H1] <;> iassumption
    ihave H3 := Transfers.bigSep_sep_in _ _ _ $$ [H2 Hnow]; · isplitl [H2] <;> iassumption
    iapply (Transfers.bigSep_mono_pers Finset.univ _ _ _ fun j _ => each j)
    isplitr; · iexact Hinv
    iexact H3
  · iintro Hnew
    iapply Hk
    iexists γ, γ₀, κ
    isplitr; · iexact Hinv
    isplitl [Hlater]; · iexact Hlater
    isplitl [H0]; · iexact H0
    have hsum : (k₀ + s.size hg.axis') * N - 0 = (k₀ * N - 0) + s.size hg.axis' * N := by
      rw [Nat.sub_zero, Nat.sub_zero, Nat.add_mul]
    rw [hsum, ← tallyAt_add]
    isplitl [Hcred] <;> iassumption

end Cert.Proof.GatherBatch

end

end
-- ==== Proof.Base.lean ====
/-
  What every module of this proof shares: the program as the launch theorem sees it, the resource algebra (the
  handshakes' rounds, the write-mode cells, the transfers' counters), the kernel's memrefs by short names, and the load
  and store rules over a whole scratch buffer, stated with plain functions for contents.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Value
public import Idealize.ShloMosaic.Lib.Batch
public import Idealize.ShloMosaic.Lib.WriteMode
public import Idealize.ShloMosaic.Lib.ShareLeaves
public import Idealize.ShloMosaic.Lib.Tactic
public import proofs.«01_k».proof.Proof.Gen.KernelIdeal
public import proofs.«01_k».proof.Proof.Gen.KernelIdeal.Skeleton
public import proofs.«01_k».proof.Proof.GatherBatch

@[expose] public section

noncomputable section

namespace Cert.Proof.K

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-! ## The resource algebra -/

abbrev UH : Type := URounds (GSem nD τ sig) ℕ
abbrev UU (F : FTy → Type) : Type := UH × (WmRA nD τ sig (Elt F) × Counters)

/-- The logic every assertion of the proof is in. -/
abbrev MM (F : FTy → Type) : Type := MT nD τ sig (HIx 1) (Elt F) ℕ (UU F) ℕ

abbrev EH : Emb UH (MM F) := embL
/-- Where the write-mode library's cells sit. -/
abbrev wmE (F : FTy → Type) : UEmb (WmRA nD τ sig (Elt F)) (UU F) := UEmb.inl.trans UEmb.inr
/-- The transfers' counters. -/
abbrev EC : UEmb Counters (MM F) := countersEmb

/-! ## The kernel's memrefs -/

abbrev idsV : Memref sig .scVector .hbm S500000 .i32 := Memref.whole main_arg1_scv
abbrev ftV : Memref sig .scVector .hbm S500000x16 .f32 := Memref.whole main_arg0_scv
abbrev dnsV : Memref sig .scVector .hbm S2097152 .f32 := Memref.whole main_arg2_scv
abbrev outV : Memref sig .scVector .hbm S33554432 .f32 := Memref.whole main_v0_0_scv
abbrev mskV : Memref sig .scVector .hbm S2097152 .f32 := Memref.whole main_v0_1_scv
abbrev lV : Memref sig .scVector .vmem S65536 .i32 := Memref.whole cc0_scratch0
abbrev idV : Memref sig .scVector .vmem S2x4096 .i32 := Memref.whole cc0_scratch1
abbrev gV : Memref sig .scVector .vmem S2048x16 .f32 := Memref.whole cc0_scratch2
abbrev tV : Memref sig .scVector .vmem S16x1024 .f32 := Memref.whole cc0_scratch3
abbrev mkV : Memref sig .scVector .vmem S2x1024 .f32 := Memref.whole cc0_scratch4
abbrev dnV : Memref sig .scVector .vmem S2x1024 .f32 := Memref.whole cc0_scratch5

/-- The tile's SparseCore and subcore, and its thread. -/
abbrev cV (i : grid0.Coords) : Fin τ.nSC := (i 0).castLE hcore0
abbrev jV (i : grid0.Coords) : Fin τ.nSub := (i 1).castLE hsub0
abbrev thr (d : Dev nD) (i : grid0.Coords) : Thread nD τ := V d (cV i) (jV i)

/-- A printed body or part of the tile's program, applied to the tile's own memrefs. -/
abbrev Pt (i : grid0.Coords) (α : Type) (F : FTy → Type) : Type 1 :=
  Prog (TpuEff nD τ sig (Elt F) Λ₀ (.scVector ((i 0).castLE hcore0) ((i 1).castLE hsub0))) α

/-- The tile's number. -/
abbrev wid (i : grid0.Coords) : ℕ := 2 * (i 1).val + (i 0).val

/-! ## The tile's printed loop bodies, at the tile's own memrefs -/

section Bodies
variable [FloatOps F] (i : grid0.Coords)

abbrev b1  : Fin k0_t1_loop.trips → Unit → Pt i Unit F :=
  k0_t1_body (F := F) i
    idsV (Memref.isWhole_whole _) ftV (Memref.isWhole_whole _) dnsV (Memref.isWhole_whole _) outV (Memref.isWhole_whole _) mskV (Memref.isWhole_whole _) lV (Memref.isWhole_whole _) idV (Memref.isWhole_whole _) gV (Memref.isWhole_whole _) tV (Memref.isWhole_whole _) mkV (Memref.isWhole_whole _) dnV (Memref.isWhole_whole _) cc0_scratch6 cc0_scratch7 cc0_scratch8 cc0_scratch9 cc0_scratch10 cc0_scratch11

abbrev b2 (v2 : BitVec 32) (v3 : IVec S16 32) : Fin k0_t2_loop.trips → Unit → Pt i Unit F :=
  k0_t2_body (F := F) i
    idsV (Memref.isWhole_whole _) ftV (Memref.isWhole_whole _) dnsV (Memref.isWhole_whole _) outV (Memref.isWhole_whole _) mskV (Memref.isWhole_whole _) lV (Memref.isWhole_whole _) idV (Memref.isWhole_whole _) gV (Memref.isWhole_whole _) tV (Memref.isWhole_whole _) mkV (Memref.isWhole_whole _) dnV (Memref.isWhole_whole _) cc0_scratch6 cc0_scratch7 cc0_scratch8 cc0_scratch9 cc0_scratch10 cc0_scratch11 v2 v3

abbrev b3 (v2 : BitVec 32) (v3 : IVec S16 32) (t2 : Fin k0_t2_loop.trips) (v158 : BitVec 32) (v170 : BitVec 32) : Fin k0_t3_loop.trips → Unit → Pt i Unit F :=
  k0_t3_body (F := F) i
    idsV (Memref.isWhole_whole _) ftV (Memref.isWhole_whole _) dnsV (Memref.isWhole_whole _) outV (Memref.isWhole_whole _) mskV (Memref.isWhole_whole _) lV (Memref.isWhole_whole _) idV (Memref.isWhole_whole _) gV (Memref.isWhole_whole _) tV (Memref.isWhole_whole _) mkV (Memref.isWhole_whole _) dnV (Memref.isWhole_whole _) cc0_scratch6 cc0_scratch7 cc0_scratch8 cc0_scratch9 cc0_scratch10 cc0_scratch11 v2 v3 t2 v158 v170

abbrev b4 (v2 : BitVec 32) (v3 : IVec S16 32) : Fin k0_t4_loop.trips → Unit → Pt i Unit F :=
  k0_t4_body (F := F) i
    idsV (Memref.isWhole_whole _) ftV (Memref.isWhole_whole _) dnsV (Memref.isWhole_whole _) outV (Memref.isWhole_whole _) mskV (Memref.isWhole_whole _) lV (Memref.isWhole_whole _) idV (Memref.isWhole_whole _) gV (Memref.isWhole_whole _) tV (Memref.isWhole_whole _) mkV (Memref.isWhole_whole _) dnV (Memref.isWhole_whole _) cc0_scratch6 cc0_scratch7 cc0_scratch8 cc0_scratch9 cc0_scratch10 cc0_scratch11 v2 v3

abbrev b5 (v2 : BitVec 32) (v3 : IVec S16 32) : Fin k0_t5_loop.trips → Unit → Pt i Unit F :=
  k0_t5_body (F := F) i
    idsV (Memref.isWhole_whole _) ftV (Memref.isWhole_whole _) dnsV (Memref.isWhole_whole _) outV (Memref.isWhole_whole _) mskV (Memref.isWhole_whole _) lV (Memref.isWhole_whole _) idV (Memref.isWhole_whole _) gV (Memref.isWhole_whole _) tV (Memref.isWhole_whole _) mkV (Memref.isWhole_whole _) dnV (Memref.isWhole_whole _) cc0_scratch6 cc0_scratch7 cc0_scratch8 cc0_scratch9 cc0_scratch10 cc0_scratch11 v2 v3

end Bodies

/-! ## A list of stores through a whole buffer, read at a place -/

section Whole
variable {κ : Kind} {Val : EltTy → Type}

/-- A place that no store of the list covers keeps its contents. -/
theorem whole_keep (b : Ref sig κ) (f : b.ty.Contents Val) (L : List (View.Piece Val b.ty.shape b.ty.elt)) (y : b.ty.shape.Idx)
    (h : ∀ p ∈ L, y ∉ p.1.set) : (Memref.whole b).view.writes Val f L y = f y :=
  View.read_writes_apply_of_forall_not_mem (View.whole b) f y L h

/-- A place that some store covers, all stores agreeing with one function, holds that function's value. -/
theorem whole_pieces (b : Ref sig κ) (f : b.ty.Contents Val) (G : b.ty.shape.Idx → Val b.ty.elt)
    (L : List (View.Piece Val b.ty.shape b.ty.elt)) (hG : ∀ p ∈ L, ∀ x : p.1.shape.Idx, p.2 x = G (p.1.emb x))
    (y : b.ty.shape.Idx) (h : ∃ p ∈ L, y ∈ p.1.set) : (Memref.whole b).view.writes Val f L y = G y :=
  View.read_writes_apply_of_pieces (View.whole b) f G L hG y h

theorem mem1 {n m : ℕ} {off : Fin 1 → ℕ} {inb} {x : (⟨1, ![n]⟩ : Shape).Idx} :
    x ∈ (Rect.unit (s := ⟨1, ![n]⟩) off ![m] inb).set ↔ off 0 ≤ (x 0).val ∧ (x 0).val < off 0 + m := by
  rw [Rect.mem_set_unit]
  exact Fin.forall_fin_one

theorem mem2 {n₀ n₁ m₀ m₁ : ℕ} {off : Fin 2 → ℕ} {inb} {x : (⟨2, ![n₀, n₁]⟩ : Shape).Idx} :
    x ∈ (Rect.unit (s := ⟨2, ![n₀, n₁]⟩) off ![m₀, m₁] inb).set
      ↔ (off 0 ≤ (x 0).val ∧ (x 0).val < off 0 + m₀) ∧ off 1 ≤ (x 1).val ∧ (x 1).val < off 1 + m₁ := by
  rw [Rect.mem_set_unit]
  exact Fin.forall_fin_two

theorem l_keep (f : S65536.Idx → BitVec 32) (L : List (View.Piece (Elt F) S65536 .i32)) (x : S65536.Idx)
    (h : ∀ p ∈ L, x ∉ p.1.set) : lV.view.writes (Elt F) f L x = f x := whole_keep cc0_scratch0 f L x h

theorem l_pieces (f : S65536.Idx → BitVec 32) (G : S65536.Idx → BitVec 32) (L : List (View.Piece (Elt F) S65536 .i32))
    (x : S65536.Idx) (hG : ∀ p ∈ L, ∀ y : p.1.shape.Idx, p.2 y = G (p.1.emb y)) (h : ∃ p ∈ L, x ∈ p.1.set) :
    lV.view.writes (Elt F) f L x = G x := whole_pieces cc0_scratch0 f G L hG x h

end Whole

end Cert.Proof.K

end

end
-- ==== Proof.Bodies.lean ====
/-
  The printed bodies of the inner loops of a chunk's preparation and of its transposition, at the tile's own memrefs.
-/
module
public import proofs.«01_k».proof.Proof.Base
@[expose] public section
noncomputable section
namespace Cert.Proof.K
open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
variable {F : FTy → Type} [FloatOps F]
local notation "𝕄" => MM F
variable (d : Dev nD) (i : grid0.Coords)

abbrev b6 (v2 : BitVec 32) (v3 : IVec S16 32) (t5 : Fin k0_t5_loop.trips) (v159 : BitVec 32) (h3 : k0_cond3 t5 = 1#1) (v511 : BitVec 32) :
    Fin k0_t6_loop.trips → Unit → Pt i Unit F :=
  k0_t6_body (F := F) i
    idsV (Memref.isWhole_whole _) ftV (Memref.isWhole_whole _) dnsV (Memref.isWhole_whole _) outV (Memref.isWhole_whole _) mskV (Memref.isWhole_whole _) lV (Memref.isWhole_whole _) idV (Memref.isWhole_whole _) gV (Memref.isWhole_whole _) tV (Memref.isWhole_whole _) mkV (Memref.isWhole_whole _) dnV (Memref.isWhole_whole _) cc0_scratch6 cc0_scratch7 cc0_scratch8 cc0_scratch9 cc0_scratch10 cc0_scratch11 v2 v3 t5 v159 h3 v511

abbrev b8 (v2 : BitVec 32) (v3 : IVec S16 32) (t5 : Fin k0_t5_loop.trips) (v335 : BitVec 32) (h5 : k0_cond5 t5 = 1#1) (v511 : BitVec 32) :
    Fin k0_t8_loop.trips → Unit → Pt i Unit F :=
  k0_t8_body (F := F) i
    idsV (Memref.isWhole_whole _) ftV (Memref.isWhole_whole _) dnsV (Memref.isWhole_whole _) outV (Memref.isWhole_whole _) mskV (Memref.isWhole_whole _) lV (Memref.isWhole_whole _) idV (Memref.isWhole_whole _) gV (Memref.isWhole_whole _) tV (Memref.isWhole_whole _) mkV (Memref.isWhole_whole _) dnV (Memref.isWhole_whole _) cc0_scratch6 cc0_scratch7 cc0_scratch8 cc0_scratch9 cc0_scratch10 cc0_scratch11 v2 v3 t5 v335 h5 v511

abbrev b7 (v2 : BitVec 32) (v3 : IVec S16 32) (t5 : Fin k0_t5_loop.trips) (v159 : BitVec 32) : Fin k0_t7_loop.trips → Unit → Pt i Unit F :=
  k0_t7_body (F := F) i
    idsV (Memref.isWhole_whole _) ftV (Memref.isWhole_whole _) dnsV (Memref.isWhole_whole _) outV (Memref.isWhole_whole _) mskV (Memref.isWhole_whole _) lV (Memref.isWhole_whole _) idV (Memref.isWhole_whole _) gV (Memref.isWhole_whole _) tV (Memref.isWhole_whole _) mkV (Memref.isWhole_whole _) dnV (Memref.isWhole_whole _) cc0_scratch6 cc0_scratch7 cc0_scratch8 cc0_scratch9 cc0_scratch10 cc0_scratch11 v2 v3 t5 v159

abbrev b9 (v2 : BitVec 32) (v3 : IVec S16 32) (t5 : Fin k0_t5_loop.trips) (v335 : BitVec 32) : Fin k0_t9_loop.trips → Unit → Pt i Unit F :=
  k0_t9_body (F := F) i
    idsV (Memref.isWhole_whole _) ftV (Memref.isWhole_whole _) dnsV (Memref.isWhole_whole _) outV (Memref.isWhole_whole _) mskV (Memref.isWhole_whole _) lV (Memref.isWhole_whole _) idV (Memref.isWhole_whole _) gV (Memref.isWhole_whole _) tV (Memref.isWhole_whole _) mkV (Memref.isWhole_whole _) dnV (Memref.isWhole_whole _) cc0_scratch6 cc0_scratch7 cc0_scratch8 cc0_scratch9 cc0_scratch10 cc0_scratch11 v2 v3 t5 v335

end Cert.Proof.K
end
end
-- ==== Proof.Parts.lean ====
/-
  Short names for the pieces the tile's program is printed in, at the kernel's own buffers.
-/
module
public import proofs.«01_k».proof.Proof.Bodies
@[expose] public section
noncomputable section
namespace Cert.Proof.K
open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
variable {F : FTy → Type} [FloatOps F]
local notation "𝕄" => MM F
variable (d : Dev nD) (i : grid0.Coords)

variable (i : grid0.Coords)

abbrev p13 := k0_part13 (F := F) i
    idsV (Memref.isWhole_whole _) ftV (Memref.isWhole_whole _) dnsV (Memref.isWhole_whole _) outV (Memref.isWhole_whole _) mskV (Memref.isWhole_whole _) lV (Memref.isWhole_whole _) idV (Memref.isWhole_whole _) gV (Memref.isWhole_whole _) tV (Memref.isWhole_whole _) mkV (Memref.isWhole_whole _) dnV (Memref.isWhole_whole _) cc0_scratch6 cc0_scratch7 cc0_scratch8 cc0_scratch9 cc0_scratch10 cc0_scratch11
abbrev p14 := k0_part14 (F := F) i
    idsV (Memref.isWhole_whole _) ftV (Memref.isWhole_whole _) dnsV (Memref.isWhole_whole _) outV (Memref.isWhole_whole _) mskV (Memref.isWhole_whole _) lV (Memref.isWhole_whole _) idV (Memref.isWhole_whole _) gV (Memref.isWhole_whole _) tV (Memref.isWhole_whole _) mkV (Memref.isWhole_whole _) dnV (Memref.isWhole_whole _) cc0_scratch6 cc0_scratch7 cc0_scratch8 cc0_scratch9 cc0_scratch10 cc0_scratch11
abbrev p15 := k0_part15 (F := F) i
    idsV (Memref.isWhole_whole _) ftV (Memref.isWhole_whole _) dnsV (Memref.isWhole_whole _) outV (Memref.isWhole_whole _) mskV (Memref.isWhole_whole _) lV (Memref.isWhole_whole _) idV (Memref.isWhole_whole _) gV (Memref.isWhole_whole _) tV (Memref.isWhole_whole _) mkV (Memref.isWhole_whole _) dnV (Memref.isWhole_whole _) cc0_scratch6 cc0_scratch7 cc0_scratch8 cc0_scratch9 cc0_scratch10 cc0_scratch11
abbrev p22 := k0_part22 (F := F) i
    idsV (Memref.isWhole_whole _) ftV (Memref.isWhole_whole _) dnsV (Memref.isWhole_whole _) outV (Memref.isWhole_whole _) mskV (Memref.isWhole_whole _) lV (Memref.isWhole_whole _) idV (Memref.isWhole_whole _) gV (Memref.isWhole_whole _) tV (Memref.isWhole_whole _) mkV (Memref.isWhole_whole _) dnV (Memref.isWhole_whole _) cc0_scratch6 cc0_scratch7 cc0_scratch8 cc0_scratch9 cc0_scratch10 cc0_scratch11
abbrev p23 := k0_part23 (F := F) i
    idsV (Memref.isWhole_whole _) ftV (Memref.isWhole_whole _) dnsV (Memref.isWhole_whole _) outV (Memref.isWhole_whole _) mskV (Memref.isWhole_whole _) lV (Memref.isWhole_whole _) idV (Memref.isWhole_whole _) gV (Memref.isWhole_whole _) tV (Memref.isWhole_whole _) mkV (Memref.isWhole_whole _) dnV (Memref.isWhole_whole _) cc0_scratch6 cc0_scratch7 cc0_scratch8 cc0_scratch9 cc0_scratch10 cc0_scratch11
abbrev p27 := k0_part27 (F := F) i
    idsV (Memref.isWhole_whole _) ftV (Memref.isWhole_whole _) dnsV (Memref.isWhole_whole _) outV (Memref.isWhole_whole _) mskV (Memref.isWhole_whole _) lV (Memref.isWhole_whole _) idV (Memref.isWhole_whole _) gV (Memref.isWhole_whole _) tV (Memref.isWhole_whole _) mkV (Memref.isWhole_whole _) dnV (Memref.isWhole_whole _) cc0_scratch6 cc0_scratch7 cc0_scratch8 cc0_scratch9 cc0_scratch10 cc0_scratch11
abbrev p28 := k0_part28 (F := F) i
    idsV (Memref.isWhole_whole _) ftV (Memref.isWhole_whole _) dnsV (Memref.isWhole_whole _) outV (Memref.isWhole_whole _) mskV (Memref.isWhole_whole _) lV (Memref.isWhole_whole _) idV (Memref.isWhole_whole _) gV (Memref.isWhole_whole _) tV (Memref.isWhole_whole _) mkV (Memref.isWhole_whole _) dnV (Memref.isWhole_whole _) cc0_scratch6 cc0_scratch7 cc0_scratch8 cc0_scratch9 cc0_scratch10 cc0_scratch11
abbrev p29 := k0_part29 (F := F) i
    idsV (Memref.isWhole_whole _) ftV (Memref.isWhole_whole _) dnsV (Memref.isWhole_whole _) outV (Memref.isWhole_whole _) mskV (Memref.isWhole_whole _) lV (Memref.isWhole_whole _) idV (Memref.isWhole_whole _) gV (Memref.isWhole_whole _) tV (Memref.isWhole_whole _) mkV (Memref.isWhole_whole _) dnV (Memref.isWhole_whole _) cc0_scratch6 cc0_scratch7 cc0_scratch8 cc0_scratch9 cc0_scratch10 cc0_scratch11
abbrev p36 := k0_part36 (F := F) i
    idsV (Memref.isWhole_whole _) ftV (Memref.isWhole_whole _) dnsV (Memref.isWhole_whole _) outV (Memref.isWhole_whole _) mskV (Memref.isWhole_whole _) lV (Memref.isWhole_whole _) idV (Memref.isWhole_whole _) gV (Memref.isWhole_whole _) tV (Memref.isWhole_whole _) mkV (Memref.isWhole_whole _) dnV (Memref.isWhole_whole _) cc0_scratch6 cc0_scratch7 cc0_scratch8 cc0_scratch9 cc0_scratch10 cc0_scratch11
abbrev p37 := k0_part37 (F := F) i
    idsV (Memref.isWhole_whole _) ftV (Memref.isWhole_whole _) dnsV (Memref.isWhole_whole _) outV (Memref.isWhole_whole _) mskV (Memref.isWhole_whole _) lV (Memref.isWhole_whole _) idV (Memref.isWhole_whole _) gV (Memref.isWhole_whole _) tV (Memref.isWhole_whole _) mkV (Memref.isWhole_whole _) dnV (Memref.isWhole_whole _) cc0_scratch6 cc0_scratch7 cc0_scratch8 cc0_scratch9 cc0_scratch10 cc0_scratch11
abbrev p41 := k0_part41 (F := F) i
    idsV (Memref.isWhole_whole _) ftV (Memref.isWhole_whole _) dnsV (Memref.isWhole_whole _) outV (Memref.isWhole_whole _) mskV (Memref.isWhole_whole _) lV (Memref.isWhole_whole _) idV (Memref.isWhole_whole _) gV (Memref.isWhole_whole _) tV (Memref.isWhole_whole _) mkV (Memref.isWhole_whole _) dnV (Memref.isWhole_whole _) cc0_scratch6 cc0_scratch7 cc0_scratch8 cc0_scratch9 cc0_scratch10 cc0_scratch11
abbrev p42 := k0_part42 (F := F) i
    idsV (Memref.isWhole_whole _) ftV (Memref.isWhole_whole _) dnsV (Memref.isWhole_whole _) outV (Memref.isWhole_whole _) mskV (Memref.isWhole_whole _) lV (Memref.isWhole_whole _) idV (Memref.isWhole_whole _) gV (Memref.isWhole_whole _) tV (Memref.isWhole_whole _) mkV (Memref.isWhole_whole _) dnV (Memref.isWhole_whole _) cc0_scratch6 cc0_scratch7 cc0_scratch8 cc0_scratch9 cc0_scratch10 cc0_scratch11
abbrev p43 := k0_part43 (F := F) i
    idsV (Memref.isWhole_whole _) ftV (Memref.isWhole_whole _) dnsV (Memref.isWhole_whole _) outV (Memref.isWhole_whole _) mskV (Memref.isWhole_whole _) lV (Memref.isWhole_whole _) idV (Memref.isWhole_whole _) gV (Memref.isWhole_whole _) tV (Memref.isWhole_whole _) mkV (Memref.isWhole_whole _) dnV (Memref.isWhole_whole _) cc0_scratch6 cc0_scratch7 cc0_scratch8 cc0_scratch9 cc0_scratch10 cc0_scratch11
abbrev p44 := k0_part44 (F := F) i
    idsV (Memref.isWhole_whole _) ftV (Memref.isWhole_whole _) dnsV (Memref.isWhole_whole _) outV (Memref.isWhole_whole _) mskV (Memref.isWhole_whole _) lV (Memref.isWhole_whole _) idV (Memref.isWhole_whole _) gV (Memref.isWhole_whole _) tV (Memref.isWhole_whole _) mkV (Memref.isWhole_whole _) dnV (Memref.isWhole_whole _) cc0_scratch6 cc0_scratch7 cc0_scratch8 cc0_scratch9 cc0_scratch10 cc0_scratch11
abbrev p45 := k0_part45 (F := F) i
    idsV (Memref.isWhole_whole _) ftV (Memref.isWhole_whole _) dnsV (Memref.isWhole_whole _) outV (Memref.isWhole_whole _) mskV (Memref.isWhole_whole _) lV (Memref.isWhole_whole _) idV (Memref.isWhole_whole _) gV (Memref.isWhole_whole _) tV (Memref.isWhole_whole _) mkV (Memref.isWhole_whole _) dnV (Memref.isWhole_whole _) cc0_scratch6 cc0_scratch7 cc0_scratch8 cc0_scratch9 cc0_scratch10 cc0_scratch11
abbrev p46 := k0_part46 (F := F) i
    idsV (Memref.isWhole_whole _) ftV (Memref.isWhole_whole _) dnsV (Memref.isWhole_whole _) outV (Memref.isWhole_whole _) mskV (Memref.isWhole_whole _) lV (Memref.isWhole_whole _) idV (Memref.isWhole_whole _) gV (Memref.isWhole_whole _) tV (Memref.isWhole_whole _) mkV (Memref.isWhole_whole _) dnV (Memref.isWhole_whole _) cc0_scratch6 cc0_scratch7 cc0_scratch8 cc0_scratch9 cc0_scratch10 cc0_scratch11
abbrev p47 := k0_part47 (F := F) i
    idsV (Memref.isWhole_whole _) ftV (Memref.isWhole_whole _) dnsV (Memref.isWhole_whole _) outV (Memref.isWhole_whole _) mskV (Memref.isWhole_whole _) lV (Memref.isWhole_whole _) idV (Memref.isWhole_whole _) gV (Memref.isWhole_whole _) tV (Memref.isWhole_whole _) mkV (Memref.isWhole_whole _) dnV (Memref.isWhole_whole _) cc0_scratch6 cc0_scratch7 cc0_scratch8 cc0_scratch9 cc0_scratch10 cc0_scratch11
abbrev p48 := k0_part48 (F := F) i
    idsV (Memref.isWhole_whole _) ftV (Memref.isWhole_whole _) dnsV (Memref.isWhole_whole _) outV (Memref.isWhole_whole _) mskV (Memref.isWhole_whole _) lV (Memref.isWhole_whole _) idV (Memref.isWhole_whole _) gV (Memref.isWhole_whole _) tV (Memref.isWhole_whole _) mkV (Memref.isWhole_whole _) dnV (Memref.isWhole_whole _) cc0_scratch6 cc0_scratch7 cc0_scratch8 cc0_scratch9 cc0_scratch10 cc0_scratch11
abbrev p49 := k0_part49 (F := F) i
    idsV (Memref.isWhole_whole _) ftV (Memref.isWhole_whole _) dnsV (Memref.isWhole_whole _) outV (Memref.isWhole_whole _) mskV (Memref.isWhole_whole _) lV (Memref.isWhole_whole _) idV (Memref.isWhole_whole _) gV (Memref.isWhole_whole _) tV (Memref.isWhole_whole _) mkV (Memref.isWhole_whole _) dnV (Memref.isWhole_whole _) cc0_scratch6 cc0_scratch7 cc0_scratch8 cc0_scratch9 cc0_scratch10 cc0_scratch11
abbrev p50 := k0_part50 (F := F) i
    idsV (Memref.isWhole_whole _) ftV (Memref.isWhole_whole _) dnsV (Memref.isWhole_whole _) outV (Memref.isWhole_whole _) mskV (Memref.isWhole_whole _) lV (Memref.isWhole_whole _) idV (Memref.isWhole_whole _) gV (Memref.isWhole_whole _) tV (Memref.isWhole_whole _) mkV (Memref.isWhole_whole _) dnV (Memref.isWhole_whole _) cc0_scratch6 cc0_scratch7 cc0_scratch8 cc0_scratch9 cc0_scratch10 cc0_scratch11
abbrev p51 := k0_part51 (F := F) i
    idsV (Memref.isWhole_whole _) ftV (Memref.isWhole_whole _) dnsV (Memref.isWhole_whole _) outV (Memref.isWhole_whole _) mskV (Memref.isWhole_whole _) lV (Memref.isWhole_whole _) idV (Memref.isWhole_whole _) gV (Memref.isWhole_whole _) tV (Memref.isWhole_whole _) mkV (Memref.isWhole_whole _) dnV (Memref.isWhole_whole _) cc0_scratch6 cc0_scratch7 cc0_scratch8 cc0_scratch9 cc0_scratch10 cc0_scratch11
abbrev p52 := k0_part52 (F := F) i
    idsV (Memref.isWhole_whole _) ftV (Memref.isWhole_whole _) dnsV (Memref.isWhole_whole _) outV (Memref.isWhole_whole _) mskV (Memref.isWhole_whole _) lV (Memref.isWhole_whole _) idV (Memref.isWhole_whole _) gV (Memref.isWhole_whole _) tV (Memref.isWhole_whole _) mkV (Memref.isWhole_whole _) dnV (Memref.isWhole_whole _) cc0_scratch6 cc0_scratch7 cc0_scratch8 cc0_scratch9 cc0_scratch10 cc0_scratch11
abbrev p53 := k0_part53 (F := F) i
    idsV (Memref.isWhole_whole _) ftV (Memref.isWhole_whole _) dnsV (Memref.isWhole_whole _) outV (Memref.isWhole_whole _) mskV (Memref.isWhole_whole _) lV (Memref.isWhole_whole _) idV (Memref.isWhole_whole _) gV (Memref.isWhole_whole _) tV (Memref.isWhole_whole _) mkV (Memref.isWhole_whole _) dnV (Memref.isWhole_whole _) cc0_scratch6 cc0_scratch7 cc0_scratch8 cc0_scratch9 cc0_scratch10 cc0_scratch11
abbrev p54 := k0_part54 (F := F) i
    idsV (Memref.isWhole_whole _) ftV (Memref.isWhole_whole _) dnsV (Memref.isWhole_whole _) outV (Memref.isWhole_whole _) mskV (Memref.isWhole_whole _) lV (Memref.isWhole_whole _) idV (Memref.isWhole_whole _) gV (Memref.isWhole_whole _) tV (Memref.isWhole_whole _) mkV (Memref.isWhole_whole _) dnV (Memref.isWhole_whole _) cc0_scratch6 cc0_scratch7 cc0_scratch8 cc0_scratch9 cc0_scratch10 cc0_scratch11
abbrev p55 := k0_part55 (F := F) i
    idsV (Memref.isWhole_whole _) ftV (Memref.isWhole_whole _) dnsV (Memref.isWhole_whole _) outV (Memref.isWhole_whole _) mskV (Memref.isWhole_whole _) lV (Memref.isWhole_whole _) idV (Memref.isWhole_whole _) gV (Memref.isWhole_whole _) tV (Memref.isWhole_whole _) mkV (Memref.isWhole_whole _) dnV (Memref.isWhole_whole _) cc0_scratch6 cc0_scratch7 cc0_scratch8 cc0_scratch9 cc0_scratch10 cc0_scratch11
abbrev p56 := k0_part56 (F := F) i
    idsV (Memref.isWhole_whole _) ftV (Memref.isWhole_whole _) dnsV (Memref.isWhole_whole _) outV (Memref.isWhole_whole _) mskV (Memref.isWhole_whole _) lV (Memref.isWhole_whole _) idV (Memref.isWhole_whole _) gV (Memref.isWhole_whole _) tV (Memref.isWhole_whole _) mkV (Memref.isWhole_whole _) dnV (Memref.isWhole_whole _) cc0_scratch6 cc0_scratch7 cc0_scratch8 cc0_scratch9 cc0_scratch10 cc0_scratch11
abbrev b5' := k0_t5_body (F := F) i
    idsV (Memref.isWhole_whole _) ftV (Memref.isWhole_whole _) dnsV (Memref.isWhole_whole _) outV (Memref.isWhole_whole _) mskV (Memref.isWhole_whole _) lV (Memref.isWhole_whole _) idV (Memref.isWhole_whole _) gV (Memref.isWhole_whole _) tV (Memref.isWhole_whole _) mkV (Memref.isWhole_whole _) dnV (Memref.isWhole_whole _) cc0_scratch6 cc0_scratch7 cc0_scratch8 cc0_scratch9 cc0_scratch10 cc0_scratch11

end Cert.Proof.K
end
end
-- ==== Proof.Peek.lean ====
/-
  A whole-buffer read of the gathered rows while the other half of the buffer is being written: the half that is read is
  owned, the other half is looked at for the one step and given back.
-/
module
public import proofs.«01_k».proof.Proof.Bodies
@[expose] public section
noncomputable section
namespace Cert.Proof.K
open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
variable {F : FTy → Type} [FloatOps F]
local notation "𝕄" => MM F
variable (d : Dev nD) (i : grid0.Coords)

/-- `R` can show the elements `H` of the buffer of gathered rows for the length of one step. -/
def Peekable (H : Finset S2048x16.Idx) (R : sProp 𝕄) : Prop :=
  ∃ E' : Set ℕ, R ⊢ |={Set.univ, E'}=> (∃ cur : S2048x16.Idx → F .f32, (gV.view.loc (thr d i) ↦[H]{fullShare} cur)
    ∗ ((gV.view.loc (thr d i) ↦[H]{fullShare} cur) -∗ |={E', Set.univ}=> R))

/-- A gather out of the whole buffer whose lanes all name elements of the owned part. -/
theorem wp_peek {α : Type} {H H' : Finset S2048x16.Idx} (hd : Disjoint H H') (hu : H ∪ H' = Finset.univ) {R : sProp 𝕄} (hR : Peekable d i H' R)
    {f : S2048x16.Idx → F .f32} {idxs : Fin S2048x16.rank → IVec S16 32} {h : ∀ a x, (idxs a x).toNat < S2048x16.size a} {hl : gV.view.Loads}
    {kk : Vec F S16 .f32 → Pt i α F} {Q : α → sProp 𝕄} (hin : ∀ x : S16.Idx, idxAt idxs h x ∈ H) :
    iprop((gV.view.loc (thr d i) ↦[H]{fullShare} f) ∗ R : sProp 𝕄)
      ⊢ iprop(((gV.view.loc (thr d i) ↦[H]{fullShare} f) ∗ R -∗ wp frame (wpE (defs₀ (F := F)) 𝒱₀ (thr d i) none) Set.univ (kk (loadIdx (F := F) (e := .f32) f idxs h)) Q)
        -∗ wp frame (wpE (defs₀ (F := F)) 𝒱₀ (thr d i) none) Set.univ (SparseCore.vectorLoadIdx gV idxs h hl >>= kk) Q) := by
  obtain ⟨E', hE⟩ := hR
  rw [SparseCore.vectorLoadIdx_bind (F := F) (c := thr d i)]
  iintro ⟨H, HR⟩ HK
  imod hE $$ HR with ⟨%cur, HC, Hback⟩
  imodintro
  ihave HJ := (pointsTo_join (ℓ := gV.view.loc (thr d i)) (I := H) (J := H') (q := fullShare) (f := f) (g := cur) hd) $$ [H HC]
  · isplitl [H]; · iexact H
    iexact HC
  iapply (fp_load (thr d i) (m := gV) (S := H ∪ H') ?_) $$ HJ
  rotate_left
  iintro HJ
  icases (pointsTo_union (ℓ := gV.view.loc (thr d i)) (I := H) (J := H') hd).mp $$ HJ with ⟨H, HC⟩
  rotate_left
  · rw [hu]; exact Finset.subset_univ _
  ihave HC := (Entails.of_eq (pointsTo_congr (g := cur) (fun j hj => Finset.piecewise_eq_of_mem _ _ _ hj))) $$ HC
  ispecialize Hback $$ HC
  imod Hback with HR
  imodintro
  have e : loadIdx (F := F) (e := .f32) (gV.view.readAt (Elt F) (LoadRect.whole S2048x16) (H'.piecewise cur f)) idxs h = loadIdx (F := F) (e := .f32) f idxs h := by
    funext x
    show gV.view.readAt (Elt F) (LoadRect.whole S2048x16) (H'.piecewise cur f) (idxAt idxs h x) = f (idxAt idxs h x)
    have e2 : gV.view.readAt (Elt F) (LoadRect.whole S2048x16) (H'.piecewise cur f) (idxAt idxs h x) = (H'.piecewise cur f) (idxAt idxs h x) := by
      show (H'.piecewise cur f) _ = _
      congr 1
      funext a
      exact Fin.ext (by show 0 + 1 * _ = _; omega)
    rw [e2]
    exact Finset.piecewise_eq_of_notMem _ _ _ (Finset.disjoint_left.mp hd (hin x))
  rw [e]
  ihave H := (Entails.of_eq (pointsTo_congr (g := f) (fun j hj => Finset.piecewise_eq_of_notMem _ _ _ (Finset.disjoint_left.mp hd hj)))) $$ H
  iapply HK
  isplitl [H]; · iexact H
  iexact HR

end Cert.Proof.K
end
end
-- ==== Proof.XposeVal.lean ====
/-
  What the transposition of a chunk leaves: channel `c` of place `p` is the gathered word times the mask, and on channel 0
  the dense word times one minus the mask on top.
-/
module
public import proofs.«01_k».proof.Proof.Peek
@[expose] public section
noncomputable section
namespace Cert.Proof.K
open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
variable {F : FTy → Type} [FloatOps F]
local notation "𝕄" => MM F
variable (d : Dev nD) (i : grid0.Coords)

/-- One word of the transposed chunk. -/
def xpW (F : FTy → Type) [FloatOps F] (m dn v : F .f32) (ch : ℕ) : F .f32 :=
  if ch = 0 then FloatOps.addf (FloatOps.mulf v m) (FloatOps.mulf dn (FloatOps.subf (Scalar.ofBits .f32 0x3F800000#32) m)) else FloatOps.mulf v m

/-- The place of the gathered rows that channel `ch` of place `p` of half `b` reads. -/
def gAt (b p ch : ℕ) (hb : b < 2) (hp : p < 1024) (hc : ch < 16) : S2048x16.Idx :=
  fun a => match a with
    | 0 => ⟨1024 * b + p, show _ < 2048 by omega⟩
    | 1 => ⟨ch, hc⟩

/-- Row `b` of a buffer of two rows, at place `p`. -/
def rAt (b p : ℕ) (hb : b < 2) (hp : p < 1024) : S2x1024.Idx :=
  fun a => match a with
    | 0 => ⟨b, hb⟩
    | 1 => ⟨p, hp⟩

theorem gAt_congr {b p p' ch ch' : ℕ} {hb : b < 2} {hp hp' hc hc'} (h : p = p') (h' : ch = ch') : gAt b p ch hb hp hc = gAt b p' ch' hb hp' hc' := by
  subst h h'; rfl

theorem rAt_congr {b p p' : ℕ} {hb : b < 2} {hp hp'} (h : p = p') : rAt b p hb hp = rAt b p' hb hp' := by
  subst h; rfl

/-- The whole transposed chunk. -/
def xpV (b : ℕ) (hb : b < 2) (m dn : S2x1024.Idx → F .f32) (g : S2048x16.Idx → F .f32) (y : S16x1024.Idx) : F .f32 :=
  xpW F (m (rAt b (y 1).val hb (y 1).isLt)) (dn (rAt b (y 1).val hb (y 1).isLt)) (g (gAt b (y 1).val (y 0).val hb (y 1).isLt (y 0).isLt)) (y 0).val

/-- The transposed chunk with `n` places done. -/
def xpL (b : ℕ) (hb : b < 2) (m dn : S2x1024.Idx → F .f32) (g : S2048x16.Idx → F .f32) (t : S16x1024.Idx → F .f32) (n : ℕ) : S16x1024.Idx → F .f32 :=
  fun y => if (y 1).val < n then xpV b hb m dn g y else t y

theorem t_keep (f : S16x1024.Idx → F .f32) (L : List (View.Piece (Elt F) S16x1024 .f32)) (x : S16x1024.Idx)
    (h : ∀ p ∈ L, x ∉ p.1.set) : tV.view.writes (Elt F) f L x = f x := whole_keep cc0_scratch3 f L x h

theorem t_pieces (f G : S16x1024.Idx → F .f32) (L : List (View.Piece (Elt F) S16x1024 .f32))
    (x : S16x1024.Idx) (hG : ∀ p ∈ L, ∀ y : p.1.shape.Idx, p.2 y = G (p.1.emb y)) (h : ∃ p ∈ L, x ∈ p.1.set) :
    tV.view.writes (Elt F) f L x = G x := whole_pieces cc0_scratch3 f G L hG x h

/-- Sixteen stores that cover the next 16 places of every channel. -/
theorem xpL_step (b : ℕ) (hb : b < 2) (m dn : S2x1024.Idx → F .f32) (g : S2048x16.Idx → F .f32) (t : S16x1024.Idx → F .f32) (n : ℕ)
    (L : List (View.Piece (Elt F) S16x1024 .f32)) (hL : ∀ p ∈ L, ∀ y : p.1.shape.Idx, p.2 y = xpV b hb m dn g (p.1.emb y))
    (hm : ∀ x : S16x1024.Idx, (∃ p ∈ L, x ∈ p.1.set) ∨ ((x 1).val < n ∨ n + 16 ≤ (x 1).val) ∧ ∀ p ∈ L, x ∉ p.1.set)
    (hm' : ∀ x : S16x1024.Idx, (∃ p ∈ L, x ∈ p.1.set) → n ≤ (x 1).val ∧ (x 1).val < n + 16) :
    tV.view.writes (Elt F) (xpL b hb m dn g t n) L = xpL b hb m dn g t (n + 16) := by
  funext x
  rcases hm x with h | ⟨h, hno⟩
  · have := hm' x h
    refine (t_pieces _ (xpV b hb m dn g) L x hL h).trans ?_
    unfold xpL
    rw [if_pos (by omega)]
  · refine (t_keep _ L x hno).trans ?_
    unfold xpL
    by_cases h1 : (x 1).val < n
    · rw [if_pos h1, if_pos (by omega)]
    · rw [if_neg h1, if_neg (by omega)]

/-- The lanes' rows and the channel are inside the buffer, and in the half. -/
theorem row_ok {b n ch : ℕ} (hb : b < 2) (hn : n + 16 ≤ 1024) (hc : ch < 16) {rw cv : IVec S16 32}
    (hr : ∀ x : S16.Idx, rw x = BitVec.ofNat 32 (1024 * b + n + (x 0).val)) (hcv : ∀ x : S16.Idx, cv x = BitVec.ofNat 32 ch) :
    ∀ (a : Fin 2) (x : S16.Idx), ((![rw, cv] : Fin 2 → IVec S16 32) a x).toNat < S2048x16.size a := by
  intro a x
  have hx : (x 0).val < 16 := (x 0).isLt
  match a with
  | 0 =>
    show (rw x).toNat < 2048
    rw [hr, BitVec.toNat_ofNat]; omega
  | 1 =>
    show (cv x).toNat < 16
    rw [hcv, BitVec.toNat_ofNat]; omega

theorem idx_eq {b n ch : ℕ} (hb : b < 2) (hn : n + 16 ≤ 1024) (hc : ch < 16) {rw cv : IVec S16 32}
    (hr : ∀ x : S16.Idx, rw x = BitVec.ofNat 32 (1024 * b + n + (x 0).val)) (hcv : ∀ x : S16.Idx, cv x = BitVec.ofNat 32 ch)
    (h : ∀ (a : Fin S2048x16.rank) (x : S16.Idx), ((![rw, cv] : Fin 2 → IVec S16 32) a x).toNat < S2048x16.size a) (x : S16.Idx) :
    idxAt (s := S2048x16) ![rw, cv] h x = gAt b (n + (x 0).val) ch hb (by have : (x 0).val < 16 := (x 0).isLt; omega) hc := by
  have hx : (x 0).val < 16 := (x 0).isLt
  funext a
  match a with
  | 0 =>
    apply Fin.ext
    show (rw x).toNat = 1024 * b + (n + (x 0).val)
    rw [hr, BitVec.toNat_ofNat]; omega
  | 1 =>
    apply Fin.ext
    show (cv x).toNat = ch
    rw [hcv, BitVec.toNat_ofNat]; omega

/-- Half `b` of the buffer of gathered rows, and row `b` of a buffer of two rows. -/
def half (b : ℕ) : Finset S2048x16.Idx := Finset.univ.filter fun x => (x 0).val / 1024 = b
def row2 (b : ℕ) : Finset S2x1024.Idx := Finset.univ.filter fun x => (x 0).val = b
theorem mem_half {b : ℕ} {x : S2048x16.Idx} : x ∈ half b ↔ (x 0).val / 1024 = b := by simp [half]
theorem mem_row2 {b : ℕ} {x : S2x1024.Idx} : x ∈ row2 b ↔ (x 0).val = b := by simp [row2]
theorem half_disj : Disjoint (half 0) (half 1) := by
  rw [Finset.disjoint_left]; intro x h h'; rw [mem_half] at h h'; omega
theorem half_union : half 0 ∪ half 1 = Finset.univ := by
  ext x
  have : (x 0).val < 2048 := (x 0).isLt
  simp only [Finset.mem_union, mem_half, Finset.mem_univ, iff_true]
  omega

section Pay
variable {b n : ℕ} {hb : b < 2} (hn : n + 16 ≤ 1024) {m dn : S2x1024.Idx → F .f32} {g : S2048x16.Idx → F .f32}
  {off : Fin 2 → ℕ} {inb : ∀ a : Fin 2, off a + (![1, 16] : Fin 2 → ℕ) a ≤ (![2, 1024] : Fin 2 → ℕ) a} (ho : off = ![b, n])

abbrev ldM (f : S2x1024.Idx → F .f32) (off : Fin 2 → ℕ) (inb : ∀ a : Fin 2, off a + (![1, 16] : Fin 2 → ℕ) a ≤ (![2, 1024] : Fin 2 → ℕ) a) : (⟨2, ![1, 16]⟩ : Shape).Idx → F .f32 :=
  fun y => f ((Rect.unit (s := S2x1024) off ![1, 16] inb).emb y)

include ho in
theorem ldM_at (f : S2x1024.Idx → F .f32) {h} (x : S16.Idx) :
    shapeCast (s := S1x16) S16 (ldM f off inb) h x = f (rAt b (n + (x 0).val) hb (by have : (x 0).val < 16 := (x 0).isLt; omega)) := by
  refine (shapeCast_dropUnit_apply (n := 1) ![16] _ h x).trans ?_
  subst ho
  show f _ = f _
  congr 1
  funext a
  match a with
  | 0 => exact Fin.ext (show b + 1 * 0 = b by omega)
  | 1 => exact Fin.ext (show n + 1 * (x 0).val = n + (x 0).val by omega)

variable {ch : ℕ} (hc : ch < 16) {off' : Fin 2 → ℕ} {inb' : ∀ a : Fin 2, off' a + (![1, 16] : Fin 2 → ℕ) a ≤ (![16, 1024] : Fin 2 → ℕ) a} (ho' : off' = ![ch, n])
  {rw cv : IVec S16 32} (hr : ∀ x : S16.Idx, rw x = BitVec.ofNat 32 (1024 * b + n + (x 0).val)) (hcv : ∀ x : S16.Idx, cv x = BitVec.ofNat 32 ch)
  (h : ∀ (a : Fin S2048x16.rank) (x : S16.Idx), ((![rw, cv] : Fin 2 → IVec S16 32) a x).toNat < S2048x16.size a)

include hn hc hr hcv ho ho' in
/-- The store of a channel: the gathered words times the mask. -/
theorem pay_ch (h0 : ch ≠ 0) {h1 h2} (y : (⟨2, ![1, 16]⟩ : Shape).Idx) :
    shapeCast (s := S16) S1x16 (mulf (loadIdx (F := F) (e := .f32) g ![rw, cv] h) (shapeCast (s := S1x16) S16 (ldM m off inb) h1)) h2 y
      = xpV b hb m dn g ((Rect.unit (s := S16x1024) off' ![1, 16] inb').emb y) := by
  refine (shapeCast_addUnit_apply (n := 1) ![16] _ h2 y).trans ?_
  suffices key : ∀ z : S16.Idx, (z 0).val = (y 1).val →
      FloatOps.mulf (g (idxAt (s := S2048x16) ![rw, cv] h z)) (shapeCast (s := S1x16) S16 (ldM m off inb) h1 z)
        = xpV b hb m dn g ((Rect.unit (s := S16x1024) off' ![1, 16] inb').emb y) from key (fun a => y a.succ) rfl
  intro z hz
  rw [idx_eq hb hn hc hr hcv h, ldM_at (hb := hb) hn ho]
  subst ho'
  have e0 : (((Rect.unit (s := S16x1024) ![ch, n] ![1, 16] inb').emb y) 0).val = ch := by
    show ch + 1 * (y 0).val = ch
    have : (y 0).val < 1 := (y 0).isLt
    omega
  have e1 : (((Rect.unit (s := S16x1024) ![ch, n] ![1, 16] inb').emb y) 1).val = n + (y 1).val := by
    show n + 1 * (y 1).val = _
    omega
  unfold xpV xpW
  rw [if_neg (by rw [e0]; exact h0)]
  rw [gAt_congr (hb := hb) (hp' := ((Rect.unit (s := S16x1024) ![ch, n] ![1, 16] inb').emb y 1).isLt) (hc' := ((Rect.unit (s := S16x1024) ![ch, n] ![1, 16] inb').emb y 0).isLt) ((congrArg (n + ·) hz).trans e1.symm) e0.symm,
    rAt_congr (hb := hb) (hp' := ((Rect.unit (s := S16x1024) ![ch, n] ![1, 16] inb').emb y 1).isLt) ((congrArg (n + ·) hz).trans e1.symm)]

include hn hr hcv ho ho' in
/-- The store of channel 0: with the dense word where the mask is not set. -/
theorem pay_c0 (h0 : ch = 0) {h1 h2 h3 h4} (y : (⟨2, ![1, 16]⟩ : Shape).Idx) :
    shapeCast (s := S16) S1x16 (addf (mulf (loadIdx (F := F) (e := .f32) g ![rw, cv] h) (shapeCast (s := S1x16) S16 (ldM m off inb) h1))
        (mulf (shapeCast (s := S1x16) S16 (ldM dn off inb) h3) (subf (broadcast S16 (Scalar.ofBits .f32 0x3F800000#32)) (shapeCast (s := S1x16) S16 (ldM m off inb) h4)))) h2 y
      = xpV b hb m dn g ((Rect.unit (s := S16x1024) off' ![1, 16] inb').emb y) := by
  subst h0
  refine (shapeCast_addUnit_apply (n := 1) ![16] _ h2 y).trans ?_
  suffices key : ∀ z : S16.Idx, (z 0).val = (y 1).val →
      FloatOps.addf (FloatOps.mulf (g (idxAt (s := S2048x16) ![rw, cv] h z)) (shapeCast (s := S1x16) S16 (ldM m off inb) h1 z))
        (FloatOps.mulf (shapeCast (s := S1x16) S16 (ldM dn off inb) h3 z) (FloatOps.subf (Scalar.ofBits .f32 0x3F800000#32) (shapeCast (s := S1x16) S16 (ldM m off inb) h4 z)))
        = xpV b hb m dn g ((Rect.unit (s := S16x1024) off' ![1, 16] inb').emb y) from key (fun a => y a.succ) rfl
  intro z hz
  rw [idx_eq hb hn (by decide) hr hcv h, ldM_at (hb := hb) hn ho m, ldM_at (hb := hb) hn ho dn]
  subst ho'
  have e0 : (((Rect.unit (s := S16x1024) ![0, n] ![1, 16] inb').emb y) 0).val = 0 := by
    show 0 + 1 * (y 0).val = 0
    have : (y 0).val < 1 := (y 0).isLt
    omega
  have e1 : (((Rect.unit (s := S16x1024) ![0, n] ![1, 16] inb').emb y) 1).val = n + (y 1).val := by
    show n + 1 * (y 1).val = _
    omega
  unfold xpV xpW
  rw [if_pos e0]
  rw [gAt_congr (hb := hb) (hp' := ((Rect.unit (s := S16x1024) ![0, n] ![1, 16] inb').emb y 1).isLt) (hc' := ((Rect.unit (s := S16x1024) ![0, n] ![1, 16] inb').emb y 0).isLt) ((congrArg (n + ·) hz).trans e1.symm) e0.symm,
    rAt_congr (hb := hb) (hp' := ((Rect.unit (s := S16x1024) ![0, n] ![1, 16] inb').emb y 1).isLt) ((congrArg (n + ·) hz).trans e1.symm)]

end Pay

end Cert.Proof.K
end
end
-- ==== Proof.Rows.lean ====
/-
  Rows of a two-axis buffer and segments of a one-axis buffer, as the kernel's copies name them (a slice of one row,
  squeezed; a slice): which places they are, what they read, and what is read back after they are written.
-/
module
public import proofs.«01_k».proof.Proof.Base
@[expose] public section
noncomputable section
namespace Cert.Proof.K
open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
variable {F : FTy → Type} [FloatOps F]
local notation "𝕄" => MM F
variable (d : Dev nD) (i : grid0.Coords)

section Rows
variable {κ : Kind} {sp : Space} {e : EltTy} {Val : EltTy → Type}

/-- Part of one row of a two-axis buffer, squeezed. -/
abbrev rowM {n₀ n₁ m : ℕ} (M : Memref sig κ sp ⟨2, ![n₀, n₁]⟩ e) (off : Fin 2 → ℕ)
    (inb : ∀ a : Fin 2, off a + (![1, m] : Fin 2 → ℕ) a ≤ (![n₀, n₁] : Fin 2 → ℕ) a) (hq : (⟨2, ![1, m]⟩ : Shape).Squeezes ⟨1, ![m]⟩) : Memref sig κ sp ⟨1, ![m]⟩ e :=
  (M.slice (Rect.unit (s := ⟨2, ![n₀, n₁]⟩) off ![1, m] inb) (fun _ => rfl)).squeeze ⟨1, ![m]⟩ hq

/-- Part of a one-axis buffer. -/
abbrev segM {n m : ℕ} (M : Memref sig κ sp ⟨1, ![n]⟩ e) (off : Fin 1 → ℕ)
    (inb : ∀ a : Fin 1, off a + (![m] : Fin 1 → ℕ) a ≤ (![n] : Fin 1 → ℕ) a) : Memref sig κ sp ⟨1, ![m]⟩ e :=
  M.slice (Rect.unit (s := ⟨1, ![n]⟩) off ![m] inb) (fun _ => rfl)

variable {n n₀ n₁ m : ℕ}

theorem row_emb (M : Memref sig κ sp ⟨2, ![n₀, n₁]⟩ e) {off : Fin 2 → ℕ} {inb} {hq} (x : (⟨1, ![m]⟩ : Shape).Idx) (y : (⟨2, ![n₀, n₁]⟩ : Shape).Idx)
    (h0 : (y 0).val = off 0) (h1 : (y 1).val = off 1 + (x 0).val) : (rowM (m := m) M off inb hq).view.emb x = M.view.emb y := by
  show M.view.emb ((Rect.unit (s := ⟨2, ![n₀, n₁]⟩) off ![1, m] inb).emb (shapeCast (s := ⟨2, ![1, m]⟩) ⟨1, ![m]⟩ (fun j => j) hq.numel_eq x)) = _
  have e0 : shapeCast (s := ⟨2, ![1, m]⟩) ⟨1, ![m]⟩ (fun j => j) hq.numel_eq x = Fin.cons ⟨0, Nat.one_pos⟩ x :=
    shapeCast_dropUnit_apply (n := 1) ![m] (fun j => j) hq.numel_eq x
  rw [e0]
  congr 1
  funext a
  apply Fin.ext
  match a with
  | 0 => show off 0 + 1 * 0 = _; rw [h0]; rfl
  | 1 => show off 1 + 1 * (x 0).val = _; rw [h1]; omega

theorem row_read (M : Memref sig κ sp ⟨2, ![n₀, n₁]⟩ e) {off : Fin 2 → ℕ} {inb} {hq} (f : M.view.ty.Contents Val) (x : (⟨1, ![m]⟩ : Shape).Idx)
    (y : (⟨2, ![n₀, n₁]⟩ : Shape).Idx) (h0 : (y 0).val = off 0) (h1 : (y 1).val = off 1 + (x 0).val) :
    (rowM (m := m) M off inb hq).view.read Val f x = M.view.read Val f y := by
  rw [View.read_apply, View.read_apply, row_emb M x y h0 h1]

theorem row_write (M : Memref sig κ sp ⟨2, ![n₀, n₁]⟩ e) {off : Fin 2 → ℕ} {inb} {hq} (f : M.view.ty.Contents Val) (w : (⟨1, ![m]⟩ : Shape).Idx → Val e)
    (x : (⟨1, ![m]⟩ : Shape).Idx) (y : (⟨2, ![n₀, n₁]⟩ : Shape).Idx) (h0 : (y 0).val = off 0) (h1 : (y 1).val = off 1 + (x 0).val) :
    M.view.read Val ((rowM (m := m) M off inb hq).view.write Val f w Finset.univ) y = w x := by
  rw [← row_read M (off := off) (inb := inb) (hq := hq) _ x y h0 h1]
  exact congrFun (View.read_write_univ _ _) x

theorem seg_emb (M : Memref sig κ sp ⟨1, ![n]⟩ e) {off : Fin 1 → ℕ} {inb} (x : (⟨1, ![m]⟩ : Shape).Idx) (y : (⟨1, ![n]⟩ : Shape).Idx)
    (h0 : (y 0).val = off 0 + (x 0).val) : (segM (m := m) M off inb).view.emb x = M.view.emb y := by
  show M.view.emb ((Rect.unit (s := ⟨1, ![n]⟩) off ![m] inb).emb x) = _
  congr 1
  funext a
  apply Fin.ext
  match a with
  | 0 => show off 0 + 1 * (x 0).val = _; rw [h0]; omega

theorem seg_read (M : Memref sig κ sp ⟨1, ![n]⟩ e) {off : Fin 1 → ℕ} {inb} (f : M.view.ty.Contents Val) (x : (⟨1, ![m]⟩ : Shape).Idx)
    (y : (⟨1, ![n]⟩ : Shape).Idx) (h0 : (y 0).val = off 0 + (x 0).val) :
    (segM (m := m) M off inb).view.read Val f x = M.view.read Val f y := by
  rw [View.read_apply, View.read_apply, seg_emb M x y h0]

theorem seg_write (M : Memref sig κ sp ⟨1, ![n]⟩ e) {off : Fin 1 → ℕ} {inb} (f : M.view.ty.Contents Val) (w : (⟨1, ![m]⟩ : Shape).Idx → Val e)
    (x : (⟨1, ![m]⟩ : Shape).Idx) (y : (⟨1, ![n]⟩ : Shape).Idx) (h0 : (y 0).val = off 0 + (x 0).val) :
    M.view.read Val ((segM (m := m) M off inb).view.write Val f w Finset.univ) y = w x := by
  rw [← seg_read M (off := off) (inb := inb) _ x y h0]
  exact congrFun (View.read_write_univ _ _) x

/-- The places of a part of a row. -/
theorem mem_row (M : Memref sig κ sp ⟨2, ![n₀, n₁]⟩ e) {off : Fin 2 → ℕ} {inb} {hq} (y : (⟨2, ![n₀, n₁]⟩ : Shape).Idx) :
    M.view.emb y ∈ (rowM (m := m) M off inb hq).view.set ↔ (off 0 ≤ (y 0).val ∧ (y 0).val < off 0 + 1) ∧ off 1 ≤ (y 1).val ∧ (y 1).val < off 1 + m := by
  rw [← mem2 (off := off) (inb := inb)]
  have e : (rowM (m := m) M off inb hq).view.set = (Rect.unit (s := ⟨2, ![n₀, n₁]⟩) off ![1, m] inb).set.map M.view.emb := by
    refine (View.set_reshape _ _).trans ?_
    exact View.set_slice _ _
  rw [e]
  simp

theorem mem_seg (M : Memref sig κ sp ⟨1, ![n]⟩ e) {off : Fin 1 → ℕ} {inb} (y : (⟨1, ![n]⟩ : Shape).Idx) :
    M.view.emb y ∈ (segM (m := m) M off inb).view.set ↔ off 0 ≤ (y 0).val ∧ (y 0).val < off 0 + m := by
  rw [← mem1 (off := off) (inb := inb)]
  have e : (segM (m := m) M off inb).view.set = (Rect.unit (s := ⟨1, ![n]⟩) off ![m] inb).set.map M.view.emb := View.set_slice _ _
  rw [e]
  simp

end Rows

end Cert.Proof.K
end
end
-- ==== Proof.PrepVal.lean ====
/-
  Preparing one chunk of 1024 voxels: the table's places of the chunk become row numbers to gather (the point's own where
  there is one, a pad spread over the rows where there is none), and one row of the mask buffer becomes 1 or 0 there.
  What is computed here, in plain functions, and how a trip's eight pairs of stores advance it.
-/
module
public import proofs.«01_k».proof.Proof.Rows
@[expose] public section
noncomputable section
namespace Cert.Proof.K
open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
variable {F : FTy → Type} [FloatOps F]
local notation "𝕄" => MM F
variable (d : Dev nD) (i : grid0.Coords)

/-- The row to gather for a voxel: its point, or a pad where there is none. `p` is the voxel's place in the tile's range. -/
def clW (lo x : BitVec 32) (p : ℕ) : BitVec 32 :=
  if Scalar.cmpi .sge x 0#32 = 1 then x else (lo + BitVec.ofNat 32 p) &&& 262143#32

/-- The mask's word for a voxel. -/
def mkW (F : FTy → Type) [FloatOps F] (x : BitVec 32) : F .f32 :=
  if Scalar.cmpi .sge x 0#32 = 1 then Scalar.ofBits .f32 0x3F800000#32 else Scalar.ofBits .f32 0x00000000#32

/-- The table's word at place `k` (0 past the end). -/
def lN (f : S65536.Idx → BitVec 32) (k : ℕ) : BitVec 32 :=
  if h : k < 65536 then f (fun a => match a with | 0 => ⟨k, h⟩) else 0

theorem lN_at (f : S65536.Idx → BitVec 32) (y : S65536.Idx) (k : ℕ) (hk : (y 0).val = k) : lN f k = f y := by
  subst hk
  have h : (y 0).val < 65536 := (y 0).isLt
  rw [lN, dif_pos h]
  congr 1
  funext a
  match a with
  | 0 => rfl

/-- The table after the first `n` places from `base` are prepared. -/
def prepL (lo : BitVec 32) (base : ℕ) (f : S65536.Idx → BitVec 32) (n : ℕ) (x : S65536.Idx) : BitVec 32 :=
  if base ≤ (x 0).val ∧ (x 0).val < base + n then clW lo (f x) (x 0).val else f x

/-- The mask buffer after the first `n` places of row `b` are written. -/
def prepM (base b : ℕ) (f : S65536.Idx → BitVec 32) (g : S2x1024.Idx → F .f32) (n : ℕ) (y : S2x1024.Idx) : F .f32 :=
  if (y 0).val = b ∧ (y 1).val < n then mkW F (lN f (base + (y 1).val)) else g y

theorem m_keep (f : S2x1024.Idx → F .f32) (L : List (View.Piece (Elt F) S2x1024 .f32)) (x : S2x1024.Idx)
    (h : ∀ p ∈ L, x ∉ p.1.set) : mkV.view.writes (Elt F) f L x = f x := whole_keep cc0_scratch4 f L x h

theorem m_pieces (f G : S2x1024.Idx → F .f32) (L : List (View.Piece (Elt F) S2x1024 .f32))
    (x : S2x1024.Idx) (hG : ∀ p ∈ L, ∀ y : p.1.shape.Idx, p.2 y = G (p.1.emb y)) (h : ∃ p ∈ L, x ∈ p.1.set) :
    mkV.view.writes (Elt F) f L x = G x := whole_pieces cc0_scratch4 f G L hG x h

/-- Eight stores that cover the next 128 places advance the table by 128. -/
theorem prepL_step (lo : BitVec 32) (base n : ℕ) (f : S65536.Idx → BitVec 32) (L : List (View.Piece (Elt F) S65536 .i32))
    (hL : ∀ p ∈ L, ∀ y : p.1.shape.Idx, p.2 y = (fun x : S65536.Idx => clW lo (f x) (x 0).val) (p.1.emb y))
    (hm : ∀ x : S65536.Idx, (∃ p ∈ L, x ∈ p.1.set) ∨ ((x 0).val < base + n ∨ base + n + 128 ≤ (x 0).val) ∧ ∀ p ∈ L, x ∉ p.1.set)
    (hm' : ∀ x : S65536.Idx, (∃ p ∈ L, x ∈ p.1.set) → base + n ≤ (x 0).val ∧ (x 0).val < base + n + 128) :
    lV.view.writes (Elt F) (prepL lo base f n) L = prepL lo base f (n + 128) := by
  funext x
  rcases hm x with h | ⟨h, hno⟩
  · have := hm' x h
    refine (l_pieces _ (fun x : S65536.Idx => clW lo (f x) (x 0).val) L x hL h).trans ?_
    unfold prepL
    rw [if_pos (by omega)]
  · refine (l_keep _ L x hno).trans ?_
    unfold prepL
    by_cases h1 : base ≤ (x 0).val ∧ (x 0).val < base + n
    · rw [if_pos h1, if_pos (by omega)]
    · rw [if_neg h1, if_neg (by omega)]

/-- The same of the mask's row. -/
theorem prepM_step (base b n : ℕ) (f : S65536.Idx → BitVec 32) (g : S2x1024.Idx → F .f32) (L : List (View.Piece (Elt F) S2x1024 .f32))
    (hL : ∀ p ∈ L, ∀ y : p.1.shape.Idx, p.2 y = (fun x : S2x1024.Idx => mkW F (lN f (base + (x 1).val))) (p.1.emb y))
    (hm : ∀ x : S2x1024.Idx, (∃ p ∈ L, x ∈ p.1.set) ∨ ((x 0).val ≠ b ∨ (x 1).val < n ∨ n + 128 ≤ (x 1).val) ∧ ∀ p ∈ L, x ∉ p.1.set)
    (hm' : ∀ x : S2x1024.Idx, (∃ p ∈ L, x ∈ p.1.set) → (x 0).val = b ∧ n ≤ (x 1).val ∧ (x 1).val < n + 128) :
    mkV.view.writes (Elt F) (prepM base b f g n) L = prepM base b f g (n + 128) := by
  funext x
  rcases hm x with h | ⟨h, hno⟩
  · have := hm' x h
    refine (m_pieces _ (fun x : S2x1024.Idx => mkW F (lN f (base + (x 1).val))) L x hL h).trans ?_
    unfold prepM
    rw [if_pos (by omega)]
  · refine (m_keep _ L x hno).trans ?_
    unfold prepM
    by_cases h1 : (x 0).val = b ∧ (x 1).val < n
    · rw [if_pos h1, if_pos (by omega)]
    · rw [if_neg h1, if_neg (by omega)]

section Pay
variable {lo : BitVec 32} {base n r : ℕ} {f : S65536.Idx → BitVec 32} {v3 : IVec S16 32} (hv3 : ∀ x : S16.Idx, v3 x = BitVec.ofNat 32 (x 0).val)
  {off : Fin 1 → ℕ} {inb : ∀ a : Fin 1, off a + (![16] : Fin 1 → ℕ) a ≤ (![65536] : Fin 1 → ℕ) a} (hoff : off 0 = base + n + 16 * r)

abbrev ldOf (F : FTy → Type) [FloatOps F] (lo : BitVec 32) (base n : ℕ) (f : S65536.Idx → BitVec 32) (off : Fin 1 → ℕ) (inb : ∀ a : Fin 1, off a + (![16] : Fin 1 → ℕ) a ≤ (![65536] : Fin 1 → ℕ) a) : S16.Idx → BitVec 32 :=
  lV.view.readAt (Elt F) (Rect.unit (s := S65536) off ![16] inb).toLoadRect (prepL lo base f n)

include hoff in
/-- A load of sixteen places not yet prepared. -/
theorem ld_at (y : S16.Idx) : ldOf F lo base n f off inb y = f ((Rect.unit (s := S65536) off ![16] inb).emb y) := by
  show prepL lo base f n ((Rect.unit (s := S65536) off ![16] inb).emb y) = _
  unfold prepL
  rw [if_neg]
  show ¬ (_ ∧ off 0 + 1 * (y 0).val < _)
  omega

include hv3 hoff in
theorem pay_cl {w : BitVec 32} (hw : w = lo + BitVec.ofNat 32 (base + n + 16 * r)) (y : S16.Idx) :
    (if Scalar.cmpi .sge (ldOf F lo base n f off inb y) 0#32 = 1 then ldOf F lo base n f off inb y else (w + v3 y) &&& 262143#32)
      = clW lo (f ((Rect.unit (s := S65536) off ![16] inb).emb y)) (((Rect.unit (s := S65536) off ![16] inb).emb y) 0).val := by
  rw [ld_at hoff, hw, hv3]
  unfold clW
  rw [show (((Rect.unit (s := S65536) off ![16] inb).emb y) 0).val = off 0 + 1 * (y 0).val from rfl, hoff,
    show base + n + 16 * r + 1 * (y 0).val = (base + n + 16 * r) + (y 0).val by omega, BitVec.ofNat_add (base + n + 16 * r), BitVec.add_assoc]

variable {off' : Fin 2 → ℕ} {inb' : ∀ a : Fin 2, off' a + (![1, 16] : Fin 2 → ℕ) a ≤ (![2, 1024] : Fin 2 → ℕ) a} (hoff' : off' 1 = n + 16 * r)

include hoff hoff' in
theorem pay_mk {h} (y : (⟨2, ![1, 16]⟩ : Shape).Idx) :
    shapeCast (s := S16) S1x16 (fun x : S16.Idx => if Scalar.cmpi .sge (ldOf F lo base n f off inb x) 0#32 = 1 then (Scalar.ofBits .f32 0x3F800000#32 : F .f32) else Scalar.ofBits .f32 0x00000000#32) h y
      = mkW F (lN f (base + (((Rect.unit (s := S2x1024) off' ![1, 16] inb').emb y) 1).val)) := by
  refine (shapeCast_addUnit_apply (n := 1) ![16] _ h y).trans ?_
  refine (congrArg (mkW F) (ld_at (F := F) hoff (fun a => y a.succ))).trans ?_
  congr 1
  refine (lN_at f _ _ ?_).symm
  show off 0 + 1 * (y 1).val = base + (off' 1 + 1 * (y 1).val)
  omega

end Pay

end Cert.Proof.K
end
end
-- ==== Proof.GatherStep.lean ====
/-
  One indirect gather of 128 rows into the half of the row buffer that is being filled, as the next members of the batch of
  1024 row transfers; the state before each, and the rows of the buffer in write mode.
-/
module
public import proofs.«01_k».proof.Proof.XposeVal
public import proofs.«01_k».proof.Proof.PrepVal
@[expose] public section
noncomputable section
namespace Cert.Proof.K
open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
variable {F : FTy → Type} [FloatOps F]
local notation "𝕄" => MM F
variable (d : Dev nD) (i : grid0.Coords)

/-- A feature word by numbers. -/
def fsAt (fs : S500000x16.Idx → F .f32) (n ch : ℕ) : F .f32 :=
  fs (fun a => match a with | 0 => ⟨n % 500000, show _ < 500000 by omega⟩ | 1 => ⟨ch % 16, show _ < 16 by omega⟩)

/-- What half `b` of the row buffer holds once chunk `c`'s rows are in. -/
def gC (b c : ℕ) (fs : S500000x16.Idx → F .f32) (L : S65536.Idx → BitVec 32) : S2048x16.Idx → F .f32 :=
  fun y => fsAt fs (lN L (1024 * c + ((y 0).val - 1024 * b))).toNat (y 1).val

/-- The places of the table that chunk `c` holds, from place `n` of it. -/
def fromL (c n : ℕ) : Finset S65536.Idx := Finset.univ.filter fun x => 1024 * c + n ≤ (x 0).val ∧ (x 0).val < 1024 * c + 1024
/-- The rows of half `b` from row `n` of it. -/
def fromG (b n : ℕ) : Finset S2048x16.Idx := Finset.univ.filter fun x => 1024 * b + n ≤ (x 0).val ∧ (x 0).val < 1024 * b + 1024
/-- One row. -/
def rowG (b n : ℕ) : Finset S2048x16.Idx := Finset.univ.filter fun x => (x 0).val = 1024 * b + n
/-- One place of the table. -/
def cellL (c n : ℕ) : Finset S65536.Idx := Finset.univ.filter fun x => (x 0).val = 1024 * c + n

theorem mem_fromL {c n : ℕ} {x : S65536.Idx} : x ∈ fromL c n ↔ 1024 * c + n ≤ (x 0).val ∧ (x 0).val < 1024 * c + 1024 := by simp [fromL]
theorem mem_fromG {b n : ℕ} {x : S2048x16.Idx} : x ∈ fromG b n ↔ 1024 * b + n ≤ (x 0).val ∧ (x 0).val < 1024 * b + 1024 := by simp [fromG]
theorem mem_rowG {b n : ℕ} {x : S2048x16.Idx} : x ∈ rowG b n ↔ (x 0).val = 1024 * b + n := by simp [rowG]
theorem mem_cellL {c n : ℕ} {x : S65536.Idx} : x ∈ cellL c n ↔ (x 0).val = 1024 * c + n := by simp [cellL]

/-- The rows `I` of the buffer in write mode. -/
abbrev wbG (I : Finset S2048x16.Idx) (q : PosShare TreeShare) (f g : S2048x16.Idx → F .f32) (W : Finset S2048x16.Idx) : sProp 𝕄 :=
  willBeTo (nD := nD) (τ := τ) (sig := sig) (Ix := HIx 1) (Val := Elt F) (Name := ℕ) (U := UU F) (Lvl := ℕ) (wmE F) (gV.view.loc (thr d i)) I q f (fun x => some (g x)) W

/-- The write-mode invariant's handle. -/
abbrev wmI (F : FTy → Type) (ιwm : ℕ) : sProp (MM F) := wmInv (wmE F) ιwm

/-- The share of the feature table that row `t` of a batch reads with. -/
def gq (q : PosShare TreeShare) (k j : ℕ) (hk : k < 8) (hj : j < 128) : PosShare TreeShare :=
  pieceOf (pieceOf q 8 (by decide) ⟨k, hk⟩) 128 (by decide) ⟨j, hj⟩

variable (b c : ℕ) (fs : S500000x16.Idx → F .f32) (L : S65536.Idx → BitVec 32) (q : PosShare TreeShare) (f : S2048x16.Idx → F .f32)

/-- What row `t`'s transfer gives back. -/
def Dg (t : Fin 1024) : sProp 𝕄 :=
  iprop((wbG d i (rowG b t.val) fullShare.left f (gC b c fs L) (rowG b t.val) ∗ (lV.view.loc (thr d i) ↦[cellL c t.val]{fullShare} L))
    ∗ (ftV.view.loc (thr d i) ↦{gq q (t.val / 128) (t.val % 128) (by have := t.isLt; omega) (by omega)} fs))

instance (t : Fin 1024) : Storable (upEmb : UEmb _ 𝕄) (Dg d i b c fs L q f t) := by unfold Dg; infer_instance

/-- Before gather `k` of the eight. -/
def GS (sem : DmaSem sig) (k : ℕ) : sProp 𝕄 :=
  iprop(Transfers.Batch EC (thr d i) (.dma sem) (default : HIx 1) 512 (Dg d i b c fs L q f) (128 * k) 0
    ∗ wbG d i (fromG b (128 * k)) fullShare.left f (gC b c fs L) ∅
    ∗ (lV.view.loc (thr d i) ↦[fromL c (128 * k)]{fullShare} L)
    ∗ bigSep (Transfers.pending k) (fun j : Fin 8 => (ftV.view.loc (thr d i) ↦{pieceOf q 8 (by decide) j} fs)))

theorem wbG_biUnion {T : Type} [DecidableEq T] (S : Finset T) (K : T → Finset S2048x16.Idx) (q : PosShare TreeShare) (f g : S2048x16.Idx → F .f32) (W : Finset S2048x16.Idx)
    (h : ∀ t ∈ S, ∀ t' ∈ S, t ≠ t' → Disjoint (K t) (K t')) :
    wbG d i (S.biUnion K) q f g W = bigSep S fun t => wbG d i (K t) q f g W := by
  induction S using Finset.induction_on with
  | empty => rw [Finset.biUnion_empty, bigSep_empty]; exact Region.held_empty _
  | insert t S ht ih =>
    rw [Finset.biUnion_insert, bigSep_insert ht]
    have hd : Disjoint (K t) (S.biUnion K) :=
      (Finset.disjoint_biUnion_right _ _ _).mpr fun t' ht' =>
        h t (Finset.mem_insert_self _ _) t' (Finset.mem_insert_of_mem ht') (fun e => ht (e ▸ ht'))
    have hu := Region.held_union (ι := (wmEmb (HIx 1) (wmE F) (nD := nD) (τ := τ) (sig := sig) (Name := ℕ) (Lvl := ℕ)).toEmb) (k := gV.view.loc (thr d i)) (q := q)
      (x := fun x => Region.WB.mk (f x) (some (g x)) (decide (x ∈ W))) hd
    exact (Entails.antisymm hu.1 hu.2).trans (by rw [← ih fun t₁ h₁ t₂ h₂ => h t₁ (Finset.mem_insert_of_mem h₁) t₂ (Finset.mem_insert_of_mem h₂)]; rfl)

theorem wbG_split {I S : Finset S2048x16.Idx} (q : PosShare TreeShare) (f g : S2048x16.Idx → F .f32) (W : Finset S2048x16.Idx) (h : I ⊆ S) :
    wbG d i S q f g W = iprop(wbG d i I q f g W ∗ wbG d i (S \ I) q f g W) := by
  have hu := Region.held_split_subset (ι := (wmEmb (HIx 1) (wmE F) (nD := nD) (τ := τ) (sig := sig) (Name := ℕ) (Lvl := ℕ)).toEmb) (k := gV.view.loc (thr d i)) (q := q)
      (x := fun x => Region.WB.mk (f x) (some (g x)) (decide (x ∈ W))) h
  exact Entails.antisymm hu.1 hu.2

/-- The share of the marked rows and the unmarked rest of the share. -/
theorem wbG_share (I : Finset S2048x16.Idx) (f g : S2048x16.Idx → F .f32) (W : Finset S2048x16.Idx) :
    wbG d i I fullShare f g W ⊣⊢ (iprop(wbG d i I fullShare.left f g W ∗ wbG d i I fullShare.right f g ∅) : sProp 𝕄) := by
  refine Region.held_share (PosShare.mem_left_op_right _) fun x _ => ?_
  have h := Region.WB.mem_mk_op_mk (f x) (some (g x)) (decide (x ∈ W)) (decide (x ∈ (∅ : Finset S2048x16.Idx)))
  have e : (decide (x ∈ W) || decide (x ∈ (∅ : Finset S2048x16.Idx))) = decide (x ∈ W) := by simp
  rwa [e] at h

/-! ## One gather -/

section Step
variable {b c : ℕ} (hb : b < 2) (hc : c < 64) {k : ℕ} (hk : k < 8)
  {og : Fin 2 → ℕ} (hg0 : og 0 = 1024 * b + 128 * k) (hg1 : og 1 = 0) (inbg : ∀ a : Fin 2, og a + S128x16.size a ≤ S2048x16.size a)
  {ol : Fin 1 → ℕ} (hl : ol 0 = 1024 * c + 128 * k) (inbl : ∀ a : Fin 1, ol a + S128.size a ≤ S65536.size a)

/-- The destination's row `j` names row `128 k + j` of the half. -/
theorem dst_emb (j : Fin 128) (y : (S128x16.rowShape gathers_S500000x16_S128x16.axis').Idx) (x : S2048x16.Idx) (h0 : (x 0).val = og 0 + j.val) (h1 : (x 1).val = og 1 + (y (1 : Fin 2)).val) :
    ((gV.slice (Rect.unit (s := S2048x16) og S128x16.size inbg) (fun _ => rfl)).view.slice (S128x16.rowRect gathers_S500000x16_S128x16.axis' j)).emb y = x := by
  have hy : (y (0 : Fin 2)).val = 0 := by
    have : (y (0 : Fin 2)).val < 1 := (y (0 : Fin 2)).isLt
    omega
  funext a
  apply Fin.ext
  match a with
  | 0 => show og 0 + 1 * (j.val + 1 * (y (0 : Fin 2)).val) = _; rw [h0, hy]; omega
  | 1 => show og 1 + 1 * (0 + 1 * (y (1 : Fin 2)).val) = _; rw [h1]; omega

include hg0 hg1 in
theorem dst_mem (j : Fin 128) (x : S2048x16.Idx) :
    x ∈ ((gV.slice (Rect.unit (s := S2048x16) og S128x16.size inbg) (fun _ => rfl)).view.slice (S128x16.rowRect gathers_S500000x16_S128x16.axis' j)).set
      ↔ x ∈ rowG b (128 * k + j.val) := by
  rw [mem_rowG]
  constructor
  · intro h
    obtain ⟨y, -, rfl⟩ := Finset.mem_map.mp h
    have hy : (y (0 : Fin 2)).val = 0 := by
      have : (y (0 : Fin 2)).val < 1 := (y (0 : Fin 2)).isLt
      omega
    show og 0 + 1 * (j.val + 1 * (y (0 : Fin 2)).val) = _
    omega
  · intro h
    refine Finset.mem_map.mpr ⟨fun a => match a with | 0 => ⟨0, Nat.one_pos⟩ | 1 => ⟨(x 1).val, (x 1).isLt⟩, Finset.mem_univ _, ?_⟩
    refine dst_emb inbg j _ x (by omega) ?_
    show _ = og 1 + (x 1).val
    omega

include hl in
/-- Entry `j` of the list is place `128 k + j` of the chunk. -/
theorem list_at (j : Fin 128) (x : S65536.Idx) (h0 : (x 0).val = 1024 * c + (128 * k + j.val)) :
    (lV.slice (Rect.unit (s := S65536) ol S128.size inbl) (fun _ => rfl)).view.emb (S128.rowMajor.symm (j.cast rfl)) = x := by
  funext a
  apply Fin.ext
  match a with
  | 0 =>
    show ol 0 + 1 * ((S128.rowMajor.symm (j.cast rfl)) 0).val = _
    have e : (S128.rowMajor (S128.rowMajor.symm (j.cast rfl))).val = ((S128.rowMajor.symm (j.cast rfl)) 0).val := Shape.rowMajor_val_one (d := ![128]) _
    have e2 : (S128.rowMajor (S128.rowMajor.symm (j.cast rfl))).val = j.val := by rw [Equiv.apply_symm_apply]; rfl
    omega

theorem src_set (ins : ∀ a : Fin 2, (![0, 0] : Fin 2 → ℕ) a + S500000x16.size a ≤ S500000x16.size a) :
    (ftV.slice (Rect.unit (s := S500000x16) ![0, 0] S500000x16.size ins) (fun _ => rfl)).view.set = Finset.univ := by
  ext x
  simp only [Finset.mem_univ, iff_true]
  refine Finset.mem_map.mpr ⟨x, Finset.mem_univ _, ?_⟩
  funext a
  apply Fin.ext
  match a with
  | 0 => show 0 + 1 * (x 0).val = _; omega
  | 1 => show 0 + 1 * (x 1).val = _; omega

variable {fs : S500000x16.Idx → F .f32} {L : S65536.Idx → BitVec 32} {q : PosShare TreeShare} {f : S2048x16.Idx → F .f32} {ιwm : ℕ}

include hc hk hl in
theorem list_in (hL : ∀ x : S65536.Idx, (x 0).val / 1024 = c → (L x).toNat < 500000) (x : S128.Idx) :
    ((lV.slice (Rect.unit (s := S65536) ol S128.size inbl) (fun _ => rfl)).view.read (Elt F) L x).toNat < 500000 := by
  have hx : (x 0).val < 128 := (x 0).isLt
  refine hL ((lV.slice (Rect.unit (s := S65536) ol S128.size inbl) (fun _ => rfl)).view.emb x) ?_
  show (ol 0 + 1 * (x 0).val) / 1024 = c
  omega

omit [FloatOps F] in
theorem pend_pop {n k : ℕ} (hk : k < n) (Φ : Fin n → sProp 𝕄) :
    bigSep (Transfers.pending k) Φ ⊢ iprop(Φ ⟨k, hk⟩ ∗ bigSep (Transfers.pending (k + 1)) Φ) :=
  Entails.of_eq (by rw [Transfers.pending_succ hk, bigSep_insert (Transfers.not_mem_pending_succ hk)]; rfl)

include hb hc hk hg0 hg1 hl in
set_option maxHeartbeats 4000000 in
/-- The next gather of the batch is issued. -/
theorem gather_step {α : Type} {kk : PUnit → Pt i α F} {Q : α → sProp 𝕄} (sem : DmaSem sig)
    (hL : ∀ x : S65536.Idx, (x 0).val / 1024 = c → (L x).toNat < 500000)
    {ins : ∀ a : Fin 2, (![0, 0] : Fin 2 → ℕ) a + S500000x16.size a ≤ S500000x16.size a} {hn hsrc hsp hr he} :
    iprop(wmI F ιwm ∗ GS d i b c fs L q f sem k : sProp 𝕄)
      ⊢ iprop((GS d i b c fs L q f sem (k + 1) -∗ wp frame (wpE (defs₀ (F := F)) 𝒱₀ (thr d i) none) Set.univ (kk ⟨⟩) Q)
        -∗ wp frame (wpE (defs₀ (F := F)) 𝒱₀ (thr d i) none) Set.univ
            (SparseCore.enqueueIndirectGather rfl (ftV.slice (Rect.unit (s := S500000x16) ![0, 0] S500000x16.size ins) (fun _ => rfl))
              (gV.slice (Rect.unit (s := S2048x16) og S128x16.size inbg) (fun _ => rfl)) gathers_S500000x16_S128x16
              (lV.slice (Rect.unit (s := S65536) ol S128.size inbl) (fun _ => rfl)) hn sem hsrc he hsp hr >>= kk) Q) := by
  unfold GS
  iintro ⟨#Hwm, HB, HG, HLs, Hq⟩ HK
  ihave Hq := (pend_pop hk (fun j : Fin 8 => (ftV.view.loc (thr d i) ↦{pieceOf q 8 (Nat.succ_pos 7) j} fs : sProp 𝕄))) $$ Hq
  icases Hq with ⟨Hq, Hq'⟩
  -- the rows of this gather
  have hsubG : (Finset.univ : Finset (Fin 128)).biUnion (fun j => rowG b (128 * k + j.val)) ⊆ fromG b (128 * k) := by
    intro x hx
    obtain ⟨j, -, hj⟩ := Finset.mem_biUnion.mp hx
    rw [mem_rowG] at hj
    rw [mem_fromG]
    have := j.isLt
    omega
  have hrestG : fromG b (128 * k) \ (Finset.univ : Finset (Fin 128)).biUnion (fun j => rowG b (128 * k + j.val)) = fromG b (128 * (k + 1)) := by
    ext x
    rw [Finset.mem_sdiff, mem_fromG, mem_fromG]
    constructor
    · rintro ⟨h, h'⟩
      refine ⟨?_, h.2⟩
      by_contra hlt
      exact h' (Finset.mem_biUnion.mpr ⟨⟨(x 0).val - (1024 * b + 128 * k), by omega⟩, Finset.mem_univ _, by rw [mem_rowG]; show _ = 1024 * b + (128 * k + ((x 0).val - (1024 * b + 128 * k))); omega⟩)
    · rintro ⟨h1, h2⟩
      refine ⟨⟨by omega, h2⟩, fun hx => ?_⟩
      obtain ⟨j, -, hj⟩ := Finset.mem_biUnion.mp hx
      rw [mem_rowG] at hj
      have := j.isLt
      omega
  have hdisG : ∀ t ∈ (Finset.univ : Finset (Fin 128)), ∀ t' ∈ (Finset.univ : Finset (Fin 128)), t ≠ t' → Disjoint (rowG b (128 * k + t.val)) (rowG b (128 * k + t'.val)) := by
    intro t _ t' _ hne
    rw [Finset.disjoint_left]
    intro x h h'
    rw [mem_rowG] at h h'
    exact hne (Fin.ext (by omega))
  ihave HG := (Entails.of_eq (wbG_split d i fullShare.left f (gC b c fs L) ∅ hsubG)) $$ HG
  icases HG with ⟨HG, HG'⟩
  ihave HG := (Entails.of_eq (wbG_biUnion d i _ _ fullShare.left f (gC b c fs L) ∅ hdisG)) $$ HG
  rw [hrestG]
  -- the list of this gather
  have hsubL : (lV.slice (Rect.unit (s := S65536) ol S128.size inbl) (fun _ => rfl)).view.set ⊆ fromL c (128 * k) := by
    intro x hx
    obtain ⟨y, -, rfl⟩ := Finset.mem_map.mp hx
    have hy : (y 0).val < 128 := (y 0).isLt
    rw [mem_fromL]
    show _ ≤ ol 0 + 1 * (y 0).val ∧ ol 0 + 1 * (y 0).val < _
    omega
  have hrestL : fromL c (128 * k) \ (lV.slice (Rect.unit (s := S65536) ol S128.size inbl) (fun _ => rfl)).view.set = fromL c (128 * (k + 1)) := by
    ext x
    have e := mem_seg lV (m := 128) (off := ol) (inb := inbl) x
    have e' : x ∈ (lV.slice (Rect.unit (s := S65536) ol S128.size inbl) (fun _ => rfl)).view.set ↔ ol 0 ≤ (x 0).val ∧ (x 0).val < ol 0 + 128 := e
    rw [Finset.mem_sdiff, mem_fromL, mem_fromL, e']
    omega
  ihave HLs := (pointsTo_split_subset hsubL).1 $$ HLs
  icases HLs with ⟨HLs, HL'⟩
  rw [hrestL]
  iapply (GatherBatch.wp_gatherInBatch EC 𝒱₀ (thr d i) none (default : HIx 1) 512 (fun _ => rfl) (show 0 < 128 by decide)
    (list_in (F := F) hc hk hl inbl hL) (128 * k) (by show 128 * k + 128 ≤ 1024; omega)
    (fun j => iprop(wmI F ιwm ∗ wbG d i (rowG b (128 * k + j.val)) fullShare.left f (gC b c fs L) ∅))
    (fun j => wbG d i (rowG b (128 * k + j.val)) fullShare.left f (gC b c fs L) (rowG b (128 * k + j.val))) ?_ ?_) $$ [HB HG HLs Hq]
  rotate_left
  rotate_left
  · isplitl [HB]; · iexact HB
    isplitl [Hq]
    · rw [src_set]; iexact Hq
    isplitl [HG]
    · iapply (Transfers.bigSep_mono_pers Finset.univ (wmI F ιwm) _ _ fun j _ => .rfl)
      isplitr; · iexact Hwm
      iexact HG
    · iexact HLs
  · iintro HB
    iapply HK
    isplitl [HB]
    · iexact HB
    isplitl [HG']; · iexact HG'
    isplitl [HL']; · iexact HL'
    iexact Hq'
  · intro j
    have hj : j.val < 128 := j.isLt
    have hset : ((gV.slice (Rect.unit (s := S2048x16) og S128x16.size inbg) (fun _ => rfl)).view.slice (S128x16.rowRect gathers_S500000x16_S128x16.axis' j)).set
        = rowG b (128 * k + j.val) := by
      ext x; exact dst_mem hg0 hg1 inbg j x
    have h := willBeTo_writeUpdate (emb := wmE F) (ιwm := ιwm) (Ix := HIx 1) (Name := ℕ) (Lvl := ℕ) (S := rowG b (128 * k + j.val)) (q := fullShare.left) (f := f) (W := ∅)
      (g := fun x => some (gC b c fs L x))
      (v := (gV.slice (Rect.unit (s := S2048x16) og S128x16.size inbg) (fun _ => rfl)).view.slice (S128x16.rowRect gathers_S500000x16_S128x16.axis' j))
      (w := fun y => (ftV.slice (Rect.unit (s := S500000x16) ![0, 0] S500000x16.size ins) (fun _ => rfl)).view.read (Elt F) fs
        (gathers_S500000x16_S128x16.rowIdx (SparseCore.rows ((lV.slice (Rect.unit (s := S65536) ol S128.size inbl) (fun _ => rfl)).view.read (Elt F) L) hn
          (list_in (F := F) hc hk hl inbl hL) j) y)) (thr d i) (le_of_eq hset) ?_
    · rw [Finset.empty_union, hset] at h
      exact h
    · intro y _ u hu
      have hy1 : (y (1 : Fin 2)).val < 16 := (y (1 : Fin 2)).isLt
      have hu : some (gC b c fs L (((gV.slice (Rect.unit (s := S2048x16) og S128x16.size inbg) (fun _ => rfl)).view.slice (S128x16.rowRect gathers_S500000x16_S128x16.axis' j)).emb y)) = some u := hu
      rw [← Option.some.inj hu, dst_emb inbg j y (fun a => match a with | 0 => ⟨1024 * b + 128 * k + j.val, show _ < 2048 by omega⟩ | 1 => ⟨(y (1 : Fin 2)).val, hy1⟩)
        (show 1024 * b + 128 * k + j.val = og 0 + j.val by omega) (by show (y (1 : Fin 2)).val = og 1 + _; omega)]
      show fs _ = fs _
      congr 1
      funext a
      apply Fin.ext
      have hz : 1024 * c + (128 * k + j.val) < 65536 := by omega
      have e2 := list_at hl inbl j (fun a => match a with | 0 => ⟨1024 * c + (128 * k + j.val), hz⟩) rfl
      have e3 : lN L (1024 * c + (128 * k + j.val)) = L (fun a => match a with | 0 => ⟨1024 * c + (128 * k + j.val), hz⟩) := lN_at L _ _ rfl
      match a with
      | 0 =>
        show 0 + 1 * (SparseCore.rows ((lV.slice (Rect.unit (s := S65536) ol S128.size inbl) (fun _ => rfl)).view.read (Elt F) L) hn
          (list_in (F := F) hc hk hl inbl hL) j).val = (lN L (1024 * c + ((1024 * b + 128 * k + j.val) - 1024 * b))).toNat % 500000
        have e4 : (SparseCore.rows ((lV.slice (Rect.unit (s := S65536) ol S128.size inbl) (fun _ => rfl)).view.read (Elt F) L) hn
          (list_in (F := F) hc hk hl inbl hL) j).val = (L ((lV.slice (Rect.unit (s := S65536) ol S128.size inbl) (fun _ => rfl)).view.emb (S128.rowMajor.symm (j.cast rfl)))).toNat := rfl
        rw [e4, e2, show 1024 * c + ((1024 * b + 128 * k + j.val) - 1024 * b) = 1024 * c + (128 * k + j.val) by omega, e3]
        have := hL (fun a => match a with | 0 => ⟨1024 * c + (128 * k + j.val), hz⟩) (show (1024 * c + (128 * k + j.val)) / 1024 = c by omega)
        rw [Nat.mod_eq_of_lt this]
        omega
      | 1 =>
        show 0 + 1 * (y (1 : Fin 2)).val = (y (1 : Fin 2)).val % 16
        omega
  · intro j
    have hj : j.val < 128 := j.isLt
    have hz : 1024 * c + (128 * k + j.val) < 65536 := by omega
    have e2 := list_at hl inbl j (fun a => match a with | 0 => ⟨1024 * c + (128 * k + j.val), hz⟩) rfl
    have e3 : ({(lV.slice (Rect.unit (s := S65536) ol S128.size inbl) (fun _ => rfl)).view.emb (S128.rowMajor.symm (j.cast rfl))} : Finset S65536.Idx) = cellL c (128 * k + j.val) := by
      rw [e2]
      ext x
      rw [Finset.mem_singleton, mem_cellL]
      constructor
      · rintro rfl; rfl
      · intro h
        funext a
        apply Fin.ext
        match a with
        | 0 => exact h
    have e5 : gq q ((128 * k + j.val) / 128) ((128 * k + j.val) % 128) (by omega) (by omega) = pieceOf (pieceOf q 8 (by decide) ⟨k, hk⟩) 128 (by decide) j := by
      unfold gq
      congr 1
      · congr 1
        exact Fin.ext (show (128 * k + j.val) / 128 = k by omega)
      · exact Fin.ext (show (128 * k + j.val) % 128 = j.val by omega)
    unfold Dg
    rw [src_set]
    iintro ⟨⟨HR, Hl⟩, Hf⟩
    isplitr [Hf]
    · isplitl [HR]; · iexact HR
      exact Entails.of_eq (congrArg (fun I => (lV.view.loc (thr d i) ↦[I]{fullShare} L : sProp 𝕄)) e3)
    · exact Entails.of_eq (congrArg (fun p => (ftV.view.loc (thr d i) ↦{p} fs : sProp 𝕄)) e5.symm)

end Step

end Cert.Proof.K
end
end
-- ==== Proof.Init.lean ====
/-
  The table of point numbers, filled with -1: one trip stores eight vectors of sixteen words, the loop covers the table.
-/
module
public import proofs.«01_k».proof.Proof.Base
@[expose] public section
noncomputable section
namespace Cert.Proof.K
open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
variable {F : FTy → Type} [FloatOps F]
local notation "𝕄" => MM F
variable (d : Dev nD) (i : grid0.Coords)

theorem off1_at (t : Fin k0_t1_loop.trips) (r : ℕ) (h : r < 8) : k0_off1 t (BitVec.ofNat 32 r) = ![128 * t.val + 16 * r] :=
  k0_off1_eq t ⟨r, h⟩

/-- What the store's payload is: -1 in every lane. -/
theorem pay180_at (x : S16.Idx) : k0_pay180 x = 0xffffffff#32 := rfl

set_option maxRecDepth 8192 in
/-- One trip: the 128 words from `128 t` become -1, the others stay. -/
theorem init_trip (t : Fin k0_t1_loop.trips) (f : S65536.Idx → BitVec 32) :
    (lV.view.loc (thr d i) ↦{fullShare} f : sProp 𝕄)
      ⊢ wp frame (wpE (defs₀ (F := F)) 𝒱₀ (thr d i) none) Set.univ (b1 i t ())
          fun _ => iprop(∃ f' : S65536.Idx → BitVec 32, (lV.view.loc (thr d i) ↦{fullShare} f')
            ∗ ⌜∀ x : S65536.Idx, ((x 0).val < 128 * t.val → f x = 0xffffffff#32) → (x 0).val < 128 * t.val + 128 → f' x = 0xffffffff#32⌝) := by
  unfold b1 k0_t1_body
  simp only [k0_part1_eq_skeleton, k0_part1_skel, Prog.lift, Prog.bind_op, Prog.bind_ret, Prog.pure_eq_ret, Prog.bind_assoc]
  iintro H
  iapply (wp_load 𝒱₀ (thr d i) none Set.univ (m := lV) (S := Finset.univ) (f := f) ?_) $$ H
  rotate_left
  iintro H
  iapply (wp_store_writes₀ 𝒱₀ (thr d i) none Set.univ (m := lV) (S := Finset.univ) (f := f) ?_) $$ H
  rotate_left
  iintro H
  iterate 7
    iapply (wp_load 𝒱₀ (thr d i) none Set.univ (m := lV) (S := Finset.univ) ?_) $$ H
    rotate_left
    iintro H
    iapply (wp_store_writes 𝒱₀ (thr d i) none Set.univ (m := lV) (S := Finset.univ) (f := f) ?_) $$ H
    rotate_left
    iintro H
  all_goals first | exact Finset.subset_univ _ | skip
  rw [wp_ret]
  imodintro
  iexists _
  isplitl [H]; · iexact H
  ipureintro
  intro x hx hlt
  by_cases h : (x 0).val < 128 * t.val
  · rw [← hx h]
    refine l_keep f _ x ?_
    simp only [List.forall_mem_cons, mem1]
    simp (disch := decide) only [off1_at]
    simp
    omega
  · refine l_pieces f (fun _ => 0xffffffff#32) _ x ?_ ?_
    · simp only [List.forall_mem_cons]
      simp [pay180_at]
    · simp only [List.exists_mem_cons_iff, mem1]
      simp (disch := decide) only [off1_at]
      simp
      omega

/-- The loop: the whole table is -1. -/
theorem init_loop {α : Type} {kk : Unit → Pt i α F} {Q : α → sProp 𝕄} (f : S65536.Idx → BitVec 32) :
    (lV.view.loc (thr d i) ↦{fullShare} f : sProp 𝕄)
      ⊢ iprop(((lV.view.loc (thr d i) ↦{fullShare} (fun _ => 0xffffffff#32 : S65536.Idx → BitVec 32))
          -∗ wp frame (wpE (defs₀ (F := F)) 𝒱₀ (thr d i) none) Set.univ (kk ()) Q)
        -∗ wp frame (wpE (defs₀ (F := F)) 𝒱₀ (thr d i) none) Set.univ (Scf.Loop.for k0_t1_loop k0_t1_ok ⟨⟩ (b1 i) >>= kk) Q) := by
  iintro H HK
  iapply (Scf.wp_for_bind frame (wpE (defs₀ (F := F)) 𝒱₀ (thr d i) none) Set.univ _ _ _ k0_t1_ok () (b1 i)
    (fun k _ => iprop(∃ f' : S65536.Idx → BitVec 32, (lV.view.loc (thr d i) ↦{fullShare} f') ∗ ⌜∀ x : S65536.Idx, (x 0).val < 128 * k → f' x = 0xffffffff#32⌝))
    (fun t _ => by
      iintro ⟨%g, H, %hg⟩
      iapply (wp_mono ?_) $$ [H]
      rotate_left
      · iapply (init_trip d i t g) $$ H
      intro _
      iintro ⟨%f', H, %hf'⟩
      iexists f'
      isplitl [H]; · iexact H
      ipureintro
      intro x hx
      exact hf' x (hg x) (by omega))) $$ [H] [HK]
  · iexists f
    isplitl [H]; · iexact H
    ipureintro; intro x hx; omega
  · iintro %_ ⟨%g, H, %hg⟩
    iapply HK
    rw [show (fun _ => 0xffffffff#32 : S65536.Idx → BitVec 32) = g from funext fun x => (hg x (by
      have : (x 0).val < 65536 := (x 0).isLt
      have e : Scf.trips k0_t1_loop.lb k0_t1_loop.ub k0_t1_loop.st = 512 := by decide
      simp [e]; omega)).symm]
    iexact H

end Cert.Proof.K
end
end
-- ==== Proof.ScanVal.lean ====
/-
  The scan's arithmetic. The table after `n` points holds, at each place of the tile's range, the number of the LAST of
  the first `n` points whose voxel is that place, or -1. One masked scatter of sixteen points takes the table after `n`
  points to the table after `n + 16`.
-/
module
public import proofs.«01_k».proof.Proof.Base
@[expose] public section
noncomputable section
namespace Cert.Proof.K
open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
variable {F : FTy → Type} [FloatOps F]
local notation "𝕄" => MM F
variable (d : Dev nD) (i : grid0.Coords)

/-- The table after the first `n` points: the number of the last point at each place, -1 where there is none. `ids` is
    the points' voxel numbers, `lo` the first voxel of the tile. -/
def sc (ids : ℕ → BitVec 32) (lo : BitVec 32) : ℕ → S65536.Idx → BitVec 32
  | 0 => fun _ => 0xffffffff#32
  | n + 1 => fun x => if (x 0).val = (ids n - lo).toNat then BitVec.ofNat 32 n else sc ids lo n x

theorem sc_succ (ids : ℕ → BitVec 32) (lo : BitVec 32) (n : ℕ) (x : S65536.Idx) :
    sc ids lo (n + 1) x = if (x 0).val = (ids n - lo).toNat then BitVec.ofNat 32 n else sc ids lo n x := by
  rw [sc]

theorem sc_zero (ids : ℕ → BitVec 32) (lo : BitVec 32) : sc ids lo 0 = fun _ => 0xffffffff#32 := by
  funext x; rw [sc]

variable (ids : ℕ → BitVec 32) (lo : BitVec 32)

/-- A fold over the lanes that makes one step of a family per lane makes all of them. -/
theorem fold_steps {α : Type} (g : ℕ → α) (n : ℕ) :
    ∀ (N : ℕ) (step : α → Fin N → α), (∀ k : Fin N, step (g (n + k.val)) k = g (n + k.val + 1)) →
      (List.finRange N).foldl step (g n) = g (n + N)
  | 0, _, _ => rfl
  | N + 1, step, h => by
    rw [List.finRange_succ_last, List.foldl_append, List.foldl_map,
      fold_steps g n N (fun a k => step a k.castSucc) (fun k => h k.castSucc)]
    exact h (Fin.last N)

abbrev maskOf (u : IVec S16 32) : IVec S16 1 := cmpi .ult u (broadcast S16 65536#32)
abbrev idxOf (u : IVec S16 32) : IVec S16 32 := select (maskOf u) u (broadcast S16 0#32)

theorem maskOf_eq_one (u : IVec S16 32) (x : S16.Idx) : maskOf u x = 1 ↔ (u x).toNat < 65536 := by
  show BitVec.ofBool ((u x).ult 65536#32) = 1 ↔ _
  rw [BitVec.ult]
  by_cases h : (u x).toNat < 65536 <;> simp [h]

theorem idxOf_of_lt (u : IVec S16 32) (x : S16.Idx) (h : (u x).toNat < 65536) : idxOf u x = u x := by
  have := (maskOf_eq_one u x).mpr h
  show (if maskOf u x = 1 then _ else _) = _
  rw [if_pos this]

/-- Every lane's index is inside the table, the masked lanes' included: they are sent to place 0. -/
theorem idxOf_lt (u : IVec S16 32) (x : S16.Idx) : (idxOf u x).toNat < 65536 := by
  by_cases h : (u x).toNat < 65536
  · rw [idxOf_of_lt u x h]; exact h
  · have : ¬ maskOf u x = 1 := fun e => h ((maskOf_eq_one u x).mp e)
    show (if maskOf u x = 1 then _ else _ : BitVec 32).toNat < _
    rw [if_neg this]
    show (0#32).toNat < 65536
    decide

theorem chk_ok (u : IVec S16 32) : ∀ a x, ((![idxOf u] : Fin 1 → IVec S16 32) a x).toNat < S65536.size a := by
  intro a x
  obtain rfl : a = 0 := Subsingleton.elim _ _
  exact idxOf_lt u x

theorem ofLane_val (k : Fin 16) : ((Shape.ofLane (d := ![16]) k : S16.Idx) 0).val = k.val := by
  revert k; decide

/-- One masked scatter of sixteen points: the table after sixteen more. -/
theorem scatter_step (n : ℕ) (u v : IVec S16 32) (hu : ∀ x : S16.Idx, u x = ids (n + (x 0).val) - lo)
    (hv : ∀ x : S16.Idx, v x = BitVec.ofNat 32 (n + (x 0).val))
    (h : ∀ a x, ((![idxOf u] : Fin 1 → IVec S16 32) a x).toNat < S65536.size a) :
    storeIdx (F := F) (s := S65536) (e := .i32) (d := ![16]) (sc ids lo n) ![idxOf u] v (maskOf u) false h = sc ids lo (n + 16) := by
  unfold storeIdx
  refine fold_steps (sc ids lo) n 16 _ ?_
  intro k
  set x : S16.Idx := Shape.ofLane (d := ![16]) k with hx
  have hk : (x 0).val = k.val := ofLane_val k
  have hux : u x = ids (n + k.val) - lo := by rw [hu, hk]
  funext j
  rw [sc_succ]
  simp only [Bool.false_eq_true, if_false]
  have hj : (j 0).val < 65536 := (j 0).isLt
  by_cases hm : (u x).toNat < 65536
  · rw [if_pos ((maskOf_eq_one u x).mpr hm)]
    have e1 : (∀ a, (j a).val = (idxAt (s := S65536) ![idxOf u] h x a).val) ↔ (j 0).val = (ids (n + k.val) - lo).toNat := by
      rw [← hux, ← idxOf_of_lt u x hm]
      exact Fin.forall_fin_one
    by_cases hjj : (j 0).val = (ids (n + k.val) - lo).toNat
    · rw [if_pos hjj]
      refine (if_pos (e1.mpr hjj)).trans ?_
      rw [hv, hk]
    · rw [if_neg hjj]
      exact if_neg (fun e => hjj (e1.mp e))
  · rw [if_neg (fun e => hm ((maskOf_eq_one u x).mp e)), if_neg]
    rw [← hux]; omega

end Cert.Proof.K
end
end
-- ==== Proof.Scan.lean ====
/-
  One trip of the scan's inner loop: ten loads of sixteen voxel numbers each, then ten masked scatters of the points' own
  numbers. The table after `4000 t2 + 160 t3` points becomes the table after 160 more.
-/
module
public import proofs.«01_k».proof.Proof.Init
public import proofs.«01_k».proof.Proof.ScanVal
@[expose] public section
noncomputable section
namespace Cert.Proof.K
open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
variable {F : FTy → Type} [FloatOps F]
local notation "𝕄" => MM F
variable (d : Dev nD) (i : grid0.Coords)

theorem par_eq : ∀ t2 : Fin k0_t2_loop.trips, (Scalar.andi (Scf.iv 0#32 1#32 t2) 1#32 : BitVec 32).toNat = t2.val % 2 := by decide
theorem col_eq : ∀ (t3 : Fin k0_t3_loop.trips) (r : Fin 10),
    (Scalar.muli (Scalar.addi (Scalar.muli (Scf.iv 0#32 1#32 t3) 10#32) (BitVec.ofNat 32 r.val)) 16#32 : BitVec 32).toNat = 160 * t3.val + 16 * r.val := by decide

theorem off6_at (t2 : Fin k0_t2_loop.trips) (t3 : Fin k0_t3_loop.trips) (r : ℕ) (h : r < 10) :
    k0_off6 t2 t3 (BitVec.ofNat 32 r) = ![t2.val % 2, 160 * t3.val + 16 * r] := by
  funext a
  match a with
  | 0 => exact par_eq t2
  | 1 => exact col_eq t3 ⟨r, h⟩

/-- Row `b` of the buffer of voxel numbers. -/
def rowI (b : ℕ) : Finset S2x4096.Idx := Finset.univ.filter fun x => (x 0).val = b

theorem mem_rowI (b : ℕ) (x : S2x4096.Idx) : x ∈ rowI b ↔ (x 0).val = b := by simp [rowI]

theorem id_sub {off : Fin 2 → ℕ} {m : ℕ} {inb} {b : ℕ} (h : off 0 = b) :
    idV.view.setOn (Rect.unit (s := S2x4096) off ![1, m] inb).toLoadRect.set ⊆ rowI b := by
  intro x hx
  have hx' : x ∈ (Rect.unit (s := S2x4096) off ![1, m] inb).set := by
    obtain ⟨a, ha, rfl⟩ := by simpa [View.setOn] using hx
    exact ha
  rw [mem2] at hx'
  rw [mem_rowI]
  omega

variable (ids : ℕ → BitVec 32)

/-- What one load of sixteen voxel numbers reads. -/
theorem ld6 (t2 : Fin k0_t2_loop.trips) (t3 : Fin k0_t3_loop.trips) (f : S2x4096.Idx → BitVec 32)
    (hf : ∀ y : S2x4096.Idx, (y 0).val = t2.val % 2 → (y 1).val < 4000 → f y = ids (4000 * t2.val + (y 1).val))
    (r : ℕ) (hr : r < 10) {inb} (h) (x : S16.Idx) :
    shapeCast (s := S1x16) S16 (idV.view.readAt (Elt F) (Rect.unit (s := S2x4096) (k0_off6 t2 t3 (BitVec.ofNat 32 r)) S1x16.size inb).toLoadRect f) h x
      = ids (4000 * t2.val + 160 * t3.val + 16 * r + (x 0).val) := by
  have ht : t3.val < 25 := t3.isLt
  have hx : (x 0).val < 16 := (x 0).isLt
  have e0 := congrFun (off6_at t2 t3 r hr) 0
  have e1 := congrFun (off6_at t2 t3 r hr) 1
  refine (shapeCast_dropUnit_apply (n := 1) ![16] _ h x).trans ?_
  refine (hf _ ?_ ?_).trans ?_
  · show k0_off6 t2 t3 (BitVec.ofNat 32 r) 0 + 1 * 0 = _
    rw [e0]; rfl
  · show k0_off6 t2 t3 (BitVec.ofNat 32 r) 1 + 1 * (x 0).val < _
    rw [e1]
    show 160 * t3.val + 16 * r + 1 * (x 0).val < _
    omega
  · show ids (4000 * t2.val + (k0_off6 t2 t3 (BitVec.ofNat 32 r) 1 + 1 * (x 0).val)) = _
    rw [e1]
    show ids (4000 * t2.val + (160 * t3.val + 16 * r + 1 * (x 0).val)) = _
    congr 1
    omega

/-- The points' own numbers, as the trip computes them. -/
theorem val_at (t2 : Fin k0_t2_loop.trips) (t3 : Fin k0_t3_loop.trips) (v3 : IVec S16 32) (hv3 : ∀ x : S16.Idx, v3 x = BitVec.ofNat 32 (x 0).val)
    (v170 : BitVec 32) (hv : v170 = BitVec.ofNat 32 (4000 * t2.val)) (r : Fin 10) (x : S16.Idx) :
    v170 + (Scalar.muli (Scalar.addi (Scalar.muli (Scf.iv 0#32 1#32 t3) 10#32) (BitVec.ofNat 32 r.val)) 16#32) + v3 x
      = BitVec.ofNat 32 (4000 * t2.val + 160 * t3.val + 16 * r.val + (x 0).val) := by
  have hc := col_eq t3 r
  rw [hv, hv3]
  generalize (Scalar.muli (Scalar.addi (Scalar.muli (Scf.iv 0#32 1#32 t3) 10#32) (BitVec.ofNat 32 r.val)) 16#32 : BitVec 32) = w at hc ⊢
  apply BitVec.eq_of_toNat_eq
  simp only [BitVec.toNat_add, BitVec.toNat_ofNat, hc]
  omega

/-- One scatter of the trip at the head of a program. -/
theorem wp_scan {α : Type} (lo : BitVec 32) (n r : ℕ) {idx v : IVec S16 32} {mask : IVec S16 1} (u : IVec S16 32) {h} {hs} {kk : PUnit → Pt i α F} {Q : α → sProp 𝕄}
    (hidx : idx = idxOf u) (hmask : mask = maskOf u)
    (hu : ∀ x : S16.Idx, u x = ids (n + 16 * r + (x 0).val) - lo) (hv : ∀ x : S16.Idx, v x = BitVec.ofNat 32 (n + 16 * r + (x 0).val)) :
    (lV.view.loc (thr d i) ↦{fullShare} (sc ids lo (n + 16 * r)) : sProp 𝕄)
      ⊢ iprop(((lV.view.loc (thr d i) ↦{fullShare} (sc ids lo (n + 16 * (r + 1)))) -∗ wp frame (wpE (defs₀ (F := F)) 𝒱₀ (thr d i) none) Set.univ (kk ⟨⟩) Q)
        -∗ wp frame (wpE (defs₀ (F := F)) 𝒱₀ (thr d i) none) Set.univ (SparseCore.vectorStoreIdx lV ![idx] v mask false h hs >>= kk) Q) := by
  subst hidx hmask
  rw [show n + 16 * (r + 1) = n + 16 * r + 16 by omega]
  generalize n + 16 * r = n at *
  have key := SparseCore.wp_vectorStoreIdx (F := F) (Ix := HIx 1) (Name := ℕ) (U := UU F) (Lvl := ℕ) (defs := defs₀ (F := F)) (Q := Q) (k := kk) 𝒱₀ (thr d i) none Set.univ (base := lV) (idxs := ![idxOf u])
    (v := v) (mask := maskOf u) (add := false) (h := h) (hs := hs) (f := sc ids lo n)
  rw [show (lV.access (Rect.whole S65536)).set = Finset.univ from Memref.set_access_whole cc0_scratch0,
    show ∀ w, (lV.access (Rect.whole S65536)).write (Elt F) (sc ids lo n) w Finset.univ = w from Memref.write_access_whole_univ (Elt F) cc0_scratch0 _,
    show (lV.access (Rect.whole S65536)).read (Elt F) (sc ids lo n) = sc ids lo n from Memref.read_access_whole (Elt F) cc0_scratch0 _,
    show storeIdx (F := F) (s := S65536) (e := .i32) (d := ![16]) (sc ids lo n) ![idxOf u] v (maskOf u) false h = _ from scatter_step ids lo n u v hu hv h] at key
  exact key

set_option maxRecDepth 8192 in
/-- One trip. -/
theorem scan_trip (lo : BitVec 32) (v3 : IVec S16 32) (hv3 : ∀ x : S16.Idx, v3 x = BitVec.ofNat 32 (x 0).val)
    (t2 : Fin k0_t2_loop.trips) (t3 : Fin k0_t3_loop.trips) (v158 v170 : BitVec 32) (hv : v170 = BitVec.ofNat 32 (4000 * t2.val)) (f : S2x4096.Idx → BitVec 32)
    (hf : ∀ y : S2x4096.Idx, (y 0).val = t2.val % 2 → (y 1).val < 4000 → f y = ids (4000 * t2.val + (y 1).val)) :
    iprop((idV.view.loc (thr d i) ↦[rowI (t2.val % 2)]{fullShare} f) ∗ (lV.view.loc (thr d i) ↦{fullShare} (sc ids lo (4000 * t2.val + 160 * t3.val))) : sProp 𝕄)
      ⊢ wp frame (wpE (defs₀ (F := F)) 𝒱₀ (thr d i) none) Set.univ (b3 i lo v3 t2 v158 v170 t3 ())
          fun _ => iprop((idV.view.loc (thr d i) ↦[rowI (t2.val % 2)]{fullShare} f) ∗ (lV.view.loc (thr d i) ↦{fullShare} (sc ids lo (4000 * t2.val + 160 * t3.val + 160)))) := by
  unfold b3 k0_t3_body
  simp only [k0_part2_eq_skeleton, k0_part2_skel, k0_part3_eq_skeleton, k0_part3_skel, k0_part4_eq_skeleton, k0_part4_skel,
    k0_part5_eq_skeleton, k0_part5_skel, k0_part6_eq_skeleton, k0_part6_skel, Prog.lift, Prog.bind_op, Prog.bind_ret, Prog.pure_eq_ret, Prog.bind_assoc]
  rw [show sc ids lo (4000 * t2.val + 160 * t3.val) = sc ids lo (4000 * t2.val + 160 * t3.val + 16 * 0) from rfl]
  iintro ⟨HI, HL⟩
  iterate 10
    iapply (wp_load 𝒱₀ (thr d i) none Set.univ (m := idV) (S := rowI (t2.val % 2)) (f := f) ?_) $$ HI
    rotate_left
    iintro HI
  iterate 10
    iapply (wp_assume 𝒱₀ (thr d i) none Set.univ (chk_ok _))
    iapply (wp_scan d i ids lo (4000 * t2.val + 160 * t3.val) _ _ rfl rfl (fun x => congrArg (fun w => w - lo) (ld6 ids t2 t3 f hf _ ?_ _ x))
      (fun x => val_at t2 t3 v3 hv3 v170 hv ⟨_, ?_⟩ x)) $$ HL
    rotate_left 2
    iintro HL
  rw [wp_ret]
  imodintro
  isplitl [HI]; · iexact HI
  iexact HL
  all_goals first | exact id_sub (par_eq t2) | decide

end Cert.Proof.K
end
end
-- ==== Proof.ScanLoop.lean ====
/-
  The scan: the inner loop over one chunk of 4000 voxel numbers, and the outer loop over the 125 chunks, the next chunk's
  copy in flight while one is scanned. At the end the table holds the last point of every voxel of the tile's range.
-/
module
public import proofs.«01_k».proof.Proof.Scan
public import proofs.«01_k».proof.Proof.Rows
@[expose] public section
noncomputable section
namespace Cert.Proof.K
open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
variable {F : FTy → Type} [FloatOps F]
local notation "𝕄" => MM F
variable (d : Dev nD) (i : grid0.Coords)

/-- The point numbered `k`'s voxel number (0 past the end). -/
def idsN (fi : S500000.Idx → BitVec 32) (k : ℕ) : BitVec 32 :=
  if h : k < 500000 then fi (fun a => match a with | 0 => ⟨k, h⟩) else 0

theorem idsN_at (fi : S500000.Idx → BitVec 32) (y : S500000.Idx) : idsN fi (y 0).val = fi y := by
  have h : (y 0).val < 500000 := (y 0).isLt
  rw [idsN, dif_pos h]
  congr 1
  funext a
  match a with
  | 0 => rfl

variable (fi : S500000.Idx → BitVec 32) (q : PosShare TreeShare)

/-- The copy of chunk `k` of the voxel numbers in flight to its row of the buffer: what its wait gives back. -/
def IdsFl (k : ℕ) : sProp 𝕄 :=
  iprop(∃ (I : Finset S500000.Idx) (f : S2x4096.Idx → BitVec 32),
    ⌜∀ y : S2x4096.Idx, (y 0).val = k % 2 → (y 1).val < 4000 → f y = idsN fi (4000 * k + (y 1).val)⌝
    ∗ Transfers.Flight EC (thr d i) (.dma cc0_scratch6.sem) (default : HIx 1) 128000
        iprop((idV.view.loc (thr d i) ↦[rowI (k % 2)]{fullShare} f) ∗ (idsV.view.loc (thr d i) ↦[I]{q} fi))
    ∗ (idsV.view.loc (thr d i) ↦[Finset.univ \ I]{q} fi))

theorem ids_fire {α : Type} {kk : PUnit → Pt i α F} {Q : α → sProp 𝕄} (k : ℕ) (f : S2x4096.Idx → BitVec 32)
    {off : Fin 1 → ℕ} {inb} (ho : off 0 = 4000 * k) {off' : Fin 2 → ℕ} {inb'} {hq} (ho0 : off' 0 = k % 2) (ho1 : off' 1 = 0)
    {hs hd ht} :
    iprop((idsV.view.loc (thr d i) ↦{q} fi) ∗ (idV.view.loc (thr d i) ↦[rowI (k % 2)]{fullShare} f) ∗ semVal ((thr d i), .dma cc0_scratch6.sem) 0 : sProp 𝕄)
      ⊢ iprop((IdsFl d i fi q k -∗ wp frame (wpE (defs₀ (F := F)) 𝒱₀ (thr d i) none) Set.univ (kk ⟨⟩) Q)
        -∗ wp frame (wpE (defs₀ (F := F)) 𝒱₀ (thr d i) none) Set.univ
            (.op (.enqueueDma (segM (m := 4000) idsV off inb) (.here (rowM (m := 4000) idV off' inb' hq)) (.dma cc0_scratch6.sem) hs hd ht) kk) Q) := by
  iintro ⟨HI, Hf, Hs⟩ Hk
  ihave HI := (pointsTo_split_subset (Finset.subset_univ (segM (m := 4000) idsV off inb).view.set)).1 $$ HI
  icases HI with ⟨HI, HR⟩
  iapply (Transfers.wp_dmaLocal EC 𝒱₀ (thr d i) none (src := segM (m := 4000) idsV off inb) (dst := rowM (m := 4000) idV off' inb' hq)
    (Sd := rowI (k % 2)) (default : HIx 1) 128000 rfl (by decide) ?_) $$ [HI Hf Hs]
  rotate_left
  · isplitl [HI]; · iexact HI
    isplitl [Hf]; · iexact Hf
    iexact Hs
  iintro Hfl
  iapply Hk
  unfold IdsFl
  iexists _, _
  isplitr
  swap
  · isplitl [Hfl]; · iexact Hfl
    iexact HR
  · ipureintro
    intro y h0 h1
    have hx : (y 1).val < (⟨1, ![4000]⟩ : Shape).size 0 := h1
    refine (row_write (Val := Elt F) idV (off := off') (inb := inb') (hq := hq) f _ (fun a => match a with | 0 => ⟨(y 1).val, hx⟩) y (by omega) (by show _ = off' 1 + (y 1).val; omega)).trans ?_
    refine (seg_read (Val := Elt F) idsV (off := off) (inb := inb) fi _ (fun a => match a with | 0 => ⟨4000 * k + (y 1).val, ?_⟩) ?_).trans ?_
    · have := inb 0
      show _ < 500000
      have : off 0 + 4000 ≤ 500000 := this
      omega
    · show 4000 * k + (y 1).val = off 0 + (y 1).val
      omega
    · exact (idsN_at fi _).symm
  · intro y hy
    have := (mem_row idV (off := off') (inb := inb') (hq := hq) y).1 hy
    rw [mem_rowI]
    omega

theorem ids_wait {α : Type} {kk : PUnit → Pt i α F} {Q : α → sProp 𝕄} (k : ℕ) {O : CellTallies nD τ sig (HIx 1)} {W : Waits sig (HIx 1)}
    {off : Fin 1 → ℕ} {inb} {off' : Fin 2 → ℕ} {inb'} {hq} {hs hd} :
    iprop(IdsFl d i fi q k ∗ owes (thr d i) O W ∗ Transfers.MayWaits (thr d i) (default : HIx 1) O : sProp 𝕄)
      ⊢ iprop((iprop((idsV.view.loc (thr d i) ↦{q} fi) ∗ (∃ f : S2x4096.Idx → BitVec 32, (idV.view.loc (thr d i) ↦[rowI (k % 2)]{fullShare} f)
            ∗ ⌜∀ y : S2x4096.Idx, (y 0).val = k % 2 → (y 1).val < 4000 → f y = idsN fi (4000 * k + (y 1).val)⌝)
            ∗ semVal ((thr d i), .dma cc0_scratch6.sem) 0 ∗ owes (thr d i) O (insert (SemLoc.dma cc0_scratch6.sem, default) W))
          -∗ wp frame (wpE (defs₀ (F := F)) 𝒱₀ (thr d i) none) Set.univ (kk ⟨⟩) Q)
        -∗ wp frame (wpE (defs₀ (F := F)) 𝒱₀ (thr d i) none) Set.univ
            (.op (.waitDma2 cc0_scratch6.sem (segM (m := 4000) idsV off inb) (rowM (m := 4000) idV off' inb' hq) hs hd) kk) Q) := by
  unfold IdsFl
  iintro ⟨⟨%I, %f, %hf, Hfl, HR⟩, HO, Hmw⟩ Hk
  iapply (Transfers.wp_waitLocalO EC 𝒱₀ (thr d i) none (default : HIx 1) (N := 128000) rfl) $$ [Hfl HO Hmw]
  · isplitl [Hfl]; · iexact Hfl
    isplitl [HO]; · iexact HO
    iapply (Transfers.MayWaits.elim (SemLoc.dma cc0_scratch6.sem)) $$ Hmw
  iintro ⟨⟨Hf, HI⟩, Hs, HO⟩
  iapply Hk
  isplitl [HI HR]
  · iapply (pointsTo_split_subset (Finset.subset_univ I)).2
    isplitl [HI]; · iexact HI
    iexact HR
  isplitl [Hf]
  · iexists f
    isplitl [Hf]; · iexact Hf
    ipureintro; exact hf
  isplitl [Hs]; · iexact Hs
  iexact HO

/-- The inner loop over one chunk. -/
theorem scan_chunk {α : Type} {kk : Unit → Pt i α F} {Q : α → sProp 𝕄} (lo : BitVec 32) (v3 : IVec S16 32) (hv3 : ∀ x : S16.Idx, v3 x = BitVec.ofNat 32 (x 0).val)
    (t2 : Fin k0_t2_loop.trips) (v158 v170 : BitVec 32) (hv : v170 = BitVec.ofNat 32 (4000 * t2.val)) (f : S2x4096.Idx → BitVec 32) (ids : ℕ → BitVec 32)
    (hf : ∀ y : S2x4096.Idx, (y 0).val = t2.val % 2 → (y 1).val < 4000 → f y = ids (4000 * t2.val + (y 1).val)) :
    iprop((idV.view.loc (thr d i) ↦[rowI (t2.val % 2)]{fullShare} f) ∗ (lV.view.loc (thr d i) ↦{fullShare} (sc ids lo (4000 * t2.val))) : sProp 𝕄)
      ⊢ iprop((iprop((idV.view.loc (thr d i) ↦[rowI (t2.val % 2)]{fullShare} f) ∗ (lV.view.loc (thr d i) ↦{fullShare} (sc ids lo (4000 * (t2.val + 1)))))
          -∗ wp frame (wpE (defs₀ (F := F)) 𝒱₀ (thr d i) none) Set.univ (kk ()) Q)
        -∗ wp frame (wpE (defs₀ (F := F)) 𝒱₀ (thr d i) none) Set.univ (Scf.Loop.for k0_t3_loop k0_t3_ok ⟨⟩ (b3 i lo v3 t2 v158 v170) >>= kk) Q) := by
  iintro H HK
  iapply (Scf.wp_for_bind frame (wpE (defs₀ (F := F)) 𝒱₀ (thr d i) none) Set.univ _ _ _ k0_t3_ok () (b3 i lo v3 t2 v158 v170)
    (fun k _ => iprop((idV.view.loc (thr d i) ↦[rowI (t2.val % 2)]{fullShare} f) ∗ (lV.view.loc (thr d i) ↦{fullShare} (sc ids lo (4000 * t2.val + 160 * k)))))
    (fun t _ => by
      rw [show 4000 * t2.val + 160 * (t.val + 1) = 4000 * t2.val + 160 * t.val + 160 by omega]
      exact scan_trip d i ids lo v3 hv3 t2 t v158 v170 hv f hf)) $$ [H] [HK]
  · iexact H
  · iintro %_ H
    iapply HK
    rw [show 4000 * (t2.val + 1) = 4000 * t2.val + 160 * Scf.trips k0_t3_loop.lb k0_t3_loop.ub k0_t3_loop.st by
      have e : Scf.trips k0_t3_loop.lb k0_t3_loop.ub k0_t3_loop.st = 25 := by decide
      rw [e]; omega]
    iexact H

/-- What the tile owes, whatever waits of its own transfers it has made. -/
def Ow (O : CellTallies nD τ sig (HIx 1)) (W : Waits sig (HIx 1)) : sProp 𝕄 :=
  iprop(∃ W', ⌜∀ p ∈ W', p ∈ W ∨ p.2 = none⌝ ∗ owes (thr d i) O W')

theorem Ow_intro {O : CellTallies nD τ sig (HIx 1)} {W W' : Waits sig (HIx 1)} (sm : SemLoc sig) (h : ∀ p ∈ W', p ∈ W ∨ p.2 = none) :
    (owes (thr d i) O (insert (sm, (default : HIx 1)) W') : sProp 𝕄) ⊢ Ow d i O W := by
  unfold Ow
  iintro H
  iexists _
  isplitr
  swap; · iexact H
  ipureintro
  intro p hp
  rcases Finset.mem_insert.mp hp with hp | hp
  · exact .inr (hp ▸ rfl)
  · exact h p hp

theorem cond1_iff : ∀ t2 : Fin k0_t2_loop.trips, k0_cond1 t2 = 1#1 ↔ t2.val < 124 := by decide
theorem off2_at : ∀ t2 : Fin k0_t2_loop.trips, k0_off2 t2 0 = t2.val % 2 := by decide
theorem off4_at : ∀ t2 : Fin k0_t2_loop.trips, k0_off4 t2 0 = (t2.val + 1) % 2 := by decide
theorem v170_at : ∀ t2 : Fin k0_t2_loop.trips, (Scalar.muli (Scf.iv 0#32 1#32 t2) 4000#32 : BitVec 32) = BitVec.ofNat 32 (4000 * t2.val) := by decide

/-- A row of the buffer of voxel numbers, whatever it holds. -/
def IdRow (b : ℕ) : sProp 𝕄 := iprop(∃ f : S2x4096.Idx → BitVec 32, (idV.view.loc (thr d i) ↦[rowI b]{fullShare} f))

/-- Before chunk `k` is scanned. -/
def ScanInv (lo : BitVec 32) (O : CellTallies nD τ sig (HIx 1)) (W : Waits sig (HIx 1)) (k : ℕ) : sProp 𝕄 :=
  iprop((lV.view.loc (thr d i) ↦{fullShare} (sc (idsN fi) lo (4000 * k))) ∗ IdRow d i ((k + 1) % 2)
    ∗ (if k < 125 then IdsFl d i fi q k
        else iprop((idsV.view.loc (thr d i) ↦{q} fi) ∗ IdRow d i (k % 2) ∗ semVal ((thr d i), .dma cc0_scratch6.sem) 0))
    ∗ Ow d i O W)

set_option maxRecDepth 8192 in
theorem scan2_trip (lo : BitVec 32) (v3 : IVec S16 32) (hv3 : ∀ x : S16.Idx, v3 x = BitVec.ofNat 32 (x 0).val)
    (O : CellTallies nD τ sig (HIx 1)) (W : Waits sig (HIx 1)) (t2 : Fin k0_t2_loop.trips) :
    iprop(Transfers.MayWaits (thr d i) (default : HIx 1) O ∗ ScanInv d i fi q lo O W t2.val : sProp 𝕄)
      ⊢ wp frame (wpE (defs₀ (F := F)) 𝒱₀ (thr d i) none) Set.univ (b2 i lo v3 t2 ())
          fun _ => iprop(Transfers.MayWaits (thr d i) (default : HIx 1) O ∗ ScanInv d i fi q lo O W (t2.val + 1)) := by
  have ht : t2.val < 125 := t2.isLt
  unfold b2 k0_t2_body
  simp only [Prog.lift, Prog.bind_op, Prog.bind_ret, Prog.pure_eq_ret, Prog.bind_assoc]
  unfold ScanInv
  rw [if_pos ht]
  unfold Ow
  iintro ⟨#Hmw, HL, HR, HF, %W', %hW', HO⟩
  iapply (ids_wait d i fi q t2.val) $$ [HF HO]
  · isplitl [HF]; · iexact HF
    isplitl [HO]; · iexact HO
    iexact Hmw
  iintro ⟨HI, ⟨%f, Hf, %hf⟩, Hs, HO⟩
  by_cases h1 : k0_cond1 t2 = 1#1
  · have h124 : t2.val < 124 := (cond1_iff t2).1 h1
    rw [dif_pos h1]
    simp only [Prog.lift, Prog.bind_op, Prog.bind_ret, Prog.pure_eq_ret, Prog.bind_assoc]
    unfold IdRow
    icases HR with ⟨%f2, HR⟩
    iapply (ids_fire d i fi q (t2.val + 1) f2 (ho := ?_) (ho0 := off4_at t2) (ho1 := rfl)) $$ [HI HR Hs]
    rotate_left
    · isplitl [HI]; · iexact HI
      isplitl [HR]; · iexact HR
      iexact Hs
    iintro HF
    iapply (scan_chunk d i lo v3 hv3 t2 _ _ (v170_at t2) f (idsN fi) hf) $$ [Hf HL]
    · isplitl [Hf]; · iexact Hf
      iexact HL
    iintro ⟨Hf, HL⟩
    rw [wp_ret]
    imodintro
    isplitr; · iexact Hmw
    isplitl [HL]; · iexact HL
    isplitl [Hf]
    · iexists f
      rw [show (t2.val + 1 + 1) % 2 = t2.val % 2 by omega]
      iexact Hf
    isplitl [HF]
    · rw [if_pos (by omega)]
      iexact HF
    · ihave HO := (Ow_intro d i _ hW') $$ HO
      unfold Ow
      iexact HO
    · rw [k0_off5_eq]
      show 4000 * t2.val + 4000 = _
      omega
  · have h124 : ¬ t2.val < 124 := fun h => h1 ((cond1_iff t2).2 h)
    rw [dif_neg h1]
    simp only [Prog.lift, Prog.bind_op, Prog.bind_ret, Prog.pure_eq_ret, Prog.bind_assoc]
    iapply (scan_chunk d i lo v3 hv3 t2 _ _ (v170_at t2) f (idsN fi) hf) $$ [Hf HL]
    · isplitl [Hf]; · iexact Hf
      iexact HL
    iintro ⟨Hf, HL⟩
    rw [wp_ret]
    imodintro
    isplitr; · iexact Hmw
    isplitl [HL]; · iexact HL
    isplitl [Hf]
    · unfold IdRow
      iexists f
      rw [show (t2.val + 1 + 1) % 2 = t2.val % 2 by omega]
      iexact Hf
    isplitl [HI HR Hs]
    · rw [if_neg (by omega)]
      isplitl [HI]; · iexact HI
      isplitl [HR]; · iexact HR
      iexact Hs
    · ihave HO := (Ow_intro d i _ hW') $$ HO
      unfold Ow
      iexact HO

/-- The whole scan: the table's final contents, the buffers back. -/
theorem scan_loop {α : Type} {kk : Unit → Pt i α F} {Q : α → sProp 𝕄} (lo : BitVec 32) (v3 : IVec S16 32) (hv3 : ∀ x : S16.Idx, v3 x = BitVec.ofNat 32 (x 0).val)
    (O : CellTallies nD τ sig (HIx 1)) (W : Waits sig (HIx 1)) :
    iprop(Transfers.MayWaits (thr d i) (default : HIx 1) O ∗ (lV.view.loc (thr d i) ↦{fullShare} (fun _ => 0xffffffff#32 : S65536.Idx → BitVec 32))
        ∗ IdRow d i 1 ∗ IdsFl d i fi q 0 ∗ Ow d i O W : sProp 𝕄)
      ⊢ iprop((iprop((lV.view.loc (thr d i) ↦{fullShare} (sc (idsN fi) lo 500000)) ∗ (idsV.view.loc (thr d i) ↦{q} fi) ∗ IdRow d i 0 ∗ IdRow d i 1
            ∗ semVal ((thr d i), .dma cc0_scratch6.sem) 0 ∗ Ow d i O W)
          -∗ wp frame (wpE (defs₀ (F := F)) 𝒱₀ (thr d i) none) Set.univ (kk ()) Q)
        -∗ wp frame (wpE (defs₀ (F := F)) 𝒱₀ (thr d i) none) Set.univ (Scf.Loop.for k0_t2_loop k0_t2_ok ⟨⟩ (b2 i lo v3) >>= kk) Q) := by
  iintro ⟨#Hmw, HL, HR, HF, HO⟩ HK
  iapply (Scf.wp_for_bind frame (wpE (defs₀ (F := F)) 𝒱₀ (thr d i) none) Set.univ _ _ _ k0_t2_ok () (b2 i lo v3)
    (fun k _ => iprop(Transfers.MayWaits (thr d i) (default : HIx 1) O ∗ ScanInv d i fi q lo O W k))
    (fun t _ => scan2_trip d i fi q lo v3 hv3 O W t)) $$ [HL HR HF HO] [HK]
  · isplitr; · iexact Hmw
    unfold ScanInv
    rw [if_pos (by omega)]
    isplitl [HL]
    · rw [show 4000 * 0 = 0 from rfl, sc_zero]
      iexact HL
    isplitl [HR]; · iexact HR
    isplitl [HF]; · iexact HF
    iexact HO
  · have e : Scf.trips k0_t2_loop.lb k0_t2_loop.ub k0_t2_loop.st = 125 := by decide
    rw [e]
    unfold ScanInv
    rw [if_neg (by omega)]
    iintro %_ ⟨-, HL, HR0, ⟨HI, HR1, Hs⟩, HO⟩
    iapply HK
    isplitl [HL]; · iexact HL
    isplitl [HI]; · iexact HI
    isplitl [HR0]; · iexact HR0
    isplitl [HR1]; · iexact HR1
    isplitl [Hs]; · iexact Hs
    iexact HO

end Cert.Proof.K
end
end
-- ==== Proof.GatherUse.lean ====
/-
  A batch of eight gathers as a whole: started from the buffers, waited for eight times, collected with the rows at their
  gathered values; and what a half of the buffer shows while its batch is out.
-/
module
public import proofs.«01_k».proof.Proof.GatherStep
public import proofs.«01_k».proof.Proof.Peek
public import proofs.«01_k».proof.Proof.ScanLoop
@[expose] public section
noncomputable section
namespace Cert.Proof.K
open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
variable {F : FTy → Type} [FloatOps F]
local notation "𝕄" => MM F
variable (d : Dev nD) (i : grid0.Coords)

variable (d : Dev nD) (i : grid0.Coords)

theorem pt_pieces {ℓ : Loc nD τ sig} (f : Buf (Elt F) ℓ) {o : ℕ} (ho : 0 < o) (q : PosShare TreeShare) :
    (ℓ ↦{q} f : sProp 𝕄) = bigSep Finset.univ fun j : Fin o => (ℓ ↦{pieceOf q o ho j} f) := pointsTo_piecesOf Finset.univ f ho q

theorem pieces_join (q : PosShare TreeShare) (fs : S500000x16.Idx → F .f32) :
    (bigSep Finset.univ fun t : Fin 1024 => (ftV.view.loc (thr d i) ↦{gq q (t.val / 128) (t.val % 128) (by have := t.isLt; omega) (by omega)} fs : sProp 𝕄))
      = (ftV.view.loc (thr d i) ↦{q} fs) := by
  rw [BI.bigSep_univ_equiv (finProdFinEquiv (m := 8) (n := 128)), BI.bigSep_univ_prod]
  refine Eq.trans ?_ (pt_pieces (ℓ := ftV.view.loc (thr d i)) fs (Nat.succ_pos 7) q).symm
  refine bigSep_congr fun k _ => ?_
  refine Eq.trans ?_ (pt_pieces (ℓ := ftV.view.loc (thr d i)) fs (Nat.succ_pos 127) _).symm
  refine bigSep_congr fun j _ => ?_
  have hj := j.isLt
  unfold gq
  congr 2
  · congr 1
    exact Fin.ext (show (j.val + 128 * k.val) / 128 = k.val by omega)
  · exact Fin.ext (show (j.val + 128 * k.val) % 128 = j.val by omega)

section Use
variable {b c : ℕ} (hb : b < 2) (hc : c < 64) {fs : S500000x16.Idx → F .f32} {L : S65536.Idx → BitVec 32} {q : PosShare TreeShare} {f : S2048x16.Idx → F .f32} {ιwm : ℕ}

omit [FloatOps F] in
theorem fromG_zero : fromG b 0 = half b := by
  ext x
  have hx : (x 0).val < 2048 := (x 0).isLt
  rw [mem_fromG, mem_half]
  omega

/-- The batch is opened: its half of the buffer goes into write mode, half of its share staying with the tile. -/
theorem gather_start (sem : DmaSem sig) :
    iprop(wmI F ιwm ∗ semVal ((thr d i), .dma sem) 0 ∗ (gV.view.loc (thr d i) ↦[half b]{fullShare} f) ∗ (lV.view.loc (thr d i) ↦[fromL c 0]{fullShare} L)
        ∗ (ftV.view.loc (thr d i) ↦{q} fs) : sProp 𝕄)
      ⊢ iprop(|={Set.univ}=> (GS d i b c fs L q f sem 0 ∗ wbG d i (half b) fullShare.right f (gC b c fs L) ∅)) := by
  iintro ⟨#Hwm, Hs, HG, HL, Hf⟩
  imod (Transfers.batch_alloc' EC (thr d i) (default : HIx 1) 512 (Dg d i b c fs L q f) (E := Set.univ)) $$ Hs with HB
  imod (pointsTo_castIn (emb := wmE F) (ιwm := ιwm) (I := half b) (f := f) (ℓ := gV.view.loc (thr d i)) (fun x => some (gC b c fs L x)) (Set.mem_univ _)) $$ [HG] with HG
  · isplitr [HG]; · iexact Hwm
    iexact HG
  ihave HG := (wbG_share d i (half b) f (gC b c fs L) ∅).1 $$ HG
  icases HG with ⟨HG, HR⟩
  imodintro
  isplitr [HR]
  swap; · iexact HR
  unfold GS
  rw [fromG_zero, Transfers.pending_zero]
  isplitl [HB]; · iexact HB
  isplitl [HG]; · iexact HG
  isplitl [HL]; · iexact HL
  ihave Hf := (Entails.of_eq (pt_pieces (ℓ := ftV.view.loc (thr d i)) fs (Nat.succ_pos 7) q)) $$ Hf
  iexact Hf

theorem credit_lit : sig.dmaCredit .scVector (Kind.table .scVector .vmem) gV.view.buf S128x16 .f32 = 65536 := by decide +kernel

omit [FloatOps F] in
theorem credit_eq {og : Fin 2 → ℕ} (inbg : ∀ a : Fin 2, og a + S128x16.size a ≤ S2048x16.size a) :
    (gV.slice (Rect.unit (s := S2048x16) og S128x16.size inbg) (fun _ => rfl)).view.dmaCredit = 128 * 512 := by
  have e : (gV.slice (Rect.unit (s := S2048x16) og S128x16.size inbg) (fun _ => rfl)).view.dmaCredit = 65536 := credit_lit
  rw [e]

/-- One of the eight waits. -/
theorem gather_wait {α : Type} {kk : PUnit → Pt i α F} {Q : α → sProp 𝕄} (sem : DmaSem sig) (k : ℕ) (hk : k < 8) (D : Fin 1024 → sProp 𝕄)
    {O : CellTallies nD τ sig (HIx 1)} {W : Waits sig (HIx 1)}
    {ins : ∀ a : Fin 2, (![0, 0] : Fin 2 → ℕ) a + S500000x16.size a ≤ S500000x16.size a} {og : Fin 2 → ℕ} {inbg : ∀ a : Fin 2, og a + S128x16.size a ≤ S2048x16.size a} {hs hd} :
    iprop(Transfers.Batch EC (thr d i) (.dma sem) (default : HIx 1) 512 D 1024 (65536 * k) ∗ Transfers.MayWaits (thr d i) (default : HIx 1) O ∗ Ow d i O W : sProp 𝕄)
      ⊢ iprop((iprop(Transfers.Batch EC (thr d i) (.dma sem) (default : HIx 1) 512 D 1024 (65536 * (k + 1)) ∗ Ow d i O W) -∗ wp frame (wpE (defs₀ (F := F)) 𝒱₀ (thr d i) none) Set.univ (kk ⟨⟩) Q)
        -∗ wp frame (wpE (defs₀ (F := F)) 𝒱₀ (thr d i) none) Set.univ
            (SparseCore.waitIndirectGather sem (ftV.slice (Rect.unit (s := S500000x16) ![0, 0] S500000x16.size ins) (fun _ => rfl))
              (gV.slice (Rect.unit (s := S2048x16) og S128x16.size inbg) (fun _ => rfl)) hs hd >>= kk) Q) := by
  have hJ : (gV.slice (Rect.unit (s := S2048x16) og S128x16.size inbg) (fun _ => rfl)).view.dmaCredit = 128 * 512 := credit_eq inbg
  have hu : 65536 * k + 128 * 512 ≤ 512 * 1024 := by omega
  unfold Ow
  iintro ⟨HB, #Hmw, %W', %hW', HO⟩ Hk
  iapply (Transfers.wp_waitBatchMulO EC 𝒱₀ (thr d i) none (default : HIx 1) (N := 512) 128 (k := kk) hJ (j := 1024) (u := 65536 * k) hu) $$ [HB HO]
  · isplitl [HB]; · iexact HB
    isplitl [HO]; · iexact HO
    iapply (Transfers.MayWaits.elim (SemLoc.dma sem)) $$ Hmw
  iintro ⟨HB, HO⟩
  iapply Hk
  rw [show 65536 * (k + 1) = 65536 * k + 128 * 512 by omega]
  isplitl [HB]; · iexact HB
  ihave HO := (Ow_intro (F := F) d i (SemLoc.dma sem) hW') $$ HO
  unfold Ow
  iexact HO

omit [FloatOps F] in
theorem rows_union : (Finset.univ : Finset (Fin 1024)).biUnion (fun t => rowG b t.val) = half b := by
  ext x
  have hx : (x 0).val < 2048 := (x 0).isLt
  rw [← fromG_zero, mem_fromG, Finset.mem_biUnion]
  constructor
  · rintro ⟨t, -, h⟩
    have := t.isLt
    rw [mem_rowG] at h
    omega
  · rintro ⟨h, h'⟩
    exact ⟨⟨(x 0).val - 1024 * b, by omega⟩, Finset.mem_univ _, by rw [mem_rowG]; show _ = 1024 * b + ((x 0).val - 1024 * b); omega⟩

omit [FloatOps F] in
theorem cells_union : (Finset.univ : Finset (Fin 1024)).biUnion (fun t => cellL c t.val) = fromL c 0 := by
  ext x
  rw [mem_fromL, Finset.mem_biUnion]
  constructor
  · rintro ⟨t, -, h⟩
    have := t.isLt
    rw [mem_cellL] at h
    omega
  · rintro ⟨h, h'⟩
    exact ⟨⟨(x 0).val - 1024 * c, by omega⟩, Finset.mem_univ _, by rw [mem_cellL]; show _ = 1024 * c + ((x 0).val - 1024 * c); omega⟩

/-- All eight have landed. -/
theorem gather_collect (sem : DmaSem sig) :
    iprop(wmI F ιwm ∗ Transfers.Batch EC (thr d i) (.dma sem) (default : HIx 1) 512 (Dg d i b c fs L q f) 1024 (65536 * 8) ∗ wbG d i (half b) fullShare.right f (gC b c fs L) ∅ : sProp 𝕄)
      ⊢ iprop(|={Set.univ}=> (semVal ((thr d i), .dma sem) 0 ∗ (gV.view.loc (thr d i) ↦[half b]{fullShare} gC b c fs L) ∗ (lV.view.loc (thr d i) ↦[fromL c 0]{fullShare} L)
        ∗ (ftV.view.loc (thr d i) ↦{q} fs))) := by
  rw [show 65536 * 8 = 512 * 1024 by norm_num]
  iintro ⟨#Hwm, HB, HR⟩
  imod (Transfers.batch_collect' EC (thr d i) (N := 512) (Nat.succ_pos _) (D := Dg d i b c fs L q f) (ι := (default : HIx 1)) (sm := .dma sem)) $$ HB with ⟨HD, Hs⟩
  have e : (bigSep Finset.univ (Dg d i b c fs L q f) : sProp 𝕄)
      = iprop((wbG d i (half b) fullShare.left f (gC b c fs L) (half b) ∗ (lV.view.loc (thr d i) ↦[fromL c 0]{fullShare} L)) ∗ (ftV.view.loc (thr d i) ↦{q} fs)) := by
    have e1 : (lV.view.loc (thr d i) ↦[fromL c 0]{fullShare} L : sProp 𝕄) = bigSep Finset.univ fun t : Fin 1024 => (lV.view.loc (thr d i) ↦[cellL c t.val]{fullShare} L) := by
      rw [← cells_union]
      refine pointsTo_biUnion (ℓ := lV.view.loc (thr d i)) Finset.univ (fun t : Fin 1024 => cellL c t.val) ?_
      intro t _ t' _ hne
      rw [Finset.disjoint_left]
      intro x h h'
      rw [mem_cellL] at h h'
      exact hne (Fin.ext (by omega))
    have e2 : (wbG d i (half b) fullShare.left f (gC b c fs L) (half b) : sProp 𝕄) = bigSep Finset.univ fun t : Fin 1024 => wbG d i (rowG b t.val) fullShare.left f (gC b c fs L) (rowG b t.val) := by
      refine (congrArg (fun I => (wbG d i I fullShare.left f (gC b c fs L) (half b) : sProp 𝕄)) rows_union.symm).trans ?_
      rw [wbG_biUnion]
      · refine bigSep_congr fun t _ => Region.willBe_congr (fun _ _ => rfl) (fun _ _ => rfl) fun x hx => ⟨fun _ => hx, fun _ => ?_⟩
        rw [mem_rowG] at hx
        rw [mem_half]
        have := t.isLt
        omega
      · intro t _ t' _ hne
        rw [Finset.disjoint_left]
        intro x h h'
        rw [mem_rowG] at h h'
        exact hne (Fin.ext (by omega))
    rw [e1, e2, ← pieces_join, ← bigSep_sep', ← bigSep_sep']
    rfl
  ihave HD := (Entails.of_eq e) $$ HD
  icases HD with ⟨⟨HG, HL⟩, Hf⟩
  ihave HG := (wbG_share d i (half b) f (gC b c fs L) (half b)).2 $$ [HG HR]
  · isplitl [HG]; · iexact HG
    iexact HR
  imod (willBeTo_castOut_some (emb := wmE F) (ιwm := ιwm) (I := half b) (f := f) (ℓ := gV.view.loc (thr d i)) (g := gC b c fs L) (W := half b) (Set.mem_univ _)) $$ [HG] with HG
  · isplitr [HG]; · iexact Hwm
    iexact HG
  imodintro
  isplitl [Hs]; · iexact Hs
  isplitl [HG]
  · ihave HG := (Entails.of_eq (pointsTo_congr (g := gC b c fs L) fun x hx => Finset.piecewise_eq_of_mem _ _ _ hx)) $$ HG
    iexact HG
  isplitl [HL]; · iexact HL
  iexact Hf

/-- A half being gathered into can be looked at. -/
theorem peek_wb (g : S2048x16.Idx → F .f32) : Peekable d i (half b) iprop(wmI F ιwm ∗ wbG d i (half b) fullShare.right f g ∅) := by
  refine ⟨Set.univ \ {ιwm}, ?_⟩
  iintro ⟨#Hwm, HR⟩
  imod (willBeTo_acc (emb := wmE F) (ιwm := ιwm) (I := half b) (f := f) (ℓ := gV.view.loc (thr d i)) (q := fullShare.right) (g := fun x => some (g x)) (W := ∅) (Set.mem_univ _)) $$ [HR] with ⟨%cur, %W', %h1, Hraw, %h2, Hclose⟩
  · isplitr [HR]; · iexact Hwm
    iexact HR
  imodintro
  iexists cur
  isplitl [Hraw]; · iexact Hraw
  iintro Hraw
  ispecialize Hclose $$ %cur %∅ %⟨Finset.empty_subset _, fun i h => absurd h (Finset.notMem_empty i), fun _ _ _ => rfl⟩ Hraw
  imod Hclose with Htok
  imodintro
  rw [Finset.union_empty]
  isplitr [Htok]; · iexact Hwm
  iexact Htok

/-- So can one that is held. -/
theorem peek_own : Peekable d i (half b) iprop(∃ g : S2048x16.Idx → F .f32, (gV.view.loc (thr d i) ↦[half b]{fullShare} g)) := by
  refine ⟨Set.univ, ?_⟩
  iintro ⟨%g, H⟩
  imodintro
  iexists g
  isplitl [H]; · iexact H
  iintro H
  imodintro
  iexists g
  iexact H

end Use

end Cert.Proof.K
end
end
-- ==== Proof.DensCopy.lean ====
/-
  The copy of one chunk of the upsampled plane to its row of the tile's buffer.
-/
module
public import proofs.«01_k».proof.Proof.GatherUse
public import proofs.«01_k».proof.Proof.Rows
@[expose] public section
noncomputable section
namespace Cert.Proof.K
open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
variable {F : FTy → Type} [FloatOps F]
local notation "𝕄" => MM F
variable (d : Dev nD) (i : grid0.Coords)

variable (d : Dev nD) (i : grid0.Coords)

/-- The upsampled plane at place `k`. -/
def dnAt (fd : S2097152.Idx → F .f32) (k : ℕ) : F .f32 := fd (fun a => match a with | 0 => ⟨k % 2097152, Nat.mod_lt _ (Nat.succ_pos _)⟩)

theorem dnAt_at (fd : S2097152.Idx → F .f32) (y : S2097152.Idx) (k : ℕ) (h : (y 0).val = k) : fd y = dnAt fd k := by
  have hy : (y 0).val < 2097152 := (y 0).isLt
  unfold dnAt
  congr 1
  funext a
  apply Fin.ext
  match a with
  | 0 => show (y 0).val = k % 2097152; omega

/-- The row holding the chunk that begins at `base`. -/
def dnC (fd : S2097152.Idx → F .f32) (base : ℕ) (y : S2x1024.Idx) : F .f32 := dnAt fd (base + (y 1).val)

/-- The copy in flight. -/
def DnFl (fd : S2097152.Idx → F .f32) (q : PosShare TreeShare) (sem : DmaSem sig) (b base : ℕ) : sProp 𝕄 :=
  iprop(∃ I : Finset S2097152.Idx, Transfers.Flight EC (thr d i) (.dma sem) (default : HIx 1) 32768
        iprop((dnV.view.loc (thr d i) ↦[row2 b]{fullShare} dnC fd base) ∗ (dnsV.view.loc (thr d i) ↦[I]{q} fd))
    ∗ (dnsV.view.loc (thr d i) ↦[Finset.univ \ I]{q} fd))

theorem dens_fire {α : Type} {kk : PUnit → Pt i α F} {Q : α → sProp 𝕄} (fd : S2097152.Idx → F .f32) (q : PosShare TreeShare) (sem : DmaSem sig) (b base : ℕ) (f : S2x1024.Idx → F .f32)
    {off : Fin 1 → ℕ} {inb} (ho : off 0 = base) {off' : Fin 2 → ℕ} {inb'} {hq} (ho0 : off' 0 = b) (ho1 : off' 1 = 0) {hs hd ht} :
    iprop((dnsV.view.loc (thr d i) ↦{q} fd) ∗ (dnV.view.loc (thr d i) ↦[row2 b]{fullShare} f) ∗ semVal ((thr d i), .dma sem) 0 : sProp 𝕄)
      ⊢ iprop((DnFl d i fd q sem b base -∗ wp frame (wpE (defs₀ (F := F)) 𝒱₀ (thr d i) none) Set.univ (kk ⟨⟩) Q)
        -∗ wp frame (wpE (defs₀ (F := F)) 𝒱₀ (thr d i) none) Set.univ
            (.op (.enqueueDma (segM (m := 1024) dnsV off inb) (.here (rowM (m := 1024) dnV off' inb' hq)) (.dma sem) hs hd ht) kk) Q) := by
  iintro ⟨HI, Hf, Hs⟩ Hk
  ihave HI := (pointsTo_split_subset (Finset.subset_univ (segM (m := 1024) dnsV off inb).view.set)).1 $$ HI
  icases HI with ⟨HI, HR⟩
  iapply (Transfers.wp_dmaLocal EC 𝒱₀ (thr d i) none (src := segM (m := 1024) dnsV off inb) (dst := rowM (m := 1024) dnV off' inb' hq)
    (Sd := row2 b) (default : HIx 1) 32768 rfl (by decide) ?_) $$ [HI Hf Hs]
  rotate_left
  · isplitl [HI]; · iexact HI
    isplitl [Hf]; · iexact Hf
    iexact Hs
  iintro Hfl
  iapply Hk
  have e : (dnV.view.loc (thr d i) ↦[row2 b]{fullShare} ((rowM (m := 1024) dnV off' inb' hq).view.write (Elt F) f
        ((segM (m := 1024) dnsV off inb).view.read (Elt F) fd) Finset.univ) : sProp 𝕄) = (dnV.view.loc (thr d i) ↦[row2 b]{fullShare} dnC fd base) := by
    refine pointsTo_congr fun y hy => ?_
    rw [mem_row2] at hy
    have hx : (y 1).val < (⟨1, ![1024]⟩ : Shape).size 0 := (y 1).isLt
    refine (row_write (Val := Elt F) dnV (off := off') (inb := inb') (hq := hq) f _ (fun a => match a with | 0 => ⟨(y 1).val, hx⟩) y (by omega) (by show _ = off' 1 + (y 1).val; omega)).trans ?_
    have hb : base + (y 1).val < 2097152 := by
      have := inb 0
      have : off 0 + 1024 ≤ 2097152 := this
      have : (y 1).val < 1024 := hx
      omega
    refine (seg_read (Val := Elt F) dnsV (off := off) (inb := inb) fd _ (fun a => match a with | 0 => ⟨base + (y 1).val, hb⟩) (by show base + (y 1).val = off 0 + (y 1).val; omega)).trans ?_
    exact dnAt_at fd _ _ rfl
  unfold DnFl
  iexists _
  isplitr [HR]
  swap; · iexact HR
  ihave Hfl := (Entails.of_eq (congrArg (fun X => (Transfers.Flight EC (thr d i) (.dma sem) (default : HIx 1) 32768 iprop(X ∗ (dnsV.view.loc (thr d i) ↦[(segM (m := 1024) dnsV off inb).view.set]{q} fd)) : sProp 𝕄)) e)) $$ Hfl
  · iexact Hfl
  · intro y hy
    have := (mem_row dnV (off := off') (inb := inb') (hq := hq) y).1 hy
    rw [mem_row2]
    omega

theorem dens_wait {α : Type} {kk : PUnit → Pt i α F} {Q : α → sProp 𝕄} (fd : S2097152.Idx → F .f32) (q : PosShare TreeShare) (sem : DmaSem sig) (b base : ℕ)
    {O : CellTallies nD τ sig (HIx 1)} {W : Waits sig (HIx 1)} {off : Fin 1 → ℕ} {inb} {off' : Fin 2 → ℕ} {inb'} {hq} {hs hd} :
    iprop(DnFl d i fd q sem b base ∗ Transfers.MayWaits (thr d i) (default : HIx 1) O ∗ Ow d i O W : sProp 𝕄)
      ⊢ iprop((iprop((dnsV.view.loc (thr d i) ↦{q} fd) ∗ (dnV.view.loc (thr d i) ↦[row2 b]{fullShare} dnC fd base) ∗ semVal ((thr d i), .dma sem) 0 ∗ Ow d i O W)
          -∗ wp frame (wpE (defs₀ (F := F)) 𝒱₀ (thr d i) none) Set.univ (kk ⟨⟩) Q)
        -∗ wp frame (wpE (defs₀ (F := F)) 𝒱₀ (thr d i) none) Set.univ
            (.op (.waitDma2 sem (segM (m := 1024) dnsV off inb) (rowM (m := 1024) dnV off' inb' hq) hs hd) kk) Q) := by
  unfold DnFl
  iintro ⟨⟨%I, Hfl, HR⟩, #Hmw, HO⟩ Hk
  unfold Ow
  icases HO with ⟨%W', %hW', HO⟩
  iapply (Transfers.wp_waitLocalO EC 𝒱₀ (thr d i) none (default : HIx 1) (N := 32768) rfl) $$ [Hfl HO]
  · isplitl [Hfl]; · iexact Hfl
    isplitl [HO]; · iexact HO
    iapply (Transfers.MayWaits.elim (SemLoc.dma sem)) $$ Hmw
  iintro ⟨⟨Hf, HI⟩, Hs, HO⟩
  iapply Hk
  isplitl [HI HR]
  · iapply (pointsTo_split_subset (Finset.subset_univ I)).2
    isplitl [HI]; · iexact HI
    iexact HR
  isplitl [Hf]; · iexact Hf
  isplitl [Hs]; · iexact Hs
  ihave HO := (Ow_intro (F := F) d i (SemLoc.dma sem) hW') $$ HO
  unfold Ow
  iexact HO

end Cert.Proof.K
end
end
-- ==== Proof.WBatch.lean ====
/-
  The seventeen copies out of one chunk as one batch: sixteen channel rows and the row of the mask.
-/
module
public import proofs.«01_k».proof.Proof.DensCopy
@[expose] public section
noncomputable section
namespace Cert.Proof.K
open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
variable {F : FTy → Type} [FloatOps F]
local notation "𝕄" => MM F
variable (d : Dev nD) (i : grid0.Coords)

variable (d : Dev nD) (i : grid0.Coords)

/-- A row of the chunk's buffer. -/
def rowT (t : ℕ) : Finset S16x1024.Idx := Finset.univ.filter fun x => (x 0).val = t
/-- 1024 places of the dense volume. -/
def blkO (a : ℕ) : Finset S33554432.Idx := Finset.univ.filter fun x => a ≤ (x 0).val ∧ (x 0).val < a + 1024
/-- 1024 places of the mask. -/
def blkM (a : ℕ) : Finset S2097152.Idx := Finset.univ.filter fun x => a ≤ (x 0).val ∧ (x 0).val < a + 1024
theorem mem_rowT {t : ℕ} {x : S16x1024.Idx} : x ∈ rowT t ↔ (x 0).val = t := by simp [rowT]
theorem mem_blkO {a : ℕ} {x : S33554432.Idx} : x ∈ blkO a ↔ a ≤ (x 0).val ∧ (x 0).val < a + 1024 := by simp [blkO]
theorem mem_blkM {a : ℕ} {x : S2097152.Idx} : x ∈ blkM a ↔ a ≤ (x 0).val ∧ (x 0).val < a + 1024 := by simp [blkM]

variable (B b : ℕ) (T : S16x1024.Idx → F .f32) (M : S2x1024.Idx → F .f32)

/-- What copy `t` needs of the tile's own buffers. -/
def srcW (t : Fin 17) : sProp 𝕄 :=
  if t.val < 16 then (tV.view.loc (thr d i) ↦[rowT t.val]{fullShare} T) else (mkV.view.loc (thr d i) ↦[row2 b]{fullShare} M)
/-- Its destination, holding `go` or `gm`. -/
def dstW (go : S33554432.Idx → F .f32) (gm : S2097152.Idx → F .f32) (t : Fin 17) : sProp 𝕄 :=
  if t.val < 16 then (outV.view.loc (thr d i) ↦[blkO (2097152 * t.val + B)]{fullShare} go) else (mskV.view.loc (thr d i) ↦[blkM B]{fullShare} gm)

instance (t : Fin 17) : Storable (upEmb : UEmb _ 𝕄) (srcW d i b T M t) := by unfold srcW; split <;> infer_instance
instance (go : S33554432.Idx → F .f32) (gm : S2097152.Idx → F .f32) (t : Fin 17) : Storable (upEmb : UEmb _ 𝕄) (dstW d i B go gm t) := by unfold dstW; split <;> infer_instance

/-- What copy `t` gives back. -/
def Dw (OT : S33554432.Idx → F .f32) (MT : S2097152.Idx → F .f32) (t : Fin 17) : sProp 𝕄 := iprop(dstW d i B OT MT t ∗ srcW d i b T M t)
instance (OT : S33554432.Idx → F .f32) (MT : S2097152.Idx → F .f32) (t : Fin 17) : Storable (upEmb : UEmb _ 𝕄) (Dw d i B b T M OT MT t) := by unfold Dw; infer_instance

variable (OT : S33554432.Idx → F .f32) (MT : S2097152.Idx → F .f32) (go : S33554432.Idx → F .f32) (gm : S2097152.Idx → F .f32)

/-- Before copy `k`. -/
def WS (k : ℕ) : sProp 𝕄 :=
  iprop(Transfers.Batch EC (thr d i) (.dma cc0_scratch11.sem) (default : HIx 1) 32768 (Dw d i B b T M OT MT) k 0
    ∗ bigSep (Transfers.pending k) fun t : Fin 17 => iprop(srcW d i b T M t ∗ dstW d i B go gm t))

theorem w_fire {α : Type} {kk : PUnit → Pt i α F} {Q : α → sProp 𝕄} (k : ℕ) (hk : k < 16)
    (hT : ∀ (y : S16x1024.Idx) (x : S33554432.Idx), (x 0).val = 2097152 * (y 0).val + B + (y 1).val → T y = OT x)
    {off : Fin 2 → ℕ} {inb} {hq} (ho0 : off 0 = k) (ho1 : off 1 = 0) {off' : Fin 1 → ℕ} {inb'} (ho : off' 0 = 2097152 * k + B) {hs hd ht} :
    (WS d i B b T M OT MT go gm k : sProp 𝕄)
      ⊢ iprop((WS d i B b T M OT MT go gm (k + 1) -∗ wp frame (wpE (defs₀ (F := F)) 𝒱₀ (thr d i) none) Set.univ (kk ⟨⟩) Q)
        -∗ wp frame (wpE (defs₀ (F := F)) 𝒱₀ (thr d i) none) Set.univ
            (.op (.enqueueDma (rowM (m := 1024) tV off inb hq) (.here (segM (m := 1024) outV off' inb')) (.dma cc0_scratch11.sem) hs hd ht) kk) Q) := by
  have hk17 : k < 17 := by omega
  have hset : (rowM (m := 1024) tV off inb hq).view.set = rowT k := by
    ext x
    have e := mem_row tV (m := 1024) (off := off) (inb := inb) (hq := hq) x
    have hx : (x 1).val < 1024 := (x 1).isLt
    rw [mem_rowT]
    refine e.trans ?_
    omega
  unfold WS
  iintro ⟨HB, HP⟩ Hk
  ihave HP := (pend_pop hk17 (fun t : Fin 17 => iprop(srcW d i b T M t ∗ dstW d i B go gm t))) $$ HP
  icases HP with ⟨⟨Hs, Hd⟩, HP⟩
  have e1 : srcW d i b T M ⟨k, hk17⟩ = ((rowM (m := 1024) tV off inb hq).view.loc (thr d i) ↦[(rowM (m := 1024) tV off inb hq).view.set]{fullShare} T : sProp 𝕄) := by
    rw [hset]; unfold srcW; rw [if_pos hk]
  have e2 (g : S33554432.Idx → F .f32) : dstW d i B g gm ⟨k, hk17⟩ = ((segM (m := 1024) outV off' inb').view.loc (thr d i) ↦[blkO (2097152 * k + B)]{fullShare} g : sProp 𝕄) := by
    unfold dstW; rw [if_pos hk]
  ihave Hs := (Entails.of_eq e1) $$ Hs
  ihave Hd := (Entails.of_eq (e2 go)) $$ Hd
  iapply (Transfers.wp_dmaBatch EC 𝒱₀ (thr d i) none (src := rowM (m := 1024) tV off inb hq) (dst := segM (m := 1024) outV off' inb')
    (Sd := blkO (2097152 * k + B)) (default : HIx 1) 32768 rfl ?_ hk17 (Nat.zero_le _) ?_) $$ [Hs Hd HB]
  rotate_left 2
  · isplitl [Hs]; · iexact Hs
    isplitl [Hd]; · iexact Hd
    iexact HB
  · iintro HB
    iapply Hk
    isplitl [HB]; · iexact HB
    iexact HP
  · intro y hy
    have := (mem_seg outV (m := 1024) (off := off') (inb := inb') y).1 hy
    rw [mem_blkO]
    omega
  · unfold Dw
    rw [e1]
    iintro ⟨Hd, Hs⟩
    isplitr [Hs]
    swap; · iexact Hs
    have e3 : dstW d i B OT MT ⟨k, hk17⟩ = ((segM (m := 1024) outV off' inb').view.loc (thr d i) ↦[blkO (2097152 * k + B)]{fullShare} OT : sProp 𝕄) := by
      unfold dstW; rw [if_pos hk]
    rw [e3]
    iapply (Entails.of_eq (pointsTo_congr (g := OT) fun x hx => ?_)) $$ Hd
    rw [mem_blkO] at hx
    have hz : (x 0).val - (2097152 * k + B) < 1024 := by omega
    refine (seg_write (Val := Elt F) (m := 1024) outV (off := off') (inb := inb') go _ (fun a => match a with | 0 => ⟨(x 0).val - (2097152 * k + B), hz⟩) x
      (by show _ = off' 0 + ((x 0).val - (2097152 * k + B)); omega)).trans ?_
    refine (row_read (Val := Elt F) (m := 1024) tV (off := off) (inb := inb) (hq := hq) T _ (fun a => match a with | 0 => ⟨k, hk⟩ | 1 => ⟨(x 0).val - (2097152 * k + B), hz⟩)
      (by show k = _; omega) (by show (x 0).val - (2097152 * k + B) = off 1 + ((x 0).val - (2097152 * k + B)); omega)).trans ?_
    exact hT _ x (by show (x 0).val = 2097152 * k + B + ((x 0).val - (2097152 * k + B)); omega)

theorem w_fire_mask {α : Type} {kk : PUnit → Pt i α F} {Q : α → sProp 𝕄}
    (hM : ∀ (y : S2x1024.Idx) (x : S2097152.Idx), (y 0).val = b → (x 0).val = B + (y 1).val → M y = MT x) (hb : b < 2)
    {off : Fin 2 → ℕ} {inb} {hq} (ho0 : off 0 = b) (ho1 : off 1 = 0) {off' : Fin 1 → ℕ} {inb'} (ho : off' 0 = B) {hs hd ht} :
    (WS d i B b T M OT MT go gm 16 : sProp 𝕄)
      ⊢ iprop((WS d i B b T M OT MT go gm 17 -∗ wp frame (wpE (defs₀ (F := F)) 𝒱₀ (thr d i) none) Set.univ (kk ⟨⟩) Q)
        -∗ wp frame (wpE (defs₀ (F := F)) 𝒱₀ (thr d i) none) Set.univ
            (.op (.enqueueDma (rowM (m := 1024) mkV off inb hq) (.here (segM (m := 1024) mskV off' inb')) (.dma cc0_scratch11.sem) hs hd ht) kk) Q) := by
  have hk17 : 16 < 17 := by omega
  have hset : (rowM (m := 1024) mkV off inb hq).view.set = row2 b := by
    ext x
    have e := mem_row mkV (m := 1024) (off := off) (inb := inb) (hq := hq) x
    have hx : (x 1).val < 1024 := (x 1).isLt
    rw [mem_row2]
    refine e.trans ?_
    omega
  unfold WS
  iintro ⟨HB, HP⟩ Hk
  ihave HP := (pend_pop hk17 (fun t : Fin 17 => iprop(srcW d i b T M t ∗ dstW d i B go gm t))) $$ HP
  icases HP with ⟨⟨Hs, Hd⟩, HP⟩
  have e1 : srcW d i b T M ⟨16, hk17⟩ = ((rowM (m := 1024) mkV off inb hq).view.loc (thr d i) ↦[(rowM (m := 1024) mkV off inb hq).view.set]{fullShare} M : sProp 𝕄) := by
    rw [hset]; unfold srcW; rw [if_neg (by show ¬ 16 < 16; omega)]
  have e2 (go : S33554432.Idx → F .f32) (g : S2097152.Idx → F .f32) : dstW d i B go g ⟨16, hk17⟩ = ((segM (m := 1024) mskV off' inb').view.loc (thr d i) ↦[blkM B]{fullShare} g : sProp 𝕄) := by
    unfold dstW; rw [if_neg (by show ¬ 16 < 16; omega)]
  ihave Hs := (Entails.of_eq e1) $$ Hs
  ihave Hd := (Entails.of_eq (e2 go gm)) $$ Hd
  iapply (Transfers.wp_dmaBatch EC 𝒱₀ (thr d i) none (src := rowM (m := 1024) mkV off inb hq) (dst := segM (m := 1024) mskV off' inb')
    (Sd := blkM B) (default : HIx 1) 32768 rfl ?_ hk17 (Nat.zero_le _) ?_) $$ [Hs Hd HB]
  rotate_left 2
  · isplitl [Hs]; · iexact Hs
    isplitl [Hd]; · iexact Hd
    iexact HB
  · iintro HB
    iapply Hk
    isplitl [HB]; · iexact HB
    iexact HP
  · intro y hy
    have := (mem_seg mskV (m := 1024) (off := off') (inb := inb') y).1 hy
    rw [mem_blkM]
    omega
  · unfold Dw
    rw [e1, e2 OT MT]
    iintro ⟨Hd, Hs⟩
    isplitr [Hs]
    swap; · iexact Hs
    iapply (Entails.of_eq (pointsTo_congr (g := MT) fun x hx => ?_)) $$ Hd
    rw [mem_blkM] at hx
    have hz : (x 0).val - B < 1024 := by omega
    refine (seg_write (Val := Elt F) (m := 1024) mskV (off := off') (inb := inb') gm _ (fun a => match a with | 0 => ⟨(x 0).val - B, hz⟩) x
      (by show _ = off' 0 + ((x 0).val - B); omega)).trans ?_
    refine (row_read (Val := Elt F) (m := 1024) mkV (off := off) (inb := inb) (hq := hq) M _ (fun a => match a with | 0 => ⟨b, hb⟩ | 1 => ⟨(x 0).val - B, hz⟩)
      (by show b = _; omega) (by show (x 0).val - B = off 1 + ((x 0).val - B); omega)).trans ?_
    exact hM _ x rfl (by show (x 0).val = B + ((x 0).val - B); omega)

/-- One of the seventeen waits. -/
theorem w_wait {α : Type} {kk : PUnit → Pt i α F} {Q : α → sProp 𝕄} (k : ℕ) (hk : k < 17) (D : Fin 17 → sProp 𝕄)
    {O : CellTallies nD τ sig (HIx 1)} {W : Waits sig (HIx 1)} {κ : Kind} {sp sp' : Space} {s' : Shape} {e' : EltTy} {src : Memref sig (thr d i).2.kind sp' s' e'}
    {dst : Memref sig κ sp S1024 .f32} (hJ : dst.view.dmaCredit = 32768) {hs hd} :
    iprop(Transfers.Batch EC (thr d i) (.dma cc0_scratch11.sem) (default : HIx 1) 32768 D 17 (32768 * k) ∗ Transfers.MayWaits (thr d i) (default : HIx 1) O ∗ Ow d i O W : sProp 𝕄)
      ⊢ iprop((iprop(Transfers.Batch EC (thr d i) (.dma cc0_scratch11.sem) (default : HIx 1) 32768 D 17 (32768 * (k + 1)) ∗ Ow d i O W) -∗ wp frame (wpE (defs₀ (F := F)) 𝒱₀ (thr d i) none) Set.univ (kk ⟨⟩) Q)
        -∗ wp frame (wpE (defs₀ (F := F)) 𝒱₀ (thr d i) none) Set.univ (.op (.waitDma2 cc0_scratch11.sem src dst hs hd) kk) Q) := by
  have hJ : dst.view.dmaCredit = 1 * 32768 := hJ.trans (Nat.one_mul _).symm
  have hu : 32768 * k + 1 * 32768 ≤ 32768 * 17 := by omega
  unfold Ow
  iintro ⟨HB, #Hmw, %W', %hW', HO⟩ Hk
  iapply (Transfers.wp_waitBatchMulO EC 𝒱₀ (thr d i) none (default : HIx 1) (N := 32768) 1 (k := kk) hJ (j := 17) (u := 32768 * k) hu) $$ [HB HO]
  · isplitl [HB]; · iexact HB
    isplitl [HO]; · iexact HO
    iapply (Transfers.MayWaits.elim (SemLoc.dma cc0_scratch11.sem)) $$ Hmw
  iintro ⟨HB, HO⟩
  iapply Hk
  rw [show 32768 * (k + 1) = 32768 * k + 1 * 32768 by omega]
  isplitl [HB]; · iexact HB
  ihave HO := (Ow_intro (F := F) d i (SemLoc.dma cc0_scratch11.sem) hW') $$ HO
  unfold Ow
  iexact HO

omit [FloatOps F] in
theorem bigSep_last {n : ℕ} (Φ : Fin (n + 1) → sProp 𝕄) (Ψ : Fin n → sProp 𝕄) (X : sProp 𝕄) (h : ∀ t : Fin n, Φ t.castSucc = Ψ t) (hX : Φ (Fin.last n) = X) :
    bigSep Finset.univ Φ = iprop(bigSep Finset.univ Ψ ∗ X) := by
  rw [Fin.univ_castSuccEmb, Finset.cons_eq_insert, BI.bigSep_insert (by simp), BI.bigSep_map, hX]
  have e : (bigSep Finset.univ fun t : Fin n => Φ (Fin.castSuccEmb t)) = bigSep Finset.univ Ψ := bigSep_congr fun t _ => h t
  rw [e]
  exact Entails.antisymm (show iprop(X ∗ bigSep Finset.univ Ψ) ⊢ iprop(bigSep Finset.univ Ψ ∗ X) from Laws.sep_comm.1) (show iprop(bigSep Finset.univ Ψ ∗ X) ⊢ iprop(X ∗ bigSep Finset.univ Ψ) from Laws.sep_comm.1)

theorem src_join (T : S16x1024.Idx → F .f32) (M : S2x1024.Idx → F .f32) :
    (bigSep Finset.univ (srcW d i b T M) : sProp 𝕄) = iprop((tV.view.loc (thr d i) ↦{fullShare} T) ∗ (mkV.view.loc (thr d i) ↦[row2 b]{fullShare} M)) := by
  have hu : (Finset.univ : Finset S16x1024.Idx) = (Finset.univ : Finset (Fin 16)).biUnion fun t => rowT t.val := by
    ext x
    simp only [Finset.mem_univ, Finset.mem_biUnion, mem_rowT, true_and, true_iff]
    exact ⟨x 0, rfl⟩
  have e1 : (tV.view.loc (thr d i) ↦{fullShare} T : sProp 𝕄) = bigSep Finset.univ fun t : Fin 16 => (tV.view.loc (thr d i) ↦[rowT t.val]{fullShare} T) := by
    refine (congrArg (fun I => (tV.view.loc (thr d i) ↦[I]{fullShare} T : sProp 𝕄)) hu).trans ?_
    refine pointsTo_biUnion (ℓ := tV.view.loc (thr d i)) Finset.univ (fun t : Fin 16 => rowT t.val) ?_
    intro t _ t' _ hne
    rw [Finset.disjoint_left]
    intro x h h'
    rw [mem_rowT] at h h'
    exact hne (Fin.ext (by omega))
  rw [e1]
  exact bigSep_last (fun t : Fin 17 => srcW d i b T M t) (fun t : Fin 16 => (tV.view.loc (thr d i) ↦[rowT t.val]{fullShare} T)) _
    (fun t => if_pos (show t.castSucc.val < 16 from t.isLt)) (by unfold srcW; rw [if_neg (by show ¬ 16 < 16; omega)])

/-- The batch is opened. -/
theorem w_start :
    iprop(semVal ((thr d i), .dma cc0_scratch11.sem) 0 ∗ (tV.view.loc (thr d i) ↦{fullShare} T) ∗ (mkV.view.loc (thr d i) ↦[row2 b]{fullShare} M) ∗ bigSep Finset.univ (dstW d i B go gm) : sProp 𝕄)
      ⊢ iprop(|={Set.univ}=> WS d i B b T M OT MT go gm 0) := by
  iintro ⟨Hs, HT, HM, HD⟩
  imod (Transfers.batch_alloc' EC (thr d i) (default : HIx 1) 32768 (Dw d i B b T M OT MT) (E := Set.univ)) $$ Hs with HB
  imodintro
  unfold WS
  rw [Transfers.pending_zero, bigSep_sep', src_join]
  isplitl [HB]; · iexact HB
  isplitr [HD]
  swap; · iexact HD
  isplitl [HT]; · iexact HT
  iexact HM

/-- All have landed. -/
theorem w_collect :
    (Transfers.Batch EC (thr d i) (.dma cc0_scratch11.sem) (default : HIx 1) 32768 (Dw d i B b T M OT MT) 17 (32768 * 17) : sProp 𝕄)
      ⊢ iprop(|={Set.univ}=> (semVal ((thr d i), .dma cc0_scratch11.sem) 0 ∗ (tV.view.loc (thr d i) ↦{fullShare} T) ∗ (mkV.view.loc (thr d i) ↦[row2 b]{fullShare} M) ∗ bigSep Finset.univ (dstW d i B OT MT))) := by
  iintro HB
  imod (Transfers.batch_collect' EC (thr d i) (N := 32768) (Nat.succ_pos _) (D := Dw d i B b T M OT MT) (ι := (default : HIx 1)) (sm := .dma cc0_scratch11.sem)) $$ HB with ⟨HD, Hs⟩
  imodintro
  have e : (bigSep Finset.univ (Dw d i B b T M OT MT) : sProp 𝕄) = iprop(bigSep Finset.univ (dstW d i B OT MT) ∗ ((tV.view.loc (thr d i) ↦{fullShare} T) ∗ (mkV.view.loc (thr d i) ↦[row2 b]{fullShare} M))) := by
    rw [← src_join, ← bigSep_sep']; rfl
  ihave HD := (Entails.of_eq e) $$ HD
  icases HD with ⟨HD, HT, HM⟩
  isplitl [Hs]; · iexact Hs
  isplitl [HT]; · iexact HT
  isplitl [HM]; · iexact HM
  iexact HD

end Cert.Proof.K
end
end
-- ==== Proof.PairWait.lean ====
/-
  Waits of the pair loop: the copies out of a finished chunk and the gathered rows.
-/
module
public import proofs.«01_k».proof.Proof.Parts
public import proofs.«01_k».proof.Proof.WBatch
@[expose] public section
noncomputable section
namespace Cert.Proof.K
open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
variable {F : FTy → Type} [FloatOps F]
local notation "𝕄" => MM F
variable (d : Dev nD) (i : grid0.Coords)

variable (d : Dev nD) (i : grid0.Coords)

/-- The batch of seventeen copies out with `k` of them waited for. -/
def WQ (D : Fin 17 → sProp 𝕄) (k : ℕ) : sProp 𝕄 := Transfers.Batch EC (thr d i) (.dma cc0_scratch11.sem) (default : HIx 1) 32768 D 17 (32768 * k)
/-- The batch of 1024 gathered rows with `k` of its eight streams waited for. -/
def GQ (sem : DmaSem sig) (D : Fin 1024 → sProp 𝕄) (k : ℕ) : sProp 𝕄 := Transfers.Batch EC (thr d i) (.dma sem) (default : HIx 1) 512 D 1024 (65536 * k)

theorem wq_wait {α : Type} {Q : α → sProp 𝕄} {O : CellTallies nD τ sig (HIx 1)} {W : Waits sig (HIx 1)} {kk : PUnit → Pt i α F} (k : ℕ) (hk : k < 17) (D : Fin 17 → sProp 𝕄) {κ : Kind} {sp sp' : Space} {s' : Shape} {e' : EltTy}
    {src : Memref sig (thr d i).2.kind sp' s' e'} {dst : Memref sig κ sp S1024 .f32} (hJ : dst.view.dmaCredit = 32768) {hs hd} :
    iprop(WQ d i D k ∗ Transfers.MayWaits (thr d i) (default : HIx 1) O ∗ Ow d i O W : sProp 𝕄)
      ⊢ iprop((iprop(WQ d i D (k + 1) ∗ Ow d i O W) -∗ wp frame (wpE (defs₀ (F := F)) 𝒱₀ (thr d i) none) Set.univ (kk ⟨⟩) Q) -∗ wp frame (wpE (defs₀ (F := F)) 𝒱₀ (thr d i) none) Set.univ (.op (.waitDma2 cc0_scratch11.sem src dst hs hd) kk) Q) :=
  w_wait d i k hk D hJ

theorem gq_wait {α : Type} {Q : α → sProp 𝕄} {O : CellTallies nD τ sig (HIx 1)} {W : Waits sig (HIx 1)} {kk : PUnit → Pt i α F} (sem : DmaSem sig) (k : ℕ) (hk : k < 8) (D : Fin 1024 → sProp 𝕄)
    {ins : ∀ a : Fin 2, (![0, 0] : Fin 2 → ℕ) a + S500000x16.size a ≤ S500000x16.size a} {og : Fin 2 → ℕ} {inbg : ∀ a : Fin 2, og a + S128x16.size a ≤ S2048x16.size a} {hs hd} :
    iprop(GQ d i sem D k ∗ Transfers.MayWaits (thr d i) (default : HIx 1) O ∗ Ow d i O W : sProp 𝕄)
      ⊢ iprop((iprop(GQ d i sem D (k + 1) ∗ Ow d i O W) -∗ wp frame (wpE (defs₀ (F := F)) 𝒱₀ (thr d i) none) Set.univ (kk ⟨⟩) Q)
        -∗ wp frame (wpE (defs₀ (F := F)) 𝒱₀ (thr d i) none) Set.univ (SparseCore.waitIndirectGather sem (ftV.slice (Rect.unit (s := S500000x16) ![0, 0] S500000x16.size ins) (fun _ => rfl))
              (gV.slice (Rect.unit (s := S2048x16) og S128x16.size inbg) (fun _ => rfl)) hs hd >>= kk) Q) :=
  gather_wait d i sem k hk D

set_option maxHeartbeats 4000000 in
theorem part13_wp {α : Type} {Q : α → sProp 𝕄} {O : CellTallies nD τ sig (HIx 1)} {W : Waits sig (HIx 1)}  (DW : Fin 17 → sProp 𝕄) {kk : PUnit → Pt i α F} : iprop(WQ d i DW 0 ∗ Transfers.MayWaits (thr d i) (default : HIx 1) O ∗ Ow d i O W : sProp 𝕄)
    ⊢ iprop((iprop(WQ d i DW 5 ∗ Ow d i O W) -∗ wp frame (wpE (defs₀ (F := F)) 𝒱₀ (thr d i) none) Set.univ (kk ⟨⟩) Q) -∗ wp frame (wpE (defs₀ (F := F)) 𝒱₀ (thr d i) none) Set.univ (p13 i >>= kk) Q) := by
  iintro ⟨HB, #Hmw, HO⟩ HK
  unfold p13
  simp only [k0_part13_eq_skeleton, k0_part13_skel, Prog.lift, Prog.bind_op, Prog.bind_ret, Prog.pure_eq_ret, Prog.bind_assoc]
  iterate 5
    iapply (wq_wait d i _ ?_ DW rfl) $$ [HB HO]
    rotate_left
    · isplitl [HB]; · iexact HB
      isplitr [HO]; · iexact Hmw
      iexact HO
    iintro ⟨HB, HO⟩
  iapply HK
  · isplitl [HB]; · iexact HB
    iexact HO
  all_goals decide

set_option maxHeartbeats 4000000 in
theorem part14_wp {α : Type} {Q : α → sProp 𝕄} {O : CellTallies nD τ sig (HIx 1)} {W : Waits sig (HIx 1)}  (DW : Fin 17 → sProp 𝕄) {kk : PUnit → Pt i α F} : iprop(WQ d i DW 5 ∗ Transfers.MayWaits (thr d i) (default : HIx 1) O ∗ Ow d i O W : sProp 𝕄)
    ⊢ iprop((iprop(WQ d i DW 10 ∗ Ow d i O W) -∗ wp frame (wpE (defs₀ (F := F)) 𝒱₀ (thr d i) none) Set.univ (kk ⟨⟩) Q) -∗ wp frame (wpE (defs₀ (F := F)) 𝒱₀ (thr d i) none) Set.univ (p14 i >>= kk) Q) := by
  iintro ⟨HB, #Hmw, HO⟩ HK
  unfold p14
  simp only [k0_part14_eq_skeleton, k0_part14_skel, Prog.lift, Prog.bind_op, Prog.bind_ret, Prog.pure_eq_ret, Prog.bind_assoc]
  iterate 5
    iapply (wq_wait d i _ ?_ DW rfl) $$ [HB HO]
    rotate_left
    · isplitl [HB]; · iexact HB
      isplitr [HO]; · iexact Hmw
      iexact HO
    iintro ⟨HB, HO⟩
  iapply HK
  · isplitl [HB]; · iexact HB
    iexact HO
  all_goals decide

set_option maxHeartbeats 4000000 in
theorem part15_wp {α : Type} {Q : α → sProp 𝕄} {O : CellTallies nD τ sig (HIx 1)} {W : Waits sig (HIx 1)}  (DW : Fin 17 → sProp 𝕄) {kk : PUnit → Pt i α F} : iprop(WQ d i DW 10 ∗ Transfers.MayWaits (thr d i) (default : HIx 1) O ∗ Ow d i O W : sProp 𝕄)
    ⊢ iprop((iprop(WQ d i DW 15 ∗ Ow d i O W) -∗ wp frame (wpE (defs₀ (F := F)) 𝒱₀ (thr d i) none) Set.univ (kk ⟨⟩) Q) -∗ wp frame (wpE (defs₀ (F := F)) 𝒱₀ (thr d i) none) Set.univ (p15 i >>= kk) Q) := by
  iintro ⟨HB, #Hmw, HO⟩ HK
  unfold p15
  simp only [k0_part15_eq_skeleton, k0_part15_skel, Prog.lift, Prog.bind_op, Prog.bind_ret, Prog.pure_eq_ret, Prog.bind_assoc]
  iterate 5
    iapply (wq_wait d i _ ?_ DW rfl) $$ [HB HO]
    rotate_left
    · isplitl [HB]; · iexact HB
      isplitr [HO]; · iexact Hmw
      iexact HO
    iintro ⟨HB, HO⟩
  iapply HK
  · isplitl [HB]; · iexact HB
    iexact HO
  all_goals decide

set_option maxHeartbeats 4000000 in
theorem part27_wp {α : Type} {Q : α → sProp 𝕄} {O : CellTallies nD τ sig (HIx 1)} {W : Waits sig (HIx 1)}  (DW : Fin 17 → sProp 𝕄) {kk : PUnit → Pt i α F} : iprop(WQ d i DW 0 ∗ Transfers.MayWaits (thr d i) (default : HIx 1) O ∗ Ow d i O W : sProp 𝕄)
    ⊢ iprop((iprop(WQ d i DW 5 ∗ Ow d i O W) -∗ wp frame (wpE (defs₀ (F := F)) 𝒱₀ (thr d i) none) Set.univ (kk ⟨⟩) Q) -∗ wp frame (wpE (defs₀ (F := F)) 𝒱₀ (thr d i) none) Set.univ (p27 i >>= kk) Q) := by
  iintro ⟨HB, #Hmw, HO⟩ HK
  unfold p27
  simp only [k0_part27_eq_skeleton, k0_part27_skel, Prog.lift, Prog.bind_op, Prog.bind_ret, Prog.pure_eq_ret, Prog.bind_assoc]
  iterate 5
    iapply (wq_wait d i _ ?_ DW rfl) $$ [HB HO]
    rotate_left
    · isplitl [HB]; · iexact HB
      isplitr [HO]; · iexact Hmw
      iexact HO
    iintro ⟨HB, HO⟩
  iapply HK
  · isplitl [HB]; · iexact HB
    iexact HO
  all_goals decide

set_option maxHeartbeats 4000000 in
theorem part28_wp {α : Type} {Q : α → sProp 𝕄} {O : CellTallies nD τ sig (HIx 1)} {W : Waits sig (HIx 1)}  (DW : Fin 17 → sProp 𝕄) {kk : PUnit → Pt i α F} : iprop(WQ d i DW 5 ∗ Transfers.MayWaits (thr d i) (default : HIx 1) O ∗ Ow d i O W : sProp 𝕄)
    ⊢ iprop((iprop(WQ d i DW 10 ∗ Ow d i O W) -∗ wp frame (wpE (defs₀ (F := F)) 𝒱₀ (thr d i) none) Set.univ (kk ⟨⟩) Q) -∗ wp frame (wpE (defs₀ (F := F)) 𝒱₀ (thr d i) none) Set.univ (p28 i >>= kk) Q) := by
  iintro ⟨HB, #Hmw, HO⟩ HK
  unfold p28
  simp only [k0_part28_eq_skeleton, k0_part28_skel, Prog.lift, Prog.bind_op, Prog.bind_ret, Prog.pure_eq_ret, Prog.bind_assoc]
  iterate 5
    iapply (wq_wait d i _ ?_ DW rfl) $$ [HB HO]
    rotate_left
    · isplitl [HB]; · iexact HB
      isplitr [HO]; · iexact Hmw
      iexact HO
    iintro ⟨HB, HO⟩
  iapply HK
  · isplitl [HB]; · iexact HB
    iexact HO
  all_goals decide

set_option maxHeartbeats 4000000 in
theorem part29_wp {α : Type} {Q : α → sProp 𝕄} {O : CellTallies nD τ sig (HIx 1)} {W : Waits sig (HIx 1)}  (DW : Fin 17 → sProp 𝕄) {kk : PUnit → Pt i α F} : iprop(WQ d i DW 10 ∗ Transfers.MayWaits (thr d i) (default : HIx 1) O ∗ Ow d i O W : sProp 𝕄)
    ⊢ iprop((iprop(WQ d i DW 15 ∗ Ow d i O W) -∗ wp frame (wpE (defs₀ (F := F)) 𝒱₀ (thr d i) none) Set.univ (kk ⟨⟩) Q) -∗ wp frame (wpE (defs₀ (F := F)) 𝒱₀ (thr d i) none) Set.univ (p29 i >>= kk) Q) := by
  iintro ⟨HB, #Hmw, HO⟩ HK
  unfold p29
  simp only [k0_part29_eq_skeleton, k0_part29_skel, Prog.lift, Prog.bind_op, Prog.bind_ret, Prog.pure_eq_ret, Prog.bind_assoc]
  iterate 5
    iapply (wq_wait d i _ ?_ DW rfl) $$ [HB HO]
    rotate_left
    · isplitl [HB]; · iexact HB
      isplitr [HO]; · iexact Hmw
      iexact HO
    iintro ⟨HB, HO⟩
  iapply HK
  · isplitl [HB]; · iexact HB
    iexact HO
  all_goals decide

set_option maxHeartbeats 4000000 in
theorem part55_wp {α : Type} {Q : α → sProp 𝕄} {O : CellTallies nD τ sig (HIx 1)} {W : Waits sig (HIx 1)}  (DW : Fin 17 → sProp 𝕄) {kk : PUnit → Pt i α F} : iprop(WQ d i DW 3 ∗ Transfers.MayWaits (thr d i) (default : HIx 1) O ∗ Ow d i O W : sProp 𝕄)
    ⊢ iprop((iprop(WQ d i DW 8 ∗ Ow d i O W) -∗ wp frame (wpE (defs₀ (F := F)) 𝒱₀ (thr d i) none) Set.univ (kk ⟨⟩) Q) -∗ wp frame (wpE (defs₀ (F := F)) 𝒱₀ (thr d i) none) Set.univ (p55 i >>= kk) Q) := by
  iintro ⟨HB, #Hmw, HO⟩ HK
  unfold p55
  simp only [k0_part55_eq_skeleton, k0_part55_skel, Prog.lift, Prog.bind_op, Prog.bind_ret, Prog.pure_eq_ret, Prog.bind_assoc]
  iterate 5
    iapply (wq_wait d i _ ?_ DW rfl) $$ [HB HO]
    rotate_left
    · isplitl [HB]; · iexact HB
      isplitr [HO]; · iexact Hmw
      iexact HO
    iintro ⟨HB, HO⟩
  iapply HK
  · isplitl [HB]; · iexact HB
    iexact HO
  all_goals decide

set_option maxHeartbeats 4000000 in
theorem part56_wp {α : Type} {Q : α → sProp 𝕄} {O : CellTallies nD τ sig (HIx 1)} {W : Waits sig (HIx 1)}  (DW : Fin 17 → sProp 𝕄) {kk : PUnit → Pt i α F} : iprop(WQ d i DW 8 ∗ Transfers.MayWaits (thr d i) (default : HIx 1) O ∗ Ow d i O W : sProp 𝕄)
    ⊢ iprop((iprop(WQ d i DW 13 ∗ Ow d i O W) -∗ wp frame (wpE (defs₀ (F := F)) 𝒱₀ (thr d i) none) Set.univ (kk ⟨⟩) Q) -∗ wp frame (wpE (defs₀ (F := F)) 𝒱₀ (thr d i) none) Set.univ (p56 i >>= kk) Q) := by
  iintro ⟨HB, #Hmw, HO⟩ HK
  unfold p56
  simp only [k0_part56_eq_skeleton, k0_part56_skel, Prog.lift, Prog.bind_op, Prog.bind_ret, Prog.pure_eq_ret, Prog.bind_assoc]
  iterate 5
    iapply (wq_wait d i _ ?_ DW rfl) $$ [HB HO]
    rotate_left
    · isplitl [HB]; · iexact HB
      isplitr [HO]; · iexact Hmw
      iexact HO
    iintro ⟨HB, HO⟩
  iapply HK
  · isplitl [HB]; · iexact HB
    iexact HO
  all_goals decide

set_option maxHeartbeats 4000000 in
theorem part47_wp {α : Type} {Q : α → sProp 𝕄} {O : CellTallies nD τ sig (HIx 1)} {W : Waits sig (HIx 1)} (DG : Fin 1024 → sProp 𝕄) {kk : PUnit → Pt i α F} : iprop(GQ d i cc0_scratch8.sem DG 1 ∗ Transfers.MayWaits (thr d i) (default : HIx 1) O ∗ Ow d i O W : sProp 𝕄)
    ⊢ iprop((iprop(GQ d i cc0_scratch8.sem DG 8 ∗ Ow d i O W) -∗ wp frame (wpE (defs₀ (F := F)) 𝒱₀ (thr d i) none) Set.univ (kk ⟨⟩) Q) -∗ wp frame (wpE (defs₀ (F := F)) 𝒱₀ (thr d i) none) Set.univ (p47 i >>= kk) Q) := by
  iintro ⟨HB, #Hmw, HO⟩ HK
  unfold p47
  simp only [k0_part47_eq_skeleton, k0_part47_skel, Prog.lift, Prog.bind_op, Prog.bind_ret, Prog.pure_eq_ret, Prog.bind_assoc]
  iterate 7
    iapply (gq_wait d i cc0_scratch8.sem _ ?_ DG) $$ [HB HO]
    rotate_left
    · isplitl [HB]; · iexact HB
      isplitr [HO]; · iexact Hmw
      iexact HO
    iintro ⟨HB, HO⟩
  iapply HK
  · isplitl [HB]; · iexact HB
    iexact HO
  all_goals decide

end Cert.Proof.K
end
end
-- ==== Proof.PrepA.lean ====
/-
  The preparation of a chunk: one trip of its loop, at the three places where the loop stands.
-/
module
public import proofs.«01_k».proof.Proof.Bodies
public import proofs.«01_k».proof.Proof.PrepVal
@[expose] public section
noncomputable section
namespace Cert.Proof.K
open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
variable {F : FTy → Type} [FloatOps F]
local notation "𝕄" => MM F
variable (d : Dev nD) (i : grid0.Coords)

theorem l_sub0 {base n r : ℕ} (S : Finset S65536.Idx) (hS : ∀ x : S65536.Idx, base ≤ (x 0).val → (x 0).val < base + 1024 → x ∈ S)
    {off : Fin 1 → ℕ} {inb : ∀ a : Fin 1, off a + (![16] : Fin 1 → ℕ) a ≤ (![65536] : Fin 1 → ℕ) a} (ho : off 0 = base + n + 16 * r) (hn : n + 16 * r + 16 ≤ 1024) :
    lV.view.setOn (Rect.unit (s := S65536) off ![16] inb).toLoadRect.set ⊆ S := by
  intro x hx
  have hx' : x ∈ (Rect.unit (s := S65536) off ![16] inb).set := by
    obtain ⟨a, ha, rfl⟩ := by simpa [View.setOn] using hx
    exact ha
  rw [mem1] at hx'
  exact hS x (by omega) (by omega)

theorem l_sub1 {base n r : ℕ} (S : Finset S65536.Idx) (hS : ∀ x : S65536.Idx, base ≤ (x 0).val → (x 0).val < base + 1024 → x ∈ S)
    {off : Fin 1 → ℕ} {inb : ∀ a : Fin 1, off a + (![16] : Fin 1 → ℕ) a ≤ (![65536] : Fin 1 → ℕ) a} (ho : off 0 = base + n + 16 * r) (hn : n + 16 * r + 16 ≤ 1024) :
    (lV.access (Rect.unit (s := S65536) off ![16] inb)).set ⊆ S := by
  rw [show (lV.access (Rect.unit (s := S65536) off ![16] inb)).set = lV.view.setOn (Rect.unit (s := S65536) off ![16] inb).set from View.set_slice _ _]
  intro x hx
  have hx' : x ∈ (Rect.unit (s := S65536) off ![16] inb).set := by
    obtain ⟨a, ha, rfl⟩ := by simpa [View.setOn] using hx
    exact ha
  rw [mem1] at hx'
  exact hS x (by omega) (by omega)

theorem pad_sum (lo w : BitVec 32) (b m : ℕ) (hw : w = BitVec.ofNat 32 b) (u : BitVec 32) (hu : u = BitVec.ofNat 32 m) :
    Scalar.addi (Scalar.addi lo w) u = lo + BitVec.ofNat 32 (b + m) := by
  subst hw hu
  show lo + _ + _ = _
  rw [BitVec.ofNat_add, BitVec.add_assoc]

theorem step4 : ∀ (t : Fin k0_t4_loop.trips) (r : Fin 8), Scalar.muli (Scalar.addi (Scalar.muli (Scf.iv 0#32 1#32 t) 8#32) (BitVec.ofNat 32 r.val)) 16#32 = BitVec.ofNat 32 (128 * t.val + 16 * r.val) := by decide
theorem step6 : ∀ (t : Fin k0_t6_loop.trips) (r : Fin 8), Scalar.muli (Scalar.addi (Scalar.muli (Scf.iv 0#32 1#32 t) 8#32) (BitVec.ofNat 32 r.val)) 16#32 = BitVec.ofNat 32 (128 * t.val + 16 * r.val) := by decide
theorem step8 : ∀ (t : Fin k0_t8_loop.trips) (r : Fin 8), Scalar.muli (Scalar.addi (Scalar.muli (Scf.iv 0#32 1#32 t) 8#32) (BitVec.ofNat 32 r.val)) 16#32 = BitVec.ofNat 32 (128 * t.val + 16 * r.val) := by decide

theorem pad_at4 (lo : BitVec 32) (t : Fin k0_t4_loop.trips) (r : Fin 8) :
    Scalar.addi (Scalar.addi lo 0#32) (Scalar.muli (Scalar.addi (Scalar.muli (Scf.iv 0#32 1#32 t) 8#32) (BitVec.ofNat 32 r.val)) 16#32) = lo + BitVec.ofNat 32 (0 + 128 * t.val + 16 * r.val) :=
  (pad_sum lo _ 0 _ rfl _ (step4 t r)).trans (by rw [Nat.add_assoc])
theorem pad_at6 (lo v511 : BitVec 32) {b : ℕ} (hv : v511 = BitVec.ofNat 32 b) (t : Fin k0_t6_loop.trips) (r : Fin 8) :
    Scalar.addi (Scalar.addi lo v511) (Scalar.muli (Scalar.addi (Scalar.muli (Scf.iv 0#32 1#32 t) 8#32) (BitVec.ofNat 32 r.val)) 16#32) = lo + BitVec.ofNat 32 (b + 128 * t.val + 16 * r.val) :=
  (pad_sum lo _ b _ hv _ (step6 t r)).trans (by rw [Nat.add_assoc])
theorem pad_at8 (lo v511 : BitVec 32) {b : ℕ} (hv : v511 = BitVec.ofNat 32 b) (t : Fin k0_t8_loop.trips) (r : Fin 8) :
    Scalar.addi (Scalar.addi lo v511) (Scalar.muli (Scalar.addi (Scalar.muli (Scf.iv 0#32 1#32 t) 8#32) (BitVec.ofNat 32 r.val)) 16#32) = lo + BitVec.ofNat 32 (b + 128 * t.val + 16 * r.val) :=
  (pad_sum lo _ b _ hv _ (step8 t r)).trans (by rw [Nat.add_assoc])

theorem off7_at (t : Fin k0_t4_loop.trips) (r : Fin 8) : k0_off7 t (BitVec.ofNat 32 r.val) 0 = 0 + 128 * t.val + 16 * r.val := by
  rw [k0_off7_eq t r]; simp
theorem off8_at (t : Fin k0_t4_loop.trips) (r : Fin 8) : k0_off8 t (BitVec.ofNat 32 r.val) 1 = 128 * t.val + 16 * r.val := by
  rw [k0_off8_eq t r]; simp
theorem off10_at (t5 : Fin k0_t5_loop.trips) (t : Fin k0_t6_loop.trips) (r : Fin 8) : k0_off10 t5 t (BitVec.ofNat 32 r.val) 0 = (2048 * t5.val + 1024) + 128 * t.val + 16 * r.val := by
  rw [k0_off10_eq t5 t r]; simp; omega
theorem off11_at (t : Fin k0_t6_loop.trips) (r : Fin 8) : k0_off11 t (BitVec.ofNat 32 r.val) 1 = 128 * t.val + 16 * r.val := by
  rw [k0_off11_eq t r]; simp
theorem off33_at (t5 : Fin k0_t5_loop.trips) (t : Fin k0_t8_loop.trips) (r : Fin 8) : k0_off33 t5 t (BitVec.ofNat 32 r.val) 0 = (2048 * t5.val + 2048) + 128 * t.val + 16 * r.val := by
  rw [k0_off33_eq t5 t r]; simp; omega
theorem off34_at (t : Fin k0_t8_loop.trips) (r : Fin 8) : k0_off34 t (BitVec.ofNat 32 r.val) 1 = 128 * t.val + 16 * r.val := by
  rw [k0_off34_eq t r]; simp
theorem off7_at' (t : Fin k0_t4_loop.trips) (r : ℕ) (h : r < 8) : k0_off7 t (BitVec.ofNat 32 r) = ![128 * t.val + 16 * r] := k0_off7_eq t ⟨r, h⟩
theorem off8_at' (t : Fin k0_t4_loop.trips) (r : ℕ) (h : r < 8) : k0_off8 t (BitVec.ofNat 32 r) = ![0, 128 * t.val + 16 * r] := k0_off8_eq t ⟨r, h⟩
theorem off10_at' (t5 : Fin k0_t5_loop.trips) (t : Fin k0_t6_loop.trips) (r : ℕ) (h : r < 8) : k0_off10 t5 t (BitVec.ofNat 32 r) = ![2048 * t5.val + 128 * t.val + 16 * r + 1024] := k0_off10_eq t5 t ⟨r, h⟩
theorem off11_at' (t : Fin k0_t6_loop.trips) (r : ℕ) (h : r < 8) : k0_off11 t (BitVec.ofNat 32 r) = ![1, 128 * t.val + 16 * r] := k0_off11_eq t ⟨r, h⟩
theorem off33_at' (t5 : Fin k0_t5_loop.trips) (t : Fin k0_t8_loop.trips) (r : ℕ) (h : r < 8) : k0_off33 t5 t (BitVec.ofNat 32 r) = ![2048 * t5.val + 128 * t.val + 16 * r + 2048] := k0_off33_eq t5 t ⟨r, h⟩
theorem off34_at' (t : Fin k0_t8_loop.trips) (r : ℕ) (h : r < 8) : k0_off34 t (BitVec.ofNat 32 r) = ![0, 128 * t.val + 16 * r] := k0_off34_eq t ⟨r, h⟩

set_option maxRecDepth 8192 in
set_option maxHeartbeats 1000000 in
/-- One trip of the preparation: the next 128 places of the chunk. -/
theorem prep4_trip (lo : BitVec 32) (v3 : IVec S16 32) (hv3 : ∀ x : S16.Idx, v3 x = BitVec.ofNat 32 (x 0).val)
    (t : Fin k0_t4_loop.trips) (f : S65536.Idx → BitVec 32) (g : S2x1024.Idx → F .f32) (S : Finset S65536.Idx)
    (hS : ∀ x : S65536.Idx, 0 ≤ (x 0).val → (x 0).val < 0 + 1024 → x ∈ S) :
    iprop((lV.view.loc (thr d i) ↦[S]{fullShare} prepL lo (0) f (128 * t.val)) ∗ (mkV.view.loc (thr d i) ↦{fullShare} prepM (0) 0 f g (128 * t.val)) : sProp 𝕄)
      ⊢ wp frame (wpE (defs₀ (F := F)) 𝒱₀ (thr d i) none) Set.univ (b4 i lo v3 t ())
          fun _ => iprop((lV.view.loc (thr d i) ↦[S]{fullShare} prepL lo (0) f (128 * t.val + 128)) ∗ (mkV.view.loc (thr d i) ↦{fullShare} prepM (0) 0 f g (128 * t.val + 128))) := by
  have ht := t.isLt
  have e : Scf.trips k0_t4_loop.lb k0_t4_loop.ub k0_t4_loop.st = 8 := by decide
  have ht8 : t.val < 8 := by rw [← e]; exact ht
  unfold b4 k0_t4_body
  simp only [k0_part7_eq_skeleton, k0_part7_skel, k0_part8_eq_skeleton, k0_part8_skel, k0_part9_eq_skeleton, k0_part9_skel, k0_part10_eq_skeleton, k0_part10_skel, k0_part11_eq_skeleton, k0_part11_skel, k0_part12_eq_skeleton, k0_part12_skel, Prog.lift, Prog.bind_op, Prog.bind_ret, Prog.pure_eq_ret, Prog.bind_assoc]
  have hU : ∀ T : Finset S2x1024.Idx, T ⊆ Finset.univ := fun T => Finset.subset_univ T
  iintro ⟨H, HM⟩
  iterate 8
    iapply (wp_load 𝒱₀ (thr d i) none Set.univ (m := lV) (S := S) (f := prepL lo (0) f (128 * t.val)) ?_) $$ H
    rotate_left
    iintro H
  iapply (wp_load 𝒱₀ (thr d i) none Set.univ (m := lV) (S := S) (f := prepL lo (0) f (128 * t.val)) ?_) $$ H
  rotate_left
  iintro H
  iapply (wp_store_writes₀ 𝒱₀ (thr d i) none Set.univ (m := lV) (S := S) (f := prepL lo (0) f (128 * t.val)) ?_) $$ H
  rotate_left
  iintro H
  iapply (wp_load 𝒱₀ (thr d i) none Set.univ (m := mkV) (S := Finset.univ) (f := prepM (0) 0 f g (128 * t.val)) (hU _)) $$ HM
  iintro HM
  iapply (wp_store_writes₀ 𝒱₀ (thr d i) none Set.univ (m := mkV) (S := Finset.univ) (f := prepM (0) 0 f g (128 * t.val)) (hU _)) $$ HM
  iintro HM
  iterate 7
    iapply (wp_load 𝒱₀ (thr d i) none Set.univ (m := lV) (S := S) ?_) $$ H
    rotate_left
    iintro H
    iapply (wp_store_writes 𝒱₀ (thr d i) none Set.univ (m := lV) (S := S) (f := prepL lo (0) f (128 * t.val)) ?_) $$ H
    rotate_left
    iintro H
    iapply (wp_load 𝒱₀ (thr d i) none Set.univ (m := mkV) (S := Finset.univ) (hU _)) $$ HM
    iintro HM
    iapply (wp_store_writes 𝒱₀ (thr d i) none Set.univ (m := mkV) (S := Finset.univ) (f := prepM (0) 0 f g (128 * t.val)) (hU _)) $$ HM
    iintro HM
  rotate_left
  iterate 8 exact l_sub0 S hS (off7_at t ⟨_, by decide⟩) (by show _ + 16 * _ + 16 ≤ 1024; omega)
  iterate 8
    exact l_sub0 S hS (off7_at t ⟨_, by decide⟩) (by show _ + 16 * _ + 16 ≤ 1024; omega)
    exact l_sub1 S hS (off7_at t ⟨_, by decide⟩) (by show _ + 16 * _ + 16 ≤ 1024; omega)
  rw [wp_ret]
  imodintro
  isplitl [H]
  · rw [prepL_step lo (0) (128 * t.val) f _ ?_ ?_ ?_]
    · iexact H
    · simp only [List.forall_mem_cons]
      refine ⟨fun y => pay_cl (r := 7) hv3 (off7_at t ⟨7, by decide⟩) (pad_at4 lo t ⟨7, by decide⟩) y, fun y => pay_cl (r := 6) hv3 (off7_at t ⟨6, by decide⟩) (pad_at4 lo t ⟨6, by decide⟩) y, fun y => pay_cl (r := 5) hv3 (off7_at t ⟨5, by decide⟩) (pad_at4 lo t ⟨5, by decide⟩) y, fun y => pay_cl (r := 4) hv3 (off7_at t ⟨4, by decide⟩) (pad_at4 lo t ⟨4, by decide⟩) y, fun y => pay_cl (r := 3) hv3 (off7_at t ⟨3, by decide⟩) (pad_at4 lo t ⟨3, by decide⟩) y, fun y => pay_cl (r := 2) hv3 (off7_at t ⟨2, by decide⟩) (pad_at4 lo t ⟨2, by decide⟩) y, fun y => pay_cl (r := 1) hv3 (off7_at t ⟨1, by decide⟩) (pad_at4 lo t ⟨1, by decide⟩) y, fun y => pay_cl (r := 0) hv3 (off7_at t ⟨0, by decide⟩) (pad_at4 lo t ⟨0, by decide⟩) y, fun _ h => nomatch h⟩
    · intro x
      simp only [List.exists_mem_cons_iff, List.forall_mem_cons, mem1]
      simp (disch := decide) only [off7_at']
      simp
      omega
    · intro x
      simp only [List.exists_mem_cons_iff, mem1]
      simp (disch := decide) only [off7_at']
      simp
      omega
  · rw [prepM_step (0) 0 (128 * t.val) f g _ ?_ ?_ ?_]
    · iexact HM
    · simp only [List.forall_mem_cons]
      refine ⟨fun y => pay_mk (r := 7) (off7_at t ⟨7, by decide⟩) (off8_at t ⟨7, by decide⟩) y, fun y => pay_mk (r := 6) (off7_at t ⟨6, by decide⟩) (off8_at t ⟨6, by decide⟩) y, fun y => pay_mk (r := 5) (off7_at t ⟨5, by decide⟩) (off8_at t ⟨5, by decide⟩) y, fun y => pay_mk (r := 4) (off7_at t ⟨4, by decide⟩) (off8_at t ⟨4, by decide⟩) y, fun y => pay_mk (r := 3) (off7_at t ⟨3, by decide⟩) (off8_at t ⟨3, by decide⟩) y, fun y => pay_mk (r := 2) (off7_at t ⟨2, by decide⟩) (off8_at t ⟨2, by decide⟩) y, fun y => pay_mk (r := 1) (off7_at t ⟨1, by decide⟩) (off8_at t ⟨1, by decide⟩) y, fun y => pay_mk (r := 0) (off7_at t ⟨0, by decide⟩) (off8_at t ⟨0, by decide⟩) y, fun _ h => nomatch h⟩
    · intro x
      simp only [List.exists_mem_cons_iff, List.forall_mem_cons, mem2]
      simp (disch := decide) only [off8_at']
      simp
      omega
    · intro x
      simp only [List.exists_mem_cons_iff, mem2]
      simp (disch := decide) only [off8_at']
      simp
      omega

end Cert.Proof.K
end
end
-- ==== Proof.PrepB.lean ====
/-
  The preparation of a chunk: one trip of its loop, at the three places where the loop stands.
-/
module
public import proofs.«01_k».proof.Proof.PrepA
@[expose] public section
noncomputable section
namespace Cert.Proof.K
open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
variable {F : FTy → Type} [FloatOps F]
local notation "𝕄" => MM F
variable (d : Dev nD) (i : grid0.Coords)

set_option maxRecDepth 8192 in
set_option maxHeartbeats 1000000 in
/-- One trip of the preparation: the next 128 places of the chunk. -/
theorem prep6_trip (lo : BitVec 32) (v3 : IVec S16 32) (hv3 : ∀ x : S16.Idx, v3 x = BitVec.ofNat 32 (x 0).val) (t5 : Fin k0_t5_loop.trips) (v159 : BitVec 32) (h3 : k0_cond3 t5 = 1#1) (v511 : BitVec 32) (hv : v511 = BitVec.ofNat 32 (2048 * t5.val + 1024))
    (t : Fin k0_t6_loop.trips) (f : S65536.Idx → BitVec 32) (g : S2x1024.Idx → F .f32) (S : Finset S65536.Idx)
    (hS : ∀ x : S65536.Idx, 2048 * t5.val + 1024 ≤ (x 0).val → (x 0).val < 2048 * t5.val + 1024 + 1024 → x ∈ S) :
    iprop((lV.view.loc (thr d i) ↦[S]{fullShare} prepL lo (2048 * t5.val + 1024) f (128 * t.val)) ∗ (mkV.view.loc (thr d i) ↦{fullShare} prepM (2048 * t5.val + 1024) 1 f g (128 * t.val)) : sProp 𝕄)
      ⊢ wp frame (wpE (defs₀ (F := F)) 𝒱₀ (thr d i) none) Set.univ (b6 i lo v3 t5 v159 h3 v511 t ())
          fun _ => iprop((lV.view.loc (thr d i) ↦[S]{fullShare} prepL lo (2048 * t5.val + 1024) f (128 * t.val + 128)) ∗ (mkV.view.loc (thr d i) ↦{fullShare} prepM (2048 * t5.val + 1024) 1 f g (128 * t.val + 128))) := by
  have ht := t.isLt
  have e : Scf.trips k0_t6_loop.lb k0_t6_loop.ub k0_t6_loop.st = 8 := by decide
  have ht8 : t.val < 8 := by rw [← e]; exact ht
  unfold b6 k0_t6_body
  simp only [k0_part16_eq_skeleton, k0_part16_skel, k0_part17_eq_skeleton, k0_part17_skel, k0_part18_eq_skeleton, k0_part18_skel, k0_part19_eq_skeleton, k0_part19_skel, k0_part20_eq_skeleton, k0_part20_skel, k0_part21_eq_skeleton, k0_part21_skel, Prog.lift, Prog.bind_op, Prog.bind_ret, Prog.pure_eq_ret, Prog.bind_assoc]
  have hU : ∀ T : Finset S2x1024.Idx, T ⊆ Finset.univ := fun T => Finset.subset_univ T
  iintro ⟨H, HM⟩
  iterate 8
    iapply (wp_load 𝒱₀ (thr d i) none Set.univ (m := lV) (S := S) (f := prepL lo (2048 * t5.val + 1024) f (128 * t.val)) ?_) $$ H
    rotate_left
    iintro H
  iapply (wp_load 𝒱₀ (thr d i) none Set.univ (m := lV) (S := S) (f := prepL lo (2048 * t5.val + 1024) f (128 * t.val)) ?_) $$ H
  rotate_left
  iintro H
  iapply (wp_store_writes₀ 𝒱₀ (thr d i) none Set.univ (m := lV) (S := S) (f := prepL lo (2048 * t5.val + 1024) f (128 * t.val)) ?_) $$ H
  rotate_left
  iintro H
  iapply (wp_load 𝒱₀ (thr d i) none Set.univ (m := mkV) (S := Finset.univ) (f := prepM (2048 * t5.val + 1024) 1 f g (128 * t.val)) (hU _)) $$ HM
  iintro HM
  iapply (wp_store_writes₀ 𝒱₀ (thr d i) none Set.univ (m := mkV) (S := Finset.univ) (f := prepM (2048 * t5.val + 1024) 1 f g (128 * t.val)) (hU _)) $$ HM
  iintro HM
  iterate 7
    iapply (wp_load 𝒱₀ (thr d i) none Set.univ (m := lV) (S := S) ?_) $$ H
    rotate_left
    iintro H
    iapply (wp_store_writes 𝒱₀ (thr d i) none Set.univ (m := lV) (S := S) (f := prepL lo (2048 * t5.val + 1024) f (128 * t.val)) ?_) $$ H
    rotate_left
    iintro H
    iapply (wp_load 𝒱₀ (thr d i) none Set.univ (m := mkV) (S := Finset.univ) (hU _)) $$ HM
    iintro HM
    iapply (wp_store_writes 𝒱₀ (thr d i) none Set.univ (m := mkV) (S := Finset.univ) (f := prepM (2048 * t5.val + 1024) 1 f g (128 * t.val)) (hU _)) $$ HM
    iintro HM
  rotate_left
  iterate 8 exact l_sub0 S hS (off10_at t5 t ⟨_, by decide⟩) (by show _ + 16 * _ + 16 ≤ 1024; omega)
  iterate 8
    exact l_sub0 S hS (off10_at t5 t ⟨_, by decide⟩) (by show _ + 16 * _ + 16 ≤ 1024; omega)
    exact l_sub1 S hS (off10_at t5 t ⟨_, by decide⟩) (by show _ + 16 * _ + 16 ≤ 1024; omega)
  rw [wp_ret]
  imodintro
  isplitl [H]
  · rw [prepL_step lo (2048 * t5.val + 1024) (128 * t.val) f _ ?_ ?_ ?_]
    · iexact H
    · simp only [List.forall_mem_cons]
      refine ⟨fun y => pay_cl (r := 7) hv3 (off10_at t5 t ⟨7, by decide⟩) (pad_at6 lo v511 hv t ⟨7, by decide⟩) y, fun y => pay_cl (r := 6) hv3 (off10_at t5 t ⟨6, by decide⟩) (pad_at6 lo v511 hv t ⟨6, by decide⟩) y, fun y => pay_cl (r := 5) hv3 (off10_at t5 t ⟨5, by decide⟩) (pad_at6 lo v511 hv t ⟨5, by decide⟩) y, fun y => pay_cl (r := 4) hv3 (off10_at t5 t ⟨4, by decide⟩) (pad_at6 lo v511 hv t ⟨4, by decide⟩) y, fun y => pay_cl (r := 3) hv3 (off10_at t5 t ⟨3, by decide⟩) (pad_at6 lo v511 hv t ⟨3, by decide⟩) y, fun y => pay_cl (r := 2) hv3 (off10_at t5 t ⟨2, by decide⟩) (pad_at6 lo v511 hv t ⟨2, by decide⟩) y, fun y => pay_cl (r := 1) hv3 (off10_at t5 t ⟨1, by decide⟩) (pad_at6 lo v511 hv t ⟨1, by decide⟩) y, fun y => pay_cl (r := 0) hv3 (off10_at t5 t ⟨0, by decide⟩) (pad_at6 lo v511 hv t ⟨0, by decide⟩) y, fun _ h => nomatch h⟩
    · intro x
      simp only [List.exists_mem_cons_iff, List.forall_mem_cons, mem1]
      simp (disch := decide) only [off10_at']
      simp
      omega
    · intro x
      simp only [List.exists_mem_cons_iff, mem1]
      simp (disch := decide) only [off10_at']
      simp
      omega
  · rw [prepM_step (2048 * t5.val + 1024) 1 (128 * t.val) f g _ ?_ ?_ ?_]
    · iexact HM
    · simp only [List.forall_mem_cons]
      refine ⟨fun y => pay_mk (r := 7) (off10_at t5 t ⟨7, by decide⟩) (off11_at t ⟨7, by decide⟩) y, fun y => pay_mk (r := 6) (off10_at t5 t ⟨6, by decide⟩) (off11_at t ⟨6, by decide⟩) y, fun y => pay_mk (r := 5) (off10_at t5 t ⟨5, by decide⟩) (off11_at t ⟨5, by decide⟩) y, fun y => pay_mk (r := 4) (off10_at t5 t ⟨4, by decide⟩) (off11_at t ⟨4, by decide⟩) y, fun y => pay_mk (r := 3) (off10_at t5 t ⟨3, by decide⟩) (off11_at t ⟨3, by decide⟩) y, fun y => pay_mk (r := 2) (off10_at t5 t ⟨2, by decide⟩) (off11_at t ⟨2, by decide⟩) y, fun y => pay_mk (r := 1) (off10_at t5 t ⟨1, by decide⟩) (off11_at t ⟨1, by decide⟩) y, fun y => pay_mk (r := 0) (off10_at t5 t ⟨0, by decide⟩) (off11_at t ⟨0, by decide⟩) y, fun _ h => nomatch h⟩
    · intro x
      simp only [List.exists_mem_cons_iff, List.forall_mem_cons, mem2]
      simp (disch := decide) only [off11_at']
      simp
      omega
    · intro x
      simp only [List.exists_mem_cons_iff, mem2]
      simp (disch := decide) only [off11_at']
      simp
      omega

end Cert.Proof.K
end
end
-- ==== Proof.PrepC.lean ====
/-
  The preparation of a chunk: one trip of its loop, at the three places where the loop stands.
-/
module
public import proofs.«01_k».proof.Proof.PrepA
@[expose] public section
noncomputable section
namespace Cert.Proof.K
open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
variable {F : FTy → Type} [FloatOps F]
local notation "𝕄" => MM F
variable (d : Dev nD) (i : grid0.Coords)

set_option maxRecDepth 8192 in
set_option maxHeartbeats 1000000 in
/-- One trip of the preparation: the next 128 places of the chunk. -/
theorem prep8_trip (lo : BitVec 32) (v3 : IVec S16 32) (hv3 : ∀ x : S16.Idx, v3 x = BitVec.ofNat 32 (x 0).val) (t5 : Fin k0_t5_loop.trips) (v335 : BitVec 32) (h5 : k0_cond5 t5 = 1#1) (v511 : BitVec 32) (hv : v511 = BitVec.ofNat 32 (2048 * t5.val + 2048))
    (t : Fin k0_t8_loop.trips) (f : S65536.Idx → BitVec 32) (g : S2x1024.Idx → F .f32) (S : Finset S65536.Idx)
    (hS : ∀ x : S65536.Idx, 2048 * t5.val + 2048 ≤ (x 0).val → (x 0).val < 2048 * t5.val + 2048 + 1024 → x ∈ S) :
    iprop((lV.view.loc (thr d i) ↦[S]{fullShare} prepL lo (2048 * t5.val + 2048) f (128 * t.val)) ∗ (mkV.view.loc (thr d i) ↦{fullShare} prepM (2048 * t5.val + 2048) 0 f g (128 * t.val)) : sProp 𝕄)
      ⊢ wp frame (wpE (defs₀ (F := F)) 𝒱₀ (thr d i) none) Set.univ (b8 i lo v3 t5 v335 h5 v511 t ())
          fun _ => iprop((lV.view.loc (thr d i) ↦[S]{fullShare} prepL lo (2048 * t5.val + 2048) f (128 * t.val + 128)) ∗ (mkV.view.loc (thr d i) ↦{fullShare} prepM (2048 * t5.val + 2048) 0 f g (128 * t.val + 128))) := by
  have ht := t.isLt
  have e : Scf.trips k0_t8_loop.lb k0_t8_loop.ub k0_t8_loop.st = 8 := by decide
  have ht8 : t.val < 8 := by rw [← e]; exact ht
  unfold b8 k0_t8_body
  simp only [k0_part30_eq_skeleton, k0_part30_skel, k0_part31_eq_skeleton, k0_part31_skel, k0_part32_eq_skeleton, k0_part32_skel, k0_part33_eq_skeleton, k0_part33_skel, k0_part34_eq_skeleton, k0_part34_skel, k0_part35_eq_skeleton, k0_part35_skel, Prog.lift, Prog.bind_op, Prog.bind_ret, Prog.pure_eq_ret, Prog.bind_assoc]
  have hU : ∀ T : Finset S2x1024.Idx, T ⊆ Finset.univ := fun T => Finset.subset_univ T
  iintro ⟨H, HM⟩
  iterate 8
    iapply (wp_load 𝒱₀ (thr d i) none Set.univ (m := lV) (S := S) (f := prepL lo (2048 * t5.val + 2048) f (128 * t.val)) ?_) $$ H
    rotate_left
    iintro H
  iapply (wp_load 𝒱₀ (thr d i) none Set.univ (m := lV) (S := S) (f := prepL lo (2048 * t5.val + 2048) f (128 * t.val)) ?_) $$ H
  rotate_left
  iintro H
  iapply (wp_store_writes₀ 𝒱₀ (thr d i) none Set.univ (m := lV) (S := S) (f := prepL lo (2048 * t5.val + 2048) f (128 * t.val)) ?_) $$ H
  rotate_left
  iintro H
  iapply (wp_load 𝒱₀ (thr d i) none Set.univ (m := mkV) (S := Finset.univ) (f := prepM (2048 * t5.val + 2048) 0 f g (128 * t.val)) (hU _)) $$ HM
  iintro HM
  iapply (wp_store_writes₀ 𝒱₀ (thr d i) none Set.univ (m := mkV) (S := Finset.univ) (f := prepM (2048 * t5.val + 2048) 0 f g (128 * t.val)) (hU _)) $$ HM
  iintro HM
  iterate 7
    iapply (wp_load 𝒱₀ (thr d i) none Set.univ (m := lV) (S := S) ?_) $$ H
    rotate_left
    iintro H
    iapply (wp_store_writes 𝒱₀ (thr d i) none Set.univ (m := lV) (S := S) (f := prepL lo (2048 * t5.val + 2048) f (128 * t.val)) ?_) $$ H
    rotate_left
    iintro H
    iapply (wp_load 𝒱₀ (thr d i) none Set.univ (m := mkV) (S := Finset.univ) (hU _)) $$ HM
    iintro HM
    iapply (wp_store_writes 𝒱₀ (thr d i) none Set.univ (m := mkV) (S := Finset.univ) (f := prepM (2048 * t5.val + 2048) 0 f g (128 * t.val)) (hU _)) $$ HM
    iintro HM
  rotate_left
  iterate 8 exact l_sub0 S hS (off33_at t5 t ⟨_, by decide⟩) (by show _ + 16 * _ + 16 ≤ 1024; omega)
  iterate 8
    exact l_sub0 S hS (off33_at t5 t ⟨_, by decide⟩) (by show _ + 16 * _ + 16 ≤ 1024; omega)
    exact l_sub1 S hS (off33_at t5 t ⟨_, by decide⟩) (by show _ + 16 * _ + 16 ≤ 1024; omega)
  rw [wp_ret]
  imodintro
  isplitl [H]
  · rw [prepL_step lo (2048 * t5.val + 2048) (128 * t.val) f _ ?_ ?_ ?_]
    · iexact H
    · simp only [List.forall_mem_cons]
      refine ⟨fun y => pay_cl (r := 7) hv3 (off33_at t5 t ⟨7, by decide⟩) (pad_at8 lo v511 hv t ⟨7, by decide⟩) y, fun y => pay_cl (r := 6) hv3 (off33_at t5 t ⟨6, by decide⟩) (pad_at8 lo v511 hv t ⟨6, by decide⟩) y, fun y => pay_cl (r := 5) hv3 (off33_at t5 t ⟨5, by decide⟩) (pad_at8 lo v511 hv t ⟨5, by decide⟩) y, fun y => pay_cl (r := 4) hv3 (off33_at t5 t ⟨4, by decide⟩) (pad_at8 lo v511 hv t ⟨4, by decide⟩) y, fun y => pay_cl (r := 3) hv3 (off33_at t5 t ⟨3, by decide⟩) (pad_at8 lo v511 hv t ⟨3, by decide⟩) y, fun y => pay_cl (r := 2) hv3 (off33_at t5 t ⟨2, by decide⟩) (pad_at8 lo v511 hv t ⟨2, by decide⟩) y, fun y => pay_cl (r := 1) hv3 (off33_at t5 t ⟨1, by decide⟩) (pad_at8 lo v511 hv t ⟨1, by decide⟩) y, fun y => pay_cl (r := 0) hv3 (off33_at t5 t ⟨0, by decide⟩) (pad_at8 lo v511 hv t ⟨0, by decide⟩) y, fun _ h => nomatch h⟩
    · intro x
      simp only [List.exists_mem_cons_iff, List.forall_mem_cons, mem1]
      simp (disch := decide) only [off33_at']
      simp
      omega
    · intro x
      simp only [List.exists_mem_cons_iff, mem1]
      simp (disch := decide) only [off33_at']
      simp
      omega
  · rw [prepM_step (2048 * t5.val + 2048) 0 (128 * t.val) f g _ ?_ ?_ ?_]
    · iexact HM
    · simp only [List.forall_mem_cons]
      refine ⟨fun y => pay_mk (r := 7) (off33_at t5 t ⟨7, by decide⟩) (off34_at t ⟨7, by decide⟩) y, fun y => pay_mk (r := 6) (off33_at t5 t ⟨6, by decide⟩) (off34_at t ⟨6, by decide⟩) y, fun y => pay_mk (r := 5) (off33_at t5 t ⟨5, by decide⟩) (off34_at t ⟨5, by decide⟩) y, fun y => pay_mk (r := 4) (off33_at t5 t ⟨4, by decide⟩) (off34_at t ⟨4, by decide⟩) y, fun y => pay_mk (r := 3) (off33_at t5 t ⟨3, by decide⟩) (off34_at t ⟨3, by decide⟩) y, fun y => pay_mk (r := 2) (off33_at t5 t ⟨2, by decide⟩) (off34_at t ⟨2, by decide⟩) y, fun y => pay_mk (r := 1) (off33_at t5 t ⟨1, by decide⟩) (off34_at t ⟨1, by decide⟩) y, fun y => pay_mk (r := 0) (off33_at t5 t ⟨0, by decide⟩) (off34_at t ⟨0, by decide⟩) y, fun _ h => nomatch h⟩
    · intro x
      simp only [List.exists_mem_cons_iff, List.forall_mem_cons, mem2]
      simp (disch := decide) only [off34_at']
      simp
      omega
    · intro x
      simp only [List.exists_mem_cons_iff, mem2]
      simp (disch := decide) only [off34_at']
      simp
      omega

end Cert.Proof.K
end
end
-- ==== Proof.XposeA.lean ====
/-
  One trip of the transposition of a chunk: the sixteen channels of sixteen places, read out of the gathered rows while the
  other half of their buffer may be in flight.
-/
module
public import proofs.«01_k».proof.Proof.XposeVal
@[expose] public section
noncomputable section
namespace Cert.Proof.K
open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
variable {F : FTy → Type} [FloatOps F]
local notation "𝕄" => MM F
variable (d : Dev nD) (i : grid0.Coords)

theorem half_union_symm : half 1 ∪ half 0 = Finset.univ := by rw [Finset.union_comm]; exact half_union

theorem dn_sub {b n : ℕ} {off : Fin 2 → ℕ} {inb : ∀ a : Fin 2, off a + (![1, 16] : Fin 2 → ℕ) a ≤ (![2, 1024] : Fin 2 → ℕ) a} (ho : off = ![b, n]) :
    dnV.view.setOn (Rect.unit (s := S2x1024) off ![1, 16] inb).toLoadRect.set ⊆ row2 b := by
  subst ho
  intro x hx
  have hx' : x ∈ (Rect.unit (s := S2x1024) ![b, n] ![1, 16] inb).set := by
    obtain ⟨a, ha, rfl⟩ := by simpa [View.setOn] using hx
    exact ha
  rw [mem2] at hx'
  rw [mem_row2]
  have := hx'.1
  simp at this
  omega

theorem mem_half_at {b p ch : ℕ} {hb : b < 2} {hp : p < 1024} {hc : ch < 16} {x : S2048x16.Idx} (hx : x = gAt b p ch hb hp hc) : x ∈ half b := by
  subst hx
  rw [mem_half]
  show (1024 * b + p) / 1024 = b
  omega

theorem rowv7_at : ∀ (t : Fin k0_t7_loop.trips), Scalar.addi 0#32 (Scalar.muli (Scf.iv 0#32 1#32 t) 16#32) = BitVec.ofNat 32 (1024 * 0 + 16 * t.val) := by decide

theorem lanes_in {b n ch : ℕ} (hb : b < 2) (hn : n + 16 ≤ 1024) (hc : ch < 16) {rw cv : IVec S16 32}
    (hr : ∀ x : S16.Idx, rw x = BitVec.ofNat 32 (1024 * b + n + (x 0).val)) (hcv : ∀ x : S16.Idx, cv x = BitVec.ofNat 32 ch)
    (h : ∀ (a : Fin S2048x16.rank) (x : S16.Idx), ((![rw, cv] : Fin 2 → IVec S16 32) a x).toNat < S2048x16.size a) (x : S16.Idx) :
    idxAt (s := S2048x16) ![rw, cv] h x ∈ half b := mem_half_at (idx_eq hb hn hc hr hcv h x)

set_option maxRecDepth 8192 in
set_option maxHeartbeats 2000000 in
/-- One trip of the transposition of half 0: the next sixteen places of every channel. -/
theorem xpose7_trip (v2 : BitVec 32) (v3 : IVec S16 32) (hv3 : ∀ x : S16.Idx, v3 x = BitVec.ofNat 32 (x 0).val) (t5 : Fin k0_t5_loop.trips) (v159 : BitVec 32)
    (t : Fin k0_t7_loop.trips) (m dn : S2x1024.Idx → F .f32) (g : S2048x16.Idx → F .f32) (T : S16x1024.Idx → F .f32) {R : sProp 𝕄} (hR : Peekable d i (half 1) R) :
    iprop((mkV.view.loc (thr d i) ↦{fullShare} m) ∗ (dnV.view.loc (thr d i) ↦[row2 0]{fullShare} dn) ∗ (gV.view.loc (thr d i) ↦[half 0]{fullShare} g) ∗ R
        ∗ (tV.view.loc (thr d i) ↦{fullShare} xpL 0 (by decide) m dn g T (16 * t.val)) : sProp 𝕄)
      ⊢ wp frame (wpE (defs₀ (F := F)) 𝒱₀ (thr d i) none) Set.univ (b7 i v2 v3 t5 v159 t ())
          fun _ => iprop((mkV.view.loc (thr d i) ↦{fullShare} m) ∗ (dnV.view.loc (thr d i) ↦[row2 0]{fullShare} dn) ∗ (gV.view.loc (thr d i) ↦[half 0]{fullShare} g) ∗ R
            ∗ (tV.view.loc (thr d i) ↦{fullShare} xpL 0 (by decide) m dn g T (16 * t.val + 16))) := by
  have ht := t.isLt
  have e : Scf.trips k0_t7_loop.lb k0_t7_loop.ub k0_t7_loop.st = 64 := by decide
  have ht8 : t.val < 64 := by rw [← e]; exact ht
  have hn : 16 * t.val + 16 ≤ 1024 := by omega
  have hr : ∀ x : S16.Idx, k0_pay114 v3 0#32 1#32 t x = BitVec.ofNat 32 (1024 * 0 + 16 * t.val + (x 0).val) := by
    intro x
    show Scalar.addi 0#32 (Scalar.muli (Scf.iv 0#32 1#32 t) 16#32) + v3 x = _
    rw [rowv7_at, hv3, BitVec.ofNat_add (1024 * 0 + 16 * t.val)]
  have hcv : ∀ (c : ℕ) (x : S16.Idx), broadcast S16 (BitVec.ofNat 32 c) x = BitVec.ofNat 32 c := fun _ _ => rfl
  have hU : ∀ T : Finset S2x1024.Idx, T ⊆ Finset.univ := fun T => Finset.subset_univ T
  have hT : ∀ T : Finset S16x1024.Idx, T ⊆ Finset.univ := fun T => Finset.subset_univ T
  unfold b7 k0_t7_body
  simp only [k0_part24_eq_skeleton, k0_part24_skel, k0_part25_eq_skeleton, k0_part25_skel, k0_part26_eq_skeleton, k0_part26_skel, Prog.lift, Prog.bind_op, Prog.bind_ret, Prog.pure_eq_ret, Prog.bind_assoc]
  iintro ⟨HM, HD, HG, HR, HT⟩
  iapply (wp_load 𝒱₀ (thr d i) none Set.univ (m := mkV) (S := Finset.univ) (f := m) (hU _)) $$ HM
  iintro HM
  iapply (wp_load 𝒱₀ (thr d i) none Set.univ (m := dnV) (S := row2 0) (f := dn) (dn_sub (k0_off14_eq t))) $$ HD
  iintro HD
  iterate 16
    iapply (wp_assume 𝒱₀ (thr d i) none Set.univ (row_ok (b := 0) (by decide) hn ?_ hr (hcv _)))
  iterate 16
    iapply (wp_peek d i half_disj half_union hR (f := g) (lanes_in (b := 0) (by decide) hn ?_ hr (hcv _) _)) $$ [HG HR]
    rotate_left
    · isplitl [HG]; · iexact HG
      iexact HR
    iintro ⟨HG, HR⟩
  iapply (wp_load 𝒱₀ (thr d i) none Set.univ (m := tV) (S := Finset.univ) (hT _)) $$ HT
  iintro HT
  iapply (wp_store_writes₀ 𝒱₀ (thr d i) none Set.univ (m := tV) (S := Finset.univ) (hT _)) $$ HT
  iintro HT
  iterate 15
    iapply (wp_load 𝒱₀ (thr d i) none Set.univ (m := tV) (S := Finset.univ) (hT _)) $$ HT
    iintro HT
    iapply (wp_store_writes 𝒱₀ (thr d i) none Set.univ (m := tV) (S := Finset.univ) (f := xpL 0 (by decide) m dn g T (16 * t.val)) (hT _)) $$ HT
    iintro HT
  rotate_left
  iterate 32 (first | decide | skip)
  rw [wp_ret]
  imodintro
  isplitl [HM]; · iexact HM
  isplitl [HD]; · iexact HD
  isplitl [HG]; · iexact HG
  isplitl [HR]; · iexact HR
  rw [xpL_step 0 (by decide) m dn g T (16 * t.val) _ ?_ ?_ ?_]
  · iexact HT
  · simp only [List.forall_mem_cons]
    refine ⟨fun y => pay_ch (b := 0) (hb := by decide) (m := m) (dn := dn) (g := g) (ch := 15) (inb := k0_off14_inb t) (inb' := k0_off30_inb t) hn (k0_off14_eq t) (by decide) (k0_off30_eq t) hr (hcv 15) (row_ok (b := 0) (by decide) hn (by decide) hr (hcv 15)) (by decide) (h1 := shapeCasts_S1x16_S16) (h2 := shapeCasts_S16_S1x16) y,
      fun y => pay_ch (b := 0) (hb := by decide) (m := m) (dn := dn) (g := g) (ch := 14) (inb := k0_off14_inb t) (inb' := k0_off29_inb t) hn (k0_off14_eq t) (by decide) (k0_off29_eq t) hr (hcv 14) (row_ok (b := 0) (by decide) hn (by decide) hr (hcv 14)) (by decide) (h1 := shapeCasts_S1x16_S16) (h2 := shapeCasts_S16_S1x16) y,
      fun y => pay_ch (b := 0) (hb := by decide) (m := m) (dn := dn) (g := g) (ch := 13) (inb := k0_off14_inb t) (inb' := k0_off28_inb t) hn (k0_off14_eq t) (by decide) (k0_off28_eq t) hr (hcv 13) (row_ok (b := 0) (by decide) hn (by decide) hr (hcv 13)) (by decide) (h1 := shapeCasts_S1x16_S16) (h2 := shapeCasts_S16_S1x16) y,
      fun y => pay_ch (b := 0) (hb := by decide) (m := m) (dn := dn) (g := g) (ch := 12) (inb := k0_off14_inb t) (inb' := k0_off27_inb t) hn (k0_off14_eq t) (by decide) (k0_off27_eq t) hr (hcv 12) (row_ok (b := 0) (by decide) hn (by decide) hr (hcv 12)) (by decide) (h1 := shapeCasts_S1x16_S16) (h2 := shapeCasts_S16_S1x16) y,
      fun y => pay_ch (b := 0) (hb := by decide) (m := m) (dn := dn) (g := g) (ch := 11) (inb := k0_off14_inb t) (inb' := k0_off26_inb t) hn (k0_off14_eq t) (by decide) (k0_off26_eq t) hr (hcv 11) (row_ok (b := 0) (by decide) hn (by decide) hr (hcv 11)) (by decide) (h1 := shapeCasts_S1x16_S16) (h2 := shapeCasts_S16_S1x16) y,
      fun y => pay_ch (b := 0) (hb := by decide) (m := m) (dn := dn) (g := g) (ch := 10) (inb := k0_off14_inb t) (inb' := k0_off25_inb t) hn (k0_off14_eq t) (by decide) (k0_off25_eq t) hr (hcv 10) (row_ok (b := 0) (by decide) hn (by decide) hr (hcv 10)) (by decide) (h1 := shapeCasts_S1x16_S16) (h2 := shapeCasts_S16_S1x16) y,
      fun y => pay_ch (b := 0) (hb := by decide) (m := m) (dn := dn) (g := g) (ch := 9) (inb := k0_off14_inb t) (inb' := k0_off24_inb t) hn (k0_off14_eq t) (by decide) (k0_off24_eq t) hr (hcv 9) (row_ok (b := 0) (by decide) hn (by decide) hr (hcv 9)) (by decide) (h1 := shapeCasts_S1x16_S16) (h2 := shapeCasts_S16_S1x16) y,
      fun y => pay_ch (b := 0) (hb := by decide) (m := m) (dn := dn) (g := g) (ch := 8) (inb := k0_off14_inb t) (inb' := k0_off23_inb t) hn (k0_off14_eq t) (by decide) (k0_off23_eq t) hr (hcv 8) (row_ok (b := 0) (by decide) hn (by decide) hr (hcv 8)) (by decide) (h1 := shapeCasts_S1x16_S16) (h2 := shapeCasts_S16_S1x16) y,
      fun y => pay_ch (b := 0) (hb := by decide) (m := m) (dn := dn) (g := g) (ch := 7) (inb := k0_off14_inb t) (inb' := k0_off22_inb t) hn (k0_off14_eq t) (by decide) (k0_off22_eq t) hr (hcv 7) (row_ok (b := 0) (by decide) hn (by decide) hr (hcv 7)) (by decide) (h1 := shapeCasts_S1x16_S16) (h2 := shapeCasts_S16_S1x16) y,
      fun y => pay_ch (b := 0) (hb := by decide) (m := m) (dn := dn) (g := g) (ch := 6) (inb := k0_off14_inb t) (inb' := k0_off21_inb t) hn (k0_off14_eq t) (by decide) (k0_off21_eq t) hr (hcv 6) (row_ok (b := 0) (by decide) hn (by decide) hr (hcv 6)) (by decide) (h1 := shapeCasts_S1x16_S16) (h2 := shapeCasts_S16_S1x16) y,
      fun y => pay_ch (b := 0) (hb := by decide) (m := m) (dn := dn) (g := g) (ch := 5) (inb := k0_off14_inb t) (inb' := k0_off20_inb t) hn (k0_off14_eq t) (by decide) (k0_off20_eq t) hr (hcv 5) (row_ok (b := 0) (by decide) hn (by decide) hr (hcv 5)) (by decide) (h1 := shapeCasts_S1x16_S16) (h2 := shapeCasts_S16_S1x16) y,
      fun y => pay_ch (b := 0) (hb := by decide) (m := m) (dn := dn) (g := g) (ch := 4) (inb := k0_off14_inb t) (inb' := k0_off19_inb t) hn (k0_off14_eq t) (by decide) (k0_off19_eq t) hr (hcv 4) (row_ok (b := 0) (by decide) hn (by decide) hr (hcv 4)) (by decide) (h1 := shapeCasts_S1x16_S16) (h2 := shapeCasts_S16_S1x16) y,
      fun y => pay_ch (b := 0) (hb := by decide) (m := m) (dn := dn) (g := g) (ch := 3) (inb := k0_off14_inb t) (inb' := k0_off18_inb t) hn (k0_off14_eq t) (by decide) (k0_off18_eq t) hr (hcv 3) (row_ok (b := 0) (by decide) hn (by decide) hr (hcv 3)) (by decide) (h1 := shapeCasts_S1x16_S16) (h2 := shapeCasts_S16_S1x16) y,
      fun y => pay_ch (b := 0) (hb := by decide) (m := m) (dn := dn) (g := g) (ch := 2) (inb := k0_off14_inb t) (inb' := k0_off17_inb t) hn (k0_off14_eq t) (by decide) (k0_off17_eq t) hr (hcv 2) (row_ok (b := 0) (by decide) hn (by decide) hr (hcv 2)) (by decide) (h1 := shapeCasts_S1x16_S16) (h2 := shapeCasts_S16_S1x16) y,
      fun y => pay_ch (b := 0) (hb := by decide) (m := m) (dn := dn) (g := g) (ch := 1) (inb := k0_off14_inb t) (inb' := k0_off16_inb t) hn (k0_off14_eq t) (by decide) (k0_off16_eq t) hr (hcv 1) (row_ok (b := 0) (by decide) hn (by decide) hr (hcv 1)) (by decide) (h1 := shapeCasts_S1x16_S16) (h2 := shapeCasts_S16_S1x16) y,
      fun y => pay_c0 (b := 0) (hb := by decide) (m := m) (dn := dn) (g := g) (ch := 0) (inb := k0_off14_inb t) (inb' := k0_off15_inb t) hn (k0_off14_eq t) (k0_off15_eq t) hr (hcv 0) (row_ok (b := 0) (by decide) hn (by decide) hr (hcv 0)) rfl (h1 := shapeCasts_S1x16_S16) (h2 := shapeCasts_S16_S1x16) (h3 := shapeCasts_S1x16_S16) (h4 := shapeCasts_S1x16_S16) y, fun _ h => nomatch h⟩
  · intro x
    simp only [List.exists_mem_cons_iff, List.forall_mem_cons, mem2]
    simp only [k0_off15_eq, k0_off16_eq, k0_off17_eq, k0_off18_eq, k0_off19_eq, k0_off20_eq, k0_off21_eq, k0_off22_eq, k0_off23_eq, k0_off24_eq, k0_off25_eq, k0_off26_eq, k0_off27_eq, k0_off28_eq, k0_off29_eq, k0_off30_eq]
    have : (x 0).val < 16 := (x 0).isLt
    simp
    omega
  · intro x
    simp only [List.exists_mem_cons_iff, mem2]
    simp only [k0_off15_eq, k0_off16_eq, k0_off17_eq, k0_off18_eq, k0_off19_eq, k0_off20_eq, k0_off21_eq, k0_off22_eq, k0_off23_eq, k0_off24_eq, k0_off25_eq, k0_off26_eq, k0_off27_eq, k0_off28_eq, k0_off29_eq, k0_off30_eq]
    simp
    omega

end Cert.Proof.K
end
end
-- ==== Proof.XposeB.lean ====
/-
  One trip of the transposition of a chunk: the sixteen channels of sixteen places, read out of the gathered rows while the
  other half of their buffer may be in flight.
-/
module
public import proofs.«01_k».proof.Proof.XposeA
@[expose] public section
noncomputable section
namespace Cert.Proof.K
open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
variable {F : FTy → Type} [FloatOps F]
local notation "𝕄" => MM F
variable (d : Dev nD) (i : grid0.Coords)

theorem rowv9_at : ∀ (t : Fin k0_t9_loop.trips), Scalar.addi 1024#32 (Scalar.muli (Scf.iv 0#32 1#32 t) 16#32) = BitVec.ofNat 32 (1024 * 1 + 16 * t.val) := by decide

set_option maxRecDepth 8192 in
set_option maxHeartbeats 2000000 in
/-- One trip of the transposition of half 1: the next sixteen places of every channel. -/
theorem xpose9_trip (v2 : BitVec 32) (v3 : IVec S16 32) (hv3 : ∀ x : S16.Idx, v3 x = BitVec.ofNat 32 (x 0).val) (t5 : Fin k0_t5_loop.trips) (v159 : BitVec 32)
    (t : Fin k0_t9_loop.trips) (m dn : S2x1024.Idx → F .f32) (g : S2048x16.Idx → F .f32) (T : S16x1024.Idx → F .f32) {R : sProp 𝕄} (hR : Peekable d i (half 0) R) :
    iprop((mkV.view.loc (thr d i) ↦{fullShare} m) ∗ (dnV.view.loc (thr d i) ↦[row2 1]{fullShare} dn) ∗ (gV.view.loc (thr d i) ↦[half 1]{fullShare} g) ∗ R
        ∗ (tV.view.loc (thr d i) ↦{fullShare} xpL 1 (by decide) m dn g T (16 * t.val)) : sProp 𝕄)
      ⊢ wp frame (wpE (defs₀ (F := F)) 𝒱₀ (thr d i) none) Set.univ (b9 i v2 v3 t5 v159 t ())
          fun _ => iprop((mkV.view.loc (thr d i) ↦{fullShare} m) ∗ (dnV.view.loc (thr d i) ↦[row2 1]{fullShare} dn) ∗ (gV.view.loc (thr d i) ↦[half 1]{fullShare} g) ∗ R
            ∗ (tV.view.loc (thr d i) ↦{fullShare} xpL 1 (by decide) m dn g T (16 * t.val + 16))) := by
  have ht := t.isLt
  have e : Scf.trips k0_t9_loop.lb k0_t9_loop.ub k0_t9_loop.st = 64 := by decide
  have ht8 : t.val < 64 := by rw [← e]; exact ht
  have hn : 16 * t.val + 16 ≤ 1024 := by omega
  have hr : ∀ x : S16.Idx, k0_pay163 v3 0#32 1#32 t x = BitVec.ofNat 32 (1024 * 1 + 16 * t.val + (x 0).val) := by
    intro x
    show Scalar.addi 1024#32 (Scalar.muli (Scf.iv 0#32 1#32 t) 16#32) + v3 x = _
    rw [rowv9_at, hv3, BitVec.ofNat_add (1024 * 1 + 16 * t.val)]
  have hcv : ∀ (c : ℕ) (x : S16.Idx), broadcast S16 (BitVec.ofNat 32 c) x = BitVec.ofNat 32 c := fun _ _ => rfl
  have hU : ∀ T : Finset S2x1024.Idx, T ⊆ Finset.univ := fun T => Finset.subset_univ T
  have hT : ∀ T : Finset S16x1024.Idx, T ⊆ Finset.univ := fun T => Finset.subset_univ T
  unfold b9 k0_t9_body
  simp only [k0_part38_eq_skeleton, k0_part38_skel, k0_part39_eq_skeleton, k0_part39_skel, k0_part40_eq_skeleton, k0_part40_skel, Prog.lift, Prog.bind_op, Prog.bind_ret, Prog.pure_eq_ret, Prog.bind_assoc]
  iintro ⟨HM, HD, HG, HR, HT⟩
  iapply (wp_load 𝒱₀ (thr d i) none Set.univ (m := mkV) (S := Finset.univ) (f := m) (hU _)) $$ HM
  iintro HM
  iapply (wp_load 𝒱₀ (thr d i) none Set.univ (m := dnV) (S := row2 1) (f := dn) (dn_sub (k0_off37_eq t))) $$ HD
  iintro HD
  iterate 16
    iapply (wp_assume 𝒱₀ (thr d i) none Set.univ (row_ok (b := 1) (by decide) hn ?_ hr (hcv _)))
  iterate 16
    iapply (wp_peek d i half_disj.symm half_union_symm hR (f := g) (lanes_in (b := 1) (by decide) hn ?_ hr (hcv _) _)) $$ [HG HR]
    rotate_left
    · isplitl [HG]; · iexact HG
      iexact HR
    iintro ⟨HG, HR⟩
  iapply (wp_load 𝒱₀ (thr d i) none Set.univ (m := tV) (S := Finset.univ) (hT _)) $$ HT
  iintro HT
  iapply (wp_store_writes₀ 𝒱₀ (thr d i) none Set.univ (m := tV) (S := Finset.univ) (hT _)) $$ HT
  iintro HT
  iterate 15
    iapply (wp_load 𝒱₀ (thr d i) none Set.univ (m := tV) (S := Finset.univ) (hT _)) $$ HT
    iintro HT
    iapply (wp_store_writes 𝒱₀ (thr d i) none Set.univ (m := tV) (S := Finset.univ) (f := xpL 1 (by decide) m dn g T (16 * t.val)) (hT _)) $$ HT
    iintro HT
  rotate_left
  iterate 32 (first | decide | skip)
  rw [wp_ret]
  imodintro
  isplitl [HM]; · iexact HM
  isplitl [HD]; · iexact HD
  isplitl [HG]; · iexact HG
  isplitl [HR]; · iexact HR
  rw [xpL_step 1 (by decide) m dn g T (16 * t.val) _ ?_ ?_ ?_]
  · iexact HT
  · simp only [List.forall_mem_cons]
    refine ⟨fun y => pay_ch (b := 1) (hb := by decide) (m := m) (dn := dn) (g := g) (ch := 15) (inb := k0_off37_inb t) (inb' := k0_off53_inb t) hn (k0_off37_eq t) (by decide) (k0_off53_eq t) hr (hcv 15) (row_ok (b := 1) (by decide) hn (by decide) hr (hcv 15)) (by decide) (h1 := shapeCasts_S1x16_S16) (h2 := shapeCasts_S16_S1x16) y,
      fun y => pay_ch (b := 1) (hb := by decide) (m := m) (dn := dn) (g := g) (ch := 14) (inb := k0_off37_inb t) (inb' := k0_off52_inb t) hn (k0_off37_eq t) (by decide) (k0_off52_eq t) hr (hcv 14) (row_ok (b := 1) (by decide) hn (by decide) hr (hcv 14)) (by decide) (h1 := shapeCasts_S1x16_S16) (h2 := shapeCasts_S16_S1x16) y,
      fun y => pay_ch (b := 1) (hb := by decide) (m := m) (dn := dn) (g := g) (ch := 13) (inb := k0_off37_inb t) (inb' := k0_off51_inb t) hn (k0_off37_eq t) (by decide) (k0_off51_eq t) hr (hcv 13) (row_ok (b := 1) (by decide) hn (by decide) hr (hcv 13)) (by decide) (h1 := shapeCasts_S1x16_S16) (h2 := shapeCasts_S16_S1x16) y,
      fun y => pay_ch (b := 1) (hb := by decide) (m := m) (dn := dn) (g := g) (ch := 12) (inb := k0_off37_inb t) (inb' := k0_off50_inb t) hn (k0_off37_eq t) (by decide) (k0_off50_eq t) hr (hcv 12) (row_ok (b := 1) (by decide) hn (by decide) hr (hcv 12)) (by decide) (h1 := shapeCasts_S1x16_S16) (h2 := shapeCasts_S16_S1x16) y,
      fun y => pay_ch (b := 1) (hb := by decide) (m := m) (dn := dn) (g := g) (ch := 11) (inb := k0_off37_inb t) (inb' := k0_off49_inb t) hn (k0_off37_eq t) (by decide) (k0_off49_eq t) hr (hcv 11) (row_ok (b := 1) (by decide) hn (by decide) hr (hcv 11)) (by decide) (h1 := shapeCasts_S1x16_S16) (h2 := shapeCasts_S16_S1x16) y,
      fun y => pay_ch (b := 1) (hb := by decide) (m := m) (dn := dn) (g := g) (ch := 10) (inb := k0_off37_inb t) (inb' := k0_off48_inb t) hn (k0_off37_eq t) (by decide) (k0_off48_eq t) hr (hcv 10) (row_ok (b := 1) (by decide) hn (by decide) hr (hcv 10)) (by decide) (h1 := shapeCasts_S1x16_S16) (h2 := shapeCasts_S16_S1x16) y,
      fun y => pay_ch (b := 1) (hb := by decide) (m := m) (dn := dn) (g := g) (ch := 9) (inb := k0_off37_inb t) (inb' := k0_off47_inb t) hn (k0_off37_eq t) (by decide) (k0_off47_eq t) hr (hcv 9) (row_ok (b := 1) (by decide) hn (by decide) hr (hcv 9)) (by decide) (h1 := shapeCasts_S1x16_S16) (h2 := shapeCasts_S16_S1x16) y,
      fun y => pay_ch (b := 1) (hb := by decide) (m := m) (dn := dn) (g := g) (ch := 8) (inb := k0_off37_inb t) (inb' := k0_off46_inb t) hn (k0_off37_eq t) (by decide) (k0_off46_eq t) hr (hcv 8) (row_ok (b := 1) (by decide) hn (by decide) hr (hcv 8)) (by decide) (h1 := shapeCasts_S1x16_S16) (h2 := shapeCasts_S16_S1x16) y,
      fun y => pay_ch (b := 1) (hb := by decide) (m := m) (dn := dn) (g := g) (ch := 7) (inb := k0_off37_inb t) (inb' := k0_off45_inb t) hn (k0_off37_eq t) (by decide) (k0_off45_eq t) hr (hcv 7) (row_ok (b := 1) (by decide) hn (by decide) hr (hcv 7)) (by decide) (h1 := shapeCasts_S1x16_S16) (h2 := shapeCasts_S16_S1x16) y,
      fun y => pay_ch (b := 1) (hb := by decide) (m := m) (dn := dn) (g := g) (ch := 6) (inb := k0_off37_inb t) (inb' := k0_off44_inb t) hn (k0_off37_eq t) (by decide) (k0_off44_eq t) hr (hcv 6) (row_ok (b := 1) (by decide) hn (by decide) hr (hcv 6)) (by decide) (h1 := shapeCasts_S1x16_S16) (h2 := shapeCasts_S16_S1x16) y,
      fun y => pay_ch (b := 1) (hb := by decide) (m := m) (dn := dn) (g := g) (ch := 5) (inb := k0_off37_inb t) (inb' := k0_off43_inb t) hn (k0_off37_eq t) (by decide) (k0_off43_eq t) hr (hcv 5) (row_ok (b := 1) (by decide) hn (by decide) hr (hcv 5)) (by decide) (h1 := shapeCasts_S1x16_S16) (h2 := shapeCasts_S16_S1x16) y,
      fun y => pay_ch (b := 1) (hb := by decide) (m := m) (dn := dn) (g := g) (ch := 4) (inb := k0_off37_inb t) (inb' := k0_off42_inb t) hn (k0_off37_eq t) (by decide) (k0_off42_eq t) hr (hcv 4) (row_ok (b := 1) (by decide) hn (by decide) hr (hcv 4)) (by decide) (h1 := shapeCasts_S1x16_S16) (h2 := shapeCasts_S16_S1x16) y,
      fun y => pay_ch (b := 1) (hb := by decide) (m := m) (dn := dn) (g := g) (ch := 3) (inb := k0_off37_inb t) (inb' := k0_off41_inb t) hn (k0_off37_eq t) (by decide) (k0_off41_eq t) hr (hcv 3) (row_ok (b := 1) (by decide) hn (by decide) hr (hcv 3)) (by decide) (h1 := shapeCasts_S1x16_S16) (h2 := shapeCasts_S16_S1x16) y,
      fun y => pay_ch (b := 1) (hb := by decide) (m := m) (dn := dn) (g := g) (ch := 2) (inb := k0_off37_inb t) (inb' := k0_off40_inb t) hn (k0_off37_eq t) (by decide) (k0_off40_eq t) hr (hcv 2) (row_ok (b := 1) (by decide) hn (by decide) hr (hcv 2)) (by decide) (h1 := shapeCasts_S1x16_S16) (h2 := shapeCasts_S16_S1x16) y,
      fun y => pay_ch (b := 1) (hb := by decide) (m := m) (dn := dn) (g := g) (ch := 1) (inb := k0_off37_inb t) (inb' := k0_off39_inb t) hn (k0_off37_eq t) (by decide) (k0_off39_eq t) hr (hcv 1) (row_ok (b := 1) (by decide) hn (by decide) hr (hcv 1)) (by decide) (h1 := shapeCasts_S1x16_S16) (h2 := shapeCasts_S16_S1x16) y,
      fun y => pay_c0 (b := 1) (hb := by decide) (m := m) (dn := dn) (g := g) (ch := 0) (inb := k0_off37_inb t) (inb' := k0_off38_inb t) hn (k0_off37_eq t) (k0_off38_eq t) hr (hcv 0) (row_ok (b := 1) (by decide) hn (by decide) hr (hcv 0)) rfl (h1 := shapeCasts_S1x16_S16) (h2 := shapeCasts_S16_S1x16) (h3 := shapeCasts_S1x16_S16) (h4 := shapeCasts_S1x16_S16) y, fun _ h => nomatch h⟩
  · intro x
    simp only [List.exists_mem_cons_iff, List.forall_mem_cons, mem2]
    simp only [k0_off38_eq, k0_off39_eq, k0_off40_eq, k0_off41_eq, k0_off42_eq, k0_off43_eq, k0_off44_eq, k0_off45_eq, k0_off46_eq, k0_off47_eq, k0_off48_eq, k0_off49_eq, k0_off50_eq, k0_off51_eq, k0_off52_eq, k0_off53_eq]
    have : (x 0).val < 16 := (x 0).isLt
    simp
    omega
  · intro x
    simp only [List.exists_mem_cons_iff, mem2]
    simp only [k0_off38_eq, k0_off39_eq, k0_off40_eq, k0_off41_eq, k0_off42_eq, k0_off43_eq, k0_off44_eq, k0_off45_eq, k0_off46_eq, k0_off47_eq, k0_off48_eq, k0_off49_eq, k0_off50_eq, k0_off51_eq, k0_off52_eq, k0_off53_eq]
    simp
    omega

end Cert.Proof.K
end
end
-- ==== Proof.Loops.lean ====
/-
  The loops of a chunk's preparation and of its transposition, from start to end.
-/
module
public import proofs.«01_k».proof.Proof.PrepB
public import proofs.«01_k».proof.Proof.PrepC
public import proofs.«01_k».proof.Proof.XposeB
@[expose] public section
noncomputable section
namespace Cert.Proof.K
open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
variable {F : FTy → Type} [FloatOps F]
local notation "𝕄" => MM F
variable (d : Dev nD) (i : grid0.Coords)

theorem prepL_zero (lo : BitVec 32) (base : ℕ) (f : S65536.Idx → BitVec 32) : prepL lo base f 0 = f := by
  funext x; unfold prepL; rw [if_neg (by omega)]

theorem prepM_zero (base b : ℕ) (f : S65536.Idx → BitVec 32) (g : S2x1024.Idx → F .f32) : prepM base b f g 0 = g := by
  funext x; unfold prepM; rw [if_neg (by omega)]

theorem xpL_zero (b : ℕ) (hb : b < 2) (m dn : S2x1024.Idx → F .f32) (g : S2048x16.Idx → F .f32) (t : S16x1024.Idx → F .f32) : xpL b hb m dn g t 0 = t := by
  funext x; unfold xpL; rw [if_neg (by omega)]

theorem xpL_end (b : ℕ) (hb : b < 2) (m dn : S2x1024.Idx → F .f32) (g : S2048x16.Idx → F .f32) (t : S16x1024.Idx → F .f32) : xpL b hb m dn g t 1024 = xpV b hb m dn g := by
  funext x; unfold xpL; rw [if_pos (show (x 1).val < 1024 from (x 1).isLt)]

/-- The preparation loop: the whole chunk. -/
theorem prep4_loop {α : Type} {kk : Unit → Pt i α F} {Q : α → sProp 𝕄} (lo : BitVec 32) (v3 : IVec S16 32) (hv3 : ∀ x : S16.Idx, v3 x = BitVec.ofNat 32 (x 0).val)
    (f : S65536.Idx → BitVec 32) (g : S2x1024.Idx → F .f32) (S : Finset S65536.Idx)
    (hS : ∀ x : S65536.Idx, 0 ≤ (x 0).val → (x 0).val < 0 + 1024 → x ∈ S) :
    iprop((lV.view.loc (thr d i) ↦[S]{fullShare} f) ∗ (mkV.view.loc (thr d i) ↦{fullShare} g) : sProp 𝕄)
      ⊢ iprop(((lV.view.loc (thr d i) ↦[S]{fullShare} prepL lo (0) f 1024) ∗ (mkV.view.loc (thr d i) ↦{fullShare} prepM (0) 0 f g 1024)
          -∗ wp frame (wpE (defs₀ (F := F)) 𝒱₀ (thr d i) none) Set.univ (kk ()) Q)
        -∗ wp frame (wpE (defs₀ (F := F)) 𝒱₀ (thr d i) none) Set.univ (Scf.Loop.for k0_t4_loop k0_t4_ok ⟨⟩ (b4 i lo v3) >>= kk) Q) := by
  iintro H HK
  iapply (Scf.wp_for_bind frame (wpE (defs₀ (F := F)) 𝒱₀ (thr d i) none) Set.univ _ _ _ k0_t4_ok () (b4 i lo v3)
    (fun k _ => iprop((lV.view.loc (thr d i) ↦[S]{fullShare} prepL lo (0) f (128 * k)) ∗ (mkV.view.loc (thr d i) ↦{fullShare} prepM (0) 0 f g (128 * k))))
    (fun t _ => prep4_trip d i lo v3 hv3  t f g S hS)) $$ [H] [HK]
  · rw [Nat.mul_zero, prepL_zero, prepM_zero]
    iexact H
  · iintro %_ H
    iapply HK
    rw [show 128 * Scf.trips k0_t4_loop.lb k0_t4_loop.ub k0_t4_loop.st = 1024 by decide]
    iexact H

/-- The preparation loop: the whole chunk. -/
theorem prep6_loop {α : Type} {kk : Unit → Pt i α F} {Q : α → sProp 𝕄} (lo : BitVec 32) (v3 : IVec S16 32) (hv3 : ∀ x : S16.Idx, v3 x = BitVec.ofNat 32 (x 0).val) (t5 : Fin k0_t5_loop.trips) (v159 : BitVec 32) (h3 : k0_cond3 t5 = 1#1) (v511 : BitVec 32) (hv : v511 = BitVec.ofNat 32 (2048 * t5.val + 1024))
    (f : S65536.Idx → BitVec 32) (g : S2x1024.Idx → F .f32) (S : Finset S65536.Idx)
    (hS : ∀ x : S65536.Idx, 2048 * t5.val + 1024 ≤ (x 0).val → (x 0).val < 2048 * t5.val + 1024 + 1024 → x ∈ S) :
    iprop((lV.view.loc (thr d i) ↦[S]{fullShare} f) ∗ (mkV.view.loc (thr d i) ↦{fullShare} g) : sProp 𝕄)
      ⊢ iprop(((lV.view.loc (thr d i) ↦[S]{fullShare} prepL lo (2048 * t5.val + 1024) f 1024) ∗ (mkV.view.loc (thr d i) ↦{fullShare} prepM (2048 * t5.val + 1024) 1 f g 1024)
          -∗ wp frame (wpE (defs₀ (F := F)) 𝒱₀ (thr d i) none) Set.univ (kk ()) Q)
        -∗ wp frame (wpE (defs₀ (F := F)) 𝒱₀ (thr d i) none) Set.univ (Scf.Loop.for k0_t6_loop (k0_t6_ok t5 h3) ⟨⟩ (b6 i lo v3 t5 v159 h3 v511) >>= kk) Q) := by
  iintro H HK
  iapply (Scf.wp_for_bind frame (wpE (defs₀ (F := F)) 𝒱₀ (thr d i) none) Set.univ _ _ _ (k0_t6_ok t5 h3) () (b6 i lo v3 t5 v159 h3 v511)
    (fun k _ => iprop((lV.view.loc (thr d i) ↦[S]{fullShare} prepL lo (2048 * t5.val + 1024) f (128 * k)) ∗ (mkV.view.loc (thr d i) ↦{fullShare} prepM (2048 * t5.val + 1024) 1 f g (128 * k))))
    (fun t _ => prep6_trip d i lo v3 hv3 t5 v159 h3 v511 hv t f g S hS)) $$ [H] [HK]
  · rw [Nat.mul_zero, prepL_zero, prepM_zero]
    iexact H
  · iintro %_ H
    iapply HK
    rw [show 128 * Scf.trips k0_t6_loop.lb k0_t6_loop.ub k0_t6_loop.st = 1024 by decide]
    iexact H

/-- The preparation loop: the whole chunk. -/
theorem prep8_loop {α : Type} {kk : Unit → Pt i α F} {Q : α → sProp 𝕄} (lo : BitVec 32) (v3 : IVec S16 32) (hv3 : ∀ x : S16.Idx, v3 x = BitVec.ofNat 32 (x 0).val) (t5 : Fin k0_t5_loop.trips) (v335 : BitVec 32) (h5 : k0_cond5 t5 = 1#1) (v511 : BitVec 32) (hv : v511 = BitVec.ofNat 32 (2048 * t5.val + 2048))
    (f : S65536.Idx → BitVec 32) (g : S2x1024.Idx → F .f32) (S : Finset S65536.Idx)
    (hS : ∀ x : S65536.Idx, 2048 * t5.val + 2048 ≤ (x 0).val → (x 0).val < 2048 * t5.val + 2048 + 1024 → x ∈ S) :
    iprop((lV.view.loc (thr d i) ↦[S]{fullShare} f) ∗ (mkV.view.loc (thr d i) ↦{fullShare} g) : sProp 𝕄)
      ⊢ iprop(((lV.view.loc (thr d i) ↦[S]{fullShare} prepL lo (2048 * t5.val + 2048) f 1024) ∗ (mkV.view.loc (thr d i) ↦{fullShare} prepM (2048 * t5.val + 2048) 0 f g 1024)
          -∗ wp frame (wpE (defs₀ (F := F)) 𝒱₀ (thr d i) none) Set.univ (kk ()) Q)
        -∗ wp frame (wpE (defs₀ (F := F)) 𝒱₀ (thr d i) none) Set.univ (Scf.Loop.for k0_t8_loop (k0_t8_ok t5 h5) ⟨⟩ (b8 i lo v3 t5 v335 h5 v511) >>= kk) Q) := by
  iintro H HK
  iapply (Scf.wp_for_bind frame (wpE (defs₀ (F := F)) 𝒱₀ (thr d i) none) Set.univ _ _ _ (k0_t8_ok t5 h5) () (b8 i lo v3 t5 v335 h5 v511)
    (fun k _ => iprop((lV.view.loc (thr d i) ↦[S]{fullShare} prepL lo (2048 * t5.val + 2048) f (128 * k)) ∗ (mkV.view.loc (thr d i) ↦{fullShare} prepM (2048 * t5.val + 2048) 0 f g (128 * k))))
    (fun t _ => prep8_trip d i lo v3 hv3 t5 v335 h5 v511 hv t f g S hS)) $$ [H] [HK]
  · rw [Nat.mul_zero, prepL_zero, prepM_zero]
    iexact H
  · iintro %_ H
    iapply HK
    rw [show 128 * Scf.trips k0_t8_loop.lb k0_t8_loop.ub k0_t8_loop.st = 1024 by decide]
    iexact H

/-- The transposition's loop: the whole chunk of half 0. -/
theorem xpose7_loop {α : Type} {kk : Unit → Pt i α F} {Q : α → sProp 𝕄} (v2 : BitVec 32) (v3 : IVec S16 32) (hv3 : ∀ x : S16.Idx, v3 x = BitVec.ofNat 32 (x 0).val) (t5 : Fin k0_t5_loop.trips) (v159 : BitVec 32)
    (m dn : S2x1024.Idx → F .f32) (g : S2048x16.Idx → F .f32) (T : S16x1024.Idx → F .f32) {R : sProp 𝕄} (hR : Peekable d i (half 1) R) :
    iprop((mkV.view.loc (thr d i) ↦{fullShare} m) ∗ (dnV.view.loc (thr d i) ↦[row2 0]{fullShare} dn) ∗ (gV.view.loc (thr d i) ↦[half 0]{fullShare} g) ∗ R
        ∗ (tV.view.loc (thr d i) ↦{fullShare} T) : sProp 𝕄)
      ⊢ iprop(((mkV.view.loc (thr d i) ↦{fullShare} m) ∗ (dnV.view.loc (thr d i) ↦[row2 0]{fullShare} dn) ∗ (gV.view.loc (thr d i) ↦[half 0]{fullShare} g) ∗ R
            ∗ (tV.view.loc (thr d i) ↦{fullShare} xpV 0 (by decide) m dn g)
          -∗ wp frame (wpE (defs₀ (F := F)) 𝒱₀ (thr d i) none) Set.univ (kk ()) Q)
        -∗ wp frame (wpE (defs₀ (F := F)) 𝒱₀ (thr d i) none) Set.univ (Scf.Loop.for k0_t7_loop k0_t7_ok ⟨⟩ (b7 i v2 v3 t5 v159) >>= kk) Q) := by
  iintro H HK
  iapply (Scf.wp_for_bind frame (wpE (defs₀ (F := F)) 𝒱₀ (thr d i) none) Set.univ _ _ _ k0_t7_ok () (b7 i v2 v3 t5 v159)
    (fun k _ => iprop((mkV.view.loc (thr d i) ↦{fullShare} m) ∗ (dnV.view.loc (thr d i) ↦[row2 0]{fullShare} dn) ∗ (gV.view.loc (thr d i) ↦[half 0]{fullShare} g) ∗ R
        ∗ (tV.view.loc (thr d i) ↦{fullShare} xpL 0 (by decide) m dn g T (16 * k))))
    (fun t _ => xpose7_trip d i v2 v3 hv3 t5 v159 t m dn g T hR)) $$ [H] [HK]
  · rw [Nat.mul_zero, xpL_zero]
    iexact H
  · iintro %_ H
    iapply HK
    rw [show 16 * Scf.trips k0_t7_loop.lb k0_t7_loop.ub k0_t7_loop.st = 1024 by decide, xpL_end]
    iexact H

/-- The transposition's loop: the whole chunk of half 1. -/
theorem xpose9_loop {α : Type} {kk : Unit → Pt i α F} {Q : α → sProp 𝕄} (v2 : BitVec 32) (v3 : IVec S16 32) (hv3 : ∀ x : S16.Idx, v3 x = BitVec.ofNat 32 (x 0).val) (t5 : Fin k0_t5_loop.trips) (v159 : BitVec 32)
    (m dn : S2x1024.Idx → F .f32) (g : S2048x16.Idx → F .f32) (T : S16x1024.Idx → F .f32) {R : sProp 𝕄} (hR : Peekable d i (half 0) R) :
    iprop((mkV.view.loc (thr d i) ↦{fullShare} m) ∗ (dnV.view.loc (thr d i) ↦[row2 1]{fullShare} dn) ∗ (gV.view.loc (thr d i) ↦[half 1]{fullShare} g) ∗ R
        ∗ (tV.view.loc (thr d i) ↦{fullShare} T) : sProp 𝕄)
      ⊢ iprop(((mkV.view.loc (thr d i) ↦{fullShare} m) ∗ (dnV.view.loc (thr d i) ↦[row2 1]{fullShare} dn) ∗ (gV.view.loc (thr d i) ↦[half 1]{fullShare} g) ∗ R
            ∗ (tV.view.loc (thr d i) ↦{fullShare} xpV 1 (by decide) m dn g)
          -∗ wp frame (wpE (defs₀ (F := F)) 𝒱₀ (thr d i) none) Set.univ (kk ()) Q)
        -∗ wp frame (wpE (defs₀ (F := F)) 𝒱₀ (thr d i) none) Set.univ (Scf.Loop.for k0_t9_loop k0_t9_ok ⟨⟩ (b9 i v2 v3 t5 v159) >>= kk) Q) := by
  iintro H HK
  iapply (Scf.wp_for_bind frame (wpE (defs₀ (F := F)) 𝒱₀ (thr d i) none) Set.univ _ _ _ k0_t9_ok () (b9 i v2 v3 t5 v159)
    (fun k _ => iprop((mkV.view.loc (thr d i) ↦{fullShare} m) ∗ (dnV.view.loc (thr d i) ↦[row2 1]{fullShare} dn) ∗ (gV.view.loc (thr d i) ↦[half 1]{fullShare} g) ∗ R
        ∗ (tV.view.loc (thr d i) ↦{fullShare} xpL 1 (by decide) m dn g T (16 * k))))
    (fun t _ => xpose9_trip d i v2 v3 hv3 t5 v159 t m dn g T hR)) $$ [H] [HK]
  · rw [Nat.mul_zero, xpL_zero]
    iexact H
  · iintro %_ H
    iapply HK
    rw [show 16 * Scf.trips k0_t9_loop.lb k0_t9_loop.ub k0_t9_loop.st = 1024 by decide, xpL_end]
    iexact H

end Cert.Proof.K
end
end
-- ==== Proof.PairDefs.lean ====
/-
  The state of the pair loop, and the steps of it that are not program steps.
-/
module
public import proofs.«01_k».proof.Proof.PairWait
public import proofs.«01_k».proof.Proof.Loops
@[expose] public section
noncomputable section
namespace Cert.Proof.K
open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
variable {F : FTy → Type} [FloatOps F]
local notation "𝕄" => MM F
variable (d : Dev nD) (i : grid0.Coords)

/-- What one tile's run is about: its table of winning points, the feature rows and the upsampled volume that it reads, what the two
outputs held and what they are to hold, the tile's first place, the shares it reads with, and the name of the write-mode invariant. -/
structure PC (F : FTy → Type) where
  f0 : S65536.Idx → BitVec 32
  fs : S500000x16.Idx → F .f32
  fd : S2097152.Idx → F .f32
  go : S33554432.Idx → F .f32
  gm : S2097152.Idx → F .f32
  OT : S33554432.Idx → F .f32
  MT : S2097152.Idx → F .f32
  lo : BitVec 32
  n0 : ℕ
  qf : ℕ → PosShare TreeShare
  qd : ℕ → PosShare TreeShare
  wm : ℕ

/-- What is known of it. -/
structure PC.Ok (P : PC F) : Prop where
  n0 : P.n0 = 131072 * (i 1).val + 65536 * (i 0).val
  lo : P.lo = BitVec.ofNat 32 P.n0
  f0 : ∀ x, Scalar.cmpi .sge (P.f0 x) 0#32 = 1 → (P.f0 x).toNat < 500000
  OT : ∀ ch k : ℕ, ch < 16 → k < 65536 → ∀ x : S33554432.Idx, (x 0).val = 2097152 * ch + P.n0 + k →
    P.OT x = xpW F (mkW F (lN P.f0 k)) (dnAt P.fd (P.n0 + k)) (fsAt P.fs (clW P.lo (lN P.f0 k) k).toNat ch) ch
  MT : ∀ k : ℕ, k < 65536 → ∀ x : S2097152.Idx, (x 0).val = P.n0 + k → P.MT x = mkW F (lN P.f0 k)

variable (P : PC F)

/-- The table with chunk `c` made into row numbers. -/
def LL (c : ℕ) : S65536.Idx → BitVec 32 := prepL P.lo (1024 * c) P.f0 1024
/-- The mask's words of chunk `c`. -/
def mkC (c : ℕ) (y : S2x1024.Idx) : F .f32 := mkW F (lN P.f0 (1024 * c + (y 1).val))
/-- The table's places before chunk `c`. -/
def lowC (c : ℕ) : Finset S65536.Idx := Finset.univ.filter fun x => (x 0).val < 1024 * c
/-- The table's places from chunk `c` on. -/
def highC (c : ℕ) : Finset S65536.Idx := Finset.univ.filter fun x => 1024 * c ≤ (x 0).val
theorem mem_lowC {c : ℕ} {x : S65536.Idx} : x ∈ lowC c ↔ (x 0).val < 1024 * c := by simp [lowC]
theorem mem_highC {c : ℕ} {x : S65536.Idx} : x ∈ highC c ↔ 1024 * c ≤ (x 0).val := by simp [highC]
theorem mem_fromL0 {c : ℕ} {x : S65536.Idx} : x ∈ fromL c 0 ↔ 1024 * c ≤ (x 0).val ∧ (x 0).val < 1024 * c + 1024 := by simp [fromL]

theorem low_join (c : ℕ) : lowC c ∪ fromL c 0 = lowC (c + 1) := by
  ext x
  have e := mem_lowC (c := c) (x := x)
  have e1 := mem_lowC (c := c + 1) (x := x)
  have e2 := mem_fromL0 (c := c) (x := x)
  rw [Finset.mem_union]
  constructor
  · intro h
    rw [e, e2] at h
    rw [e1]; omega
  · intro h
    rw [e1] at h
    rw [e, e2]; omega
theorem low_disj (c : ℕ) : Disjoint (lowC c) (fromL c 0) := by
  rw [Finset.disjoint_left]
  intro x h h'
  rw [mem_lowC] at h
  rw [mem_fromL0] at h'
  omega
theorem high_split (c : ℕ) : fromL c 0 ∪ highC (c + 1) = highC c := by
  ext x
  have e := mem_highC (c := c) (x := x)
  have e1 := mem_highC (c := c + 1) (x := x)
  have e2 := mem_fromL0 (c := c) (x := x)
  rw [Finset.mem_union]
  constructor
  · intro h
    rw [e1, e2] at h
    rw [e]; omega
  · intro h
    rw [e] at h
    rw [e1, e2]; omega
theorem high_disj (c : ℕ) : Disjoint (fromL c 0) (highC (c + 1)) := by
  rw [Finset.disjoint_left]
  intro x h h'
  rw [mem_highC] at h'
  rw [mem_fromL0] at h
  omega

/-- A made chunk leaves the rest of the table. -/
theorem prep_split (c : ℕ) :
    (lV.view.loc (thr d i) ↦[highC c]{fullShare} prepL P.lo (1024 * c) P.f0 1024 : sProp 𝕄)
      ⊢ iprop((lV.view.loc (thr d i) ↦[fromL c 0]{fullShare} LL P c) ∗ (lV.view.loc (thr d i) ↦[highC (c + 1)]{fullShare} P.f0)) := by
  rw [← high_split c]
  iintro H
  icases (pointsTo_union (ℓ := lV.view.loc (thr d i)) (high_disj c)).mp $$ H with ⟨H1, H2⟩
  isplitl [H1]; · iexact H1
  have e : ∀ x ∈ highC (c + 1), prepL P.lo (1024 * c) P.f0 1024 x = P.f0 x := fun x hx => by
    have := mem_highC.mp hx
    unfold prepL
    rw [if_neg (by omega)]
  ihave H2 := (Entails.of_eq (pointsTo_congr e)) $$ H2
  iexact H2

theorem low_push (c : ℕ) (L : S65536.Idx → BitVec 32) :
    iprop((∃ f : S65536.Idx → BitVec 32, (lV.view.loc (thr d i) ↦[lowC c]{fullShare} f)) ∗ (lV.view.loc (thr d i) ↦[fromL c 0]{fullShare} L) : sProp 𝕄)
      ⊢ iprop(∃ f : S65536.Idx → BitVec 32, (lV.view.loc (thr d i) ↦[lowC (c + 1)]{fullShare} f)) := by
  rw [← low_join c]
  iintro ⟨⟨%f, H1⟩, H2⟩
  iexists ((fromL c 0).piecewise L f)
  iapply (pointsTo_join (ℓ := lV.view.loc (thr d i)) (low_disj c))
  isplitl [H1]; · iexact H1
  iexact H2

/-- The two rows of the mask buffer as one. -/
def rows2 (M0 M1 : S2x1024.Idx → F .f32) (y : S2x1024.Idx) : F .f32 := if (y 0).val = 0 then M0 y else M1 y

theorem row2_cover : row2 0 ∪ row2 1 = Finset.univ := by
  ext y
  have h : (y 0).val < 2 := (y 0).isLt
  simp only [Finset.mem_union, mem_row2, Finset.mem_univ, iff_true]
  omega
theorem row2_disj : Disjoint (row2 0) (row2 1) := by
  rw [Finset.disjoint_left]
  intro x h h'
  rw [mem_row2] at h h'
  omega

theorem mk_join (M0 M1 : S2x1024.Idx → F .f32) :
    iprop((mkV.view.loc (thr d i) ↦[row2 0]{fullShare} M0) ∗ (mkV.view.loc (thr d i) ↦[row2 1]{fullShare} M1) : sProp 𝕄)
      ⊢ (mkV.view.loc (thr d i) ↦{fullShare} rows2 M0 M1) := by
  iintro ⟨H0, H1⟩
  ihave H := (pointsTo_join (ℓ := mkV.view.loc (thr d i)) row2_disj) $$ [H0 H1]
  · isplitl [H0]; · iexact H0
    iexact H1
  ihave H := (Entails.of_eq (pointsTo_congr (g := rows2 M0 M1) (fun y _ => by
    have hy : (y 0).val < 2 := (y 0).isLt
    by_cases h : (y 0).val = 0
    · rw [Finset.piecewise_eq_of_notMem _ _ _ (fun h' => by rw [mem_row2] at h'; omega), rows2, if_pos h]
    · rw [Finset.piecewise_eq_of_mem _ _ _ (by rw [mem_row2]; omega), rows2, if_neg h]))) $$ H
  rw [row2_cover]
  iexact H

theorem mk_split (M M0 M1 : S2x1024.Idx → F .f32) (h0 : ∀ y : S2x1024.Idx, (y 0).val = 0 → M y = M0 y) (h1 : ∀ y : S2x1024.Idx, (y 0).val = 1 → M y = M1 y) :
    (mkV.view.loc (thr d i) ↦{fullShare} M : sProp 𝕄)
      ⊢ iprop((mkV.view.loc (thr d i) ↦[row2 0]{fullShare} M0) ∗ (mkV.view.loc (thr d i) ↦[row2 1]{fullShare} M1)) := by
  rw [← row2_cover]
  iintro H
  icases (pointsTo_union (ℓ := mkV.view.loc (thr d i)) row2_disj).mp $$ H with ⟨H0, H1⟩
  ihave H0 := (Entails.of_eq (pointsTo_congr (g := M0) (fun y hy => h0 y (mem_row2.mp hy)))) $$ H0
  ihave H1 := (Entails.of_eq (pointsTo_congr (g := M1) (fun y hy => h1 y (mem_row2.mp hy)))) $$ H1
  isplitl [H0]; · iexact H0
  iexact H1

/-- The chunks not yet begun. -/
def Out (c : ℕ) : sProp 𝕄 := bigSep (Transfers.pending c : Finset (Fin 64)) fun t => bigSep Finset.univ (dstW d i (P.n0 + 1024 * t.val) P.go P.gm)
/-- The chunks written. -/
def Done (c : ℕ) : sProp 𝕄 := bigSep (Finset.univ.filter fun t : Fin 64 => t.val < c) fun t => bigSep Finset.univ (dstW d i (P.n0 + 1024 * t.val) P.OT P.MT)

theorem out_pop (c : ℕ) (hc : c < 64) : Out d i P c ⊢ iprop(bigSep Finset.univ (dstW d i (P.n0 + 1024 * c) P.go P.gm) ∗ Out d i P (c + 1)) := by
  unfold Out
  exact pend_pop hc _

theorem done_push (c : ℕ) (hc : c < 64) : iprop(Done d i P c ∗ bigSep Finset.univ (dstW d i (P.n0 + 1024 * c) P.OT P.MT)) ⊢ Done d i P (c + 1) := by
  have e : (Finset.univ.filter fun t : Fin 64 => t.val < c + 1) = insert ⟨c, hc⟩ (Finset.univ.filter fun t : Fin 64 => t.val < c) := by
    ext t
    simp only [Finset.mem_filter, Finset.mem_univ, true_and, Finset.mem_insert, Fin.ext_iff]
    omega
  have hn : (⟨c, hc⟩ : Fin 64) ∉ (Finset.univ.filter fun t : Fin 64 => t.val < c) := by simp
  unfold Done
  rw [e, bigSep_insert hn]
  exact Laws.sep_comm.1

/-- The gathers of chunk `c` into half `b` with `k` of the eight issued. -/
def FG (sem : DmaSem sig) (b c k : ℕ) : sProp 𝕄 :=
  iprop(∃ f : S2048x16.Idx → F .f32, GS d i b c P.fs (LL P c) (P.qf b) f sem k ∗ wbG d i (half b) fullShare.right f (gC b c P.fs (LL P c)) ∅)
/-- The same with all issued and `k` waited for. -/
def FW (sem : DmaSem sig) (b c k : ℕ) : sProp 𝕄 :=
  iprop(∃ f : S2048x16.Idx → F .f32, GQ d i sem (Dg d i b c P.fs (LL P c) (P.qf b) f) k ∗ wbG d i (half b) fullShare.right f (gC b c P.fs (LL P c)) ∅)
/-- The half of the row buffer, its semaphore and the share of the features, at rest. -/
def GI (sem : DmaSem sig) (b : ℕ) : sProp 𝕄 :=
  iprop((∃ g : S2048x16.Idx → F .f32, (gV.view.loc (thr d i) ↦[half b]{fullShare} g)) ∗ semVal ((thr d i), .dma sem) 0 ∗ (ftV.view.loc (thr d i) ↦{P.qf b} P.fs))
/-- The same of the upsampled volume's row. -/
def DI (sem : DmaSem sig) (b : ℕ) : sProp 𝕄 :=
  iprop((dnsV.view.loc (thr d i) ↦{P.qd b} P.fd) ∗ (∃ g : S2x1024.Idx → F .f32, (dnV.view.loc (thr d i) ↦[row2 b]{fullShare} g)) ∗ semVal ((thr d i), .dma sem) 0)
/-- The copy of the upsampled chunk in flight. -/
def DF (sem : DmaSem sig) (b c : ℕ) : sProp 𝕄 := DnFl d i P.fd (P.qd b) sem b (P.n0 + 1024 * c)

theorem fg_start (sem : DmaSem sig) (b c : ℕ) :
    iprop(wmI F P.wm ∗ GI d i P sem b ∗ (lV.view.loc (thr d i) ↦[highC c]{fullShare} prepL P.lo (1024 * c) P.f0 1024) : sProp 𝕄)
      ⊢ iprop(|={Set.univ}=> (FG d i P sem b c 0 ∗ (lV.view.loc (thr d i) ↦[highC (c + 1)]{fullShare} P.f0))) := by
  unfold GI
  iintro ⟨#Hwm, ⟨⟨%g, HG⟩, Hs, Hf⟩, HL⟩
  icases (prep_split d i P c) $$ HL with ⟨HL, HL'⟩
  imod (gather_start d i (c := c) (b := b) (ιwm := P.wm) (fs := P.fs) (L := LL P c) (q := P.qf b) (f := g) sem) $$ [HG Hs Hf HL] with ⟨HGS, HW⟩
  · isplitr [HG Hs Hf HL]; · iexact Hwm
    isplitl [Hs]; · iexact Hs
    isplitl [HG]; · iexact HG
    isplitl [HL]; · iexact HL
    iexact Hf
  imodintro
  isplitr [HL']
  · unfold FG
    iexists g
    isplitl [HGS]; · iexact HGS
    iexact HW
  · iexact HL'

variable {P}

theorem LL_lt (hP : PC.Ok i P) (c : ℕ) (x : S65536.Idx) (h : (x 0).val / 1024 = c) : (LL P c x).toNat < 500000 := by
  have e : LL P c x = clW P.lo (P.f0 x) (x 0).val := by
    unfold LL prepL
    rw [if_pos (by omega)]
  rw [e, clW]
  split
  · rename_i h
    exact hP.f0 x h
  · rw [BitVec.toNat_and]
    have := Nat.and_le_right (n := (P.lo + BitVec.ofNat 32 (x 0).val).toNat) (m := (262143#32 : BitVec 32).toNat)
    have h2 : (262143#32 : BitVec 32).toNat = 262143 := by decide
    omega

theorem fg_step {α : Type} {kk : PUnit → Pt i α F} {Q : α → sProp 𝕄} (hP : PC.Ok i P) {b c : ℕ} (hb : b < 2) (hc : c < 64) (sem : DmaSem sig) {k : ℕ} (hk : k < 8)
    {og : Fin 2 → ℕ} (hg0 : og 0 = 1024 * b + 128 * k) (hg1 : og 1 = 0) {inbg : ∀ a : Fin 2, og a + S128x16.size a ≤ S2048x16.size a}
    {ol : Fin 1 → ℕ} (hl : ol 0 = 1024 * c + 128 * k) {inbl : ∀ a : Fin 1, ol a + S128.size a ≤ S65536.size a}
    {ins : ∀ a : Fin 2, (![0, 0] : Fin 2 → ℕ) a + S500000x16.size a ≤ S500000x16.size a} {hn hsrc hsp hr he} :
    iprop(wmI F P.wm ∗ FG d i P sem b c k : sProp 𝕄)
      ⊢ iprop((FG d i P sem b c (k + 1) -∗ wp frame (wpE (defs₀ (F := F)) 𝒱₀ (thr d i) none) Set.univ (kk ⟨⟩) Q)
        -∗ wp frame (wpE (defs₀ (F := F)) 𝒱₀ (thr d i) none) Set.univ (SparseCore.enqueueIndirectGather rfl (ftV.slice (Rect.unit (s := S500000x16) ![0, 0] S500000x16.size ins) (fun _ => rfl))
            (gV.slice (Rect.unit (s := S2048x16) og S128x16.size inbg) (fun _ => rfl)) gathers_S500000x16_S128x16
            (lV.slice (Rect.unit (s := S65536) ol S128.size inbl) (fun _ => rfl)) hn sem hsrc he hsp hr >>= kk) Q) := by
  iintro ⟨#Hwm, HF⟩ HK
  unfold FG
  icases HF with ⟨%f, HG, HW⟩
  iapply (gather_step d i hb hc hk hg0 hg1 inbg hl inbl (ιwm := P.wm) sem (LL_lt i hP c)) $$ [HG]
  · isplitr [HG]; · iexact Hwm
    iexact HG
  iintro HG
  iapply HK
  iexists f
  isplitl [HG]; · iexact HG
  iexact HW

variable (P)

theorem fg_end (sem : DmaSem sig) (b c : ℕ) : FG d i P sem b c 8 ⊢ FW d i P sem b c 0 := by
  unfold FG FW GS
  iintro ⟨%f, ⟨HB, -, -, -⟩, HW⟩
  iexists f
  isplitl [HB]
  · unfold GQ; iexact HB
  · iexact HW

theorem fw_collect (sem : DmaSem sig) (b c : ℕ) :
    iprop(wmI F P.wm ∗ FW d i P sem b c 8 : sProp 𝕄)
      ⊢ iprop(|={Set.univ}=> (semVal ((thr d i), .dma sem) 0 ∗ (gV.view.loc (thr d i) ↦[half b]{fullShare} gC b c P.fs (LL P c)) ∗ (lV.view.loc (thr d i) ↦[fromL c 0]{fullShare} LL P c)
        ∗ (ftV.view.loc (thr d i) ↦{P.qf b} P.fs))) := by
  unfold FW GQ
  iintro ⟨#Hwm, %f, HB, HW⟩
  iapply (gather_collect d i sem)
  isplitr [HB HW]; · iexact Hwm
  isplitl [HB]; · iexact HB
  iexact HW

/-- The value of a transposed place is the output's. -/
theorem tv_eq (hP : PC.Ok i P) (b c : ℕ) (hb : b < 2) (hc : c < 64) (m : S2x1024.Idx → F .f32) (hm : ∀ y : S2x1024.Idx, (y 0).val = b → m y = mkC P c y)
    (y : S16x1024.Idx) (x : S33554432.Idx) (h : (x 0).val = 2097152 * (y 0).val + (P.n0 + 1024 * c) + (y 1).val) :
    xpV b hb m (dnC P.fd (P.n0 + 1024 * c)) (gC b c P.fs (LL P c)) y = P.OT x := by
  have hy0 : (y 0).val < 16 := (y 0).isLt
  have hy1 : (y 1).val < 1024 := (y 1).isLt
  rw [hP.OT (y 0).val (1024 * c + (y 1).val) hy0 (by omega) x (by omega)]
  unfold xpV
  have e1 : m (rAt b (y 1).val hb (y 1).isLt) = mkW F (lN P.f0 (1024 * c + (y 1).val)) := hm _ rfl
  have e2 : dnC P.fd (P.n0 + 1024 * c) (rAt b (y 1).val hb (y 1).isLt) = dnAt P.fd (P.n0 + (1024 * c + (y 1).val)) := by
    show dnAt P.fd (P.n0 + 1024 * c + (y 1).val) = _
    rw [Nat.add_assoc]
  have e3 : gC b c P.fs (LL P c) (gAt b (y 1).val (y 0).val hb (y 1).isLt (y 0).isLt)
      = fsAt P.fs (clW P.lo (lN P.f0 (1024 * c + (y 1).val)) (1024 * c + (y 1).val)).toNat (y 0).val := by
    show fsAt P.fs (lN (LL P c) (1024 * c + ((1024 * b + (y 1).val) - 1024 * b))).toNat (y 0).val = _
    rw [Nat.add_sub_cancel_left]
    congr 2
    have hk : 1024 * c + (y 1).val < 65536 := by omega
    unfold lN
    rw [dif_pos hk, dif_pos hk]
    unfold LL prepL
    rw [if_pos ⟨show 1024 * c ≤ 1024 * c + (y 1).val by omega, show 1024 * c + (y 1).val < 1024 * c + 1024 by omega⟩]
  rw [e1, e2, e3]

theorem mv_eq (hP : PC.Ok i P) (b c : ℕ) (hc : c < 64) (y : S2x1024.Idx) (x : S2097152.Idx) (_h : (y 0).val = b) (h : (x 0).val = P.n0 + 1024 * c + (y 1).val) :
    mkC P c y = P.MT x := by
  have hy1 : (y 1).val < 1024 := (y 1).isLt
  rw [hP.MT (1024 * c + (y 1).val) (by omega) x (by omega)]
  rfl

end Cert.Proof.K
end
end
-- ==== Proof.PairFire.lean ====
/-
  The next chunk is made ready and its gathers are issued.
-/
module
public import proofs.«01_k».proof.Proof.PairDefs
@[expose] public section
noncomputable section
namespace Cert.Proof.K
open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
variable {F : FTy → Type} [FloatOps F]
local notation "𝕄" => MM F
variable (d : Dev nD) (i : grid0.Coords)

variable (P : PC F)

/-- The number of the first chunk of a pair, and of the second, as the program's words. -/
abbrev vA (t5 : Fin k0_t5_loop.trips) : BitVec 32 := Scalar.addi (Scalar.muli (Scf.iv 0#32 1#32 t5) 2#32) 0#32
abbrev vB (t5 : Fin k0_t5_loop.trips) : BitVec 32 := Scalar.addi (Scalar.muli (Scf.iv 0#32 1#32 t5) 2#32) 1#32

theorem vmul22 : ∀ t5 : Fin k0_t5_loop.trips, Scalar.muli (Scalar.addi (vA t5) 1#32) 1024#32 = BitVec.ofNat 32 (2048 * t5.val + 1024) := by decide

theorem k0_off12_at (t5 : Fin k0_t5_loop.trips) (r : ℕ) (hr : r < 8) : 1024 * (2 * t5.val + 1) + 128 * r = k0_off12 t5 (BitVec.ofNat 32 (128 * r)) 0 := by
  have e := congrFun (k0_off12_eq t5 ⟨r, hr⟩) 0
  rw [e]
  show 1024 * (2 * t5.val + 1) + 128 * r = 2048 * t5.val + 128 * r + 1024
  omega

set_option maxHeartbeats 4000000 in
theorem part22_wp {α : Type} {Q : α → sProp 𝕄} {kk : BitVec 32 → Pt i α F} (hP : PC.Ok i P) (v3 : IVec S16 32) (hv3 : ∀ x : S16.Idx, v3 x = BitVec.ofNat 32 (x 0).val)
    (t5 : Fin k0_t5_loop.trips) (h : k0_cond3 t5 = 1#1) (hlt : 2 * t5.val + 1 < 64) (M' M : S2x1024.Idx → F .f32) :
    iprop(wmI F P.wm ∗ GI d i P cc0_scratch8.sem 1 ∗ (lV.view.loc (thr d i) ↦[highC (2 * t5.val + 1)]{fullShare} P.f0) ∗ (mkV.view.loc (thr d i) ↦[row2 0]{fullShare} M')
        ∗ (mkV.view.loc (thr d i) ↦[row2 1]{fullShare} M) : sProp 𝕄)
      ⊢ iprop((iprop(FG d i P cc0_scratch8.sem 1 (2 * t5.val + 1) 3 ∗ (lV.view.loc (thr d i) ↦[highC (2 * t5.val + 1 + 1)]{fullShare} P.f0) ∗ (mkV.view.loc (thr d i) ↦[row2 0]{fullShare} M')
        ∗ (mkV.view.loc (thr d i) ↦[row2 1]{fullShare} mkC P (2 * t5.val + 1))) -∗ wp frame (wpE (defs₀ (F := F)) 𝒱₀ (thr d i) none) Set.univ (kk (Scalar.addi (vA t5) 1#32)) Q)
      -∗ wp frame (wpE (defs₀ (F := F)) 𝒱₀ (thr d i) none) Set.univ (p22 i P.lo v3 t5 (vA t5) h >>= kk) Q) := by
  have hb1 : 2048 * t5.val + 1024 = 1024 * (2 * t5.val + 1) := by omega
  iintro ⟨#Hwm, HG, HL, HM', HM⟩ HK
  unfold p22
  simp only [k0_part22_eq_skeleton, k0_part22_skel, Prog.lift, Prog.bind_op, Prog.bind_ret, Prog.pure_eq_ret, Prog.bind_assoc]
  ihave Hm := (mk_join d i M' M) $$ [HM HM']
  · isplitl [HM']; · iexact HM'
    iexact HM
  iapply (prep6_loop d i P.lo v3 hv3 t5 (vA t5) h _ (vmul22 t5) P.f0 (rows2 M' M) (highC (2 * t5.val + 1)) (fun x hx _ => mem_highC.mpr (by omega))) $$ [HL Hm]
  · isplitl [HL]; · iexact HL
    iexact Hm
  iintro ⟨HL, Hm⟩
  icases (mk_split d i (prepM (2048 * t5.val + 1024) 1 P.f0 (rows2 M' M) 1024) M' (mkC P (2 * t5.val + 1)) ?_ ?_) $$ Hm with ⟨HM', HM⟩
  rotate_left 2
  · ihave HL := (Entails.of_eq (congrArg (fun n => (lV.view.loc (thr d i) ↦[highC (2 * t5.val + 1)]{fullShare} prepL P.lo n P.f0 1024 : sProp 𝕄)) hb1)) $$ HL
    imod (fg_start d i P cc0_scratch8.sem 1 (2 * t5.val + 1)) $$ [HG HL] with ⟨HG, HL⟩
    · isplitr [HG HL]; · iexact Hwm
      isplitl [HG]; · iexact HG
      iexact HL
    iterate 3
      iapply (fg_step d i hP (show 1 < 2 by decide) hlt cc0_scratch8.sem ?_ ?_ ?_ ?_) $$ [HG]
      rotate_left 4
      · isplitr [HG]; · iexact Hwm
        iexact HG
      iintro HG
    iapply HK
    · isplitl [HG]; · iexact HG
      isplitl [HL]; · iexact HL
      isplitl [HM']; · iexact HM'
      iexact HM
    all_goals first | (show _ < _; decide) | (show (![_, _] : Fin 2 → ℕ) _ = _; rfl) | (refine Eq.symm (k0_off12_at t5 _ ?_); decide)
  all_goals
    intro y hy
    have hy1 : (y 1).val < 1024 := (y 1).isLt
  · rw [prepM, if_neg (by omega), rows2, if_pos hy]
  · rw [prepM, if_pos ⟨hy, hy1⟩, mkC, hb1]

set_option maxHeartbeats 4000000 in
theorem part23_wp {α : Type} {Q : α → sProp 𝕄} {kk : BitVec 32 → Pt i α F} (hP : PC.Ok i P) (v2 v513 : BitVec 32)
    (t5 : Fin k0_t5_loop.trips) (h : k0_cond3 t5 = 1#1) (hlt : 2 * t5.val + 1 < 64) :
    iprop(wmI F P.wm ∗ FG d i P cc0_scratch8.sem 1 (2 * t5.val + 1) 3 : sProp 𝕄)
      ⊢ iprop((FG d i P cc0_scratch8.sem 1 (2 * t5.val + 1) 8 -∗ wp frame (wpE (defs₀ (F := F)) 𝒱₀ (thr d i) none) Set.univ (kk (Scalar.addi v2 (Scalar.muli v513 1024#32))) Q)
      -∗ wp frame (wpE (defs₀ (F := F)) 𝒱₀ (thr d i) none) Set.univ (p23 i v2 t5 h v513 >>= kk) Q) := by
  iintro ⟨#Hwm, HG⟩ HK
  unfold p23
  simp only [k0_part23_eq_skeleton, k0_part23_skel, Prog.lift, Prog.bind_op, Prog.bind_ret, Prog.pure_eq_ret, Prog.bind_assoc]
  iterate 5
    iapply (fg_step d i hP (show 1 < 2 by decide) hlt cc0_scratch8.sem ?_ ?_ ?_ ?_) $$ [HG]
    rotate_left 4
    · isplitr [HG]; · iexact Hwm
      iexact HG
    iintro HG
  iapply HK
  · iexact HG
  all_goals first | (show _ < _; decide) | (show (![_, _] : Fin 2 → ℕ) _ = _; rfl) | (refine Eq.symm (k0_off12_at t5 _ ?_); decide)

theorem vmul36 : ∀ t5 : Fin k0_t5_loop.trips, Scalar.muli (Scalar.addi (vB t5) 1#32) 1024#32 = BitVec.ofNat 32 (2048 * t5.val + 2048) := by decide

theorem k0_off35_at (t5 : Fin k0_t5_loop.trips) (r : ℕ) (hr : r < 8) : 1024 * (2 * t5.val + 2) + 128 * r = k0_off35 t5 (BitVec.ofNat 32 (128 * r)) 0 := by
  have e := congrFun (k0_off35_eq t5 ⟨r, hr⟩) 0
  rw [e]
  show 1024 * (2 * t5.val + 2) + 128 * r = 2048 * t5.val + 128 * r + 2048
  omega

set_option maxHeartbeats 4000000 in
theorem part36_wp {α : Type} {Q : α → sProp 𝕄} {kk : BitVec 32 → Pt i α F} (hP : PC.Ok i P) (v3 : IVec S16 32) (hv3 : ∀ x : S16.Idx, v3 x = BitVec.ofNat 32 (x 0).val)
    (t5 : Fin k0_t5_loop.trips) (h : k0_cond5 t5 = 1#1) (hlt : 2 * t5.val + 2 < 64) (M' M : S2x1024.Idx → F .f32) :
    iprop(wmI F P.wm ∗ GI d i P cc0_scratch7.sem 0 ∗ (lV.view.loc (thr d i) ↦[highC (2 * t5.val + 2)]{fullShare} P.f0) ∗ (mkV.view.loc (thr d i) ↦[row2 1]{fullShare} M')
        ∗ (mkV.view.loc (thr d i) ↦[row2 0]{fullShare} M) : sProp 𝕄)
      ⊢ iprop((iprop(FG d i P cc0_scratch7.sem 0 (2 * t5.val + 2) 3 ∗ (lV.view.loc (thr d i) ↦[highC (2 * t5.val + 2 + 1)]{fullShare} P.f0) ∗ (mkV.view.loc (thr d i) ↦[row2 1]{fullShare} M')
        ∗ (mkV.view.loc (thr d i) ↦[row2 0]{fullShare} mkC P (2 * t5.val + 2))) -∗ wp frame (wpE (defs₀ (F := F)) 𝒱₀ (thr d i) none) Set.univ (kk (Scalar.addi (vB t5) 1#32)) Q)
      -∗ wp frame (wpE (defs₀ (F := F)) 𝒱₀ (thr d i) none) Set.univ (p36 i P.lo v3 t5 (vB t5) h >>= kk) Q) := by
  have hb1 : 2048 * t5.val + 2048 = 1024 * (2 * t5.val + 2) := by omega
  iintro ⟨#Hwm, HG, HL, HM', HM⟩ HK
  unfold p36
  simp only [k0_part36_eq_skeleton, k0_part36_skel, Prog.lift, Prog.bind_op, Prog.bind_ret, Prog.pure_eq_ret, Prog.bind_assoc]
  ihave Hm := (mk_join d i M M') $$ [HM HM']
  · isplitl [HM]; · iexact HM
    iexact HM'
  iapply (prep8_loop d i P.lo v3 hv3 t5 (vB t5) h _ (vmul36 t5) P.f0 (rows2 M M') (highC (2 * t5.val + 2)) (fun x hx _ => mem_highC.mpr (by omega))) $$ [HL Hm]
  · isplitl [HL]; · iexact HL
    iexact Hm
  iintro ⟨HL, Hm⟩
  icases (mk_split d i (prepM (2048 * t5.val + 2048) 0 P.f0 (rows2 M M') 1024) (mkC P (2 * t5.val + 2)) M' ?_ ?_) $$ Hm with ⟨HM, HM'⟩
  rotate_left 2
  · ihave HL := (Entails.of_eq (congrArg (fun n => (lV.view.loc (thr d i) ↦[highC (2 * t5.val + 2)]{fullShare} prepL P.lo n P.f0 1024 : sProp 𝕄)) hb1)) $$ HL
    imod (fg_start d i P cc0_scratch7.sem 0 (2 * t5.val + 2)) $$ [HG HL] with ⟨HG, HL⟩
    · isplitr [HG HL]; · iexact Hwm
      isplitl [HG]; · iexact HG
      iexact HL
    iterate 3
      iapply (fg_step d i hP (show 0 < 2 by decide) hlt cc0_scratch7.sem ?_ ?_ ?_ ?_) $$ [HG]
      rotate_left 4
      · isplitr [HG]; · iexact Hwm
        iexact HG
      iintro HG
    iapply HK
    · isplitl [HG]; · iexact HG
      isplitl [HL]; · iexact HL
      isplitl [HM']; · iexact HM'
      iexact HM
    all_goals first | (show _ < _; decide) | (show (![_, _] : Fin 2 → ℕ) _ = _; rfl) | (refine Eq.symm (k0_off35_at t5 _ ?_); decide)
  all_goals
    intro y hy
    have hy1 : (y 1).val < 1024 := (y 1).isLt
  · rw [prepM, if_pos ⟨hy, hy1⟩, mkC, hb1]
  · rw [prepM, if_neg (by omega), rows2, if_neg (by omega)]

set_option maxHeartbeats 4000000 in
theorem part37_wp {α : Type} {Q : α → sProp 𝕄} {kk : BitVec 32 → Pt i α F} (hP : PC.Ok i P) (v2 v513 : BitVec 32)
    (t5 : Fin k0_t5_loop.trips) (h : k0_cond5 t5 = 1#1) (hlt : 2 * t5.val + 2 < 64) :
    iprop(wmI F P.wm ∗ FG d i P cc0_scratch7.sem 0 (2 * t5.val + 2) 3 : sProp 𝕄)
      ⊢ iprop((FG d i P cc0_scratch7.sem 0 (2 * t5.val + 2) 8 -∗ wp frame (wpE (defs₀ (F := F)) 𝒱₀ (thr d i) none) Set.univ (kk (Scalar.addi v2 (Scalar.muli v513 1024#32))) Q)
      -∗ wp frame (wpE (defs₀ (F := F)) 𝒱₀ (thr d i) none) Set.univ (p37 i v2 t5 h v513 >>= kk) Q) := by
  iintro ⟨#Hwm, HG⟩ HK
  unfold p37
  simp only [k0_part37_eq_skeleton, k0_part37_skel, Prog.lift, Prog.bind_op, Prog.bind_ret, Prog.pure_eq_ret, Prog.bind_assoc]
  iterate 5
    iapply (fg_step d i hP (show 0 < 2 by decide) hlt cc0_scratch7.sem ?_ ?_ ?_ ?_) $$ [HG]
    rotate_left 4
    · isplitr [HG]; · iexact Hwm
      iexact HG
    iintro HG
  iapply HK
  · iexact HG
  all_goals first | (show _ < _; decide) | (show (![_, _] : Fin 2 → ℕ) _ = _; rfl) | (refine Eq.symm (k0_off35_at t5 _ ?_); decide)

end Cert.Proof.K
end
end
-- ==== Proof.PairWrite.lean ====
/-
  The copies out of a finished chunk are issued.
-/
module
public import proofs.«01_k».proof.Proof.PairDefs
@[expose] public section
noncomputable section
namespace Cert.Proof.K
open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
variable {F : FTy → Type} [FloatOps F]
local notation "𝕄" => MM F
variable (d : Dev nD) (i : grid0.Coords)

variable (P : PC F)

/-- The copies out of chunk `c` from row `b` with `k` of the seventeen issued. -/
def WF (b c k : ℕ) : sProp 𝕄 :=
  iprop(∃ T : S16x1024.Idx → F .f32, ⌜∀ (y : S16x1024.Idx) (x : S33554432.Idx), (x 0).val = 2097152 * (y 0).val + (P.n0 + 1024 * c) + (y 1).val → T y = P.OT x⌝
    ∗ WS d i (P.n0 + 1024 * c) b T (mkC P c) P.OT P.MT P.go P.gm k)
/-- All of them issued and `k` waited for. -/
def WL (b c k : ℕ) : sProp 𝕄 :=
  iprop(∃ (T : S16x1024.Idx → F .f32) (M : S2x1024.Idx → F .f32), WQ d i (Dw d i (P.n0 + 1024 * c) b T M P.OT P.MT) k)
/-- None of them: the buffers are the tile's. -/
def WI (b : ℕ) : sProp 𝕄 :=
  iprop((∃ T : S16x1024.Idx → F .f32, (tV.view.loc (thr d i) ↦{fullShare} T)) ∗ (∃ M : S2x1024.Idx → F .f32, (mkV.view.loc (thr d i) ↦[row2 b]{fullShare} M))
    ∗ semVal ((thr d i), .dma cc0_scratch11.sem) 0)

theorem wf_start (b c : ℕ) (T : S16x1024.Idx → F .f32)
    (hT : ∀ (y : S16x1024.Idx) (x : S33554432.Idx), (x 0).val = 2097152 * (y 0).val + (P.n0 + 1024 * c) + (y 1).val → T y = P.OT x) :
    iprop(semVal ((thr d i), .dma cc0_scratch11.sem) 0 ∗ (tV.view.loc (thr d i) ↦{fullShare} T) ∗ (mkV.view.loc (thr d i) ↦[row2 b]{fullShare} mkC P c)
        ∗ bigSep Finset.univ (dstW d i (P.n0 + 1024 * c) P.go P.gm) : sProp 𝕄)
      ⊢ iprop(|={Set.univ}=> WF d i P b c 0) := by
  iintro H
  imod (w_start d i (P.n0 + 1024 * c) b T (mkC P c) P.OT P.MT P.go P.gm) $$ H with H
  imodintro
  unfold WF
  iexists T
  isplitr [H]
  · ipureintro; exact hT
  · iexact H

theorem wf_fire {α : Type} {kk : PUnit → Pt i α F} {Q : α → sProp 𝕄} (b c : ℕ) {k : ℕ} (hk : k < 16)
    {off : Fin 2 → ℕ} {inb} {hq} (ho0 : off 0 = k) (ho1 : off 1 = 0) {off' : Fin 1 → ℕ} {inb'} (ho : off' 0 = 2097152 * k + (P.n0 + 1024 * c)) {hs hd ht} :
    (WF d i P b c k : sProp 𝕄)
      ⊢ iprop((WF d i P b c (k + 1) -∗ wp frame (wpE (defs₀ (F := F)) 𝒱₀ (thr d i) none) Set.univ (kk ⟨⟩) Q)
        -∗ wp frame (wpE (defs₀ (F := F)) 𝒱₀ (thr d i) none) Set.univ (.op (.enqueueDma (rowM (m := 1024) tV off inb hq) (.here (segM (m := 1024) outV off' inb')) (.dma cc0_scratch11.sem) hs hd ht) kk) Q) := by
  unfold WF
  iintro ⟨%T, %hT, HW⟩ HK
  iapply (w_fire d i (P.n0 + 1024 * c) b T (mkC P c) P.OT P.MT P.go P.gm k hk hT ho0 ho1 ho) $$ HW
  iintro HW
  iapply HK
  iexists T
  isplitr [HW]
  · ipureintro; exact hT
  · iexact HW

theorem wf_mask {α : Type} {kk : PUnit → Pt i α F} {Q : α → sProp 𝕄} (hP : PC.Ok i P) (b c : ℕ) (hb : b < 2) (hc : c < 64)
    {off : Fin 2 → ℕ} {inb} {hq} (ho0 : off 0 = b) (ho1 : off 1 = 0) {off' : Fin 1 → ℕ} {inb'} (ho : off' 0 = P.n0 + 1024 * c) {hs hd ht} :
    (WF d i P b c 16 : sProp 𝕄)
      ⊢ iprop((WL d i P b c 0 -∗ wp frame (wpE (defs₀ (F := F)) 𝒱₀ (thr d i) none) Set.univ (kk ⟨⟩) Q)
        -∗ wp frame (wpE (defs₀ (F := F)) 𝒱₀ (thr d i) none) Set.univ (.op (.enqueueDma (rowM (m := 1024) mkV off inb hq) (.here (segM (m := 1024) mskV off' inb')) (.dma cc0_scratch11.sem) hs hd ht) kk) Q) := by
  unfold WF
  iintro ⟨%T, -, HW⟩ HK
  iapply (w_fire_mask d i (P.n0 + 1024 * c) b T (mkC P c) P.OT P.MT P.go P.gm (mv_eq i P hP b c hc) hb ho0 ho1 ho) $$ HW
  iintro HW
  iapply HK
  unfold WL
  iexists T, (mkC P c)
  unfold WQ WS
  icases HW with ⟨HB, -⟩
  iexact HB

theorem wl_collect (b c : ℕ) (hc : c < 64) :
    iprop(WL d i P b c 17 ∗ Done d i P c) ⊢ iprop(|={Set.univ}=> (WI d i b ∗ Done d i P (c + 1))) := by
  unfold WL WQ
  iintro ⟨⟨%T, %M, HB⟩, HD⟩
  imod (w_collect d i (P.n0 + 1024 * c) b T M P.OT P.MT) $$ HB with ⟨Hs, HT, HM, HO⟩
  imodintro
  isplitr [HD HO]
  · unfold WI
    isplitl [HT]; · iexists T; iexact HT
    isplitl [HM]; · iexists M; iexact HM
    iexact Hs
  · iapply (done_push d i P c hc)
    isplitl [HD]; · iexact HD
    iexact HO

theorem off31_A (hP : PC.Ok i P) (t5 : Fin k0_t5_loop.trips) (k : ℕ) (hk : k < 16) :
    2097152 * k + (P.n0 + 1024 * (2 * t5.val)) = k0_off31 i t5 (BitVec.ofNat 32 (2097152 * k)) 0#32 0 := by
  have e := congrFun (k0_off31_eq i t5 ⟨k, hk⟩ 0) 0
  rw [show (0#32 : BitVec 32) = BitVec.ofNat 32 ((0 : Fin 2).val) from rfl, e, hP.n0]
  show _ = 2097152 * k + 131072 * (i 1).val + 65536 * (i 0).val + 2048 * t5.val + 1024 * 0
  omega
theorem off31_B (hP : PC.Ok i P) (t5 : Fin k0_t5_loop.trips) (k : ℕ) (hk : k < 16) :
    2097152 * k + (P.n0 + 1024 * (2 * t5.val + 1)) = k0_off31 i t5 (BitVec.ofNat 32 (2097152 * k)) 1#32 0 := by
  have e := congrFun (k0_off31_eq i t5 ⟨k, hk⟩ 1) 0
  rw [show (1#32 : BitVec 32) = BitVec.ofNat 32 ((1 : Fin 2).val) from rfl, e, hP.n0]
  show _ = 2097152 * k + 131072 * (i 1).val + 65536 * (i 0).val + 2048 * t5.val + 1024 * 1
  omega
theorem off32_A (hP : PC.Ok i P) (t5 : Fin k0_t5_loop.trips) : k0_off32 i t5 0#32 0 = P.n0 + 1024 * (2 * t5.val) := by
  have e := congrFun (k0_off32_eq i t5 0) 0
  rw [show (0#32 : BitVec 32) = BitVec.ofNat 32 ((0 : Fin 2).val) from rfl, e, hP.n0]
  show 131072 * (i 1).val + 65536 * (i 0).val + 2048 * t5.val + 1024 * 0 = _
  omega
theorem off32_B (hP : PC.Ok i P) (t5 : Fin k0_t5_loop.trips) : k0_off32 i t5 1#32 0 = P.n0 + 1024 * (2 * t5.val + 1) := by
  have e := congrFun (k0_off32_eq i t5 1) 0
  rw [show (1#32 : BitVec 32) = BitVec.ofNat 32 ((1 : Fin 2).val) from rfl, e, hP.n0]
  show 131072 * (i 1).val + 65536 * (i 0).val + 2048 * t5.val + 1024 * 1 = _
  omega

variable (hP : PC.Ok i P)
include hP

set_option maxHeartbeats 4000000 in
theorem part43_wp {α : Type} {Q : α → sProp 𝕄} {kk : PUnit → Pt i α F} (t5 : Fin k0_t5_loop.trips) (v198 : BitVec 32) :
    (WF d i P 0 (2 * t5.val) 0 : sProp 𝕄)
      ⊢ iprop((WF d i P 0 (2 * t5.val) 5 -∗ wp frame (wpE (defs₀ (F := F)) 𝒱₀ (thr d i) none) Set.univ (kk ⟨⟩) Q) -∗ wp frame (wpE (defs₀ (F := F)) 𝒱₀ (thr d i) none) Set.univ (p43 i t5 v198 >>= kk) Q) := by
  iintro HW HK
  unfold p43
  simp only [k0_part43_eq_skeleton, k0_part43_skel, Prog.lift, Prog.bind_op, Prog.bind_ret, Prog.pure_eq_ret, Prog.bind_assoc]
  iterate 5
    iapply (wf_fire d i P 0 (2 * t5.val) ?_ ?_ ?_ ?_) $$ HW
    rotate_left 4
    iintro HW
  iapply HK
  · iexact HW
  all_goals first | (show _ < _; decide) | (show (![_, _] : Fin 2 → ℕ) _ = _; rfl) | (refine Eq.symm (off31_A i P hP t5 _ ?_); decide)

set_option maxHeartbeats 4000000 in
theorem part44_wp {α : Type} {Q : α → sProp 𝕄} {kk : PUnit → Pt i α F} (t5 : Fin k0_t5_loop.trips) (v198 : BitVec 32) :
    (WF d i P 0 (2 * t5.val) 5 : sProp 𝕄)
      ⊢ iprop((WF d i P 0 (2 * t5.val) 9 -∗ wp frame (wpE (defs₀ (F := F)) 𝒱₀ (thr d i) none) Set.univ (kk ⟨⟩) Q) -∗ wp frame (wpE (defs₀ (F := F)) 𝒱₀ (thr d i) none) Set.univ (p44 i t5 v198 >>= kk) Q) := by
  iintro HW HK
  unfold p44
  simp only [k0_part44_eq_skeleton, k0_part44_skel, Prog.lift, Prog.bind_op, Prog.bind_ret, Prog.pure_eq_ret, Prog.bind_assoc]
  iterate 4
    iapply (wf_fire d i P 0 (2 * t5.val) ?_ ?_ ?_ ?_) $$ HW
    rotate_left 4
    iintro HW
  iapply HK
  · iexact HW
  all_goals first | (show _ < _; decide) | (show (![_, _] : Fin 2 → ℕ) _ = _; rfl) | (refine Eq.symm (off31_A i P hP t5 _ ?_); decide)

set_option maxHeartbeats 4000000 in
theorem part45_wp {α : Type} {Q : α → sProp 𝕄} {kk : PUnit → Pt i α F} (t5 : Fin k0_t5_loop.trips) (v198 : BitVec 32) :
    (WF d i P 0 (2 * t5.val) 9 : sProp 𝕄)
      ⊢ iprop((WF d i P 0 (2 * t5.val) 14 -∗ wp frame (wpE (defs₀ (F := F)) 𝒱₀ (thr d i) none) Set.univ (kk ⟨⟩) Q) -∗ wp frame (wpE (defs₀ (F := F)) 𝒱₀ (thr d i) none) Set.univ (p45 i t5 v198 >>= kk) Q) := by
  iintro HW HK
  unfold p45
  simp only [k0_part45_eq_skeleton, k0_part45_skel, Prog.lift, Prog.bind_op, Prog.bind_ret, Prog.pure_eq_ret, Prog.bind_assoc]
  iterate 5
    iapply (wf_fire d i P 0 (2 * t5.val) ?_ ?_ ?_ ?_) $$ HW
    rotate_left 4
    iintro HW
  iapply HK
  · iexact HW
  all_goals first | (show _ < _; decide) | (show (![_, _] : Fin 2 → ℕ) _ = _; rfl) | (refine Eq.symm (off31_A i P hP t5 _ ?_); decide)

set_option maxHeartbeats 4000000 in
theorem part49_wp {α : Type} {Q : α → sProp 𝕄} {kk : PUnit → Pt i α F} (t5 : Fin k0_t5_loop.trips) (v374 c : BitVec 32) :
    (WF d i P 1 (2 * t5.val + 1) 3 : sProp 𝕄)
      ⊢ iprop((WF d i P 1 (2 * t5.val + 1) 7 -∗ wp frame (wpE (defs₀ (F := F)) 𝒱₀ (thr d i) none) Set.univ (kk ⟨⟩) Q) -∗ wp frame (wpE (defs₀ (F := F)) 𝒱₀ (thr d i) none) Set.univ (p49 i t5 v374 c >>= kk) Q) := by
  iintro HW HK
  unfold p49
  simp only [k0_part49_eq_skeleton, k0_part49_skel, Prog.lift, Prog.bind_op, Prog.bind_ret, Prog.pure_eq_ret, Prog.bind_assoc]
  iterate 4
    iapply (wf_fire d i P 1 (2 * t5.val + 1) ?_ ?_ ?_ ?_) $$ HW
    rotate_left 4
    iintro HW
  iapply HK
  · iexact HW
  all_goals first | (show _ < _; decide) | (show (![_, _] : Fin 2 → ℕ) _ = _; rfl) | (refine Eq.symm (off31_B i P hP t5 _ ?_); decide)

set_option maxHeartbeats 4000000 in
theorem part50_wp {α : Type} {Q : α → sProp 𝕄} {kk : PUnit → Pt i α F} (t5 : Fin k0_t5_loop.trips) (v374 : BitVec 32) :
    (WF d i P 1 (2 * t5.val + 1) 7 : sProp 𝕄)
      ⊢ iprop((WF d i P 1 (2 * t5.val + 1) 12 -∗ wp frame (wpE (defs₀ (F := F)) 𝒱₀ (thr d i) none) Set.univ (kk ⟨⟩) Q) -∗ wp frame (wpE (defs₀ (F := F)) 𝒱₀ (thr d i) none) Set.univ (p50 i t5 v374 >>= kk) Q) := by
  iintro HW HK
  unfold p50
  simp only [k0_part50_eq_skeleton, k0_part50_skel, Prog.lift, Prog.bind_op, Prog.bind_ret, Prog.pure_eq_ret, Prog.bind_assoc]
  iterate 5
    iapply (wf_fire d i P 1 (2 * t5.val + 1) ?_ ?_ ?_ ?_) $$ HW
    rotate_left 4
    iintro HW
  iapply HK
  · iexact HW
  all_goals first | (show _ < _; decide) | (show (![_, _] : Fin 2 → ℕ) _ = _; rfl) | (refine Eq.symm (off31_B i P hP t5 _ ?_); decide)

end Cert.Proof.K
end
end
-- ==== Proof.PairA.lean ====
/-
  The first half of a pair of chunks.
-/
module
public import proofs.«01_k».proof.Proof.PairFire
public import proofs.«01_k».proof.Proof.PairWrite
@[expose] public section
noncomputable section
namespace Cert.Proof.K
open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
variable {F : FTy → Type} [FloatOps F]
local notation "𝕄" => MM F
variable (d : Dev nD) (i : grid0.Coords)

variable (P : PC F)

abbrev LowS (c : ℕ) : sProp 𝕄 := iprop(∃ f : S65536.Idx → BitVec 32, (lV.view.loc (thr d i) ↦[lowC c]{fullShare} f))
/-- The first half's place in the pipeline: its next chunk is under way, or there is none. -/
def G0 (c : ℕ) : sProp 𝕄 :=
  if c < 64 then iprop(FW d i P cc0_scratch7.sem 0 c 0 ∗ DF d i P cc0_scratch9.sem 0 c ∗ (lV.view.loc (thr d i) ↦[highC (c + 1)]{fullShare} P.f0))
  else iprop(GI d i P cc0_scratch7.sem 0 ∗ DI d i P cc0_scratch9.sem 0 ∗ (lV.view.loc (thr d i) ↦[highC c]{fullShare} P.f0))
/-- The mask's row of that chunk. -/
def Mk0 (c : ℕ) : sProp 𝕄 := iprop(∃ M : S2x1024.Idx → F .f32, ⌜c < 64 → M = mkC P c⌝ ∗ (mkV.view.loc (thr d i) ↦[row2 0]{fullShare} M))
/-- The copies out of the chunk before. -/
def WSt (c : ℕ) : sProp 𝕄 := if c = 0 then iprop(WI d i 1 ∗ Done d i P 0) else iprop(WL d i P 1 (c - 1) 0 ∗ Done d i P (c - 1))
/-- Between two pairs of chunks. -/
def St (c : ℕ) : sProp 𝕄 :=
  iprop(LowS d i c ∗ G0 d i P c ∗ Mk0 d i P c ∗ GI d i P cc0_scratch8.sem 1 ∗ DI d i P cc0_scratch10.sem 1 ∗ WSt d i P c ∗ Out d i P c)

theorem fw_wait {α : Type} {Q : α → sProp 𝕄} {O : CellTallies nD τ sig (HIx 1)} {W : Waits sig (HIx 1)} {kk : PUnit → Pt i α F} (sem : DmaSem sig) (b c : ℕ) {k : ℕ} (hk : k < 8)
    {ins : ∀ a : Fin 2, (![0, 0] : Fin 2 → ℕ) a + S500000x16.size a ≤ S500000x16.size a} {og : Fin 2 → ℕ} {inbg : ∀ a : Fin 2, og a + S128x16.size a ≤ S2048x16.size a} {hs hd} :
    iprop(FW d i P sem b c k ∗ Transfers.MayWaits (thr d i) (default : HIx 1) O ∗ Ow d i O W : sProp 𝕄)
      ⊢ iprop((iprop(FW d i P sem b c (k + 1) ∗ Ow d i O W) -∗ wp frame (wpE (defs₀ (F := F)) 𝒱₀ (thr d i) none) Set.univ (kk ⟨⟩) Q)
        -∗ wp frame (wpE (defs₀ (F := F)) 𝒱₀ (thr d i) none) Set.univ (SparseCore.waitIndirectGather sem (ftV.slice (Rect.unit (s := S500000x16) ![0, 0] S500000x16.size ins) (fun _ => rfl))
              (gV.slice (Rect.unit (s := S2048x16) og S128x16.size inbg) (fun _ => rfl)) hs hd >>= kk) Q) := by
  unfold FW
  iintro ⟨⟨%f, HB, HW⟩, #Hmw, HO⟩ HK
  iapply (gq_wait d i sem k hk _) $$ [HB HO]
  · isplitl [HB]; · iexact HB
    isplitr [HO]; · iexact Hmw
    iexact HO
  iintro ⟨HB, HO⟩
  iapply HK
  isplitr [HO]
  · iexists f
    isplitl [HB]; · iexact HB
    iexact HW
  · iexact HO

theorem df_fire {α : Type} {Q : α → sProp 𝕄} {kk : PUnit → Pt i α F} (sem : DmaSem sig) (b c : ℕ)
    {off : Fin 1 → ℕ} {inb} (ho : off 0 = P.n0 + 1024 * c) {off' : Fin 2 → ℕ} {inb'} {hq} (ho0 : off' 0 = b) (ho1 : off' 1 = 0) {hs hd ht} :
    (DI d i P sem b : sProp 𝕄)
      ⊢ iprop((DF d i P sem b c -∗ wp frame (wpE (defs₀ (F := F)) 𝒱₀ (thr d i) none) Set.univ (kk ⟨⟩) Q)
        -∗ wp frame (wpE (defs₀ (F := F)) 𝒱₀ (thr d i) none) Set.univ (.op (.enqueueDma (segM (m := 1024) dnsV off inb) (.here (rowM (m := 1024) dnV off' inb' hq)) (.dma sem) hs hd ht) kk) Q) := by
  unfold DI DF
  iintro ⟨HD, ⟨%g, Hg⟩, Hs⟩ HK
  iapply (dens_fire d i P.fd (P.qd b) sem b (P.n0 + 1024 * c) g (ho := ho) (ho0 := ho0) (ho1 := ho1)) $$ [HD Hg Hs]
  · isplitl [HD]; · iexact HD
    isplitl [Hg]; · iexact Hg
    iexact Hs
  iexact HK

/-- A half being gathered into can still show its elements. -/
theorem peek_fw (sem : DmaSem sig) (b c k : ℕ) : Peekable d i (half b) iprop(wmI F P.wm ∗ FW d i P sem b c k) := by
  refine ⟨Set.univ \ {P.wm}, ?_⟩
  unfold FW
  iintro ⟨#Hwm, %f, HB, HR⟩
  imod (willBeTo_acc (emb := wmE F) (ιwm := P.wm) (I := half b) (f := f) (ℓ := gV.view.loc (thr d i)) (q := fullShare.right) (g := fun x => some (gC b c P.fs (LL P c) x)) (W := ∅) (Set.mem_univ _)) $$ [HR] with ⟨%cur, %W', %h1, Hraw, %h2, Hclose⟩
  · isplitr [HR]; · iexact Hwm
    iexact HR
  imodintro
  iexists cur
  isplitl [Hraw]; · iexact Hraw
  iintro Hraw
  ispecialize Hclose $$ %cur %∅ %⟨Finset.empty_subset _, fun i h => absurd h (Finset.notMem_empty i), fun _ _ _ => rfl⟩ Hraw
  imod Hclose with Htok
  imodintro
  rw [Finset.union_empty]
  isplitr [Htok HB]; · iexact Hwm
  iexists f
  isplitl [HB]; · iexact HB
  iexact Htok

theorem peek_g0 (c : ℕ) : Peekable d i (half 0) iprop(wmI F P.wm ∗ G0 d i P c) := by
  unfold G0
  by_cases h : c < 64
  · rw [if_pos h]
    obtain ⟨E', hE⟩ := peek_fw d i P cc0_scratch7.sem 0 c 0
    refine ⟨E', ?_⟩
    iintro ⟨#Hwm, HF, HD, HL⟩
    imod hE $$ [HF] with ⟨%cur, HC, Hback⟩
    · isplitr [HF]; · iexact Hwm
      iexact HF
    imodintro
    iexists cur
    isplitl [HC]; · iexact HC
    iintro HC
    ispecialize Hback $$ HC
    imod Hback with ⟨-, HF⟩
    imodintro
    isplitr [HF HD HL]; · iexact Hwm
    isplitl [HF]; · iexact HF
    isplitl [HD]; · iexact HD
    iexact HL
  · rw [if_neg h]
    refine ⟨Set.univ, ?_⟩
    unfold GI
    iintro ⟨#Hwm, ⟨⟨%g, HG⟩, Hs, Hf⟩, HD, HL⟩
    imodintro
    iexists g
    isplitl [HG]; · iexact HG
    iintro HG
    imodintro
    isplitr [HG Hs Hf HD HL]; · iexact Hwm
    isplitr [HD HL]
    · isplitl [HG]; · iexists g; iexact HG
      isplitl [Hs]; · iexact Hs
      iexact Hf
    · isplitl [HD]; · iexact HD
      iexact HL

theorem cond2_iff : ∀ t5 : Fin k0_t5_loop.trips, Scalar.cmpi .ne (Scalar.extui (Scalar.cmpi .sge (vA t5) 1#32) : BitVec 32) 0#32 = 1#1 ↔ 0 < t5.val := by decide
theorem cond4_pos : ∀ t5 : Fin k0_t5_loop.trips, Scalar.cmpi .ne (Scalar.extui (Scalar.cmpi .sge (vB t5) 1#32) : BitVec 32) 0#32 = 1#1 := by decide
theorem cond3_pos : ∀ t5 : Fin k0_t5_loop.trips, k0_cond3 t5 = 1#1 := by decide
theorem cond5_iff : ∀ t5 : Fin k0_t5_loop.trips, k0_cond5 t5 = 1#1 ↔ t5.val < 31 := by decide
theorem trips5 : k0_t5_loop.trips = 32 := by decide

/-- After part 41: the second half's gathers are under way and the first half's are half waited for. -/
def S41 (O : CellTallies nD τ sig (HIx 1)) (W : Waits sig (HIx 1)) (c : ℕ) : sProp 𝕄 :=
  iprop(LowS d i c ∗ FW d i P cc0_scratch7.sem 0 c 4 ∗ DF d i P cc0_scratch9.sem 0 c ∗ (lV.view.loc (thr d i) ↦[highC (c + 1 + 1)]{fullShare} P.f0)
    ∗ (mkV.view.loc (thr d i) ↦[row2 0]{fullShare} mkC P c) ∗ (mkV.view.loc (thr d i) ↦[row2 1]{fullShare} mkC P (c + 1))
    ∗ FW d i P cc0_scratch8.sem 1 (c + 1) 0 ∗ DF d i P cc0_scratch10.sem 1 (c + 1) ∗ (∃ T : S16x1024.Idx → F .f32, (tV.view.loc (thr d i) ↦{fullShare} T))
    ∗ semVal ((thr d i), .dma cc0_scratch11.sem) 0 ∗ Done d i P c ∗ Out d i P c ∗ Ow d i O W)

theorem off13_at (hP : PC.Ok i P) (t5 : Fin k0_t5_loop.trips) : k0_off13 i t5 0 = P.n0 + 1024 * (2 * t5.val + 1) := by
  rw [congrFun (k0_off13_eq i t5) 0, hP.n0]
  show 131072 * (i 1).val + 65536 * (i 0).val + 2048 * t5.val + 1024 = _
  omega
theorem off36_at (hP : PC.Ok i P) (t5 : Fin k0_t5_loop.trips) : k0_off36 i t5 0 = P.n0 + 1024 * (2 * t5.val + 2) := by
  rw [congrFun (k0_off36_eq i t5) 0, hP.n0]
  show 131072 * (i 1).val + 65536 * (i 0).val + 2048 * t5.val + 2048 = _
  omega

set_option maxHeartbeats 8000000 in
theorem part41_wp {α : Type} {Q : α → sProp 𝕄} {O : CellTallies nD τ sig (HIx 1)} {W : Waits sig (HIx 1)} (hP : PC.Ok i P) (v3 : IVec S16 32) (hv3 : ∀ x : S16.Idx, v3 x = BitVec.ofNat 32 (x 0).val)
    (t5 : Fin k0_t5_loop.trips) {kk : (Σ' (_ : BitVec 32), BitVec 32) → Pt i α F} :
    iprop(wmI F P.wm ∗ Transfers.MayWaits (thr d i) (default : HIx 1) O ∗ St d i P (2 * t5.val) ∗ Ow d i O W : sProp 𝕄)
      ⊢ iprop((S41 d i P O W (2 * t5.val) -∗ wp frame (wpE (defs₀ (F := F)) 𝒱₀ (thr d i) none) Set.univ (kk ⟨Scf.iv 0#32 1#32 t5, vA t5⟩) Q)
        -∗ wp frame (wpE (defs₀ (F := F)) 𝒱₀ (thr d i) none) Set.univ (p41 i P.lo v3 0#32 1#32 t5 >>= kk) Q) := by
  have ht : t5.val < 32 := t5.isLt
  have hlt0 : 2 * t5.val < 64 := by omega
  have hlt1 : 2 * t5.val + 1 < 64 := by omega
  unfold St Mk0 G0 WSt
  rw [if_pos hlt0]
  by_cases h0 : 0 < t5.val
  on_goal 1 => rw [if_neg (by omega)]
  on_goal 2 => rw [if_pos (show 2 * t5.val = 0 by omega)]
  all_goals
    iintro ⟨#Hwm, #Hmw, ⟨Hlow, ⟨HF0, HD0, HL⟩, ⟨%M, %hM, HM⟩, HG1, HD1, HW, HOut⟩, HO⟩ HK
    obtain rfl := hM hlt0
    unfold p41
    simp only [k0_part41_eq_skeleton, k0_part41_skel, Prog.lift, Prog.bind_op, Prog.bind_ret, Prog.pure_eq_ret, Prog.bind_assoc]
  on_goal 1 =>
    rw [dif_pos ((cond2_iff t5).mpr h0)]
    simp only [Prog.lift, Prog.bind_op, Prog.bind_ret, Prog.pure_eq_ret, Prog.bind_assoc]
    icases HW with ⟨HW, HDone⟩
    unfold WL
    icases HW with ⟨%T, %M1, HB⟩
    iapply (part13_wp d i _) $$ [HB HO]
    · isplitl [HB]; · iexact HB
      isplitr [HO]; · iexact Hmw
      iexact HO
    iintro ⟨HB, HO⟩
    iapply (part14_wp d i _) $$ [HB HO]
    · isplitl [HB]; · iexact HB
      isplitr [HO]; · iexact Hmw
      iexact HO
    iintro ⟨HB, HO⟩
    iapply (part15_wp d i _) $$ [HB HO]
    · isplitl [HB]; · iexact HB
      isplitr [HO]; · iexact Hmw
      iexact HO
    iintro ⟨HB, HO⟩
    iapply (wq_wait d i 15 (show 15 < 17 by decide) _ rfl) $$ [HB HO]
    · isplitl [HB]; · iexact HB
      isplitr [HO]; · iexact Hmw
      iexact HO
    iintro ⟨HB, HO⟩
    iapply (wq_wait d i 16 (show 16 < 17 by decide) _ rfl) $$ [HB HO]
    · isplitl [HB]; · iexact HB
      isplitr [HO]; · iexact Hmw
      iexact HO
    iintro ⟨HB, HO⟩
    imod (wl_collect d i P 1 (2 * t5.val - 1) (by omega)) $$ [HB HDone] with ⟨HWI, HDone⟩
    · isplitl [HB]
      · unfold WL
        iexists T, M1
        iexact HB
      · iexact HDone
    ihave HDone := (Entails.of_eq (congrArg (Done d i P) (show 2 * t5.val - 1 + 1 = 2 * t5.val by omega))) $$ HDone
  on_goal 2 =>
    rw [dif_neg (fun h => h0 ((cond2_iff t5).mp h))]
    icases HW with ⟨HWI, HDone⟩
    ihave HDone := (Entails.of_eq (congrArg (Done d i P) (show 0 = 2 * t5.val by omega))) $$ HDone
  all_goals
    rw [dif_pos (cond3_pos t5)]
    simp only [Prog.lift, Prog.bind_op, Prog.bind_ret, Prog.pure_eq_ret, Prog.bind_assoc]
    unfold WI
    icases HWI with ⟨HT, ⟨%M', HM'⟩, Hsw⟩
    iapply (part22_wp d i P hP v3 hv3 t5 (cond3_pos t5) hlt1 (mkC P (2 * t5.val)) M') $$ [HG1 HL HM HM']
    · isplitr [HG1 HL HM HM']; · iexact Hwm
      isplitl [HG1]; · iexact HG1
      isplitl [HL]; · iexact HL
      isplitl [HM]; · iexact HM
      iexact HM'
    iintro ⟨HF1, HL, HM, HM'⟩
    iapply (part23_wp d i P hP P.lo _ t5 (cond3_pos t5) hlt1) $$ [HF1]
    · isplitr [HF1]; · iexact Hwm
      iexact HF1
    iintro HF1
    ihave HF1 := (fg_end d i P cc0_scratch8.sem 1 (2 * t5.val + 1)) $$ HF1
    iapply (df_fire d i P cc0_scratch10.sem 1 (2 * t5.val + 1) (off13_at i P hP t5) rfl rfl) $$ HD1
    iintro HD1
    iterate 4
      iapply (fw_wait d i P cc0_scratch7.sem 0 (2 * t5.val) ?_) $$ [HF0 HO]
      rotate_left
      · isplitl [HF0]; · iexact HF0
        isplitr [HO]; · iexact Hmw
        iexact HO
      iintro ⟨HF0, HO⟩
    iapply HK
    · unfold S41
      isplitl [Hlow]; · iexact Hlow
      isplitl [HF0]; · iexact HF0
      isplitl [HD0]; · iexact HD0
      isplitl [HL]; · iexact HL
      isplitl [HM]; · iexact HM
      isplitl [HM']; · iexact HM'
      isplitl [HF1]; · iexact HF1
      isplitl [HD1]; · iexact HD1
      isplitl [HT]; · iexact HT
      isplitl [Hsw]; · iexact Hsw
      isplitl [HDone]; · iexact HDone
      isplitl [HOut]; · iexact HOut
      iexact HO
    all_goals decide

/-- After part 42: the first half's chunk is transposed. -/
def S42 (O : CellTallies nD τ sig (HIx 1)) (W : Waits sig (HIx 1)) (c k : ℕ) : sProp 𝕄 :=
  iprop(LowS d i (c + 1) ∗ (lV.view.loc (thr d i) ↦[highC (c + 1 + 1)]{fullShare} P.f0) ∗ GI d i P cc0_scratch7.sem 0 ∗ DI d i P cc0_scratch9.sem 0
    ∗ FW d i P cc0_scratch8.sem 1 (c + 1) 0 ∗ DF d i P cc0_scratch10.sem 1 (c + 1) ∗ (mkV.view.loc (thr d i) ↦[row2 1]{fullShare} mkC P (c + 1))
    ∗ WF d i P 0 c k ∗ Done d i P c ∗ Out d i P (c + 1) ∗ Ow d i O W)

set_option maxHeartbeats 8000000 in
theorem part42_wp {α : Type} {Q : α → sProp 𝕄} {O : CellTallies nD τ sig (HIx 1)} {W : Waits sig (HIx 1)} (hP : PC.Ok i P) (v3 : IVec S16 32) (hv3 : ∀ x : S16.Idx, v3 x = BitVec.ofNat 32 (x 0).val)
    (t5 : Fin k0_t5_loop.trips) {kk : BitVec 32 → Pt i α F} (v159 : BitVec 32) :
    iprop(wmI F P.wm ∗ Transfers.MayWaits (thr d i) (default : HIx 1) O ∗ S41 d i P O W (2 * t5.val) : sProp 𝕄)
      ⊢ iprop((S42 d i P O W (2 * t5.val) 0 -∗ wp frame (wpE (defs₀ (F := F)) 𝒱₀ (thr d i) none) Set.univ (kk (Scalar.addi P.lo (Scalar.muli v159 1024#32))) Q)
        -∗ wp frame (wpE (defs₀ (F := F)) 𝒱₀ (thr d i) none) Set.univ (p42 i P.lo v3 t5 v159 >>= kk) Q) := by
  have ht : t5.val < 32 := t5.isLt
  have hlt0 : 2 * t5.val < 64 := by omega
  unfold S41
  iintro ⟨#Hwm, #Hmw, ⟨Hlow, HF0, HD0, HL, HM, HM', HF1, HD1, ⟨%T, HT⟩, Hsw, HDone, HOut, HO⟩⟩ HK
  unfold p42
  simp only [k0_part42_eq_skeleton, k0_part42_skel, Prog.lift, Prog.bind_op, Prog.bind_ret, Prog.pure_eq_ret, Prog.bind_assoc]
  iterate 4
    iapply (fw_wait d i P cc0_scratch7.sem 0 (2 * t5.val) ?_) $$ [HF0 HO]
    rotate_left
    · isplitl [HF0]; · iexact HF0
      isplitr [HO]; · iexact Hmw
      iexact HO
    iintro ⟨HF0, HO⟩
  imod (fw_collect d i P cc0_scratch7.sem 0 (2 * t5.val)) $$ [HF0] with ⟨Hsg, HG, HLc, Hft⟩
  · isplitr [HF0]; · iexact Hwm
    iexact HF0
  ihave Hlow := (low_push d i (2 * t5.val) (LL P (2 * t5.val))) $$ [Hlow HLc]
  · isplitl [Hlow]; · iexact Hlow
    iexact HLc
  unfold DF
  iapply (dens_wait d i P.fd (P.qd 0) cc0_scratch9.sem 0 (P.n0 + 1024 * (2 * t5.val))) $$ [HD0 HO]
  · isplitl [HD0]; · iexact HD0
    isplitr [HO]; · iexact Hmw
    iexact HO
  iintro ⟨Hdns, Hdn, Hsd, HO⟩
  ihave Hm := (mk_join d i (mkC P (2 * t5.val)) (mkC P (2 * t5.val + 1))) $$ [HM HM']
  · isplitl [HM]; · iexact HM
    iexact HM'
  iapply (xpose7_loop d i P.lo v3 hv3 t5 v159 (rows2 (mkC P (2 * t5.val)) (mkC P (2 * t5.val + 1))) (dnC P.fd (P.n0 + 1024 * (2 * t5.val)))
    (gC 0 (2 * t5.val) P.fs (LL P (2 * t5.val))) T (peek_fw d i P cc0_scratch8.sem 1 (2 * t5.val + 1) 0)) $$ [Hm Hdn HG HF1 HT]
  · isplitl [Hm]; · iexact Hm
    isplitl [Hdn]; · iexact Hdn
    isplitl [HG]; · iexact HG
    isplitl [HF1]
    · isplitr [HF1]; · iexact Hwm
      iexact HF1
    iexact HT
  iintro ⟨Hm, Hdn, HG, ⟨-, HF1⟩, HT⟩
  icases (mk_split d i (rows2 (mkC P (2 * t5.val)) (mkC P (2 * t5.val + 1))) (mkC P (2 * t5.val)) (mkC P (2 * t5.val + 1)) (fun y hy => if_pos hy) (fun y hy => if_neg (by omega))) $$ Hm with ⟨HM, HM'⟩
  icases (out_pop d i P (2 * t5.val) hlt0) $$ HOut with ⟨Ho, HOut⟩
  imod (wf_start d i P 0 (2 * t5.val) _ (tv_eq i P hP 0 (2 * t5.val) (by decide) hlt0 (rows2 (mkC P (2 * t5.val)) (mkC P (2 * t5.val + 1))) (fun y hy => if_pos hy))) $$ [Hsw HT HM Ho] with HWF
  · isplitl [Hsw]; · iexact Hsw
    isplitl [HT]; · iexact HT
    isplitl [HM]; · iexact HM
    iexact Ho
  iapply HK
  · unfold S42 DF
    isplitl [Hlow]; · iexact Hlow
    isplitl [HL]; · iexact HL
    isplitl [Hsg HG Hft]
    · unfold GI
      isplitl [HG]; · iexists _; iexact HG
      isplitl [Hsg]; · iexact Hsg
      iexact Hft
    isplitl [Hdns Hdn Hsd]
    · unfold DI
      isplitl [Hdns]; · iexact Hdns
      isplitl [Hdn]; · iexists _; iexact Hdn
      iexact Hsd
    isplitl [HF1]; · iexact HF1
    isplitl [HD1]; · iexact HD1
    isplitl [HM']; · iexact HM'
    isplitl [HWF]; · iexact HWF
    isplitl [HDone]; · iexact HDone
    isplitl [HOut]; · iexact HOut
    iexact HO
  all_goals decide

end Cert.Proof.K
end
end
-- ==== Proof.PairB.lean ====
/-
  The second half of a pair of chunks.
-/
module
public import proofs.«01_k».proof.Proof.PairA
@[expose] public section
noncomputable section
namespace Cert.Proof.K
open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
variable {F : FTy → Type} [FloatOps F]
local notation "𝕄" => MM F
variable (d : Dev nD) (i : grid0.Coords)

variable (P : PC F)

/-- After part 46: the first half's chunk is on its way out and its next one under way. -/
def S46 (O : CellTallies nD τ sig (HIx 1)) (W : Waits sig (HIx 1)) (c k : ℕ) : sProp 𝕄 :=
  iprop(LowS d i (c + 1) ∗ G0 d i P (c + 2) ∗ Mk0 d i P (c + 2) ∗ FW d i P cc0_scratch8.sem 1 (c + 1) k ∗ DF d i P cc0_scratch10.sem 1 (c + 1)
    ∗ (mkV.view.loc (thr d i) ↦[row2 1]{fullShare} mkC P (c + 1)) ∗ (∃ T : S16x1024.Idx → F .f32, (tV.view.loc (thr d i) ↦{fullShare} T))
    ∗ semVal ((thr d i), .dma cc0_scratch11.sem) 0 ∗ Done d i P (c + 1) ∗ Out d i P (c + 1) ∗ Ow d i O W)

set_option maxHeartbeats 8000000 in
theorem part46_wp {α : Type} {Q : α → sProp 𝕄} {O : CellTallies nD τ sig (HIx 1)} {W : Waits sig (HIx 1)} (hP : PC.Ok i P) (v3 : IVec S16 32) (hv3 : ∀ x : S16.Idx, v3 x = BitVec.ofNat 32 (x 0).val) (t5 : Fin k0_t5_loop.trips) {kk : BitVec 32 → Pt i α F} (v198 : BitVec 32) :
    iprop(wmI F P.wm ∗ Transfers.MayWaits (thr d i) (default : HIx 1) O ∗ S42 d i P O W (2 * t5.val) 14 : sProp 𝕄)
      ⊢ iprop((S46 d i P O W (2 * t5.val) 1 -∗ wp frame (wpE (defs₀ (F := F)) 𝒱₀ (thr d i) none) Set.univ (kk (vB t5)) Q)
        -∗ wp frame (wpE (defs₀ (F := F)) 𝒱₀ (thr d i) none) Set.univ (p46 i P.lo v3 t5 (Scf.iv 0#32 1#32 t5) v198 >>= kk) Q) := by
  have ht : t5.val < 32 := t5.isLt
  have hlt0 : 2 * t5.val < 64 := by omega
  unfold S42 S46 Mk0 G0
  by_cases h5 : t5.val < 31
  on_goal 1 => rw [if_pos (show 2 * t5.val + 2 < 64 by omega)]
  on_goal 2 => rw [if_neg (show ¬ 2 * t5.val + 2 < 64 by omega)]
  all_goals
    iintro ⟨#Hwm, #Hmw, ⟨Hlow, HL, HG0, HD0, HF1, HD1, HM1, HW, HDone, HOut, HO⟩⟩ HK
    unfold p46
    simp only [k0_part46_eq_skeleton, k0_part46_skel, Prog.lift, Prog.bind_op, Prog.bind_ret, Prog.pure_eq_ret, Prog.bind_assoc]
    iterate 2
      iapply (wf_fire d i P 0 (2 * t5.val) ?_ ?_ ?_ ?_) $$ HW
      iterate 4
        on_goal 1 => first | (show _ < _; decide) | (show (![_, _] : Fin 2 → ℕ) _ = _; rfl) | (refine Eq.symm (off31_A i P hP t5 _ ?_); decide)
      iintro HW
    iapply (wf_mask d i P hP 0 (2 * t5.val) (show 0 < 2 by decide) hlt0 rfl rfl (off32_A i P hP t5)) $$ HW
    iintro HW
    rw [dif_pos (cond4_pos t5)]
    simp only [Prog.lift, Prog.bind_op, Prog.bind_ret, Prog.pure_eq_ret, Prog.bind_assoc]
    unfold WL
    icases HW with ⟨%T, %M1, HB⟩
    iapply (part27_wp d i _) $$ [HB HO]
    · isplitl [HB]; · iexact HB
      isplitr [HO]; · iexact Hmw
      iexact HO
    iintro ⟨HB, HO⟩
    iapply (part28_wp d i _) $$ [HB HO]
    · isplitl [HB]; · iexact HB
      isplitr [HO]; · iexact Hmw
      iexact HO
    iintro ⟨HB, HO⟩
    iapply (part29_wp d i _) $$ [HB HO]
    · isplitl [HB]; · iexact HB
      isplitr [HO]; · iexact Hmw
      iexact HO
    iintro ⟨HB, HO⟩
    iapply (wq_wait d i 15 (show 15 < 17 by decide) _ rfl) $$ [HB HO]
    · isplitl [HB]; · iexact HB
      isplitr [HO]; · iexact Hmw
      iexact HO
    iintro ⟨HB, HO⟩
    iapply (wq_wait d i 16 (show 16 < 17 by decide) _ rfl) $$ [HB HO]
    · isplitl [HB]; · iexact HB
      isplitr [HO]; · iexact Hmw
      iexact HO
    iintro ⟨HB, HO⟩
    imod (wl_collect d i P 0 (2 * t5.val) hlt0) $$ [HB HDone] with ⟨HWI, HDone⟩
    · isplitl [HB]
      · unfold WL
        iexists T, M1
        iexact HB
      · iexact HDone
    unfold WI
    icases HWI with ⟨HT, ⟨%M', HM'⟩, Hsw⟩
  on_goal 1 =>
    rw [dif_pos ((cond5_iff t5).mpr h5)]
    simp only [Prog.lift, Prog.bind_op, Prog.bind_ret, Prog.pure_eq_ret, Prog.bind_assoc]
    iapply (part36_wp d i P hP v3 hv3 t5 ((cond5_iff t5).mpr h5) (by omega) (mkC P (2 * t5.val + 1)) M') $$ [HG0 HL HM1 HM']
    · isplitr [HG0 HL HM1 HM']; · iexact Hwm
      isplitl [HG0]; · iexact HG0
      isplitl [HL]; · iexact HL
      isplitl [HM1]; · iexact HM1
      iexact HM'
    iintro ⟨HF0, HL, HM1, HM'⟩
    iapply (part37_wp d i P hP P.lo _ t5 ((cond5_iff t5).mpr h5) (by omega)) $$ [HF0]
    · isplitr [HF0]; · iexact Hwm
      iexact HF0
    iintro HF0
    ihave HF0 := (fg_end d i P cc0_scratch7.sem 0 (2 * t5.val + 2)) $$ HF0
    iapply (df_fire d i P cc0_scratch9.sem 0 (2 * t5.val + 2) (off36_at i P hP t5) rfl rfl) $$ HD0
    iintro HD0
  on_goal 2 =>
    rw [dif_neg (fun h => h5 ((cond5_iff t5).mp h))]
    simp only [Prog.lift, Prog.bind_op, Prog.bind_ret, Prog.pure_eq_ret, Prog.bind_assoc]
  on_goal 1 =>
    iapply (fw_wait d i P cc0_scratch8.sem 1 (2 * t5.val + 1) (show 0 < 8 by decide)) $$ [HF1 HO]
    · isplitl [HF1]; · iexact HF1
      isplitr [HO]; · iexact Hmw
      iexact HO
    iintro ⟨HF1, HO⟩
    iapply HK
    isplitl [Hlow]; · iexact Hlow
    isplitl [HF0 HD0 HL]
    · isplitl [HF0]; · iexact HF0
      isplitl [HD0]; · iexact HD0
      iexact HL
    isplitl [HM']
    · iexists (mkC P (2 * t5.val + 2))
      isplitr [HM']
      · ipureintro; exact fun _ => rfl
      · iexact HM'
    isplitl [HF1]; · iexact HF1
    isplitl [HD1]; · iexact HD1
    isplitl [HM1]; · iexact HM1
    isplitl [HT]; · iexact HT
    isplitl [Hsw]; · iexact Hsw
    isplitl [HDone]; · iexact HDone
    isplitl [HOut]; · iexact HOut
    iexact HO
  on_goal 1 =>
    iapply (fw_wait d i P cc0_scratch8.sem 1 (2 * t5.val + 1) (show 0 < 8 by decide)) $$ [HF1 HO]
    · isplitl [HF1]; · iexact HF1
      isplitr [HO]; · iexact Hmw
      iexact HO
    iintro ⟨HF1, HO⟩
    iapply HK
    isplitl [Hlow]; · iexact Hlow
    isplitl [HG0 HD0 HL]
    · isplitl [HG0]; · iexact HG0
      isplitl [HD0]; · iexact HD0
      iexact HL
    isplitl [HM']
    · iexists M'
      isplitr [HM']
      · ipureintro; exact fun h => absurd h (show ¬ 2 * t5.val + 2 < 64 by omega)
      · iexact HM'
    isplitl [HF1]; · iexact HF1
    isplitl [HD1]; · iexact HD1
    isplitl [HM1]; · iexact HM1
    isplitl [HT]; · iexact HT
    isplitl [Hsw]; · iexact Hsw
    isplitl [HDone]; · iexact HDone
    isplitl [HOut]; · iexact HOut
    iexact HO

/-- After part 48: both chunks of the pair are transposed. -/
def S48 (O : CellTallies nD τ sig (HIx 1)) (W : Waits sig (HIx 1)) (c k : ℕ) : sProp 𝕄 :=
  iprop(LowS d i (c + 1 + 1) ∗ G0 d i P (c + 2) ∗ Mk0 d i P (c + 2) ∗ GI d i P cc0_scratch8.sem 1 ∗ DI d i P cc0_scratch10.sem 1
    ∗ WF d i P 1 (c + 1) k ∗ Done d i P (c + 1) ∗ Out d i P (c + 1 + 1) ∗ Ow d i O W)

set_option maxHeartbeats 8000000 in
theorem part48_wp {α : Type} {Q : α → sProp 𝕄} {O : CellTallies nD τ sig (HIx 1)} {W : Waits sig (HIx 1)} (hP : PC.Ok i P) (v3 : IVec S16 32) (hv3 : ∀ x : S16.Idx, v3 x = BitVec.ofNat 32 (x 0).val) (t5 : Fin k0_t5_loop.trips) {kk : (Σ' (_ : BitVec 32), BitVec 32) → Pt i α F} (v335 : BitVec 32) :
    iprop(wmI F P.wm ∗ Transfers.MayWaits (thr d i) (default : HIx 1) O ∗ S46 d i P O W (2 * t5.val) 8 : sProp 𝕄)
      ⊢ iprop((S48 d i P O W (2 * t5.val) 3 -∗ wp frame (wpE (defs₀ (F := F)) 𝒱₀ (thr d i) none) Set.univ (kk ⟨Scalar.addi P.lo (Scalar.muli v335 1024#32), 6291456#32⟩) Q)
        -∗ wp frame (wpE (defs₀ (F := F)) 𝒱₀ (thr d i) none) Set.univ (p48 i P.lo v3 t5 v335 >>= kk) Q) := by
  have ht : t5.val < 32 := t5.isLt
  have hlt1 : 2 * t5.val + 1 < 64 := by omega
  unfold S46
  iintro ⟨#Hwm, #Hmw, ⟨Hlow, HG0, HMk, HF1, HD1, HM1, ⟨%T, HT⟩, Hsw, HDone, HOut, HO⟩⟩ HK
  unfold p48
  simp only [k0_part48_eq_skeleton, k0_part48_skel, Prog.lift, Prog.bind_op, Prog.bind_ret, Prog.pure_eq_ret, Prog.bind_assoc]
  imod (fw_collect d i P cc0_scratch8.sem 1 (2 * t5.val + 1)) $$ [HF1] with ⟨Hsg, HG, HLc, Hft⟩
  · isplitr [HF1]; · iexact Hwm
    iexact HF1
  ihave Hlow := (low_push d i (2 * t5.val + 1) (LL P (2 * t5.val + 1))) $$ [Hlow HLc]
  · isplitl [Hlow]; · iexact Hlow
    iexact HLc
  unfold DF
  iapply (dens_wait d i P.fd (P.qd 1) cc0_scratch10.sem 1 (P.n0 + 1024 * (2 * t5.val + 1))) $$ [HD1 HO]
  · isplitl [HD1]; · iexact HD1
    isplitr [HO]; · iexact Hmw
    iexact HO
  iintro ⟨Hdns, Hdn, Hsd, HO⟩
  unfold Mk0
  icases HMk with ⟨%M, %hM, HM⟩
  ihave Hm := (mk_join d i M (mkC P (2 * t5.val + 1))) $$ [HM HM1]
  · isplitl [HM]; · iexact HM
    iexact HM1
  iapply (xpose9_loop d i P.lo v3 hv3 t5 v335 (rows2 M (mkC P (2 * t5.val + 1))) (dnC P.fd (P.n0 + 1024 * (2 * t5.val + 1)))
    (gC 1 (2 * t5.val + 1) P.fs (LL P (2 * t5.val + 1))) T (peek_g0 d i P (2 * t5.val + 2))) $$ [Hm Hdn HG HG0 HT]
  · isplitl [Hm]; · iexact Hm
    isplitl [Hdn]; · iexact Hdn
    isplitl [HG]; · iexact HG
    isplitl [HG0]
    · isplitr [HG0]; · iexact Hwm
      iexact HG0
    iexact HT
  iintro ⟨Hm, Hdn, HG, ⟨-, HG0⟩, HT⟩
  icases (mk_split d i (rows2 M (mkC P (2 * t5.val + 1))) M (mkC P (2 * t5.val + 1)) (fun y hy => if_pos hy) (fun y hy => if_neg (by omega))) $$ Hm with ⟨HM, HM1⟩
  icases (out_pop d i P (2 * t5.val + 1) hlt1) $$ HOut with ⟨Ho, HOut⟩
  imod (wf_start d i P 1 (2 * t5.val + 1) _ (tv_eq i P hP 1 (2 * t5.val + 1) (by decide) hlt1 (rows2 M (mkC P (2 * t5.val + 1))) (fun y hy => if_neg (by omega)))) $$ [Hsw HT HM1 Ho] with HW
  · isplitl [Hsw]; · iexact Hsw
    isplitl [HT]; · iexact HT
    isplitl [HM1]; · iexact HM1
    iexact Ho
  iterate 3
    iapply (wf_fire d i P 1 (2 * t5.val + 1) ?_ ?_ ?_ ?_) $$ HW
    rotate_left 4
    iintro HW

  iapply HK
  · unfold S48 Mk0
    isplitl [Hlow]; · iexact Hlow
    isplitl [HG0]; · iexact HG0
    isplitl [HM]
    · iexists M
      isplitr [HM]
      · ipureintro; exact hM
      · iexact HM
    isplitl [Hsg HG Hft]
    · unfold GI
      isplitl [HG]; · iexists _; iexact HG
      isplitl [Hsg]; · iexact Hsg
      iexact Hft
    isplitl [Hdns Hdn Hsd]
    · unfold DI
      isplitl [Hdns]; · iexact Hdns
      isplitl [Hdn]; · iexists _; iexact Hdn
      iexact Hsd
    isplitl [HW]; · iexact HW
    isplitl [HDone]; · iexact HDone
    isplitl [HOut]; · iexact HOut
    iexact HO
  all_goals first | (show _ < _; decide) | (show (![_, _] : Fin 2 → ℕ) _ = _; rfl) | (refine Eq.symm (off31_B i P hP t5 _ ?_); decide)

end Cert.Proof.K
end
end
-- ==== Proof.Pair.lean ====
/-
  The loop over pairs of chunks.
-/
module
public import proofs.«01_k».proof.Proof.PairB
@[expose] public section
noncomputable section
namespace Cert.Proof.K
open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
variable {F : FTy → Type} [FloatOps F]
local notation "𝕄" => MM F
variable (d : Dev nD) (i : grid0.Coords)

variable (P : PC F)

set_option maxHeartbeats 8000000 in
/-- One pair of chunks. -/
theorem pair_trip {O : CellTallies nD τ sig (HIx 1)} {W : Waits sig (HIx 1)} (hP : PC.Ok i P) (v3 : IVec S16 32) (hv3 : ∀ x : S16.Idx, v3 x = BitVec.ofNat 32 (x 0).val) (t5 : Fin k0_t5_loop.trips) :
    iprop(wmI F P.wm ∗ Transfers.MayWaits (thr d i) (default : HIx 1) O ∗ St d i P (2 * t5.val) ∗ Ow d i O W : sProp 𝕄)
      ⊢ wp frame (wpE (defs₀ (F := F)) 𝒱₀ (thr d i) none) Set.univ (b5 i P.lo v3 t5 ())
        (fun _ => iprop(wmI F P.wm ∗ Transfers.MayWaits (thr d i) (default : HIx 1) O ∗ St d i P (2 * (t5.val + 1)) ∗ Ow d i O W)) := by
  have ht : t5.val < 32 := t5.isLt
  have hlt1 : 2 * t5.val + 1 < 64 := by omega
  iintro ⟨#Hwm, #Hmw, HS, HO⟩
  unfold b5
  unfold k0_t5_body
  simp only [k0_part51_eq_skeleton, k0_part51_skel, Prog.lift, Prog.bind_op, Prog.bind_ret, Prog.pure_eq_ret, Prog.bind_assoc]
  iapply (part41_wp d i P hP v3 hv3 t5) $$ [HS HO]
  · isplitr [HS HO]; · iexact Hwm
    isplitr [HS HO]; · iexact Hmw
    isplitl [HS]; · iexact HS
    iexact HO
  iintro HS
  iapply (part42_wp d i P hP v3 hv3 t5 (vA t5)) $$ [HS]
  · isplitr [HS]; · iexact Hwm
    isplitr [HS]; · iexact Hmw
    iexact HS
  iintro HS
  unfold S42
  icases HS with ⟨Hlow, HL, HG0, HD0, HF1, HD1, HM1, HW, HDone, HOut, HO⟩
  iapply (part43_wp d i P hP t5 _) $$ HW
  iintro HW
  iapply (part44_wp d i P hP t5 _) $$ HW
  iintro HW
  iapply (part45_wp d i P hP t5 _) $$ HW
  iintro HW
  iapply (part46_wp d i P hP v3 hv3 t5 _) $$ [Hlow HL HG0 HD0 HF1 HD1 HM1 HW HDone HOut HO]
  · isplitr [Hlow HL HG0 HD0 HF1 HD1 HM1 HW HDone HOut HO]; · iexact Hwm
    isplitr [Hlow HL HG0 HD0 HF1 HD1 HM1 HW HDone HOut HO]; · iexact Hmw
    unfold S42
    isplitl [Hlow]; · iexact Hlow
    isplitl [HL]; · iexact HL
    isplitl [HG0]; · iexact HG0
    isplitl [HD0]; · iexact HD0
    isplitl [HF1]; · iexact HF1
    isplitl [HD1]; · iexact HD1
    isplitl [HM1]; · iexact HM1
    isplitl [HW]; · iexact HW
    isplitl [HDone]; · iexact HDone
    isplitl [HOut]; · iexact HOut
    iexact HO
  iintro HS
  unfold S46 FW
  icases HS with ⟨Hlow, HG0, HMk, ⟨%f, HB, HWb⟩, HD1, HM1, HT, Hsw, HDone, HOut, HO⟩
  iapply (part47_wp d i _) $$ [HB HO]
  · isplitl [HB]; · iexact HB
    isplitr [HO]; · iexact Hmw
    iexact HO
  iintro ⟨HB, HO⟩
  iapply (part48_wp d i P hP v3 hv3 t5 (vB t5)) $$ [Hlow HG0 HMk HB HWb HD1 HM1 HT Hsw HDone HOut HO]
  · isplitr [Hlow HG0 HMk HB HWb HD1 HM1 HT Hsw HDone HOut HO]; · iexact Hwm
    isplitr [Hlow HG0 HMk HB HWb HD1 HM1 HT Hsw HDone HOut HO]; · iexact Hmw
    unfold S46 FW
    isplitl [Hlow]; · iexact Hlow
    isplitl [HG0]; · iexact HG0
    isplitl [HMk]; · iexact HMk
    isplitl [HB HWb]
    · iexists f
      isplitl [HB]; · iexact HB
      iexact HWb
    isplitl [HD1]; · iexact HD1
    isplitl [HM1]; · iexact HM1
    isplitl [HT]; · iexact HT
    isplitl [Hsw]; · iexact Hsw
    isplitl [HDone]; · iexact HDone
    isplitl [HOut]; · iexact HOut
    iexact HO
  iintro HS
  unfold S48
  icases HS with ⟨Hlow, HG0, HMk, HG1, HD1, HW, HDone, HOut, HO⟩
  iapply (part49_wp d i P hP t5 _ _) $$ HW
  iintro HW
  iapply (part50_wp d i P hP t5 _) $$ HW
  iintro HW

  iterate 4
    iapply (wf_fire d i P 1 (2 * t5.val + 1) ?_ ?_ ?_ ?_) $$ HW
    rotate_left 4
    iintro HW
  iapply (wf_mask d i P hP 1 (2 * t5.val + 1) (show 1 < 2 by decide) hlt1 rfl rfl (off32_B i P hP t5)) $$ HW
  iintro HW
  on_goal 1 => rw [wp_ret]
  on_goal 1 =>
    imodintro
    isplitr [Hlow HG0 HMk HG1 HD1 HW HDone HOut HO]; · iexact Hwm
    isplitr [Hlow HG0 HMk HG1 HD1 HW HDone HOut HO]; · iexact Hmw
    isplitr [HO]
    · unfold St WSt
      rw [if_neg (by omega), show 2 * (t5.val + 1) - 1 = 2 * t5.val + 1 by omega, show 2 * (t5.val + 1) = 2 * t5.val + 2 by omega]
      isplitl [Hlow]; · iexact Hlow
      isplitl [HG0]; · iexact HG0
      isplitl [HMk]; · iexact HMk
      isplitl [HG1]; · iexact HG1
      isplitl [HD1]; · iexact HD1
      isplitl [HW HDone]
      · isplitl [HW]; · iexact HW
        iexact HDone
      iexact HOut
    · iexact HO
  all_goals first | (show _ < _; decide) | (show (![_, _] : Fin 2 → ℕ) _ = _; rfl) | (refine Eq.symm (off31_B i P hP t5 _ ?_); decide)

/-- All the pairs. -/
theorem pair_loop {α : Type} {Q : α → sProp 𝕄} {O : CellTallies nD τ sig (HIx 1)} {W : Waits sig (HIx 1)} (hP : PC.Ok i P) (v3 : IVec S16 32) (hv3 : ∀ x : S16.Idx, v3 x = BitVec.ofNat 32 (x 0).val) {kk : Unit → Pt i α F} :
    iprop(wmI F P.wm ∗ Transfers.MayWaits (thr d i) (default : HIx 1) O ∗ St d i P 0 ∗ Ow d i O W : sProp 𝕄)
      ⊢ iprop((iprop(St d i P 64 ∗ Ow d i O W) -∗ wp frame (wpE (defs₀ (F := F)) 𝒱₀ (thr d i) none) Set.univ (kk ()) Q)
        -∗ wp frame (wpE (defs₀ (F := F)) 𝒱₀ (thr d i) none) Set.univ (Scf.Loop.for k0_t5_loop k0_t5_ok ⟨⟩ (b5 i P.lo v3) >>= kk) Q) := by
  iintro H HK
  iapply (Scf.wp_for_bind frame (wpE (defs₀ (F := F)) 𝒱₀ (thr d i) none) Set.univ _ _ _ k0_t5_ok () (b5 i P.lo v3)
    (fun k _ => iprop(wmI F P.wm ∗ Transfers.MayWaits (thr d i) (default : HIx 1) O ∗ St d i P (2 * k) ∗ Ow d i O W))
    (fun t _ => pair_trip d i P hP v3 hv3 t)) $$ [H] [HK]
  · iexact H
  · iintro %_ ⟨-, -, HS, HO⟩
    iapply HK
    isplitl [HS]
    · rw [show Scf.trips k0_t5_loop.lb k0_t5_loop.ub k0_t5_loop.st = 32 from by decide]
      iexact HS
    · iexact HO

end Cert.Proof.K
end
end
-- ==== Proof.Tile.lean ====
/-
  The whole task of one tile.
-/
module
public import proofs.«01_k».proof.Proof.Pair
public import proofs.«01_k».proof.Proof.Init
public import proofs.«01_k».proof.Proof.ScanLoop
@[expose] public section
noncomputable section
namespace Cert.Proof.K
open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
variable {F : FTy → Type} [FloatOps F]
local notation "𝕄" => MM F
variable (d : Dev nD) (i : grid0.Coords)

variable (P : PC F)

/-- The scratch buffers, at some contents. -/
def Bufs : sProp 𝕄 :=
  iprop((∃ f : S2x4096.Idx → BitVec 32, (idV.view.loc (thr d i) ↦{fullShare} f)) ∗ (∃ f : S65536.Idx → BitVec 32, (lV.view.loc (thr d i) ↦{fullShare} f))
    ∗ (∃ f : S2048x16.Idx → F .f32, (gV.view.loc (thr d i) ↦{fullShare} f)) ∗ (∃ f : S16x1024.Idx → F .f32, (tV.view.loc (thr d i) ↦{fullShare} f))
    ∗ (∃ f : S2x1024.Idx → F .f32, (mkV.view.loc (thr d i) ↦{fullShare} f)) ∗ (∃ f : S2x1024.Idx → F .f32, (dnV.view.loc (thr d i) ↦{fullShare} f)))

/-- The transfer semaphores at zero. -/
def Sems : sProp 𝕄 :=
  iprop(semVal ((thr d i), .dma cc0_scratch6.sem) 0 ∗ semVal ((thr d i), .dma cc0_scratch7.sem) 0 ∗ semVal ((thr d i), .dma cc0_scratch8.sem) 0
    ∗ semVal ((thr d i), .dma cc0_scratch9.sem) 0 ∗ semVal ((thr d i), .dma cc0_scratch10.sem) 0 ∗ semVal ((thr d i), .dma cc0_scratch11.sem) 0)

/-- What the tile reads. -/
def Ins (fi : S500000.Idx → BitVec 32) (qi : PosShare TreeShare) : sProp 𝕄 :=
  iprop((idsV.view.loc (thr d i) ↦{qi} fi) ∗ (ftV.view.loc (thr d i) ↦{P.qf 0} P.fs) ∗ (ftV.view.loc (thr d i) ↦{P.qf 1} P.fs)
    ∗ (dnsV.view.loc (thr d i) ↦{P.qd 0} P.fd) ∗ (dnsV.view.loc (thr d i) ↦{P.qd 1} P.fd))

theorem rowI_cover : rowI 0 ∪ rowI 1 = Finset.univ := by
  ext y
  have : (y 0).val < 2 := (y 0).isLt
  simp only [Finset.mem_union, mem_rowI, Finset.mem_univ, iff_true]
  omega
theorem rowI_disj : Disjoint (rowI 0) (rowI 1) := by
  rw [Finset.disjoint_left]
  intro y h0 h1
  rw [mem_rowI] at h0 h1
  omega

theorem id_split (f : S2x4096.Idx → BitVec 32) :
    (idV.view.loc (thr d i) ↦{fullShare} f : sProp 𝕄) ⊢ iprop((idV.view.loc (thr d i) ↦[rowI 0]{fullShare} f) ∗ (idV.view.loc (thr d i) ↦[rowI 1]{fullShare} f)) := by
  rw [← rowI_cover]
  exact (pointsTo_union (ℓ := idV.view.loc (thr d i)) rowI_disj).mp
theorem id_join :
    (iprop(IdRow d i 0 ∗ IdRow d i 1) : sProp 𝕄) ⊢ iprop(∃ f : S2x4096.Idx → BitVec 32, (idV.view.loc (thr d i) ↦{fullShare} f)) := by
  unfold IdRow
  rw [← rowI_cover]
  iintro ⟨⟨%f, H0⟩, ⟨%g, H1⟩⟩
  iexists ((rowI 1).piecewise g f)
  iapply (pointsTo_join (ℓ := idV.view.loc (thr d i)) rowI_disj)
  isplitl [H0]; · iexact H0
  iexact H1
theorem dn_split (f : S2x1024.Idx → F .f32) :
    (dnV.view.loc (thr d i) ↦{fullShare} f : sProp 𝕄) ⊢ iprop((dnV.view.loc (thr d i) ↦[row2 0]{fullShare} f) ∗ (dnV.view.loc (thr d i) ↦[row2 1]{fullShare} f)) := by
  rw [← row2_cover]
  exact (pointsTo_union (ℓ := dnV.view.loc (thr d i)) row2_disj).mp
theorem dn_join :
    (iprop((∃ f : S2x1024.Idx → F .f32, (dnV.view.loc (thr d i) ↦[row2 0]{fullShare} f)) ∗ (∃ f : S2x1024.Idx → F .f32, (dnV.view.loc (thr d i) ↦[row2 1]{fullShare} f))) : sProp 𝕄)
      ⊢ iprop(∃ f : S2x1024.Idx → F .f32, (dnV.view.loc (thr d i) ↦{fullShare} f)) := by
  rw [← row2_cover]
  iintro ⟨⟨%f, H0⟩, ⟨%g, H1⟩⟩
  iexists ((row2 1).piecewise g f)
  iapply (pointsTo_join (ℓ := dnV.view.loc (thr d i)) row2_disj)
  isplitl [H0]; · iexact H0
  iexact H1
theorem g_split (f : S2048x16.Idx → F .f32) :
    (gV.view.loc (thr d i) ↦{fullShare} f : sProp 𝕄) ⊢ iprop((gV.view.loc (thr d i) ↦[half 0]{fullShare} f) ∗ (gV.view.loc (thr d i) ↦[half 1]{fullShare} f)) := by
  rw [← half_union]
  exact (pointsTo_union (ℓ := gV.view.loc (thr d i)) half_disj).mp
theorem g_join :
    (iprop((∃ f : S2048x16.Idx → F .f32, (gV.view.loc (thr d i) ↦[half 0]{fullShare} f)) ∗ (∃ f : S2048x16.Idx → F .f32, (gV.view.loc (thr d i) ↦[half 1]{fullShare} f))) : sProp 𝕄)
      ⊢ iprop(∃ f : S2048x16.Idx → F .f32, (gV.view.loc (thr d i) ↦{fullShare} f)) := by
  rw [← half_union]
  iintro ⟨⟨%f, H0⟩, ⟨%g, H1⟩⟩
  iexists ((half 1).piecewise g f)
  iapply (pointsTo_join (ℓ := gV.view.loc (thr d i)) half_disj)
  isplitl [H0]; · iexact H0
  iexact H1

theorem highC_zero : highC 0 = Finset.univ := by
  ext x
  simp [mem_highC]
theorem lowC_64 : lowC 64 = Finset.univ := by
  ext x
  have : (x 0).val < 65536 := (x 0).isLt
  simp only [mem_lowC, Finset.mem_univ, iff_true]
  omega

theorem low_none (f : S65536.Idx → BitVec 32) (S : Finset S65536.Idx) :
    (lV.view.loc (thr d i) ↦[S]{fullShare} f : sProp 𝕄) ⊢ iprop(LowS d i 0 ∗ (lV.view.loc (thr d i) ↦[S]{fullShare} f)) := by
  have e : S = lowC 0 ∪ S := by
    ext x
    simp [mem_lowC]
  have hd : Disjoint (lowC 0) S := by
    rw [Finset.disjoint_left]
    intro x hx
    exact absurd (mem_lowC.mp hx) (by omega)
  unfold LowS
  conv_lhs => rw [e]
  iintro H
  icases (pointsTo_union (ℓ := lV.view.loc (thr d i)) hd).mp $$ H with ⟨H0, H⟩
  isplitl [H0]
  · iexists f
    iexact H0
  · iexact H

set_option maxHeartbeats 8000000 in
/-- The preparation: the table filled and scanned, the first chunk's row numbers, its first gather. -/
theorem part52_wp {α : Type} {Q : α → sProp 𝕄} {O : CellTallies nD τ sig (HIx 1)} {W : Waits sig (HIx 1)} (hP : PC.Ok i P) (fi : S500000.Idx → BitVec 32) (qi : PosShare TreeShare)
    (hf0 : P.f0 = sc (idsN fi) P.lo 500000)
    (hlo : Scalar.muli (Scalar.addi (Scalar.muli (BitVec.ofNat 32 (i 1).val) 2#32) (BitVec.ofNat 32 (i 0).val)) 65536#32 = P.lo)
    {kk : (Σ' (_ : BitVec 32), IVec S16 32) → Pt i α F} :
    iprop(wmI F P.wm ∗ Transfers.MayWaits (thr d i) (default : HIx 1) O ∗ (idsV.view.loc (thr d i) ↦{qi} fi)
        ∗ (∃ f : S2x4096.Idx → BitVec 32, (idV.view.loc (thr d i) ↦{fullShare} f)) ∗ (∃ f : S65536.Idx → BitVec 32, (lV.view.loc (thr d i) ↦{fullShare} f))
        ∗ (∃ f : S2x1024.Idx → F .f32, (mkV.view.loc (thr d i) ↦{fullShare} f)) ∗ semVal ((thr d i), .dma cc0_scratch6.sem) 0
        ∗ GI d i P cc0_scratch7.sem 0 ∗ Ow d i O W : sProp 𝕄)
      ⊢ iprop((iprop((idsV.view.loc (thr d i) ↦{qi} fi) ∗ (∃ f : S2x4096.Idx → BitVec 32, (idV.view.loc (thr d i) ↦{fullShare} f))
            ∗ semVal ((thr d i), .dma cc0_scratch6.sem) 0 ∗ LowS d i 0 ∗ (lV.view.loc (thr d i) ↦[highC 1]{fullShare} P.f0)
            ∗ FG d i P cc0_scratch7.sem 0 0 1 ∗ (mkV.view.loc (thr d i) ↦[row2 0]{fullShare} mkC P 0)
            ∗ (∃ f : S2x1024.Idx → F .f32, (mkV.view.loc (thr d i) ↦[row2 1]{fullShare} f)) ∗ Ow d i O W)
          -∗ wp frame (wpE (defs₀ (F := F)) 𝒱₀ (thr d i) none) Set.univ (kk ⟨P.lo, iota .scVector S16 32 [0] iota_S16_d0_w32_scVector⟩) Q)
        -∗ wp frame (wpE (defs₀ (F := F)) 𝒱₀ (thr d i) none) Set.univ (p52 i >>= kk) Q) := by
  have hv3 : ∀ x : S16.Idx, iota .scVector S16 32 [0] iota_S16_d0_w32_scVector x = BitVec.ofNat 32 (x 0).val := fun x => iota_single_apply _ _ _ _ _ _
  iintro ⟨#Hwm, #Hmw, HI, ⟨%fid, Hid⟩, ⟨%fl, HL⟩, ⟨%fm, Hm⟩, Hs, HG, HO⟩ HK
  unfold p52
  simp only [k0_part52_eq_skeleton, k0_part52_skel, Prog.lift, Prog.bind_op, Prog.bind_ret, Prog.pure_eq_ret, Prog.bind_assoc]
  iapply (init_loop d i fl) $$ HL
  iintro HL
  icases (id_split d i fid) $$ Hid with ⟨Hi0, Hi1⟩
  iapply (ids_fire d i fi qi 0 fid ?_ ?_ ?_) $$ [HI Hi0 Hs]
  rotate_left 3
  · isplitl [HI]; · iexact HI
    isplitl [Hi0]; · iexact Hi0
    iexact Hs
  iintro HF
  rw [hlo]
  iapply (scan_loop d i fi qi P.lo (iota .scVector S16 32 [0] iota_S16_d0_w32_scVector) hv3 O W) $$ [HL Hi1 HF HO]
  · isplitr [HL Hi1 HF HO]; · iexact Hmw
    isplitl [HL]; · iexact HL
    isplitl [Hi1]
    · unfold IdRow
      iexists fid
      iexact Hi1
    isplitl [HF]; · iexact HF
    iexact HO
  iintro ⟨HL, HI, Hi0, Hi1, Hs, HO⟩
  ihave Hid := (id_join d i) $$ [Hi0 Hi1]
  · isplitl [Hi0]; · iexact Hi0
    iexact Hi1
  iapply (prep4_loop d i P.lo (iota .scVector S16 32 [0] iota_S16_d0_w32_scVector) hv3 (sc (idsN fi) P.lo 500000) fm Finset.univ (fun x _ _ => Finset.mem_univ x)) $$ [HL Hm]
  · isplitl [HL]; · iexact HL
    iexact Hm
  iintro ⟨HL, Hm⟩
  icases (mk_split d i (prepM 0 0 (sc (idsN fi) P.lo 500000) fm 1024) (mkC P 0) fm ?_ ?_) $$ Hm with ⟨HM, HM1⟩
  rotate_left 2
  · ihave HL := (Entails.of_eq (show (lV.view.loc (thr d i) ↦{fullShare} prepL P.lo 0 (sc (idsN fi) P.lo 500000) 1024 : sProp 𝕄)
      = (lV.view.loc (thr d i) ↦[highC 0]{fullShare} prepL P.lo (1024 * 0) P.f0 1024) by rw [hf0, highC_zero])) $$ HL
    icases (low_none d i _ _) $$ HL with ⟨Hlow, HL⟩
    imod (fg_start d i P cc0_scratch7.sem 0 0) $$ [HG HL] with ⟨HG, HL⟩
    · isplitr [HG HL]; · iexact Hwm
      isplitl [HG]; · iexact HG
      iexact HL
    iterate 1
      iapply (fg_step d i hP (show 0 < 2 by decide) (show 0 < 64 by decide) cc0_scratch7.sem ?_ ?_ ?_ ?_) $$ [HG]
      rotate_left 4
      · isplitr [HG]; · iexact Hwm
        iexact HG
      iintro HG
    iapply HK
    · isplitl [HI]; · iexact HI
      isplitl [Hid]; · iexact Hid
      isplitl [Hs]; · iexact Hs
      isplitl [Hlow]; · iexact Hlow
      isplitl [HL]; · iexact HL
      isplitl [HG]; · iexact HG
      isplitl [HM]; · iexact HM
      isplitl [HM1]; · iexists fm; iexact HM1
      iexact HO
    all_goals first | (show _ < _; decide) | (show (![_, _] : Fin 2 → ℕ) _ = _; rfl) | (show (![_] : Fin 1 → ℕ) _ = _; rfl)
  iterate 3
    on_goal 1 => rfl
  · intro y hy
    have hy1 : (y 1).val < 1024 := (y 1).isLt
    rw [prepM, if_pos ⟨hy, hy1⟩, mkC, hf0]
  · intro y hy
    rw [prepM, if_neg (by omega)]

set_option maxHeartbeats 8000000 in
/-- Its next gathers. -/
theorem part53_wp {α : Type} {Q : α → sProp 𝕄} (hP : PC.Ok i P) {kk : PUnit → Pt i α F} :
    iprop(wmI F P.wm ∗ FG d i P cc0_scratch7.sem 0 0 1 : sProp 𝕄)
      ⊢ iprop((FG d i P cc0_scratch7.sem 0 0 7 -∗ wp frame (wpE (defs₀ (F := F)) 𝒱₀ (thr d i) none) Set.univ (kk ⟨⟩) Q) -∗ wp frame (wpE (defs₀ (F := F)) 𝒱₀ (thr d i) none) Set.univ (p53 i >>= kk) Q) := by
  iintro ⟨#Hwm, HG⟩ HK
  unfold p53
  simp only [k0_part53_eq_skeleton, k0_part53_skel, Prog.lift, Prog.bind_op, Prog.bind_ret, Prog.pure_eq_ret, Prog.bind_assoc]
  iterate 6
    iapply (fg_step d i hP (show 0 < 2 by decide) (show 0 < 64 by decide) cc0_scratch7.sem ?_ ?_ ?_ ?_) $$ [HG]
    rotate_left 4
    · isplitr [HG]; · iexact Hwm
      iexact HG
    iintro HG
  iapply HK
  · iexact HG
  all_goals first | (show _ < _; decide) | (show (![_, _] : Fin 2 → ℕ) _ = _; rfl) | (show (![_] : Fin 1 → ℕ) _ = _; rfl)

/-- After all the pairs, `k` of the last chunk's copies waited for. -/
def S54 (O : CellTallies nD τ sig (HIx 1)) (W : Waits sig (HIx 1)) (k : ℕ) : sProp 𝕄 :=
  iprop(LowS d i 64 ∗ GI d i P cc0_scratch7.sem 0 ∗ DI d i P cc0_scratch9.sem 0 ∗ Mk0 d i P 64 ∗ GI d i P cc0_scratch8.sem 1 ∗ DI d i P cc0_scratch10.sem 1
    ∗ WL d i P 1 63 k ∗ Done d i P 63 ∗ Ow d i O W)

theorem off9_at (hP : PC.Ok i P) : k0_off9 i 0 = P.n0 + 1024 * 0 := by
  rw [k0_off9_eq, hP.n0]
  show 131072 * (i 1).val + 65536 * (i 0).val = _
  omega

set_option maxHeartbeats 8000000 in
theorem part54_wp {α : Type} {Q : α → sProp 𝕄} {O : CellTallies nD τ sig (HIx 1)} {W : Waits sig (HIx 1)} (hP : PC.Ok i P) (v3 : IVec S16 32) (hv3 : ∀ x : S16.Idx, v3 x = BitVec.ofNat 32 (x 0).val) {kk : PUnit → Pt i α F} :
    iprop(wmI F P.wm ∗ Transfers.MayWaits (thr d i) (default : HIx 1) O ∗ LowS d i 0 ∗ (lV.view.loc (thr d i) ↦[highC 1]{fullShare} P.f0)
        ∗ FG d i P cc0_scratch7.sem 0 0 7 ∗ (mkV.view.loc (thr d i) ↦[row2 0]{fullShare} mkC P 0) ∗ DI d i P cc0_scratch9.sem 0
        ∗ GI d i P cc0_scratch8.sem 1 ∗ DI d i P cc0_scratch10.sem 1 ∗ WI d i 1 ∗ Out d i P 0 ∗ Ow d i O W : sProp 𝕄)
      ⊢ iprop((S54 d i P O W 3 -∗ wp frame (wpE (defs₀ (F := F)) 𝒱₀ (thr d i) none) Set.univ (kk ⟨⟩) Q) -∗ wp frame (wpE (defs₀ (F := F)) 𝒱₀ (thr d i) none) Set.univ (p54 i P.lo v3 >>= kk) Q) := by
  iintro ⟨#Hwm, #Hmw, Hlow, HL, HG, HM, HD0, HG1, HD1, HW, HOut, HO⟩ HK
  unfold p54
  simp only [k0_part54_eq_skeleton, k0_part54_skel, Prog.lift, Prog.bind_op, Prog.bind_ret, Prog.pure_eq_ret, Prog.bind_assoc]
  iterate 1
    iapply (fg_step d i hP (show 0 < 2 by decide) (show 0 < 64 by decide) cc0_scratch7.sem ?_ ?_ ?_ ?_) $$ [HG]
    rotate_left 4
    · isplitr [HG]; · iexact Hwm
      iexact HG
    iintro HG
  ihave HG := (fg_end d i P cc0_scratch7.sem 0 0) $$ HG
  iapply (df_fire d i P cc0_scratch9.sem 0 0 (off9_at i P hP) rfl rfl) $$ HD0
  iintro HD0
  iapply (pair_loop d i P hP v3 hv3) $$ [Hlow HL HG HM HD0 HG1 HD1 HW HOut HO]
  · isplitr [Hlow HL HG HM HD0 HG1 HD1 HW HOut HO]; · iexact Hwm
    isplitr [Hlow HL HG HM HD0 HG1 HD1 HW HOut HO]; · iexact Hmw
    isplitr [HO]
    · unfold St G0 Mk0 WSt
      rw [if_pos (show 0 < 64 by decide), if_pos (show 0 = 0 from rfl)]
      isplitl [Hlow]; · iexact Hlow
      isplitl [HG HD0 HL]
      · isplitl [HG]; · iexact HG
        isplitl [HD0]; · iexact HD0
        iexact HL
      isplitl [HM]
      · iexists (mkC P 0)
        isplitr [HM]
        · ipureintro; exact fun _ => rfl
        · iexact HM
      isplitl [HG1]; · iexact HG1
      isplitl [HD1]; · iexact HD1
      isplitl [HW]
      · isplitl [HW]; · iexact HW
        unfold Done
        rw [show (Finset.univ.filter fun t : Fin 64 => t.val < 0) = ∅ by simp, bigSep_empty]
        iempintro
      iexact HOut
    · iexact HO
  unfold St G0 WSt
  rw [if_neg (show ¬ 64 < 64 by decide), if_neg (show ¬ 64 = 0 by decide)]
  unfold WL
  iintro ⟨⟨Hlow, ⟨HG, HD0, HL⟩, HM, HG1, HD1, ⟨⟨%T, %M, HB⟩, HDone⟩, HOut⟩, HO⟩
  iapply (wq_wait d i 0 (show 0 < 17 by decide) _ rfl) $$ [HB HO]
  · isplitl [HB]; · iexact HB
    isplitr [HO]; · iexact Hmw
    iexact HO
  iintro ⟨HB, HO⟩
  iapply (wq_wait d i 1 (show 1 < 17 by decide) _ rfl) $$ [HB HO]
  · isplitl [HB]; · iexact HB
    isplitr [HO]; · iexact Hmw
    iexact HO
  iintro ⟨HB, HO⟩
  iapply (wq_wait d i 2 (show 2 < 17 by decide) _ rfl) $$ [HB HO]
  · isplitl [HB]; · iexact HB
    isplitr [HO]; · iexact Hmw
    iexact HO
  iintro ⟨HB, HO⟩
  iapply HK
  · unfold S54 WL
    isplitl [Hlow]; · iexact Hlow
    isplitl [HG]; · iexact HG
    isplitl [HD0]; · iexact HD0
    isplitl [HM]; · iexact HM
    isplitl [HG1]; · iexact HG1
    isplitl [HD1]; · iexact HD1
    isplitl [HB]; · iexists T, M; iexact HB
    isplitl [HDone]; · iexact HDone
    iexact HO
  all_goals first | (show _ < _; decide) | (show (![_, _] : Fin 2 → ℕ) _ = _; rfl) | (show (![_] : Fin 1 → ℕ) _ = _; rfl)

set_option maxHeartbeats 8000000 in
/-- The whole task of a tile. -/
theorem tile_run {O : CellTallies nD τ sig (HIx 1)} {W : Waits sig (HIx 1)} (hP : PC.Ok i P) (fi : S500000.Idx → BitVec 32) (qi : PosShare TreeShare)
    (hf0 : P.f0 = sc (idsN fi) P.lo 500000)
    (hlo : Scalar.muli (Scalar.addi (Scalar.muli (BitVec.ofNat 32 (i 1).val) 2#32) (BitVec.ofNat 32 (i 0).val)) 65536#32 = P.lo) :
    iprop(wmI F P.wm ∗ Transfers.MayWaits (thr d i) (default : HIx 1) O ∗ Ins d i P fi qi ∗ Bufs d i ∗ Sems d i ∗ Out d i P 0 ∗ Ow d i O W : sProp 𝕄)
      ⊢ wp frame (wpE (defs₀ (F := F)) 𝒱₀ (thr d i) none) Set.univ (cc0__sc_body (F := F) i idsV (Memref.isWhole_whole _) ftV (Memref.isWhole_whole _) dnsV (Memref.isWhole_whole _) outV (Memref.isWhole_whole _) mskV (Memref.isWhole_whole _) lV (Memref.isWhole_whole _) idV (Memref.isWhole_whole _) gV (Memref.isWhole_whole _) tV (Memref.isWhole_whole _) mkV (Memref.isWhole_whole _) dnV (Memref.isWhole_whole _) cc0_scratch6 cc0_scratch7 cc0_scratch8 cc0_scratch9 cc0_scratch10 cc0_scratch11)
        (fun _ => iprop(Ins d i P fi qi ∗ Bufs d i ∗ Sems d i ∗ Done d i P 64 ∗ Ow d i O W)) := by
  have hv3 : ∀ x : S16.Idx, iota .scVector S16 32 [0] iota_S16_d0_w32_scVector x = BitVec.ofNat 32 (x 0).val := fun x => iota_single_apply _ _ _ _ _ _
  unfold Ins Bufs Sems
  iintro ⟨#Hwm, #Hmw, ⟨HI, Hf0, Hf1, Hd0, Hd1⟩, ⟨Hid, HL, ⟨%g, HG⟩, HT, HM, ⟨%dn, HD⟩⟩, ⟨Hs6, Hs7, Hs8, Hs9, Hs10, Hs11⟩, HOut, HO⟩
  simp only [cc0__sc_body_eq_skeleton, cc0__sc_body_skel, Prog.lift, Prog.bind_op, Prog.bind_ret, Prog.pure_eq_ret, Prog.bind_assoc]
  icases (g_split d i g) $$ HG with ⟨HG0, HG1⟩
  icases (dn_split d i dn) $$ HD with ⟨HD0, HD1⟩
  iapply (part52_wp d i P hP fi qi hf0 hlo) $$ [HI Hid HL HM Hs6 HG0 Hs7 Hf0 HO]
  · isplitr [HI Hid HL HM Hs6 HG0 Hs7 Hf0 HO]; · iexact Hwm
    isplitr [HI Hid HL HM Hs6 HG0 Hs7 Hf0 HO]; · iexact Hmw
    isplitl [HI]; · iexact HI
    isplitl [Hid]; · iexact Hid
    isplitl [HL]; · iexact HL
    isplitl [HM]; · iexact HM
    isplitl [Hs6]; · iexact Hs6
    isplitl [HG0 Hs7 Hf0]
    · unfold GI
      isplitl [HG0]; · iexists g; iexact HG0
      isplitl [Hs7]; · iexact Hs7
      iexact Hf0
    iexact HO
  iintro ⟨HI, Hid, Hs6, Hlow, HL, HG, HM, HM1, HO⟩
  iapply (part53_wp d i P hP) $$ [HG]
  · isplitr [HG]; · iexact Hwm
    iexact HG
  iintro HG
  iapply (part54_wp d i P hP _ hv3) $$ [Hlow HL HG HM Hd0 HD0 Hs9 HG1 Hs8 Hf1 Hd1 HD1 Hs10 HT HM1 Hs11 HOut HO]
  · isplitr [Hlow HL HG HM Hd0 HD0 Hs9 HG1 Hs8 Hf1 Hd1 HD1 Hs10 HT HM1 Hs11 HOut HO]; · iexact Hwm
    isplitr [Hlow HL HG HM Hd0 HD0 Hs9 HG1 Hs8 Hf1 Hd1 HD1 Hs10 HT HM1 Hs11 HOut HO]; · iexact Hmw
    isplitl [Hlow]; · iexact Hlow
    isplitl [HL]; · iexact HL
    isplitl [HG]; · iexact HG
    isplitl [HM]; · iexact HM
    isplitl [Hd0 HD0 Hs9]
    · unfold DI
      isplitl [Hd0]; · iexact Hd0
      isplitl [HD0]; · iexists dn; iexact HD0
      iexact Hs9
    isplitl [HG1 Hs8 Hf1]
    · unfold GI
      isplitl [HG1]; · iexists g; iexact HG1
      isplitl [Hs8]; · iexact Hs8
      iexact Hf1
    isplitl [Hd1 HD1 Hs10]
    · unfold DI
      isplitl [Hd1]; · iexact Hd1
      isplitl [HD1]; · iexists dn; iexact HD1
      iexact Hs10
    isplitl [HT HM1 Hs11]
    · unfold WI
      isplitl [HT]; · iexact HT
      isplitl [HM1]; · iexact HM1
      iexact Hs11
    isplitl [HOut]; · iexact HOut
    iexact HO
  unfold S54 WL
  iintro ⟨Hlow, HG, HD0, HM, HG1, HD1, ⟨%T, %M1, HB⟩, HDone, HO⟩
  iapply (part55_wp d i _) $$ [HB HO]
  · isplitl [HB]; · iexact HB
    isplitr [HO]; · iexact Hmw
    iexact HO
  iintro ⟨HB, HO⟩
  iapply (part56_wp d i _) $$ [HB HO]
  · isplitl [HB]; · iexact HB
    isplitr [HO]; · iexact Hmw
    iexact HO
  iintro ⟨HB, HO⟩
  iapply (wq_wait d i 13 (show 13 < 17 by decide) _ rfl) $$ [HB HO]
  · isplitl [HB]; · iexact HB
    isplitr [HO]; · iexact Hmw
    iexact HO
  iintro ⟨HB, HO⟩
  iapply (wq_wait d i 14 (show 14 < 17 by decide) _ rfl) $$ [HB HO]
  · isplitl [HB]; · iexact HB
    isplitr [HO]; · iexact Hmw
    iexact HO
  iintro ⟨HB, HO⟩
  iapply (wq_wait d i 15 (show 15 < 17 by decide) _ rfl) $$ [HB HO]
  · isplitl [HB]; · iexact HB
    isplitr [HO]; · iexact Hmw
    iexact HO
  iintro ⟨HB, HO⟩
  iapply (wq_wait d i 16 (show 16 < 17 by decide) _ rfl) $$ [HB HO]
  · isplitl [HB]; · iexact HB
    isplitr [HO]; · iexact Hmw
    iexact HO
  iintro ⟨HB, HO⟩
  imod (wl_collect d i P 1 63 (show 63 < 64 by decide)) $$ [HB HDone] with ⟨HWI, HDone⟩
  · isplitl [HB]
    · unfold WL
      iexists T, M1
      iexact HB
    · iexact HDone
  unfold GI DI WI Mk0 LowS
  rw [lowC_64]
  icases HG with ⟨HG0, Hs7, Hf0⟩
  icases HG1 with ⟨HG1, Hs8, Hf1⟩
  icases HD0 with ⟨Hd0, HD0, Hs9⟩
  icases HD1 with ⟨Hd1, HD1, Hs10⟩
  icases HWI with ⟨HT, ⟨%M2, HM1⟩, Hs11⟩
  icases HM with ⟨%M3, -, HM⟩
  rw [wp_ret]
  imodintro
  isplitl [HI Hf0 Hf1 Hd0 Hd1]
  · isplitl [HI]; · iexact HI
    isplitl [Hf0]; · iexact Hf0
    isplitl [Hf1]; · iexact Hf1
    isplitl [Hd0]; · iexact Hd0
    iexact Hd1
  isplitl [Hid Hlow HG0 HG1 HT HM HM1 HD0 HD1]
  · isplitl [Hid]; · iexact Hid
    isplitl [Hlow]; · iexact Hlow
    isplitl [HG0 HG1]
    · iapply (g_join d i)
      isplitl [HG0]; · iexact HG0
      iexact HG1
    isplitl [HT]; · iexact HT
    isplitl [HM HM1]
    · iexists _
      iapply (mk_join d i M3 M2)
      isplitl [HM]; · iexact HM
      iexact HM1
    · iapply (dn_join d i)
      isplitl [HD0]; · iexact HD0
      iexact HD1
  isplitl [Hs6 Hs7 Hs8 Hs9 Hs10 Hs11]
  · isplitl [Hs6]; · iexact Hs6
    isplitl [Hs7]; · iexact Hs7
    isplitl [Hs8]; · iexact Hs8
    isplitl [Hs9]; · iexact Hs9
    isplitl [Hs10]; · iexact Hs10
    iexact Hs11
  isplitl [HDone]; · iexact HDone
  iexact HO

end Cert.Proof.K
end
end
-- ==== Proof.Pieces.lean ====
/-
  The two results cut into what the tiles write: 32 tiles, 64 chunks each, per chunk 16 channels and the mask.
-/
module
public import proofs.«01_k».proof.Proof.Tile
@[expose] public section
noncomputable section
namespace Cert.Proof.K
open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
variable {F : FTy → Type} [FloatOps F]
local notation "𝕄" => MM F
variable (d : Dev nD) (i : grid0.Coords)

/-- The TensorCore's names of the arrays. -/
abbrev ftL (d : Dev nD) : Loc nD τ sig := (SparseCore.T d).loc main_arg0
abbrev idsL (d : Dev nD) : Loc nD τ sig := (SparseCore.T d).loc main_arg1
abbrev dnsL (d : Dev nD) : Loc nD τ sig := (SparseCore.T d).loc main_arg2
abbrev outL (d : Dev nD) : Loc nD τ sig := (SparseCore.T d).loc main_v0_0
abbrev mskL (d : Dev nD) : Loc nD τ sig := (SparseCore.T d).loc main_v0_1

/-- A tile's part of the results: tile at place `n0`. -/
def blk (n0 : ℕ) (go : S33554432.Idx → F .f32) (gm : S2097152.Idx → F .f32) : sProp 𝕄 :=
  bigSep (Finset.univ : Finset (Fin 64)) fun t => bigSep (Finset.univ : Finset (Fin 17)) fun u =>
    if u.val < 16 then (outL d ↦[blkO (2097152 * u.val + (n0 + 1024 * t.val))]{fullShare} go) else (mskL d ↦[blkM (n0 + 1024 * t.val)]{fullShare} gm)

instance (n0 : ℕ) (go : S33554432.Idx → F .f32) (gm : S2097152.Idx → F .f32) : Storable (upEmb : UEmb _ 𝕄) (blk d n0 go gm) := by
  unfold blk
  have h : ∀ (t : Fin 64) (u : Fin 17), Storable (upEmb : UEmb _ 𝕄)
      (if u.val < 16 then (outL d ↦[blkO (2097152 * u.val + (n0 + 1024 * t.val))]{fullShare} go) else (mskL d ↦[blkM (n0 + 1024 * t.val)]{fullShare} gm) : sProp 𝕄) := by
    intro t u; split <;> infer_instance
  infer_instance

theorem out_blk (P : PC F) : Out d i P 0 = blk d P.n0 P.go P.gm := by
  unfold Out
  rw [Transfers.pending_zero]
  rfl

theorem done_blk (P : PC F) : Done d i P 64 = blk d P.n0 P.OT P.MT := by
  unfold Done
  rw [Finset.filter_true_of_mem fun t _ => t.isLt]
  rfl

theorem blk_eq (n0 : ℕ) (go : S33554432.Idx → F .f32) (gm : S2097152.Idx → F .f32) :
    blk d n0 go gm = iprop((bigSep (Finset.univ : Finset (Fin 64)) fun t => bigSep (Finset.univ : Finset (Fin 16)) fun u =>
        (outL d ↦[blkO (2097152 * u.val + (n0 + 1024 * t.val))]{fullShare} go))
      ∗ bigSep (Finset.univ : Finset (Fin 64)) fun t => (mskL d ↦[blkM (n0 + 1024 * t.val)]{fullShare} gm)) := by
  unfold blk
  rw [← bigSep_sep']
  refine bigSep_congr fun t _ => ?_
  exact bigSep_last _ _ _ (fun u => if_pos (show u.castSucc.val < 16 from u.isLt)) (if_neg (show ¬ (16 < 16) by omega))

theorem out_cut (f : S33554432.Idx → F .f32) :
    (outL d ↦{fullShare} f : sProp 𝕄) = bigSep (Finset.univ : Finset (Fin 2)) fun c => bigSep (Finset.univ : Finset (Fin 16)) fun s =>
      bigSep (Finset.univ : Finset (Fin 64)) fun t => bigSep (Finset.univ : Finset (Fin 16)) fun u =>
        (outL d ↦[blkO (2097152 * u.val + ((131072 * s.val + 65536 * c.val) + 1024 * t.val))]{fullShare} f) := by
  have h := pointsTo_biUnion (ℓ := outL d) (q := fullShare) (f := f) (Ix := HIx 1) (Val := Elt F) (Name := ℕ) (U := UU F) (Lvl := ℕ) (Finset.univ : Finset (Fin 2 × Fin 16 × Fin 64 × Fin 16))
    (fun x => blkO (2097152 * x.2.2.2.val + ((131072 * x.2.1.val + 65536 * x.1.val) + 1024 * x.2.2.1.val))) (by
      rintro ⟨c, s, t, u⟩ - ⟨c', s', t', u'⟩ - hne
      rw [Finset.disjoint_left]
      intro x h h'
      rw [mem_blkO] at h h'
      have := c.isLt; have := s.isLt; have := t.isLt; have := u.isLt
      have := c'.isLt; have := s'.isLt; have := t'.isLt; have := u'.isLt
      dsimp only at h h'
      refine hne (Prod.ext (Fin.ext ?_) (Prod.ext (Fin.ext ?_) (Prod.ext (Fin.ext ?_) (Fin.ext ?_)))) <;> dsimp only <;> omega)
  rw [bigSep_univ_prod] at h
  rw [show (Finset.univ : Finset (Fin 2 × Fin 16 × Fin 64 × Fin 16)).biUnion
    (fun x => blkO (2097152 * x.2.2.2.val + ((131072 * x.2.1.val + 65536 * x.1.val) + 1024 * x.2.2.1.val))) = Finset.univ from by
      ext x
      have hx : (x 0).val < 33554432 := (x 0).isLt
      simp only [Finset.mem_biUnion, Finset.mem_univ, true_and, iff_true, mem_blkO]
      refine ⟨⟨⟨(x 0).val / 65536 % 2, by omega⟩, ⟨(x 0).val / 131072 % 16, by omega⟩, ⟨(x 0).val / 1024 % 64, by omega⟩, ⟨(x 0).val / 2097152, by omega⟩⟩, ?_⟩
      dsimp only
      omega] at h
  refine h.trans ?_
  refine bigSep_congr fun c _ => ?_
  rw [bigSep_univ_prod]
  refine bigSep_congr fun s _ => ?_
  rw [bigSep_univ_prod]

theorem msk_cut (g : S2097152.Idx → F .f32) :
    (mskL d ↦{fullShare} g : sProp 𝕄) = bigSep (Finset.univ : Finset (Fin 2)) fun c => bigSep (Finset.univ : Finset (Fin 16)) fun s =>
      bigSep (Finset.univ : Finset (Fin 64)) fun t =>
        (mskL d ↦[blkM ((131072 * s.val + 65536 * c.val) + 1024 * t.val)]{fullShare} g) := by
  have h := pointsTo_biUnion (ℓ := mskL d) (q := fullShare) (f := g) (Ix := HIx 1) (Val := Elt F) (Name := ℕ) (U := UU F) (Lvl := ℕ) (Finset.univ : Finset (Fin 2 × Fin 16 × Fin 64))
    (fun x => blkM ((131072 * x.2.1.val + 65536 * x.1.val) + 1024 * x.2.2.val)) (by
      rintro ⟨c, s, t⟩ - ⟨c', s', t'⟩ - hne
      rw [Finset.disjoint_left]
      intro x h h'
      rw [mem_blkM] at h h'
      have := c.isLt; have := s.isLt; have := t.isLt
      have := c'.isLt; have := s'.isLt; have := t'.isLt
      dsimp only at h h'
      refine hne (Prod.ext (Fin.ext ?_) (Prod.ext (Fin.ext ?_) (Fin.ext ?_))) <;> dsimp only <;> omega)
  rw [bigSep_univ_prod] at h
  rw [show (Finset.univ : Finset (Fin 2 × Fin 16 × Fin 64)).biUnion
    (fun x => blkM ((131072 * x.2.1.val + 65536 * x.1.val) + 1024 * x.2.2.val)) = Finset.univ from by
      ext x
      have hx : (x 0).val < 2097152 := (x 0).isLt
      simp only [Finset.mem_biUnion, Finset.mem_univ, true_and, iff_true, mem_blkM]
      refine ⟨⟨⟨(x 0).val / 65536 % 2, by omega⟩, ⟨(x 0).val / 131072 % 16, by omega⟩, ⟨(x 0).val / 1024 % 64, by omega⟩⟩, ?_⟩
      dsimp only
      omega] at h
  refine h.trans ?_
  refine bigSep_congr fun c _ => ?_
  rw [bigSep_univ_prod]

/-- The results whole are the tiles' parts. -/
theorem res_cut (f : S33554432.Idx → F .f32) (g : S2097152.Idx → F .f32) :
    (iprop((outL d ↦{fullShare} f) ∗ (mskL d ↦{fullShare} g)) : sProp 𝕄)
      = bigSep (Finset.univ : Finset (Fin 2)) fun c => bigSep (Finset.univ : Finset (Fin 16)) fun s => blk d (131072 * s.val + 65536 * c.val) f g := by
  rw [out_cut, msk_cut, ← bigSep_sep']
  refine bigSep_congr fun c _ => ?_
  rw [← bigSep_sep']
  exact bigSep_congr fun s _ => (blk_eq d _ f g).symm

end Cert.Proof.K
end
end
-- ==== Proof.Pay.lean ====
/-
  What the launch hands each tile and takes back: its share of the three inputs, and its part of the results, before and after.
-/
module
public import proofs.«01_k».proof.Proof.Pieces
@[expose] public section
noncomputable section
namespace Cert.Proof.K
open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
variable {F : FTy → Type} [FloatOps F]
local notation "𝕄" => MM F
variable (d : Dev nD) (i : grid0.Coords)

open Idealize.ShloMosaic.ShareLeaves (leaf pointsTo_leaves)

/-- The word that the table of winning points ends with at voxel `v`. -/
def wW (fi : S500000.Idx → BitVec 32) (v : ℕ) : BitVec 32 := lN (sc (idsN fi) (BitVec.ofNat 32 (v - v % 65536)) 500000) (v % 65536)

/-- The dense volume as the tiles leave it. -/
def OTf (fi : S500000.Idx → BitVec 32) (fs : S500000x16.Idx → F .f32) (fd : S2097152.Idx → F .f32) (x : S33554432.Idx) : F .f32 :=
  xpW F (mkW F (wW fi ((x 0).val % 2097152))) (dnAt fd ((x 0).val % 2097152))
    (fsAt fs (clW (BitVec.ofNat 32 ((x 0).val % 2097152 - (x 0).val % 2097152 % 65536)) (wW fi ((x 0).val % 2097152)) ((x 0).val % 2097152 % 65536)).toNat ((x 0).val / 2097152))
    ((x 0).val / 2097152)

/-- The mask as the tiles leave it. -/
def MTf (F : FTy → Type) [FloatOps F] (fi : S500000.Idx → BitVec 32) (x : S2097152.Idx) : F .f32 := mkW F (wW fi (x 0).val)

/-- Every point number in the table is a point's. -/
theorem sc_lt (ids : ℕ → BitVec 32) (lo : BitVec 32) (x : S65536.Idx) : ∀ n, n ≤ 500000 → Scalar.cmpi .sge (sc ids lo n x) 0#32 = 1 → (sc ids lo n x).toNat < n
  | 0, _, h => by
    rw [sc_zero] at h
    exact absurd h (show ¬ Scalar.cmpi .sge 0xffffffff#32 0#32 = 1 by decide)
  | n + 1, hn, h => by
    rw [sc_succ] at h ⊢
    by_cases e : (x 0).val = (ids n - lo).toNat
    · rw [if_pos e, BitVec.toNat_ofNat]
      omega
    · rw [if_neg e] at h ⊢
      have := sc_lt ids lo x n (by omega) h
      omega

theorem lo_eq (i : grid0.Coords) :
    Scalar.muli (Scalar.addi (Scalar.muli (BitVec.ofNat 32 (i 1).val) 2#32) (BitVec.ofNat 32 (i 0).val)) 65536#32 = BitVec.ofNat 32 (131072 * (i 1).val + 65536 * (i 0).val) := by
  show (BitVec.ofNat 32 (i 1).val * BitVec.ofNat 32 2 + BitVec.ofNat 32 (i 0).val) * BitVec.ofNat 32 65536 = _
  rw [← BitVec.ofNat_mul, ← BitVec.ofNat_add, ← BitVec.ofNat_mul]
  congr 1
  omega

/-- One tile's run. -/
def tp (fi : S500000.Idx → BitVec 32) (fs : S500000x16.Idx → F .f32) (fd : S2097152.Idx → F .f32) (go : S33554432.Idx → F .f32) (gm : S2097152.Idx → F .f32)
    (q : PosShare TreeShare) (ιwm : ℕ) : PC F where
  f0 := sc (idsN fi) (BitVec.ofNat 32 (131072 * (i 1).val + 65536 * (i 0).val)) 500000
  fs := fs
  fd := fd
  go := go
  gm := gm
  OT := OTf fi fs fd
  MT := MTf F fi
  lo := BitVec.ofNat 32 (131072 * (i 1).val + 65536 * (i 0).val)
  n0 := 131072 * (i 1).val + 65536 * (i 0).val
  qf b := if b = 0 then q.left else q.right
  qd b := if b = 0 then q.left else q.right
  wm := ιwm

theorem tp_ok (fi : S500000.Idx → BitVec 32) (fs : S500000x16.Idx → F .f32) (fd : S2097152.Idx → F .f32) (go : S33554432.Idx → F .f32) (gm : S2097152.Idx → F .f32)
    (q : PosShare TreeShare) (ιwm : ℕ) : PC.Ok i (tp i fi fs fd go gm q ιwm) where
  n0 := rfl
  lo := rfl
  f0 x h := sc_lt _ _ x 500000 le_rfl h
  OT ch k hch hk x hx := by
    have h0 : (i 0).val < 2 := (i 0).isLt
    have h1 : (i 1).val < 16 := (i 1).isLt
    have hx : (x 0).val = 2097152 * ch + (131072 * (i 1).val + 65536 * (i 0).val) + k := hx
    have e1 : (x 0).val % 2097152 = 131072 * (i 1).val + 65536 * (i 0).val + k := by omega
    have e2 : (x 0).val / 2097152 = ch := by omega
    have e3 : (131072 * (i 1).val + 65536 * (i 0).val + k) % 65536 = k := by omega
    show OTf fi fs fd x = _
    unfold OTf wW
    rw [e1, e2, e3, show 131072 * (i 1).val + 65536 * (i 0).val + k - k = 131072 * (i 1).val + 65536 * (i 0).val by omega]
    rfl
  MT k hk x hx := by
    have h0 : (i 0).val < 2 := (i 0).isLt
    have h1 : (i 1).val < 16 := (i 1).isLt
    have hx : (x 0).val = (131072 * (i 1).val + 65536 * (i 0).val) + k := hx
    have e3 : (131072 * (i 1).val + 65536 * (i 0).val + k) % 65536 = k := by omega
    show MTf F fi x = _
    unfold MTf wW
    rw [hx, e3, show 131072 * (i 1).val + 65536 * (i 0).val + k - k = 131072 * (i 1).val + 65536 * (i 0).val by omega]
    rfl

variable (m : (ℓ : Loc nD τ sig) → Buf (Elt F) ℓ)

abbrev fiM : S500000.Idx → BitVec 32 := m (idsL d)
abbrev fsM : S500000x16.Idx → F .f32 := m (ftL d)
abbrev fdM : S2097152.Idx → F .f32 := m (dnsL d)
abbrev goM : S33554432.Idx → F .f32 := m (outL d)
abbrev gmM : S2097152.Idx → F .f32 := m (mskL d)

/-- The three inputs at a share. -/
def inq (q : PosShare TreeShare) : sProp 𝕄 :=
  iprop((idsL d ↦{q} fiM d m) ∗ (ftL d ↦{q} fsM d m) ∗ (dnsL d ↦{q} fdM d m))

instance (q : PosShare TreeShare) : Storable (upEmb : UEmb _ 𝕄) (inq d m q) := by unfold inq; infer_instance

theorem inq_leaves (n : ℕ) (q : PosShare TreeShare) : inq d m q = bigSep Finset.univ fun k : Fin (2 ^ n) => inq d m (leaf n q k) := by
  unfold inq
  rw [bigSep_sep', bigSep_sep', ← pointsTo_leaves, ← pointsTo_leaves, ← pointsTo_leaves]

abbrev qc (c : Fin 2) : PosShare TreeShare := leaf 1 fullShare c
abbrev qt (c : Fin 2) (s : Fin 16) : PosShare TreeShare := leaf 4 (qc c) s

theorem nSub_zero : (K (F := F)).nSub 0 = 16 := rfl
theorem nCore_zero : (K (F := F)).nCore 0 = 2 := rfl

/-- What a tile is handed, the results' parts holding `f` and `g`. -/
def tileP (c : Fin 2) (s : Fin 16) (f : S33554432.Idx → F .f32) (g : S2097152.Idx → F .f32) : sProp 𝕄 :=
  iprop(inq d m (qt c s) ∗ blk d (131072 * s.val + 65536 * c.val) f g)
/-- What a SparseCore is handed. -/
def coreP (c : Fin 2) (f : S33554432.Idx → F .f32) (g : S2097152.Idx → F .f32) : sProp 𝕄 :=
  iprop(inq d m (qc c) ∗ bigSep (Finset.univ : Finset (Fin 16)) fun s => blk d (131072 * s.val + 65536 * c.val) f g)

instance (c : Fin 2) (s : Fin 16) (f : S33554432.Idx → F .f32) (g : S2097152.Idx → F .f32) : Storable (upEmb : UEmb _ 𝕄) (tileP d m c s f g) := by unfold tileP; infer_instance
instance (c : Fin 2) (f : S33554432.Idx → F .f32) (g : S2097152.Idx → F .f32) : Storable (upEmb : UEmb _ 𝕄) (coreP d m c f g) := by unfold coreP; infer_instance

theorem coreP_eq (c : Fin 2) (f : S33554432.Idx → F .f32) (g : S2097152.Idx → F .f32) :
    coreP d m c f g = bigSep (Finset.univ : Finset (Fin 16)) fun s => tileP d m c s f g := by
  unfold coreP tileP
  rw [inq_leaves d m 4, ← bigSep_sep']
  rfl

/-- The arrays whole are the two SparseCores'. -/
theorem whole_eq (f : S33554432.Idx → F .f32) (g : S2097152.Idx → F .f32) :
    iprop(inq d m fullShare ∗ ((outL d ↦{fullShare} f) ∗ (mskL d ↦{fullShare} g))) = bigSep (Finset.univ : Finset (Fin 2)) fun c => coreP d m c f g := by
  unfold coreP
  rw [res_cut, inq_leaves d m 1, ← bigSep_sep']
  rfl

/-- What the call's handshakes carry. -/
def pay : (K (F := F)).Pay (nD := nD) (Val := Elt F) (Name := ℕ) (U := UU F) where
  st := fun q d c => match q with | 0 => coreP d m (Fin.cast nCore_zero c) (goM d m) (gmM d m)
  dn := fun q d c => match q with | 0 => coreP d m (Fin.cast nCore_zero c) (OTf (fiM d m) (fsM d m) (fdM d m)) (MTf F (fiM d m))
  go := fun q d c s => match q with | 0 => tileP d m (Fin.cast nCore_zero c) (Fin.cast nSub_zero s) (goM d m) (gmM d m)
  td := fun q d c s => match q with | 0 => tileP d m (Fin.cast nCore_zero c) (Fin.cast nSub_zero s) (OTf (fiM d m) (fsM d m) (fdM d m)) (MTf F (fiM d m))
  x := fun _ _ => iprop(∃ ιwm : ℕ, wmI F ιwm)

instance pay_storable : (pay (F := F) m).IsStorable where
  st q d c := match q with | 0 => (inferInstance : BI.Storable (upEmb : UEmb _ 𝕄) (coreP d m (Fin.cast nCore_zero c) (goM d m) (gmM d m)))
  dn q d c := match q with | 0 => (inferInstance : BI.Storable (upEmb : UEmb _ 𝕄) (coreP d m (Fin.cast nCore_zero c) (OTf (fiM d m) (fsM d m) (fdM d m)) (MTf F (fiM d m))))
  go q d c s := match q with | 0 => (inferInstance : BI.Storable (upEmb : UEmb _ 𝕄) (tileP d m (Fin.cast nCore_zero c) (Fin.cast nSub_zero s) (goM d m) (gmM d m)))
  td q d c s := match q with | 0 => (inferInstance : BI.Storable (upEmb : UEmb _ 𝕄) (tileP d m (Fin.cast nCore_zero c) (Fin.cast nSub_zero s) (OTf (fiM d m) (fsM d m) (fdM d m)) (MTf F (fiM d m))))

theorem vecSplit : (K (F := F)).VecSplit' (pay m) 0 := by
  intro d c
  show coreP d m (Fin.cast nCore_zero c) (goM d m) (gmM d m) ⊢ |={Set.univ}=> iprop(
      (bigSep Finset.univ fun s : Fin ((K (F := F)).nSub 0) => tileP d m (Fin.cast nCore_zero c) (Fin.cast nSub_zero s) (goM d m) (gmM d m))
      ∗ ((bigSep Finset.univ fun s : Fin ((K (F := F)).nSub 0) => tileP d m (Fin.cast nCore_zero c) (Fin.cast nSub_zero s) (OTf (fiM d m) (fsM d m) (fdM d m)) (MTf F (fiM d m)))
          -∗ coreP d m (Fin.cast nCore_zero c) (OTf (fiM d m) (fsM d m) (fdM d m)) (MTf F (fiM d m))))
  rw [coreP_eq, coreP_eq]
  iintro H
  imodintro
  isplitl [H]; · iexact H
  iintro H
  iexact H

end Cert.Proof.K
end
end
-- ==== Proof.TileObl.lean ====
/-
  A tile's run, with its scratch buffers and semaphores taken out of what the launch gives it.
-/
module
public import proofs.«01_k».proof.Proof.Pay
@[expose] public section
noncomputable section
namespace Cert.Proof.K
open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
variable {F : FTy → Type} [FloatOps F]
local notation "𝕄" => MM F
variable (d : Dev nD) (i : grid0.Coords)

open Idealize.ShloMosaic.SparseCore.Cfg (ownSems0 ownBufs ownCells ownRefs mem_ownCells)
open Idealize.ShloMosaic.ShareLeaves (leaf pointsTo_leaves)

/-- Separation associates, as an equation. -/
theorem sepA (P Q R : sProp 𝕄) : iprop((P ∗ Q) ∗ R) = iprop(P ∗ Q ∗ R) := BI.equiv_iff.mp ⟨BI.sep_assoc, BI.sep_assoc'⟩

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The tile's semaphore cell. -/
abbrev scell (s : DmaSem sig) : GSem nD τ sig := (thr d i, .dma s)

theorem scell_mem (s : DmaSem sig) (h : (SemLoc.dma s : SemLoc sig).isScoped .scVector = true) : scell d i s ∈ ownCells (thr d i) :=
  mem_ownCells.mpr ⟨rfl, h⟩
theorem scell_ne {s s' : DmaSem sig} (h : s ≠ s') : scell d i s ≠ scell d i s' := fun e => h (by simpa [scell] using e)

/-- The rest of the tile's cells. -/
abbrev restCells : Finset (GSem nD τ sig) :=
  ((((((ownCells (thr d i)).erase (scell d i cc0_scratch6.sem)).erase (scell d i cc0_scratch7.sem)).erase (scell d i cc0_scratch8.sem)).erase (scell d i cc0_scratch9.sem)).erase
    (scell d i cc0_scratch10.sem)).erase (scell d i cc0_scratch11.sem)

theorem ownSems0_V : (ownSems0 (thr d i) : sProp 𝕄) = iprop(Sems d i ∗ bigSep (restCells d i) fun g => semVal g 0) := by
  unfold SparseCore.Cfg.ownSems0
  rw [SparseCore.bigSep_erase' (scell_mem d i cc0_scratch6.sem (by decide)),
    SparseCore.bigSep_erase' (i := scell d i cc0_scratch7.sem) (by simp only [Finset.mem_erase]; exact ⟨scell_ne d i (by decide), scell_mem d i _ (by decide)⟩),
    SparseCore.bigSep_erase' (i := scell d i cc0_scratch8.sem) (by simp only [Finset.mem_erase]; exact ⟨scell_ne d i (by decide), scell_ne d i (by decide), scell_mem d i _ (by decide)⟩),
    SparseCore.bigSep_erase' (i := scell d i cc0_scratch9.sem) (by simp only [Finset.mem_erase]; exact ⟨scell_ne d i (by decide), scell_ne d i (by decide), scell_ne d i (by decide), scell_mem d i _ (by decide)⟩),
    SparseCore.bigSep_erase' (i := scell d i cc0_scratch10.sem) (by simp only [Finset.mem_erase]; exact ⟨scell_ne d i (by decide), scell_ne d i (by decide), scell_ne d i (by decide), scell_ne d i (by decide), scell_mem d i _ (by decide)⟩),
    SparseCore.bigSep_erase' (i := scell d i cc0_scratch11.sem) (by simp only [Finset.mem_erase]; exact ⟨scell_ne d i (by decide), scell_ne d i (by decide), scell_ne d i (by decide), scell_ne d i (by decide), scell_ne d i (by decide), scell_mem d i _ (by decide)⟩)]
  unfold Sems
  simp only [sepA]

/-- The tile's scratch buffer. -/
abbrev sref (r : Ref sig .scVector) : DevRef τ sig := (Proc.scVector (cV i) (jV i)).devRef r

theorem sref_ne {r r' : Ref sig .scVector} (h : r ≠ r') : sref i r ≠ sref i r' := fun e => h (Proc.devRef_injective _ e)

abbrev restRefs : Finset (DevRef τ sig) :=
  ((((((ownRefs (τ := τ) (.scVector (cV i) (jV i))).erase (sref i cc0_scratch1)).erase (sref i cc0_scratch0)).erase (sref i cc0_scratch2)).erase (sref i cc0_scratch3)).erase
    (sref i cc0_scratch4)).erase (sref i cc0_scratch5)

theorem ownBufs_V : (ownBufs (thr d i) : sProp 𝕄) = iprop(Bufs d i ∗ bigSep (restRefs i) fun b => iprop(∃ f, ((d, b) : Loc nD τ sig) ↦{fullShare} f)) := by
  unfold SparseCore.Cfg.ownBufs
  refine (SparseCore.bigSep_erase' (i := sref i cc0_scratch1) (SparseCore.Cfg.mem_ownRefs_of_owner (p := Proc.scVector (cV i) (jV i)) (b := sref i cc0_scratch1) rfl)).trans ?_
  rw [
    SparseCore.bigSep_erase' (i := sref i cc0_scratch0) (by simp only [Finset.mem_erase]; exact ⟨sref_ne i (by decide), SparseCore.Cfg.mem_ownRefs_of_owner (p := Proc.scVector (cV i) (jV i)) (b := sref i cc0_scratch0) rfl⟩),
    SparseCore.bigSep_erase' (i := sref i cc0_scratch2) (by simp only [Finset.mem_erase]; exact ⟨sref_ne i (by decide), sref_ne i (by decide), SparseCore.Cfg.mem_ownRefs_of_owner (p := Proc.scVector (cV i) (jV i)) (b := sref i cc0_scratch2) rfl⟩),
    SparseCore.bigSep_erase' (i := sref i cc0_scratch3) (by simp only [Finset.mem_erase]; exact ⟨sref_ne i (by decide), sref_ne i (by decide), sref_ne i (by decide), SparseCore.Cfg.mem_ownRefs_of_owner (p := Proc.scVector (cV i) (jV i)) (b := sref i cc0_scratch3) rfl⟩),
    SparseCore.bigSep_erase' (i := sref i cc0_scratch4) (by simp only [Finset.mem_erase]; exact ⟨sref_ne i (by decide), sref_ne i (by decide), sref_ne i (by decide), sref_ne i (by decide), SparseCore.Cfg.mem_ownRefs_of_owner (p := Proc.scVector (cV i) (jV i)) (b := sref i cc0_scratch4) rfl⟩),
    SparseCore.bigSep_erase' (i := sref i cc0_scratch5) (by simp only [Finset.mem_erase]; exact ⟨sref_ne i (by decide), sref_ne i (by decide), sref_ne i (by decide), sref_ne i (by decide), sref_ne i (by decide), SparseCore.Cfg.mem_ownRefs_of_owner (p := Proc.scVector (cV i) (jV i)) (b := sref i cc0_scratch5) rfl⟩)]
  unfold Bufs
  simp only [sepA]
  rfl

variable (m : (ℓ : Loc nD τ sig) → Buf (Elt F) ℓ)

/-- The tile's shares: the ids whole, the two others in halves. -/
theorem ins_eq (q : PosShare TreeShare) (ιwm : ℕ) :
    Ins d i (tp i (fiM d m) (fsM d m) (fdM d m) (goM d m) (gmM d m) q ιwm) (fiM d m) q = inq d m q := by
  unfold Ins inq
  have hf := BI.Entails.antisymm (pointsTo_share (Ix := HIx 1) (Val := Elt F) (Name := ℕ) (U := UU F) (Lvl := ℕ) (ℓ := ftL d) (I := Finset.univ) (f := fsM d m) (PosShare.mem_left_op_right q)).1 (pointsTo_share (PosShare.mem_left_op_right q)).2
  have hd := BI.Entails.antisymm (pointsTo_share (Ix := HIx 1) (Val := Elt F) (Name := ℕ) (U := UU F) (Lvl := ℕ) (ℓ := dnsL d) (I := Finset.univ) (f := fdM d m) (PosShare.mem_left_op_right q)).1 (pointsTo_share (PosShare.mem_left_op_right q)).2
  rw [hf, hd]
  simp only [sepA]
  rfl

abbrev cI : Fin 2 := i 0
abbrev sI : Fin 16 := i 1

theorem tile_body (hF : (K (F := F)).Facts) (O : CellTallies nD τ sig (HIx 1)) (W : Waits sig (HIx 1)) (hO : ∀ g, O g none = 0) :
    iprop(levAts (K (F := F)).L (K (F := F)).lev ∗ (∃ ιwm : ℕ, wmI F ιwm)
        ∗ tileP d m (cI i) (sI i) (goM d m) (gmM d m)
        ∗ scopedBufs (thr d i) ∗ scopedSems0 (thr d i) ∗ owes (thr d i) O W)
      ⊢ wp frame (wpE (defs₀ (F := F)) 𝒱₀ (thr d i) none) Set.univ
          (cc0__sc_body (F := F) i idsV (Memref.isWhole_whole _) ftV (Memref.isWhole_whole _) dnsV (Memref.isWhole_whole _) outV (Memref.isWhole_whole _) mskV (Memref.isWhole_whole _) lV (Memref.isWhole_whole _) idV (Memref.isWhole_whole _) gV (Memref.isWhole_whole _) tV (Memref.isWhole_whole _) mkV (Memref.isWhole_whole _) dnV (Memref.isWhole_whole _) cc0_scratch6 cc0_scratch7 cc0_scratch8 cc0_scratch9 cc0_scratch10 cc0_scratch11)
          fun _ => iprop(tileP d m (cI i) (sI i) (OTf (fiM d m) (fsM d m) (fdM d m)) (MTf F (fiM d m))
            ∗ scopedBufs (thr d i) ∗ scopedSems0 (thr d i)
            ∗ ∃ W', ⌜∀ p ∈ W', p ∈ W ∨ p.2 = none⌝ ∗ owes (thr d i) O W') := by
  rw [(K (F := F)).scopedBufs_V hF d (cV i) (jV i), SparseCore.Cfg.scopedSems0_V (Val := Elt F) d (cV i) (jV i), ownSems0_V, ownBufs_V]
  unfold tileP
  iintro ⟨#Hlv, ⟨%ιwm, #Hwm⟩, ⟨HI, HB⟩, ⟨HS, HSr⟩, ⟨HV, HVr⟩, HO⟩
  ihave Hmw := (show levAts (K (F := F)).L (K (F := F)).lev ⊢ Transfers.MayWaits (thr d i) (default : HIx 1) O from
    (K (F := F)).mayWaits_none (thr := thr d i) hO) $$ Hlv
  ihave HI := (Entails.of_eq (ins_eq d i m (qt (cI i) (sI i)) ιwm).symm) $$ HI
  ihave HB := (show blk d (131072 * (sI i).val + 65536 * (cI i).val) (goM d m) (gmM d m) ⊢ Out d i (tp i (fiM d m) (fsM d m) (fdM d m) (goM d m) (gmM d m) (qt (cI i) (sI i)) ιwm) 0 from Entails.of_eq (out_blk d i (tp i (fiM d m) (fsM d m) (fdM d m) (goM d m) (gmM d m) (qt (cI i) (sI i)) ιwm)).symm) $$ HB
  iapply (wp_wand_r frame _ Set.univ)
  isplitl [HI HB HS HV HO]
  · iapply (tile_run d i (tp i (fiM d m) (fsM d m) (fdM d m) (goM d m) (gmM d m) (qt (cI i) (sI i)) ιwm) (W := W) (tp_ok i _ _ _ _ _ _ _) (fiM d m) (qt (cI i) (sI i)) rfl (lo_eq i)) $$ [HI HB HS HV HO]
    isplitr; · iexact Hwm
    isplitr; · iexact Hmw
    isplitl [HI]; · iexact HI
    isplitl [HS]; · iexact HS
    isplitl [HV]; · iexact HV
    isplitl [HB]; · iexact HB
    unfold Ow
    iexists W
    isplitr; · ipureintro; exact fun p hp => Or.inl hp
    iexact HO
  · iintro %_ ⟨HI, HS, HV, HB, HO⟩
    ihave HI := (Entails.of_eq (ins_eq d i m (qt (cI i) (sI i)) ιwm)) $$ HI
    ihave HB := (show Done d i (tp i (fiM d m) (fsM d m) (fdM d m) (goM d m) (gmM d m) (qt (cI i) (sI i)) ιwm) 64 ⊢ blk d (131072 * (sI i).val + 65536 * (cI i).val) (OTf (fiM d m) (fsM d m) (fdM d m)) (MTf F (fiM d m)) from Entails.of_eq (done_blk d i (tp i (fiM d m) (fsM d m) (fdM d m) (goM d m) (gmM d m) (qt (cI i) (sI i)) ιwm))) $$ HB
    isplitl [HI HB]
    · isplitl [HI]; · iexact HI
      iexact HB
    isplitl [HS HSr]
    · isplitl [HS]; · iexact HS
      iexact HSr
    isplitl [HV HVr]
    · isplitl [HV]; · iexact HV
      iexact HVr
    unfold Ow
    iexact HO

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_body (coordsV c s)
          idsV (Memref.isWhole_whole _) ftV (Memref.isWhole_whole _) dnsV (Memref.isWhole_whole _) outV (Memref.isWhole_whole _) mskV (Memref.isWhole_whole _) lV (Memref.isWhole_whole _) idV (Memref.isWhole_whole _) gV (Memref.isWhole_whole _) tV (Memref.isWhole_whole _) mkV (Memref.isWhole_whole _) dnV (Memref.isWhole_whole _) cc0_scratch6 cc0_scratch7 cc0_scratch8 cc0_scratch9 cc0_scratch10 cc0_scratch11) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) : (K (F := F)).TileObl (D (F := F)) 𝒱 (pay m) v₀ 0 := by
  intro d c i O W hO _ _
  simp only [show (pay m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) m hF O W hO).trans (wp_mono frame _ _ fun _ => obl_post)

end Cert.Proof.K
end
end
-- ==== Proof.Launch.lean ====
/-
  The program's run: the call, the two reshapes, and what the arrays hold at the end.
-/
module
public import proofs.«01_k».proof.Proof.TileObl
@[expose] public section
noncomputable section
namespace Cert.Proof.K
open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
variable {F : FTy → Type} [FloatOps F]
local notation "𝕄" => MM F
variable (d : Dev nD) (i : grid0.Coords)

open Idealize.ShloMosaic.StableHlo (held wp_hlo_within)

variable (m : (ℓ : Loc nD τ sig) → Buf (Elt F) ℓ) (ρ : Dev nD → PrngReg)

/-! ## What the launch owns besides the machine's state -/

def u₀ (F : FTy → Type) : UU F := (initOf (K (F := F)).hsCells (K (F := F)).hsToks, (wm₀ nD τ sig (Elt F), 1))

theorem ownU_u₀ : (ownU (u₀ F) : sProp 𝕄) ⊢ iprop(BI.own (EH (initOf (K (F := F)).hsCells (K (F := F)).hsToks)) ∗ ownU (wmE F (wm₀ nD τ sig (Elt F)))) :=
  ownU_pair (initOf (K (F := F)).hsCells (K (F := F)).hsToks) ((wm₀ nD τ sig (Elt F), 1) : WmRA nD τ sig (Elt F) × Counters)

theorem bigSep_emp' {I : Type} (s : Finset I) : (bigSep s fun _ => iprop(emp)) = (iprop(emp) : sProp 𝕄) := bigSep_emp_const s

include ρ in
theorem hu₀ : (ownU (u₀ F) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (pay m).x q thr) := by
  iintro Hu
  ihave H := ownU_u₀ $$ Hu
  icases H with ⟨HH, Hw⟩
  imod (wmInv_alloc (emb := wmE F) ⟨m, fun _ => 0, ρ⟩) $$ Hw with ⟨%ιwm, -, #Hwi⟩
  imodintro
  isplitl [HH]; · iexact HH
  isplitr; · rw [bigSep_emp']; iempintro
  rw [show (bigSep Finset.univ fun thr : Thread nD τ => bigSep Finset.univ fun q : Fin 1 => (pay (F := F) m).x q thr)
      = bigSep Finset.univ fun _ : Thread nD τ => iprop(∃ ιwm : ℕ, wmI F ιwm) from bigSep_congr fun _ _ => bigSep_univ_of_subsingleton (0 : Fin 1)]
  iapply (bigSep_of_persistent (Finset.univ : Finset (Thread nD τ)) iprop(∃ ιwm : ℕ, wmI F ιwm))
  iexists ιwm
  iexact Hwi

/-! ## @main on the TensorCore -/

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev p0' : DevRef τ sig := Proc.devRef .tc (main_v0_0 : Ref sig .tc)
abbrev p1' : DevRef τ sig := Proc.devRef .tc (main_v0_1 : Ref sig .tc)
abbrev r1' : DevRef τ sig := Proc.devRef .tc (main_v1 : Ref sig .tc)
abbrev r2' : DevRef τ sig := Proc.devRef .tc (main_v2 : Ref sig .tc)
abbrev op1 (F : FTy → Type) : HloOp τ sig (Elt F) := StableHlo.reshape main_v0_0 main_v1 (rfl : (.f32 : EltTy) = .f32) shapeCasts_S33554432_S1x16x128x128x128
abbrev op2 (F : FTy → Type) : HloOp τ sig (Elt F) := StableHlo.reshape main_v0_1 main_v2 (rfl : (.f32 : EltTy) = .f32) shapeCasts_S2097152_S1x1x128x128x128

/-- The TensorCore's arrays. -/
abbrev S7 : Finset (DevRef τ sig) := {a0', a1', a2', p0', p1', r1', r2'}

theorem held_S7 (W : Valuation τ sig (Elt F)) :
    (held (T d) S7 W : sProp 𝕄) = iprop((ftL d ↦{fullShare} W a0') ∗ (idsL d ↦{fullShare} W a1') ∗ (dnsL d ↦{fullShare} W a2') ∗ (outL d ↦{fullShare} W p0') ∗ (mskL d ↦{fullShare} W p1')
      ∗ ((SparseCore.T d).loc main_v1 ↦{fullShare} W r1') ∗ (SparseCore.T d).loc main_v2 ↦{fullShare} W r2') := by
  unfold held S7
  rw [SparseCore.bigSep_insert' (by decide), SparseCore.bigSep_insert' (by decide), SparseCore.bigSep_insert' (by decide), SparseCore.bigSep_insert' (by decide),
    SparseCore.bigSep_insert' (by decide), SparseCore.bigSep_insert' (by decide), bigSep_singleton]

theorem unscopedBufs_eq (W : (b : Ref sig .tc) → Buf (Elt F) ((d.tc : Thread nD τ).loc b)) :
    (unscopedBufs d W : sProp 𝕄) = iprop((ftL d ↦{fullShare} W main_arg0) ∗ (idsL d ↦{fullShare} W main_arg1) ∗ (dnsL d ↦{fullShare} W main_arg2) ∗ (outL d ↦{fullShare} W main_v0_0) ∗ (mskL d ↦{fullShare} W main_v0_1)
      ∗ ((SparseCore.T d).loc main_v1 ↦{fullShare} W main_v1) ∗ (SparseCore.T d).loc main_v2 ↦{fullShare} W main_v2) := by
  unfold unscopedBufs
  rw [show (Finset.univ.filter fun b : Ref sig .tc => ¬ b.isScoped) = {main_arg0, main_arg1, main_arg2, main_v0_0, main_v0_1, main_v1, main_v2} by decide,
    SparseCore.bigSep_insert' (by decide), SparseCore.bigSep_insert' (by decide), SparseCore.bigSep_insert' (by decide), SparseCore.bigSep_insert' (by decide),
    SparseCore.bigSep_insert' (by decide), SparseCore.bigSep_insert' (by decide), bigSep_singleton]

/-- The dense volume and the mask the tiles leave. -/
abbrev oT : Buf (Elt F) (outL d) := OTf (fiM d m) (fsM d m) (fdM d m)
abbrev mT : Buf (Elt F) (mskL d) := MTf F (fiM d m)

/-- The arrays at the launch, after the call, and after each reshape. -/
def V0 : Valuation τ sig (Elt F) := fun b => m (d, b)
def V1 : Valuation τ sig (Elt F) := Function.update (Function.update (V0 d m) p0' (oT d m)) p1' (mT d m)
def V2 : Valuation τ sig (Elt F) := (op1 F).result (V1 d m)
def V3 : Valuation τ sig (Elt F) := (op2 F).result (V2 d m)

theorem V1_p1 : V1 d m p1' = mT d m := Function.update_self _ _ _
theorem V1_p0 : V1 d m p0' = oT d m := (Function.update_of_ne (show p0' ≠ p1' by decide) _ _).trans (Function.update_self _ _ _)
theorem V1_of {b : DevRef τ sig} (h : b ≠ p0') (h' : b ≠ p1') : V1 d m b = m (d, b) :=
  (Function.update_of_ne h' _ _).trans (Function.update_of_ne h _ _)

theorem V3_of {b : DevRef τ sig} (h1 : b ∉ (op1 F).writes) (h2 : b ∉ (op2 F).writes) : V3 d m b = V1 d m b :=
  ((op2 F).result_of_not_mem _ h2).trans ((op1 F).result_of_not_mem _ h1)

/-- The two results. -/
def res1 : S1x16x128x128x128.Idx → F .f32 := shapeCast S1x16x128x128x128 (OTf (fiM d m) (fsM d m) (fdM d m)) shapeCasts_S33554432_S1x16x128x128x128
def res2 : S1x1x128x128x128.Idx → F .f32 := shapeCast S1x1x128x128x128 (MTf F (fiM d m)) shapeCasts_S2097152_S1x1x128x128x128

theorem V3_r1 : V3 d m r1' = res1 d m := by
  unfold V3
  rw [(op2 F).result_of_not_mem _ (show r1' ∉ ({r2'} : Finset (DevRef τ sig)) by decide)]
  unfold V2
  rw [StableHlo.reshape_result]
  show (shapeCast S1x16x128x128x128 (V1 d m p0') shapeCasts_S33554432_S1x16x128x128x128 : S1x16x128x128x128.Idx → F .f32) = _
  rw [V1_p0]
  rfl

theorem V3_r2 : V3 d m r2' = res2 d m := by
  unfold V3
  rw [StableHlo.reshape_result]
  show (shapeCast S1x1x128x128x128 (V2 d m p1') shapeCasts_S2097152_S1x1x128x128x128 : S1x1x128x128x128.Idx → F .f32) = _
  unfold V2
  rw [(op1 F).result_of_not_mem _ (show p1' ∉ ({r1'} : Finset (DevRef τ sig)) by decide), V1_p1]
  rfl

theorem V3_arg {b : DevRef τ sig} (h : b = a0' ∨ b = a1' ∨ b = a2') : V3 d m b = m (d, b) := by
  rcases h with rfl | rfl | rfl <;>
    exact (V3_of d m (show _ ∉ ({r1'} : Finset (DevRef τ sig)) by decide) (show _ ∉ ({r2'} : Finset (DevRef τ sig)) by decide)).trans (V1_of d m (by decide) (by decide))

theorem st0_eq : (bigSep Finset.univ fun c : Fin ((K (F := F)).nCore 0) => (pay m).st 0 d c) = iprop(inq d m fullShare ∗ ((outL d ↦{fullShare} goM d m) ∗ (mskL d ↦{fullShare} gmM d m))) :=
  (whole_eq d m (goM d m) (gmM d m)).symm
theorem dn0_eq : (bigSep Finset.univ fun c : Fin ((K (F := F)).nCore 0) => (pay m).dn 0 d c) = iprop(inq d m fullShare ∗ ((outL d ↦{fullShare} oT d m) ∗ (mskL d ↦{fullShare} mT d m))) :=
  (whole_eq d m (oT d m) (mT d m)).symm

theorem hop1 : (op1 F).bufs ⊆ S7 := show ({p0', r1'} : Finset (DevRef τ sig)) ⊆ S7 by decide
theorem hop2 : (op2 F).bufs ⊆ S7 := show ({p1', r2'} : Finset (DevRef τ sig)) ⊆ S7 by decide

/-- What @main leaves. -/
abbrev FIN : sProp 𝕄 := held (T d) S7 (V3 d m)

theorem hmain (κ : GSem nD τ sig → ℕ) :
    iprop((K (F := F)).ctx EH (pay m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN d m ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hf, Hi, Hd, Ho, Hm, Hr1, Hr2⟩, Hts, -⟩, -⟩
  iapply ((K (F := F)).wp_run (D (F := F)) 𝒱 (EH := EH) (P := pay m) κ d 0) $$ [Hst Hf Hi Hd Ho Hm Hb Hr1 Hr2 Hts]
  isplitr; · iexact Hctx
  isplitl [Hst]; · iexact Hst
  isplitl [Hf Hi Hd Ho Hm]
  · rw [st0_eq]
    isplitl [Hf Hi Hd]
    · unfold inq
      isplitl [Hi]; · iexact Hi
      isplitl [Hf]; · iexact Hf
      iexact Hd
    · isplitl [Ho]; · iexact Ho
      iexact Hm
  iintro ⟨Hst, Hdn⟩
  ihave Hdn' := (Entails.of_eq (dn0_eq d m)) $$ Hdn
  unfold inq
  icases Hdn' with ⟨⟨Hi, Hf, Hd⟩, Ho, Hm⟩
  iapply (wp_hlo_within 𝒱 (SparseCore.T d) none Set.univ (op := op1 F) (S := S7) hop1 (V := V1 d m)) $$ [Hb Hf Hi Hd Ho Hm Hr1 Hr2]
  · isplitl [Hb]; · iexact Hb
    rw [held_S7, V1_p0, V1_p1, V1_of d m (b := a0') (by decide) (by decide), V1_of d m (b := a1') (by decide) (by decide), V1_of d m (b := a2') (by decide) (by decide),
      V1_of d m (b := r1') (by decide) (by decide), V1_of d m (b := r2') (by decide) (by decide)]
    isplitl [Hf]; · iexact Hf
    isplitl [Hi]; · iexact Hi
    isplitl [Hd]; · iexact Hd
    isplitl [Ho]; · iexact Ho
    isplitl [Hm]; · iexact Hm
    isplitl [Hr1]; · iexact Hr1
    iexact Hr2
  iintro ⟨Hb, Hheld⟩
  rw [wp_ret]; imodintro
  iapply (wp_hlo_within 𝒱 (SparseCore.T d) none Set.univ (op := op2 F) (S := S7) hop2 (V := V2 d m)) $$ [Hb Hheld]
  · isplitl [Hb]; · iexact Hb
    iexact Hheld
  iintro ⟨Hb, Hheld⟩
  rw [wp_ret]; imodintro; imodintro
  isplitl [Hst]; · iexact Hst
  isplitr [Hb Hts]
  · iexact Hheld
  isplitl [Hb] <;> iassumption

/-- What the arrays hold at the end. -/
def fq (s' : Phys nD τ sig (Elt F)) : Prop :=
  (s'.mem.mem ((SparseCore.T d).loc main_v1) = res1 d m ∧ s'.mem.mem ((SparseCore.T d).loc main_v2) = res2 d m)
    ∧ s'.mem.mem (ftL d) = m (ftL d) ∧ s'.mem.mem (idsL d) = m (idsL d) ∧ s'.mem.mem (dnsL d) = m (dnsL d)

theorem agree {ℓ : Loc nD τ sig} {f : Buf (Elt F) ℓ} (s' : Phys nD τ sig (Elt F)) : iprop((ℓ ↦{fullShare} f) ∗ SI s') ⊢ iprop(⌜s'.mem.mem ℓ = f⌝ ∗ (SI s' : sProp 𝕄)) := by
  iintro ⟨Hx, HSI⟩
  ihave H := (persistent_entails_right (SI_pointsTo_agree (st := s') (ℓ := ℓ) (I := Finset.univ) (q := fullShare) (f := f))) $$ [HSI Hx]
  · isplitl [HSI] <;> iassumption
  icases H with ⟨%h1, HSI, -⟩
  isplitr; · ipureintro; exact funext fun i => h1 i (Finset.mem_univ i)
  iexact HSI

theorem hfin (s' : Phys nD τ sig (Elt F)) : iprop(FIN d m ∗ SI s') ⊢ (⌜fq d m s'⌝ : sProp 𝕄) := by
  rw [FIN, held_S7, V3_r1, V3_r2, V3_arg d m (Or.inl rfl), V3_arg d m (Or.inr (Or.inl rfl)), V3_arg d m (Or.inr (Or.inr rfl))]
  iintro ⟨⟨Hf, Hi, Hd, -, -, Hr1, Hr2⟩, HSI⟩
  ihave H := (agree s') $$ [HSI Hf]
  · isplitl [Hf] <;> iassumption
  icases H with ⟨%h0, HSI⟩
  ihave H := (agree s') $$ [HSI Hi]
  · isplitl [Hi] <;> iassumption
  icases H with ⟨%h1, HSI⟩
  ihave H := (agree s') $$ [HSI Hd]
  · isplitl [Hd] <;> iassumption
  icases H with ⟨%h2, HSI⟩
  ihave H := (agree s') $$ [HSI Hr1]
  · isplitl [Hr1] <;> iassumption
  icases H with ⟨%h3, HSI⟩
  ihave H := (agree s') $$ [HSI Hr2]
  · isplitl [Hr2] <;> iassumption
  icases H with ⟨%h4, -⟩
  ipureintro; exact ⟨⟨h3, h4⟩, h0, h1, h2⟩

/-! ## The run -/

/-- What the run ends with: both results, the arguments as they were, every semaphore at zero. -/
def QC : PUnit × MemSt nD τ sig (Elt F) → Prop := fun r =>
  (∀ c : Dev nD, (r.2.mem ((SparseCore.T c).loc main_v1) = res1 c m ∧ r.2.mem ((SparseCore.T c).loc main_v2) = res2 c m)
    ∧ r.2.mem (ftL c) = m (ftL c) ∧ r.2.mem (idsL c) = m (idsL c) ∧ r.2.mem (dnsL c) = m (dnsL c)) ∧ r.2.sem = fun _ => 0

theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := pay m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (fun d => FIN d m) (u₀ F) (sep_elim_left.trans (hu₀ m ρ)) (fun κ d => hmain d m ρ κ) (fun d => fq d m) (fun d => hfin d m) (QC m) (fun _ h hz => ⟨h, hz⟩)

end Cert.Proof.K
end
end
-- ==== Proof.Frames.lean ====
/-
  The frames of the kernel, of its ideal reading (both from the one run) and of the reference.
-/
module
public import proofs.«01_k».proof.Proof.Launch
public import proofs.«01_k».proof.Defs
public import proofs.«01_k».proof.Proof.Gen.Kernel
public import proofs.«01_k».proof.Proof.Gen.ReferenceIdeal.Run
@[expose] public section
noncomputable section
namespace Cert.Proof.K
open Idealize.ShloMosaic Idealize.SL.Sem

local instance : Cert.Kernel.Facts := Cert.Kernel.Gen.facts
local instance : Cert.KernelIdeal.Facts := Cert.KernelIdeal.Gen.facts

theorem frameKI : Cert.quiescent_KernelIdeal := fun m ρ _ =>
  (θ_run Cert.KernelIdeal.defs _ _).mono (fun _ h => ⟨fun c => (h.1 c).2, h.2⟩) (run_main (F := Ideal) m ρ)

/-- The kernel's launch at the ideal kernel's names: the two are one program. -/
theorem run_kernel (m : (ℓ : Loc Cert.Kernel.nD Cert.Kernel.τ Cert.Kernel.sig) → Buf (Elt Bits) ℓ) (ρ : Dev Cert.Kernel.nD → PrngReg) :
    θ_run (Cert.Kernel.defs (F := Bits)) (Cert.Kernel.threads (F := Bits)) ⟨m, fun _ => 0, ρ⟩ (QC (F := Bits) m) :=
  run_main (F := Bits) m ρ

theorem frameK : Cert.quiescent_Kernel := fun m ρ _ =>
  (θ_run Cert.Kernel.defs _ _).mono (fun _ h => ⟨fun c => (h.1 c).2, h.2⟩) (run_kernel m ρ)

/-- The reference's frame: its run read at the arguments; it declares no semaphore. -/
theorem frameRI : @Cert.quiescent_ReferenceIdeal Cert.ReferenceIdeal.Gen.facts := fun m ρ _ =>
  (θ_run Cert.ReferenceIdeal.defs _ _).mono (fun r h => ⟨fun c => (h c).2.2, Idealize.ShloMosaic.sem_eq_zero_of_no_sems (by decide) r.2⟩)
    (Cert.ReferenceIdeal.Value.run (F := Ideal) m ρ)

end Cert.Proof.K
end
end
-- ==== Proof.RefScatter.lean ====
/-
  A scatter of rows that sets, read at an element: the last update that lands there wins.
-/
module
public import Idealize.ShloMosaic.Lib.Routing.OpsPair
public import Idealize.ShloMosaic.Lib.Routing.OpsSet
@[expose] public section
namespace Cert.Proof.R
open Idealize.ShloMosaic Idealize.ShloMosaic.ValueIdx Idealize.ShloMosaic.Routing

/-- A fold that keeps what it has or takes the element's value ends with the last value taken. -/
theorem fold_last {α : Type} : ∀ (N : ℕ) (p : Fin N → Prop) [DecidablePred p] (v : Fin N → α) (a : α) (n : Fin N), p n → (∀ n', n < n' → ¬ p n') →
    (List.finRange N).foldl (fun a n => if p n then v n else a) a = v n
  | 0, _, _, _, _, n, _, _ => n.elim0
  | N + 1, p, _, v, a, n, hn, hl => by
    rw [List.finRange_succ_last, List.foldl_append, List.foldl_map]
    simp only [List.foldl_cons, List.foldl_nil]
    by_cases e : n = Fin.last N
    · subst e
      rw [if_pos hn]
    · rw [if_neg (hl _ (lt_of_le_of_ne (Fin.le_last n) e))]
      obtain ⟨n', rfl⟩ := Fin.exists_castSucc_eq.2 e
      exact fold_last N (fun n => p n.castSucc) (fun n => v n.castSucc) a n' hn fun k hk => hl _ (Fin.castSucc_lt_castSucc_iff.2 hk)

/-- A scatter that sets, where an update lands and no later one does: that update. -/
theorem scatter_last {α : Type} {s si u : Shape} {w : Nat} (d : ScatterDims s si u) (x0 : s.Idx → α) (idx : IVec si w) (upd : u.Idx → α) (ι : s.Idx) (k : u.Idx)
    (hk : d.resultIdx? k idx = some ι) (hl : ∀ k', (u.rowMajor k).val < (u.rowMajor k').val → d.resultIdx? k' idx ≠ some ι) :
    Host.scatter d (fun _ b => b) x0 idx upd ι = upd k := by
  rw [scatter_at]
  refine (fold_last _ (fun n => d.resultIdx? (u.rowMajor.symm n) idx = some ι) (fun n => upd (u.rowMajor.symm n)) (x0 ι) (u.rowMajor k) ?_ ?_).trans ?_
  · show d.resultIdx? (u.rowMajor.symm (u.rowMajor k)) idx = some ι
    rw [Equiv.symm_apply_apply]; exact hk
  · intro n' hn
    refine hl _ ?_
    rw [Equiv.apply_symm_apply]; exact hn
  · show upd (u.rowMajor.symm (u.rowMajor k)) = _
    rw [Equiv.symm_apply_apply]

/-- Element `b` of update row `a` lands at `(r, c)` exactly when row `a`'s index word, read signed, is `r` and `b` is `c`. -/
theorem lands_row {R C A : ℕ} (d : ScatterDims (shape2 R C) (shape2 A 1) (shape2 A C)) (huw : d.updateWindowDims = [1]) (hiw : d.insertedWindowDims = [0])
    (hsd : d.scatterDimsToOperandDims = [0]) (hivd : d.indexVectorDim = 1) (idx : IVec (shape2 A 1) 32) (a : Fin A) (b : Fin C) (r : Fin R) (c : Fin C) :
    d.resultIdx? (ix2 a b) idx = some (ix2 r c) ↔ (idx (ix2 a 0)).toInt = (r.val : Int) ∧ b = c := by
  obtain ⟨uw, iw, sd, ivd, wf⟩ := d
  simp only at huw hiw hsd hivd
  subst huw hiw hsd hivd
  rw [resultIdx?_ix2]
  have hw0 : ScatterDims.window (s := shape2 R C) (si := shape2 A 1) (u := shape2 A C) ⟨[1], [0], [0], 1, wf⟩ (ix2 a b) 0 = 0 := rfl
  have hw1 : ScatterDims.window (s := shape2 R C) (si := shape2 A 1) (u := shape2 A C) ⟨[1], [0], [0], 1, wf⟩ (ix2 a b) 1 = b.val := rfl
  have hs1 : ScatterDims.start (s := shape2 R C) (si := shape2 A 1) (u := shape2 A C) ⟨[1], [0], [0], 1, wf⟩ (ix2 a b) idx 1 = 0 := rfl
  have hs0 : ScatterDims.start (s := shape2 R C) (si := shape2 A 1) (u := shape2 A C) ⟨[1], [0], [0], 1, wf⟩ (ix2 a b) idx 0 = (idx (ix2 a 0)).toInt := by
    unfold ScatterDims.start
    rw [dif_pos (List.mem_singleton.2 rfl)]
    refine congrArg (fun k => (idx k).toInt) (funext fun q => ?_)
    match q with
    | ⟨0, _⟩ => rfl
    | ⟨1, _⟩ => rfl
  rw [hw0, hw1, hs1, hs0, Fin.ext_iff]
  omega

variable {α : Type} {R C A : ℕ} (d : ScatterDims (shape2 R C) (shape2 A 1) (shape2 A C)) (huw : d.updateWindowDims = [1]) (hiw : d.insertedWindowDims = [0])
  (hsd : d.scatterDimsToOperandDims = [0]) (hivd : d.indexVectorDim = 1) (x0 : (shape2 R C).Idx → α) (idx : IVec (shape2 A 1) 32) (upd : (shape2 A C).Idx → α)
  (r : Fin R) (c : Fin C)

include huw hiw hsd hivd in
/-- Rows set into a table, read where row `a` is the last that lands. -/
theorem rows_hit (a : Fin A) (ha : (idx (ix2 a 0)).toInt = (r.val : Int)) (hl : ∀ a' : Fin A, a.val < a'.val → (idx (ix2 a' 0)).toInt ≠ (r.val : Int)) :
    Host.scatter d (fun _ b => b) x0 idx upd (ix2 r c) = upd (ix2 a c) := by
  refine scatter_last d x0 idx upd (ix2 r c) (ix2 a c) ((lands_row d huw hiw hsd hivd idx a c r c).2 ⟨ha, rfl⟩) fun k' hk' e => ?_
  obtain ⟨a', b', rfl⟩ : ∃ (a' : Fin A) (b' : Fin C), k' = ix2 a' b' := ⟨k' 0, k' 1, eq_ix2 k'⟩
  obtain ⟨h1, rfl⟩ := (lands_row d huw hiw hsd hivd idx a' b' r c).1 e
  refine hl a' ?_ h1
  rw [Shape.rowMajor_val_two, Shape.rowMajor_val_two] at hk'
  change a.val * C + b'.val < a'.val * C + b'.val at hk'
  exact Nat.lt_of_mul_lt_mul_right (a := C) (by omega)

include huw hiw hsd hivd in
/-- Rows set into a table, read where none lands. -/
theorem rows_miss (hl : ∀ a : Fin A, (idx (ix2 a 0)).toInt ≠ (r.val : Int)) :
    Host.scatter d (fun _ b => b) x0 idx upd (ix2 r c) = x0 (ix2 r c) := by
  refine scatter_set_miss d x0 idx upd (ix2 r c) fun k' e => ?_
  obtain ⟨a', b', rfl⟩ : ∃ (a' : Fin A) (b' : Fin C), k' = ix2 a' b' := ⟨k' 0, k' 1, eq_ix2 k'⟩
  exact hl a' ((lands_row d huw hiw hsd hivd idx a' b' r c).1 e).1

end Cert.Proof.R
end
-- ==== Proof.Winner.lean ====
/-
  The table's word for a voxel: the number of the last point there, or −1.
-/
module
public import proofs.«01_k».proof.Proof.Pay
@[expose] public section
noncomputable section
namespace Cert.Proof.K
open Cert.KernelIdeal Cert.KernelIdeal.Gen
open Idealize.ShloMosaic

/-- Point `p` is the last of the first `n` with the id `v`. -/
def LastAt (ids : ℕ → BitVec 32) (v n p : ℕ) : Prop := p < n ∧ (ids p).toNat = v ∧ ∀ p', p < p' → p' < n → (ids p').toNat ≠ v

theorem sc_last (ids : ℕ → BitVec 32) (v : ℕ) (hv : v < 2097152) (y : S65536.Idx) (hy : (y 0).val = v % 65536) : ∀ n, (∀ p, p < n → (ids p).toNat < 2097152) →
    ((∀ p, p < n → (ids p).toNat ≠ v) ∧ sc ids (BitVec.ofNat 32 (v - v % 65536)) n y = 0xffffffff#32)
      ∨ ∃ p, LastAt ids v n p ∧ sc ids (BitVec.ofNat 32 (v - v % 65536)) n y = BitVec.ofNat 32 p
  | 0, _ => Or.inl ⟨fun p hp => absurd hp (Nat.not_lt_zero p), by rw [sc_zero]⟩
  | n + 1, hr => by
    have hn := hr n (Nat.lt_succ_self n)
    have key : (y 0).val = (ids n - BitVec.ofNat 32 (v - v % 65536)).toNat ↔ (ids n).toNat = v := by
      rw [hy, BitVec.toNat_sub, BitVec.toNat_ofNat]
      omega
    rw [sc_succ]
    by_cases e : (ids n).toNat = v
    · rw [if_pos (key.2 e)]
      exact Or.inr ⟨n, ⟨Nat.lt_succ_self n, e, fun p' h h' => absurd h (by omega)⟩, rfl⟩
    · rw [if_neg fun h => e (key.1 h)]
      rcases sc_last ids v hv y hy n (fun p hp => hr p (Nat.lt_succ_of_lt hp)) with ⟨h, h'⟩ | ⟨p, ⟨h1, h2, h3⟩, h'⟩
      · refine Or.inl ⟨fun p hp => ?_, h'⟩
        rcases Nat.lt_succ_iff_lt_or_eq.1 hp with hp | rfl
        · exact h p hp
        · exact e
      · refine Or.inr ⟨p, ⟨Nat.lt_succ_of_lt h1, h2, fun p' hp hp' => ?_⟩, h'⟩
        rcases Nat.lt_succ_iff_lt_or_eq.1 hp' with hp' | rfl
        · exact h3 p' hp hp'
        · exact e

/-- The winning word is −1 where no point is, else the last point's number. -/
theorem wW_last (fi : S500000.Idx → BitVec 32) (hr : ∀ p, p < 500000 → (idsN fi p).toNat < 2097152) (v : ℕ) (hv : v < 2097152) :
    ((∀ p, p < 500000 → (idsN fi p).toNat ≠ v) ∧ wW fi v = 0xffffffff#32) ∨ ∃ p, LastAt (idsN fi) v 500000 p ∧ wW fi v = BitVec.ofNat 32 p := by
  unfold wW
  rw [lN, dif_pos (Nat.mod_lt v (by omega))]
  exact sc_last (idsN fi) v hv _ rfl 500000 hr

end Cert.Proof.K
end
end
-- ==== Proof.RefVal.lean ====
/-
  What the reference's two scatters hold, voxel by voxel: the last point's row there, or what the table held before.
-/
module
public import proofs.«01_k».proof.Proof.RefScatter
public import proofs.«01_k».proof.Proof.Winner
public import proofs.«01_k».proof.Proof.Gen.ReferenceIdeal
public import Idealize.ShloMosaic.Lib.Pipeline.Value
public import Idealize.ShloMosaic.Lib.ValueLayout
@[expose] public section
noncomputable section
namespace Cert.Proof.R
open Cert.ReferenceIdeal Cert.ReferenceIdeal.Gen
open Idealize.ShloMosaic Idealize.ShloMosaic.ValueIdx Idealize.ShloMosaic.Routing
open Cert.Proof.K (idsN idsN_at fsAt dnAt dnAt_at LastAt wW wW_last)

variable (F : FTy → Type) [FloatOps F]
variable (fi : S500000.Idx → BitVec 32) (fs : S500000x16.Idx → F .f32) (fd : S2097152.Idx → F .f32)

/-- The index words the scatters are handed. -/
def words : IVec S500000x1 32 :=
  broadcastInDim S500000x1 ![0] bcast_S500000_S500000x1_0 (select (cmpi .slt fi (broadcastInDim S500000 ![] bcast_S_S500000 (constantI S_ 32 0#32))) (addi fi (broadcastInDim S500000 ![] bcast_S_S500000 (constantI S_ 32 2097152#32))) fi)

/-- The table before the scatter: the volume in the first column, zeros in the others. -/
def base : S2097152x16.Idx → F .f32 :=
  concatenate S2097152x16 1 [⟨S2097152x1, (shapeCast _ fd shapeCasts_S2097152_S2097152x1)⟩, ⟨S2097152x15, (broadcastInDim S2097152x15 ![] bcast_S_S2097152x15 (constant S_ .f32 0x00000000#32))⟩] concatenates_S2097152x1_S2097152x15_S2097152x16_d1

/-- The table after it. -/
def tab : S2097152x16.Idx → F .f32 := Host.scatter scatter_S2097152x16_S500000x1_S500000x16_1_0_0_1 (fun _ b => b) (base F fd) (words fi) fs

/-- The mask. -/
def mtab : S2097152x1.Idx → F .f32 :=
  Host.scatter scatter_S2097152x1_S500000x1_S500000x1_1_0_0_1 (fun _ b => b) (broadcastInDim S2097152x1 ![] bcast_S_S2097152x1 (constant S_ .f32 0x00000000#32)) (words fi) (broadcastInDim S500000x1 ![] bcast_S_S500000x1 (constant S_ .f32 0x3F800000#32))

variable (hr : ∀ p, p < 500000 → (idsN fi p).toNat < 2097152)

include hr in
theorem words_at (a : Fin 500000) : (words fi (ix2 a 0)).toInt = ((idsN fi a.val).toNat : Int) := by
  have e : words fi (ix2 a 0) = fi (ix1 a) := by
    unfold words
    refine (broadcastInDim_apply (![0] : Fin 1 → Fin 2) bcast_S500000_S500000x1_0 _ (ix2 a 0) (ix1 a) fun q => ?_).trans ?_
    · match q with
      | ⟨0, _⟩ => rfl
    · refine wrap_of_lt (fi (ix1 a)) _ ?_
      have := hr a.val a.isLt
      rw [idsN_at fi (ix1 a)] at this
      exact lt_trans this (by norm_num)
  have h := hr a.val a.isLt
  rw [idsN_at fi (ix1 a)] at h ⊢
  rw [e, BitVec.toInt_eq_toNat_of_lt (by omega)]

theorem base_at (v : Fin 2097152) (c : Fin 16) : base F fd (ix2 v c) = if c.val = 0 then dnAt fd v.val else Scalar.ofBits .f32 0x00000000#32 := by
  unfold base
  by_cases h : c.val = 0
  · rw [if_pos h]
    obtain rfl : c = 0 := Fin.ext h
    refine (concatenate_pair_apply_left (s₁ := S2097152x1) (s₂ := S2097152x15) (t := S2097152x16) 1 _ _ _ (ix2 v 0) rfl (ix2 v 0) fun b => ?_).trans ?_
    · match b with
      | ⟨0, _⟩ => rfl
      | ⟨1, _⟩ => rfl
    · refine (shapeCast_apply (t := S2097152x1) fd shapeCasts_S2097152_S2097152x1 (ix2 v 0) (ix1 v) ?_).trans (dnAt_at fd (ix1 v) v.val rfl)
      rw [Shape.rowMajor_val_two, Shape.rowMajor_val_one]
      show v.val = v.val * 1 + 0
      omega
  · rw [if_neg h]
    refine (concatenate_pair_apply_right (s₁ := S2097152x1) (s₂ := S2097152x15) (t := S2097152x16) 1 _ _ _ (ix2 v c) rfl rfl (ix2 v (⟨c.val - 1, by omega⟩ : Fin 15)) (fun b => ?_) ?_).trans rfl
    · match b with
      | ⟨0, _⟩ => exact fun _ => rfl
      | ⟨1, _⟩ => exact fun e => absurd rfl e
    · show c.val - 1 + 1 = c.val
      omega

include hr in
theorem tab_hit (v : Fin 2097152) (c : Fin 16) (p : ℕ) (hp : LastAt (idsN fi) v.val 500000 p) : tab F fi fs fd (ix2 v c) = fsAt fs p c.val := by
  refine (rows_hit scatter_S2097152x16_S500000x1_S500000x16_1_0_0_1 rfl rfl rfl rfl (base F fd) (words fi) fs v c (⟨p, hp.1⟩ : Fin 500000) ?_ fun a' ha' e => ?_).trans ?_
  · rw [words_at fi hr, Nat.cast_inj]; exact hp.2.1
  · rw [words_at fi hr, Nat.cast_inj] at e
    exact hp.2.2 a'.val ha' a'.isLt e
  · unfold fsAt
    refine congrArg fs (funext fun q => ?_)
    match q with
    | ⟨0, _⟩ => exact Fin.ext (Nat.mod_eq_of_lt hp.1).symm
    | ⟨1, _⟩ => exact Fin.ext (Nat.mod_eq_of_lt c.isLt).symm

include hr in
theorem tab_miss (v : Fin 2097152) (c : Fin 16) (h : ∀ p, p < 500000 → (idsN fi p).toNat ≠ v.val) :
    tab F fi fs fd (ix2 v c) = if c.val = 0 then dnAt fd v.val else Scalar.ofBits .f32 0x00000000#32 := by
  refine (rows_miss scatter_S2097152x16_S500000x1_S500000x16_1_0_0_1 rfl rfl rfl rfl (base F fd) (words fi) fs v c fun a e => ?_).trans (base_at F fd v c)
  rw [words_at fi hr, Nat.cast_inj] at e
  exact h a.val a.isLt e

include hr in
theorem mtab_hit (v : Fin 2097152) (p : ℕ) (hp : LastAt (idsN fi) v.val 500000 p) : mtab F fi (ix2 v 0) = Scalar.ofBits .f32 0x3F800000#32 := by
  refine (rows_hit scatter_S2097152x1_S500000x1_S500000x1_1_0_0_1 rfl rfl rfl rfl _ (words fi) _ v 0 (⟨p, hp.1⟩ : Fin 500000) ?_ fun a' ha' e => ?_).trans rfl
  · rw [words_at fi hr, Nat.cast_inj]; exact hp.2.1
  · rw [words_at fi hr, Nat.cast_inj] at e
    exact hp.2.2 a'.val ha' a'.isLt e

include hr in
theorem mtab_miss (v : Fin 2097152) (h : ∀ p, p < 500000 → (idsN fi p).toNat ≠ v.val) : mtab F fi (ix2 v 0) = Scalar.ofBits .f32 0x00000000#32 := by
  refine (rows_miss scatter_S2097152x1_S500000x1_S500000x1_1_0_0_1 rfl rfl rfl rfl _ (words fi) _ v 0 fun a e => ?_).trans rfl
  rw [words_at fi hr, Nat.cast_inj] at e
  exact h a.val a.isLt e

end Cert.Proof.R
end
end
-- ==== Proof.Equation.lean ====
/-
  The kernel's two results are the reference's, element by element.
-/
module
public import proofs.«01_k».proof.Proof.RefVal
public import Idealize.ShloMosaic.Lib.IdealHost
@[expose] public section
noncomputable section
namespace Cert.Proof.R
open Cert.ReferenceIdeal Cert.ReferenceIdeal.Gen
open Idealize.ShloMosaic Idealize.ShloMosaic.ValueIdx Idealize.ShloMosaic.Routing
open Cert.Proof.K (idsN fsAt dnAt LastAt wW wW_last mkW xpW clW OTf MTf)

theorem one_bits : (Scalar.ofBits .f32 0x3F800000#32 : Ideal .f32) = (1 : EReal) := Idealize.ShloMosaic.Ideal.ofBits_one_f32
theorem zero_bits : (Scalar.ofBits .f32 0x00000000#32 : Ideal .f32) = (0 : EReal) := Ideal.ofBits_zero_f32

/-- Blending by a mask of one is the row's value. -/
theorem xpW_one (dn v : Ideal .f32) (ch : ℕ) : xpW Ideal (1 : EReal) dn v ch = v := by
  unfold xpW
  rw [one_bits]
  show (if ch = 0 then ((v : EReal) * 1 + (dn : EReal) * (1 - 1) : EReal) else (v : EReal) * 1) = v
  have h : (1 - 1 : EReal) = 0 := EReal.sub_self (by decide) (by decide)
  rw [mul_one, h, mul_zero, add_zero, ite_self]

/-- Blending by a mask of zero is the volume's value in the first channel and zero in the others. -/
theorem xpW_zero (dn v : Ideal .f32) (ch : ℕ) : xpW Ideal (0 : EReal) dn v ch = if ch = 0 then dn else (0 : EReal) := by
  unfold xpW
  rw [one_bits]
  show (if ch = 0 then ((v : EReal) * 0 + (dn : EReal) * (1 - 0) : EReal) else (v : EReal) * 0) = _
  rw [mul_zero, sub_zero, mul_one, zero_add]

theorem mkW_neg : mkW Ideal 0xffffffff#32 = (0 : EReal) := by
  unfold mkW
  rw [if_neg (show ¬ Scalar.cmpi .sge 0xffffffff#32 0#32 = 1 by decide), zero_bits]

theorem sge_point (p : ℕ) (hp : p < 500000) : Scalar.cmpi .sge (BitVec.ofNat 32 p) 0#32 = 1 := by
  have : (BitVec.ofNat 32 p).toNat = p := by rw [BitVec.toNat_ofNat]; omega
  show IntOp.cmpi .sge (BitVec.ofNat 32 p) 0#32 = 1#1
  simp only [IntOp.cmpi, BitVec.sle_eq_decide, BitVec.toInt_eq_toNat_cond, this, BitVec.toNat_ofNat]
  rw [decide_eq_true (by norm_num; omega)]
  rfl

theorem mkW_point (p : ℕ) (hp : p < 500000) : mkW Ideal (BitVec.ofNat 32 p) = (1 : EReal) := by
  unfold mkW
  rw [if_pos (sge_point p hp), one_bits]

variable (fi : S500000.Idx → BitVec 32) (fs : S500000x16.Idx → Ideal .f32) (fd : S2097152.Idx → Ideal .f32)
variable (hr : ∀ p, p < 500000 → (idsN fi p).toNat < 2097152)

include hr in
/-- The dense volume at place `n`. -/
theorem dense_eq (y : Cert.KernelIdeal.S33554432.Idx) (v : Fin 2097152) (c : Fin 16) (h : (y 0).val = c.val * 2097152 + v.val) : OTf fi fs fd y = tab Ideal fi fs fd (ix2 v c) := by
  have hv : (y 0).val % 2097152 = v.val := by have := v.isLt; omega
  have hc : (y 0).val / 2097152 = c.val := by have := v.isLt; omega
  unfold OTf
  rw [hv, hc]
  rcases wW_last fi hr v.val v.isLt with ⟨h0, h1⟩ | ⟨p, hp, h1⟩
  · rw [tab_miss Ideal fi fs fd hr v c h0, h1, mkW_neg, xpW_zero, zero_bits]
  · rw [tab_hit Ideal fi fs fd hr v c p hp, h1, mkW_point p hp.1, xpW_one]
    unfold clW
    rw [if_pos (sge_point p hp.1), BitVec.toNat_ofNat, Nat.mod_eq_of_lt (lt_trans hp.1 (by norm_num))]

include hr in
/-- The mask at voxel `v`. -/
theorem mask_eq (y : S2097152.Idx) (v : Fin 2097152) (h : (y 0).val = v.val) : MTf Ideal fi y = mtab Ideal fi (ix2 v 0) := by
  unfold MTf
  rw [h]
  rcases wW_last fi hr v.val v.isLt with ⟨h0, h1⟩ | ⟨p, hp, h1⟩
  · rw [mtab_miss Ideal fi hr v h0, h1, mkW_neg, zero_bits]
  · rw [mtab_hit Ideal fi hr v p hp, h1, mkW_point p hp.1, one_bits]

include hr in
/-- The first result. -/
theorem res1_eq (h : Cert.KernelIdeal.S33554432.ShapeCasts Cert.KernelIdeal.S1x16x128x128x128) :
    (shapeCast Cert.KernelIdeal.S1x16x128x128x128 (OTf fi fs fd) h : S1x16x128x128x128.Idx → Ideal .f32)
      = shapeCast S1x16x128x128x128 (transpose S16x2097152 [1, 0] (tab Ideal fi fs fd) transposes_S2097152x16_S16x2097152_1_0) shapeCasts_S16x2097152_S1x16x128x128x128 := by
  funext x
  unfold shapeCast
  set z : S16x2097152.Idx := Shape.reshapeEquiv shapeCasts_S16x2097152_S1x16x128x128x128 x with hz
  set y : Cert.KernelIdeal.S33554432.Idx := Shape.reshapeEquiv h x with hy
  have e1 := Shape.rowMajor_reshapeEquiv h x
  have e2 := Shape.rowMajor_reshapeEquiv shapeCasts_S16x2097152_S1x16x128x128x128 x
  rw [← hy, Shape.rowMajor_val_one] at e1
  rw [← hz, Shape.rowMajor_val_two] at e2
  rw [dense_eq fi fs fd hr y (z 1) (z 0) (e1.trans e2.symm)]
  conv_rhs => rw [eq_ix2 z]
  exact (transpose_ix2_apply _ _ _ _).symm

include hr in
/-- The second result. -/
theorem res2_eq (h : Cert.KernelIdeal.S2097152.ShapeCasts Cert.KernelIdeal.S1x1x128x128x128) :
    (shapeCast Cert.KernelIdeal.S1x1x128x128x128 (MTf Ideal fi) h : S1x1x128x128x128.Idx → Ideal .f32)
      = shapeCast S1x1x128x128x128 (transpose S1x2097152 [1, 0] (mtab Ideal fi) transposes_S2097152x1_S1x2097152_1_0) shapeCasts_S1x2097152_S1x1x128x128x128 := by
  funext x
  unfold shapeCast
  set z : S1x2097152.Idx := Shape.reshapeEquiv shapeCasts_S1x2097152_S1x1x128x128x128 x with hz
  set y : S2097152.Idx := Shape.reshapeEquiv h x with hy
  have e1 := Shape.rowMajor_reshapeEquiv h x
  have e2 := Shape.rowMajor_reshapeEquiv shapeCasts_S1x2097152_S1x1x128x128x128 x
  rw [← hy, Shape.rowMajor_val_one] at e1
  rw [← hz, Shape.rowMajor_val_two] at e2
  have h0 : z 0 = (0 : Fin 1) := Subsingleton.elim (α := Fin 1) _ _
  have h1 : (y 0).val = (z 1).val := by
    refine e1.trans (e2.symm.trans ?_)
    rw [h0]
    show 0 * _ + (z 1).val = _
    omega
  rw [mask_eq fi hr y (z 1) h1]
  conv_rhs => rw [eq_ix2 z, h0]
  exact (transpose_ix2_apply _ _ _ _).symm

end Cert.Proof.R
end
end
-- ==== Proof.Algebraic.lean ====
/-
  The value claim: with every id a voxel's number, the kernel's two results are the reference's.
-/
module
public import proofs.«01_k».proof.Proof.Frames
public import proofs.«01_k».proof.Proof.Equation
public import proofs.«01_k».proof.Proof.Gen.Pre_in_range
public import Idealize.ShloMosaic.Lib.ReduceAll
@[expose] public section
noncomputable section
namespace Cert.Proof.K
open Idealize.ShloMosaic Idealize.SL.Sem

local instance : Cert.KernelIdeal.Facts := Cert.KernelIdeal.Gen.facts
local instance : Cert.ReferenceIdeal.Facts := Cert.ReferenceIdeal.Gen.facts
local instance : Cert.Pre_in_range.Facts := Cert.Pre_in_range.Gen.facts

/-- A word that is signed at least 0 and signed below 2097152 is below 2097152 as a natural number. -/
theorem word_in_range (v : BitVec 32) (e : IntOp.andi (IntOp.cmpi .sge v 0#32) (IntOp.cmpi .slt v 2097152#32) = 1#1) : v.toNat < 2097152 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

/-- What the precondition says of every id. -/
theorem ids_in_range (m : (ℓ : Loc Cert.KernelIdeal.nD Cert.KernelIdeal.τ Cert.KernelIdeal.sig) → Buf (Elt Ideal) ℓ) (h : Cert.Pre_KernelIdeal_in_range m)
    (c : Dev Cert.KernelIdeal.nD) (p : ℕ) (hp : p < 500000) : (idsN (fiM c m) p).toNat < 2097152 := by
  haveI : Subsingleton Cert.Pre_in_range.S_.Idx := ⟨fun a b => funext fun q => q.elim0⟩
  have e := congrFun (h c) (fun q => q.elim0)
  unfold Cert.Pre_in_range.fn at e
  have e' := Host.reduce_andi_all _ _ _ _ _ e (fun a => match a with | 0 => ⟨p, hp⟩)
  rw [idsN, dif_pos hp]
  exact word_in_range _ e'

theorem frameKIp : Cert.quiescent_KernelIdeal_pre_in_range := fun m ρ _ =>
  (θ_run Cert.KernelIdeal.defs _ _).mono (fun _ h => ⟨fun c => (h.1 c).2, h.2⟩) (run_main (F := Ideal) m ρ)

theorem frameRIp : Cert.quiescent_ReferenceIdeal_pre_in_range := fun m ρ _ =>
  (θ_run Cert.ReferenceIdeal.defs _ _).mono (fun r h => ⟨fun c => (h c).2.2, Idealize.ShloMosaic.sem_eq_zero_of_no_sems (by decide) r.2⟩)
    (Cert.ReferenceIdeal.Value.run (F := Ideal) m ρ)

/-- The two results, equal as extended reals, element by element. -/
theorem algebraic : Cert.algebraic_KernelIdeal_ReferenceIdeal_pre_in_range := fun m g m' g' hpre hm =>
  ⟨fun c => res1 c m, fun c => res2 c m,
    (θ_run Cert.KernelIdeal.defs _ _).mono (fun _ h c => ⟨(h.1 c).1.1, (h.1 c).1.2, (h.1 c).2⟩) (run_main (F := Ideal) m g),
    (θ_run Cert.ReferenceIdeal.defs _ _).mono (fun r h c => by
      obtain ⟨h1, h2, h3⟩ := h c
      obtain ⟨e0, e1, e2⟩ := hm c
      refine ⟨h1.trans ?_, h2.trans ?_, h3⟩
      · rw [e0, e1, e2]
        exact (R.res1_eq (fiM c m) (fsM c m) (fdM c m) (ids_in_range m hpre c) _).symm
      · rw [e1]
        exact (R.res2_eq (fiM c m) (ids_in_range m hpre c) _).symm)
      (Cert.ReferenceIdeal.Value.run (F := Ideal) m' g')⟩

end Cert.Proof.K
end
end
-- ==== Proof.IdsVal.lean ====
/-
  The first call: the flat voxel number of every point, block by block, is the reference's.
-/
module
public import proofs.«01_k».proof.Defs
public import proofs.«01_k».proof.Proof.Gen.KernelIds.Value
public import proofs.«01_k».proof.Proof.Gen.ReferenceIds.Run
public import Idealize.ShloMosaic.Lib.ValueLayout
@[expose] public section
noncomputable section
namespace Cert.Proof.Ids
open Cert.KernelIds Cert.KernelIds.Gen
open Idealize.ShloMosaic Idealize.ShloMosaic.TcCoe Idealize.ShloMosaic.ValueIdx Idealize.SL.Sem

variable {F : FTy → Type} [FloatOps F]
variable (m : (ℓ : Loc nD τ sig) → Buf (Elt F) ℓ)

/-- The point that place `i` of the blocked array is for. -/
def pt (i : S8x1x62500.Idx) : Fin 500000 := ⟨(i 0).val * 62500 + (i 2).val, by
  have h0 : (i 0).val < 8 := (i 0).isLt
  have h2 : (i 2).val < 62500 := (i 2).isLt
  omega⟩

/-- Column `k` of the coordinates, blocked, at place `i`. -/
theorem col_at (x : S500000x3.Idx → BitVec 32) (k : Fin 3) (hs : S500000x3.Slices ![0, k.val] S500000x1) (h1 : S500000x1.ShapeCasts S500000) (h2 : S500000.ShapeCasts S8x1x62500)
    (i : S8x1x62500.Idx) : shapeCast S8x1x62500 (shapeCast S500000 (extractStridedSlice S500000x1 ![0, k.val] x hs) h1) h2 i = x (ix2 (pt i) k) := by
  have hi : (i 1).val < 1 := (i 1).isLt
  refine (shapeCast_apply _ h2 i (ix1 (pt i)) ?_).trans ((shapeCast_apply _ h1 (ix1 (pt i)) (ix2 (pt i) (0 : Fin 1)) ?_).trans ?_)
  · rw [Shape.rowMajor_val_one, Shape.rowMajor_val_three]
    show (i 0).val * 62500 + (i 2).val = ((i 0).val * 1 + (i 1).val) * 62500 + (i 2).val
    omega
  · rw [Shape.rowMajor_val_two, Shape.rowMajor_val_one]
    show (pt i).val * 1 + 0 = (pt i).val
    omega
  · unfold extractStridedSlice
    refine congrArg x (funext fun a => Fin.ext ?_)
    match a with
    | ⟨0, _⟩ => show 0 + (pt i).val = (pt i).val; omega
    | ⟨1, _⟩ => show k.val + 0 = k.val; omega

/-- The argument on device `c`. -/
abbrev crd (c : Dev nD) : S500000x3.Idx → BitVec 32 := m ((c : Thread nD τ).loc main_arg0)

theorem V_x (c : Dev nD) (i : S8x1x62500.Idx) : V m c main_v2 i = crd m c (ix2 (pt i) 0) := by
  have e : V m c main_v2 = shapeCast S8x1x62500 (shapeCast S500000 (extractStridedSlice S500000x1 ![0, 0] (crd m c) slices_S500000x3_S500000x1_0_0) shapeCasts_S500000x1_S500000) shapeCasts_S500000_S8x1x62500 := by
    unfold V hostOps0
    after_results <;> rfl
  rw [e]
  exact col_at (crd m c) 0 _ _ _ i
theorem V_y (c : Dev nD) (i : S8x1x62500.Idx) : V m c main_v5 i = crd m c (ix2 (pt i) 1) := by
  have e : V m c main_v5 = shapeCast S8x1x62500 (shapeCast S500000 (extractStridedSlice S500000x1 ![0, 1] (crd m c) slices_S500000x3_S500000x1_0_1) shapeCasts_S500000x1_S500000) shapeCasts_S500000_S8x1x62500 := by
    unfold V hostOps0
    after_results <;> rfl
  rw [e]
  exact col_at (crd m c) 1 _ _ _ i
theorem V_z (c : Dev nD) (i : S8x1x62500.Idx) : V m c main_v8 i = crd m c (ix2 (pt i) 2) := by
  have e : V m c main_v8 = shapeCast S8x1x62500 (shapeCast S500000 (extractStridedSlice S500000x1 ![0, 2] (crd m c) slices_S500000x3_S500000x1_0_2) shapeCasts_S500000x1_S500000) shapeCasts_S500000_S8x1x62500 := by
    unfold V hostOps0
    after_results <;> rfl
  rw [e]
  exact col_at (crd m c) 2 _ _ _ i

/-- The flat number of the point at place `i`. -/
def flat (x : S500000x3.Idx → BitVec 32) (i : S8x1x62500.Idx) : BitVec 32 :=
  IntOp.addi (IntOp.addi (IntOp.muli (x (ix2 (pt i) 0)) 16384#32) (IntOp.muli (x (ix2 (pt i) 1)) 128#32)) (x (ix2 (pt i) 2))

/-- Block `t` of a window lies at row `t`. -/
theorem emb_at : ∀ t : Fin cfg0.N, win0_3.index t (0 : Fin 3) = t.val ∧ win0_3.index t (1 : Fin 3) = 0 ∧ win0_3.index t (2 : Fin 3) = 0
    ∧ win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, win0_3.index t (0 : Fin 3) = t.val ∧ win0_3.index t (1 : Fin 3) = 0 ∧ win0_3.index t (2 : Fin 3) = 0
    ∧ win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0)

/-- Block `t` of the array after the run. -/
theorem block_at (c : Dev nD) (t : Fin cfg0.N) (y : S1x1x62500.Idx) :
    (dats m 0 c).arrAt 3 cfg0.N (((cfg0.win 3).blk t).view.emb y) = out0_3 (iblk m c 0 t) (iblk m c 1 t) (iblk m c 2 t) y := by
  have b := congrFun (Value.blocks3 m c t (flush0_3 t)) y
  rw [Value.flushed3] at b
  generalize (dats m 0 c).arrAt 3 cfg0.N = A at b ⊢
  refine Eq.trans ?_ (b.trans ?_)
  · rfl
  generalize out0_3 (iblk m c 0 t) (iblk m c 1 t) (iblk m c 2 t) = X
  show X ((cfg0.win 3).xinj (grid0.coords t) y) = X y
  exact congrArg X (funext fun a => Fin.ext rfl)

/-- The array after the run, at an index. -/
theorem final (c : Dev nD) (i : S8x1x62500.Idx) : (dats m 0 c).arrAt 3 cfg0.N i = flat (crd m c) i := by
  have h0 : (i 0).val < 8 := (i 0).isLt
  have h1 : (i 1).val < 1 := (i 1).isLt
  have h2 : (i 2).val < 62500 := (i 2).isLt
  have hN : cfg0.N = 8 := N_0
  let t : Fin cfg0.N := ⟨(i 0).val, by omega⟩
  let y : S1x1x62500.Idx := fun a => match a with | ⟨0, _⟩ => (⟨0, by decide⟩ : Fin 1) | ⟨1, _⟩ => (⟨0, by decide⟩ : Fin 1) | ⟨2, _⟩ => (⟨(i 2).val, h2⟩ : Fin 62500)
  obtain ⟨a0, a1, a2, b0, b1, b2, c0, c1, c2, d0, d1, d2⟩ := emb_at t
  have ht : t.val = (i 0).val := rfl
  have e3 : ((cfg0.win 3).blk t).view.emb y = i := by
    funext a; apply Fin.ext
    match a with
    | ⟨0, _⟩ => show win0_3.index t (0 : Fin 3) * 1 + 1 * 0 = (i 0).val; omega
    | ⟨1, _⟩ => show win0_3.index t (1 : Fin 3) * 1 + 1 * 0 = (i 1).val; omega
    | ⟨2, _⟩ => show win0_3.index t (2 : Fin 3) * 62500 + 1 * (i 2).val = (i 2).val; omega
  have f0 : View.ld (iblk m c 0 t) r0_0 (Value.ix3_0 y) = crd m c (ix2 (pt i) 0) := by
    show V m c main_v2 (((cfg0.win 0).blk t).view.emb (r0_0.idx (Value.ix3_0 y))) = _
    rw [show ((cfg0.win 0).blk t).view.emb (r0_0.idx (Value.ix3_0 y)) = i from funext fun a => Fin.ext (by
      match a with
      | ⟨0, _⟩ => show win0_0.index t (0 : Fin 3) * 1 + 1 * (0 + 1 * 0) = (i 0).val; omega
      | ⟨1, _⟩ => show win0_0.index t (1 : Fin 3) * 1 + 1 * (0 + 1 * 0) = (i 1).val; omega
      | ⟨2, _⟩ => show win0_0.index t (2 : Fin 3) * 62500 + 1 * (0 + 1 * (i 2).val) = (i 2).val; omega)]
    exact V_x m c i
  have f1 : View.ld (iblk m c 1 t) r0_0 (Value.ix3_1 y) = crd m c (ix2 (pt i) 1) := by
    show V m c main_v5 (((cfg0.win 1).blk t).view.emb (r0_0.idx (Value.ix3_1 y))) = _
    rw [show ((cfg0.win 1).blk t).view.emb (r0_0.idx (Value.ix3_1 y)) = i from funext fun a => Fin.ext (by
      match a with
      | ⟨0, _⟩ => show win0_1.index t (0 : Fin 3) * 1 + 1 * (0 + 1 * 0) = (i 0).val; omega
      | ⟨1, _⟩ => show win0_1.index t (1 : Fin 3) * 1 + 1 * (0 + 1 * 0) = (i 1).val; omega
      | ⟨2, _⟩ => show win0_1.index t (2 : Fin 3) * 62500 + 1 * (0 + 1 * (i 2).val) = (i 2).val; omega)]
    exact V_y m c i
  have f2 : View.ld (iblk m c 2 t) r0_0 (Value.ix3_2 y) = crd m c (ix2 (pt i) 2) := by
    show V m c main_v8 (((cfg0.win 2).blk t).view.emb (r0_0.idx (Value.ix3_2 y))) = _
    rw [show ((cfg0.win 2).blk t).view.emb (r0_0.idx (Value.ix3_2 y)) = i from funext fun a => Fin.ext (by
      match a with
      | ⟨0, _⟩ => show win0_2.index t (0 : Fin 3) * 1 + 1 * (0 + 1 * 0) = (i 0).val; omega
      | ⟨1, _⟩ => show win0_2.index t (1 : Fin 3) * 1 + 1 * (0 + 1 * 0) = (i 1).val; omega
      | ⟨2, _⟩ => show win0_2.index t (2 : Fin 3) * 62500 + 1 * (0 + 1 * (i 2).val) = (i 2).val; omega)]
    exact V_z m c i
  have b := block_at m c t y
  rw [e3] at b
  refine b.trans ?_
  unfold out0_3
  refine (Value.canon3_eq _ _ _ y).trans ?_
  unfold flat
  rw [← f0, ← f1, ← f2]

/-- The reference's words are the same numbers: its two multiplications by 128 are the one by 16384. -/
theorem ref_eq (x : S500000x3.Idx → BitVec 32) (i : S8x1x62500.Idx) :
    shapeCast Cert.ReferenceIds.S8x1x62500 (addi (muli (addi (muli (shapeCast _ (extractStridedSlice Cert.ReferenceIds.S500000x1 ![0, 0] x Cert.ReferenceIds.Gen.slices_S500000x3_S500000x1_0_0) Cert.ReferenceIds.Gen.shapeCasts_S500000x1_S500000) (broadcastInDim Cert.ReferenceIds.S500000 ![] Cert.ReferenceIds.Gen.bcast_S_S500000 (constantI Cert.ReferenceIds.S_ 32 128#32))) (shapeCast _ (extractStridedSlice Cert.ReferenceIds.S500000x1 ![0, 1] x Cert.ReferenceIds.Gen.slices_S500000x3_S500000x1_0_1) Cert.ReferenceIds.Gen.shapeCasts_S500000x1_S500000)) (broadcastInDim Cert.ReferenceIds.S500000 ![] Cert.ReferenceIds.Gen.bcast_S_S500000 (constantI Cert.ReferenceIds.S_ 32 128#32))) (shapeCast _ (extractStridedSlice Cert.ReferenceIds.S500000x1 ![0, 2] x Cert.ReferenceIds.Gen.slices_S500000x3_S500000x1_0_2) Cert.ReferenceIds.Gen.shapeCasts_S500000x1_S500000)) Cert.ReferenceIds.Gen.shapeCasts_S500000_S8x1x62500 i
      = flat x i := by
  have k0 := col_at x 0 slices_S500000x3_S500000x1_0_0 shapeCasts_S500000x1_S500000 shapeCasts_S500000_S8x1x62500 i
  have k1 := col_at x 1 slices_S500000x3_S500000x1_0_1 shapeCasts_S500000x1_S500000 shapeCasts_S500000_S8x1x62500 i
  have k2 := col_at x 2 slices_S500000x3_S500000x1_0_2 shapeCasts_S500000x1_S500000 shapeCasts_S500000_S8x1x62500 i
  unfold flat
  rw [← k0, ← k1, ← k2]
  generalize hA : shapeCast S8x1x62500 (shapeCast S500000 (extractStridedSlice S500000x1 ![0, (0 : Fin 3).val] x slices_S500000x3_S500000x1_0_0) shapeCasts_S500000x1_S500000) shapeCasts_S500000_S8x1x62500 i = A
  generalize hB : shapeCast S8x1x62500 (shapeCast S500000 (extractStridedSlice S500000x1 ![0, (1 : Fin 3).val] x slices_S500000x3_S500000x1_0_1) shapeCasts_S500000x1_S500000) shapeCasts_S500000_S8x1x62500 i = B
  generalize hC : shapeCast S8x1x62500 (shapeCast S500000 (extractStridedSlice S500000x1 ![0, (2 : Fin 3).val] x slices_S500000x3_S500000x1_0_2) shapeCasts_S500000x1_S500000) shapeCasts_S500000_S8x1x62500 i = C
  have e : ∀ a b c : BitVec 32, IntOp.addi (IntOp.muli (IntOp.addi (IntOp.muli a 128#32) b) 128#32) c = IntOp.addi (IntOp.addi (IntOp.muli a 16384#32) (IntOp.muli b 128#32)) c := fun a b c => by
    show (a * 128#32 + b) * 128#32 + c = a * 16384#32 + b * 128#32 + c
    rw [BitVec.add_mul, BitVec.mul_assoc]
    rfl
  rw [← e, ← hA, ← hB, ← hC]
  rfl

local instance : Cert.KernelIds.Facts := Cert.KernelIds.Gen.facts
local instance : Cert.ReferenceIds.Facts := Cert.ReferenceIds.Gen.facts

theorem frame : Cert.quiescent_KernelIds := fun m ρ _ => Cert.KernelIds.Gen.frame m ρ

theorem frameR : Cert.quiescent_ReferenceIds := fun m ρ _ =>
  (θ_run Cert.ReferenceIds.defs _ _).mono (fun r h => ⟨fun c => (h c).2, Idealize.ShloMosaic.sem_eq_zero_of_no_sems (by decide) r.2⟩)
    (Cert.ReferenceIds.Value.run (F := Bits) m ρ)

/-- The two results, bit for bit. -/
theorem bitexact : Cert.bitexact_KernelIds_ReferenceIds := fun m g m' g' _ hm =>
  ⟨fun c => flat (crd m c),
    (θ_run Cert.KernelIds.defs _ _).mono (fun _ h c => ⟨(h c).1.trans (funext fun i => final m c i), (h c).2⟩) (Cert.KernelIds.Value.run_blocks (F := Bits) m g),
    (θ_run Cert.ReferenceIds.defs _ _).mono (fun r h c => ⟨(h c).1.trans (by
      rw [hm c]
      exact funext fun i => ref_eq _ i), (h c).2⟩)
      (Cert.ReferenceIds.Value.run (F := Bits) m' g')⟩

end Cert.Proof.Ids
end
end
-- ==== Proof.lean ====
module

public import proofs.«01_k».proof.Defs
public import proofs.«01_k».proof.Proof.Frames
public import proofs.«01_k».proof.Proof.Algebraic
public import proofs.«01_k».proof.Proof.IdsVal
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_in_range
public import proofs.«01_k».proof.Proof.Gen.KernelIds
public import proofs.«01_k».proof.Proof.Gen.KernelIds.Value
public import proofs.«01_k».proof.Proof.Gen.ReferenceIds
public import proofs.«01_k».proof.Proof.Gen.ReferenceIds.Run
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.KernelIds.Gen.facts, Cert.ReferenceIds.Gen.facts, Cert.Pre_in_range.Gen.facts,
  K.frameK, K.frameKI, K.frameKIp, K.frameRI, K.frameRIp, Ids.frame, Ids.frameR, trivial, K.algebraic, Ids.bitexact⟩

end Cert.Proof

end
